-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_g_nonzero [hPre_g_nonzero : Cert.Pre_g_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_g_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_g_nonzero [hPre_g_nonzero : Cert.Pre_g_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_g_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_g_nonzero [hKernelIdeal : Cert.KernelIdeal.Facts] [hPre_g_nonzero : Cert.Pre_g_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_g_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_g_nonzero [hReferenceIdeal : Cert.ReferenceIdeal.Facts] [hPre_g_nonzero : Cert.Pre_g_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_g_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def preserves_Kernel_KernelIdeal : Prop :=
  True

def algebraic_KernelIdeal_ReferenceIdeal_pre_g_nonzero [hKernelIdeal : Cert.KernelIdeal.Facts] [hReferenceIdeal : Cert.ReferenceIdeal.Facts] [hPre_g_nonzero : Cert.Pre_g_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_g_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v5) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_g_nonzero : Cert.Pre_g_nonzero.Facts),
    quiescent_Kernel (hKernel := hKernel)
    ∧ quiescent_KernelIdeal (hKernelIdeal := hKernelIdeal)
    ∧ quiescent_KernelIdeal_pre_g_nonzero (hKernelIdeal := hKernelIdeal) (hPre_g_nonzero := hPre_g_nonzero)
    ∧ quiescent_ReferenceIdeal (hReferenceIdeal := hReferenceIdeal)
    ∧ quiescent_ReferenceIdeal_pre_g_nonzero (hReferenceIdeal := hReferenceIdeal) (hPre_g_nonzero := hPre_g_nonzero)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal_pre_g_nonzero (hKernelIdeal := hKernelIdeal) (hReferenceIdeal := hReferenceIdeal) (hPre_g_nonzero := hPre_g_nonzero)
    ∧ preserves_Prep_PrepIdeal
    ∧ algebraic_PrepIdeal_PrepReferenceIdeal (hPrepIdeal := hPrepIdeal) (hPrepReferenceIdeal := hPrepReferenceIdeal)
-- ==== Pre_g_nonzero.lean ====
abbrev S1x1 : Shape := ⟨2, ![1, 1]⟩
abbrev S12288x18944 : Shape := ⟨2, ![12288, 18944]⟩
abbrev S9472x3584 : Shape := ⟨2, ![9472, 3584]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S1x1 .f32) (main_arg1 : FVec F S1x1 .f32) (main_arg2 : FVec F S12288x18944 .bf16) (main_arg3 : IVec S12288x18944 32) (main_arg4 : IVec S9472x3584 32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .une main_arg0 main_v0
  main_v1
-- ==== Kernel.lean ====
abbrev S1x1 : Shape := ⟨2, ![1, 1]⟩
abbrev S12288x18944 : Shape := ⟨2, ![12288, 18944]⟩
abbrev S9472x3584 : Shape := ⟨2, ![9472, 3584]⟩
abbrev S12288x3584 : Shape := ⟨2, ![12288, 3584]⟩
abbrev S12288x9472 : Shape := ⟨2, ![12288, 9472]⟩
abbrev S6x1184x2048 : Shape := ⟨3, ![6, 1184, 2048]⟩
abbrev S1024x512 : Shape := ⟨2, ![1024, 512]⟩
abbrev S256x3584 : Shape := ⟨2, ![256, 3584]⟩
abbrev S1024x3584 : Shape := ⟨2, ![1024, 3584]⟩
abbrev S1024x256 : Shape := ⟨2, ![1024, 256]⟩
abbrev S1x32x1024 : Shape := ⟨3, ![1, 32, 1024]⟩
abbrev S8x128 : Shape := ⟨2, ![8, 128]⟩
abbrev S16x128 : Shape := ⟨2, ![16, 128]⟩
abbrev S32x128 : Shape := ⟨2, ![32, 128]⟩
abbrev S8x128x1 : Shape := ⟨3, ![8, 128, 1]⟩
abbrev S128x128 : Shape := ⟨2, ![128, 128]⟩
abbrev S1x32x128 : Shape := ⟨3, ![1, 32, 128]⟩
abbrev S512x512 : Shape := ⟨2, ![512, 512]⟩
abbrev S256x512 : Shape := ⟨2, ![256, 512]⟩

abbrev nBuf : Space → Nat
  | .hbm => 8
  | .vmem => 15
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S12288x18944, .bf16⟩
  | .hbm, ⟨3, _⟩ => ⟨S12288x18944, .i32⟩
  | .hbm, ⟨4, _⟩ => ⟨S9472x3584, .i32⟩
  | .hbm, ⟨5, _⟩ => ⟨S12288x3584, .bf16⟩
  | .hbm, ⟨6, _⟩ => ⟨S12288x9472, .i8⟩
  | .hbm, ⟨7, _⟩ => ⟨S6x1184x2048, .fp8e4m3⟩
  | .local _ .vmem, ⟨0, _⟩ => ⟨S1024x512, .bf16⟩
  | .local _ .vmem, ⟨1, _⟩ => ⟨S1024x512, .bf16⟩
  | .local _ .vmem, ⟨2, _⟩ => ⟨S1024x512, .i32⟩
  | .local _ .vmem, ⟨3, _⟩ => ⟨S1024x512, .i32⟩
  | .local _ .vmem, ⟨4, _⟩ => ⟨S256x3584, .i32⟩
  | .local _ .vmem, ⟨5, _⟩ => ⟨S256x3584, .i32⟩
  | .local _ .vmem, ⟨6, _⟩ => ⟨S1024x3584, .bf16⟩
  | .local _ .vmem, ⟨7, _⟩ => ⟨S1024x3584, .bf16⟩
  | .local _ .vmem, ⟨8, _⟩ => ⟨S1024x256, .i8⟩
  | .local _ .vmem, ⟨9, _⟩ => ⟨S1024x256, .i8⟩
  | .local _ .vmem, ⟨10, _⟩ => ⟨S1x32x1024, .fp8e4m3⟩
  | .local _ .vmem, ⟨11, _⟩ => ⟨S1x32x1024, .fp8e4m3⟩
  | .local _ .vmem, ⟨12, _⟩ => ⟨S1024x512, .bf16⟩
  | .local _ .vmem, ⟨13, _⟩ => ⟨S1024x512, .bf16⟩
  | .local _ .vmem, ⟨14, _⟩ => ⟨S1024x3584, .f32⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![445], ![false]⟩

def k0_cond4 (i : grid0.Coords) : BitVec 1 :=
  let arg0 : BitVec 32 := BitVec.ofNat 32 (i 0).val
  let c0_i32_8 : BitVec 32 := 0#32
  let v16 : BitVec 1 := Scalar.cmpi .sgt arg0 c0_i32_8
  let c1_i32 : BitVec 32 := 1#32
  let v1 : BitVec 32 := Scalar.subi arg0 c1_i32
  let c37_i32 : BitVec 32 := 37#32
  let v2 : BitVec 32 := Scalar.remsi v1 c37_i32
  let c36_i32 : BitVec 32 := 36#32
  let v17 : BitVec 1 := Scalar.cmpi .eq v2 c36_i32
  let v18 : BitVec 1 := Scalar.andi v16 v17
  let v19 : BitVec 32 := Scalar.extui v18
  let c0_i32_9 : BitVec 32 := 0#32
  let v20 : BitVec 1 := Scalar.cmpi .ne v19 c0_i32_9
  v20

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c2_i32 : BitVec 32 := 2#32
  let v6 : BitVec 32 := Scalar.remsi arg0 c2_i32
  let c1_i32_2 : BitVec 32 := 1#32
  let v7 : BitVec 1 := Scalar.cmpi .eq v6 c1_i32_2
  let v8 : BitVec 32 := Scalar.extui v7
  let c0_i32_3 : BitVec 32 := 0#32
  let v9 : BitVec 1 := Scalar.cmpi .ne v8 c0_i32_3
  v9

def k0_cond3 (i : grid0.Coords) : BitVec 1 :=
  let arg0 : BitVec 32 := BitVec.ofNat 32 (i 0).val
  let c2_i32_4 : BitVec 32 := 2#32
  let v10 : BitVec 32 := Scalar.remsi arg0 c2_i32_4
  let c0_i32_5 : BitVec 32 := 0#32
  let v11 : BitVec 1 := Scalar.cmpi .eq v10 c0_i32_5
  let c0_i32_6 : BitVec 32 := 0#32
  let v12 : BitVec 1 := Scalar.cmpi .sgt arg0 c0_i32_6
  let v13 : BitVec 1 := Scalar.andi v11 v12
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c443_i32 : BitVec 32 := 443#32
  let v0 : BitVec 32 := Scalar.minsi arg0 c443_i32
  let c37_i32 : BitVec 32 := 37#32
  let v1 : BitVec 32 := Scalar.divsi v0 c37_i32
  let c37_i32_0 : BitVec 32 := 37#32
  let v2 : BitVec 32 := Scalar.remsi v0 c37_i32_0
  let c0_i32 : BitVec 32 := 0#32
  ![v1.toNat, v2.toNat]

def cc0_transform_3 (i : grid0.Coords) : Fin 2 → Nat :=
  let arg0 : BitVec 32 := BitVec.ofNat 32 (i 0).val
  let c443_i32 : BitVec 32 := 443#32
  let v0 : BitVec 32 := Scalar.minsi arg0 c443_i32
  let c37_i32 : BitVec 32 := 37#32
  let v1 : BitVec 32 := Scalar.divsi v0 c37_i32
  let c37_i32_0 : BitVec 32 := 37#32
  let v2 : BitVec 32 := Scalar.remsi v0 c37_i32_0
  let c0_i32 : BitVec 32 := 0#32
  ![v1.toNat, v2.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c37_i32_0 : BitVec 32 := 37#32
  let v3 : BitVec 32 := Scalar.remsi v1 c37_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c37_i32 : BitVec 32 := 37#32
  let v2 : BitVec 32 := Scalar.divsi v1 c37_i32
  let c37_i32_0 : BitVec 32 := 37#32
  let v3 : BitVec 32 := Scalar.remsi v1 c37_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c443_i32 : BitVec 32 := 443#32
  let v0 : BitVec 32 := Scalar.minsi arg0 c443_i32
  let c37_i32 : BitVec 32 := 37#32
  let v1 : BitVec 32 := Scalar.divsi v0 c37_i32
  let c37_i32_0 : BitVec 32 := 37#32
  let v2 : BitVec 32 := Scalar.remsi v0 c37_i32_0
  let c0_i32 : BitVec 32 := 0#32
  ![v1.toNat, v2.toNat]

def cc0_transform_7 (i : grid0.Coords) : Fin 3 → Nat :=
  let arg0 : BitVec 32 := BitVec.ofNat 32 (i 0).val
  let c443_i32 : BitVec 32 := 443#32
  let v0 : BitVec 32 := Scalar.minsi arg0 c443_i32
  let c37_i32 : BitVec 32 := 37#32
  let v1 : BitVec 32 := Scalar.divsi v0 c37_i32
  let c37_i32_0 : BitVec 32 := 37#32
  let v2 : BitVec 32 := Scalar.remsi v0 c37_i32_0
  let c2_i32 : BitVec 32 := 2#32
  let v3 : BitVec 32 := Scalar.divsi v1 c2_i32
  let c2_i32_1 : BitVec 32 := 2#32
  let v4 : BitVec 32 := Scalar.remsi v1 c2_i32_1
  let c0_i32 : BitVec 32 := 0#32
  ![v3.toNat, v2.toNat, v4.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x1 : Shape := ⟨2, ![1, 1]⟩
abbrev S12288x18944 : Shape := ⟨2, ![12288, 18944]⟩
abbrev S9472x3584 : Shape := ⟨2, ![9472, 3584]⟩
abbrev S12288x1184x16 : Shape := ⟨3, ![12288, 1184, 16]⟩
abbrev S_ : Shape := ⟨0, ![]⟩
abbrev S12288x1184 : Shape := ⟨2, ![12288, 1184]⟩
abbrev S12288x1184x1 : Shape := ⟨3, ![12288, 1184, 1]⟩
abbrev S12288x9472x2 : Shape := ⟨3, ![12288, 9472, 2]⟩
abbrev S12288x9472x1 : Shape := ⟨3, ![12288, 9472, 1]⟩
abbrev S12288x9472 : Shape := ⟨2, ![12288, 9472]⟩
abbrev S9472x3584x2 : Shape := ⟨3, ![9472, 3584, 2]⟩
abbrev S9472x2x3584 : Shape := ⟨3, ![9472, 2, 3584]⟩
abbrev S18944x3584 : Shape := ⟨2, ![18944, 3584]⟩
abbrev S12288x3584 : Shape := ⟨2, ![12288, 3584]⟩
abbrev S6x2048x1184 : Shape := ⟨3, ![6, 2048, 1184]⟩
abbrev S6x1184x2048 : Shape := ⟨3, ![6, 1184, 2048]⟩

abbrev nBuf : Space → Nat
  | .hbm => 219
  | .vmem => 0
  | .smem => 0
  | _ => 0

abbrev hbmTy0_0 (i : Nat) : BufTy := match i % 128 with
  | 0 => ⟨S1x1, .f32⟩
  | 1 => ⟨S1x1, .f32⟩
  | 2 => ⟨S12288x18944, .bf16⟩
  | 3 => ⟨S12288x18944, .i32⟩
  | 4 => ⟨S9472x3584, .i32⟩
  | 5 => ⟨S12288x18944, .f32⟩
  | 6 => ⟨S12288x1184x16, .f32⟩
  | 7 => ⟨S12288x1184x16, .f32⟩
  | 8 => ⟨S_, .f32⟩
  | 9 => ⟨S12288x1184, .f32⟩
  | 10 => ⟨S_, .f32⟩
  | 11 => ⟨S_, .f32⟩
  | 12 => ⟨S_, .f32⟩
  | 13 => ⟨S12288x1184, .f32⟩
  | 14 => ⟨S12288x1184, .f32⟩
  | 15 => ⟨S_, .f32⟩
  | 16 => ⟨S_, .f32⟩
  | 17 => ⟨S_, .f32⟩
  | 18 => ⟨S12288x1184, .f32⟩
  | 19 => ⟨S12288x1184, .f32⟩
  | 20 => ⟨S_, .f32⟩
  | 21 => ⟨S12288x1184, .f32⟩
  | 22 => ⟨S12288x1184, .f32⟩
  | 23 => ⟨S12288x1184x1, .f32⟩
  | 24 => ⟨S_, .f32⟩
  | 25 => ⟨S12288x1184x1, .f32⟩
  | 26 => ⟨S12288x1184x1, .i1⟩
  | 27 => ⟨S_, .f32⟩
  | 28 => ⟨S12288x1184x1, .f32⟩
  | 29 => ⟨S12288x1184x1, .f32⟩
  | 30 => ⟨S_, .f32⟩
  | 31 => ⟨S_, .f32⟩
  | 32 => ⟨S12288x1184x1, .f32⟩
  | 33 => ⟨S12288x1184x1, .f32⟩
  | 34 => ⟨S12288x1184x16, .f32⟩
  | 35 => ⟨S12288x1184x16, .f32⟩
  | 36 => ⟨S_, .f32⟩
  | 37 => ⟨S_, .f32⟩
  | 38 => ⟨S12288x1184x16, .i1⟩
  | 39 => ⟨S12288x1184x16, .f32⟩
  | 40 => ⟨S12288x1184x16, .f32⟩
  | 41 => ⟨S12288x1184x16, .f32⟩
  | 42 => ⟨S_, .f32⟩
  | 43 => ⟨S12288x1184x16, .f32⟩
  | 44 => ⟨S12288x1184x16, .f32⟩
  | 45 => ⟨S_, .f32⟩
  | 46 => ⟨S12288x1184x16, .f32⟩
  | 47 => ⟨S12288x1184x16, .i1⟩
  | 48 => ⟨S_, .f32⟩
  | 49 => ⟨S12288x1184x16, .f32⟩
  | 50 => ⟨S12288x1184x16, .i1⟩
  | 51 => ⟨S_, .f32⟩
  | 52 => ⟨S_, .f32⟩
  | 53 => ⟨S12288x1184x16, .f32⟩
  | 54 => ⟨S12288x1184x16, .f32⟩
  | 55 => ⟨S12288x1184x16, .f32⟩
  | 56 => ⟨S_, .f32⟩
  | 57 => ⟨S12288x1184x16, .f32⟩
  | 58 => ⟨S12288x1184x16, .f32⟩
  | 59 => ⟨S_, .f32⟩
  | 60 => ⟨S12288x1184x16, .f32⟩
  | 61 => ⟨S12288x1184x16, .i1⟩
  | 62 => ⟨S_, .f32⟩
  | 63 => ⟨S12288x1184x16, .f32⟩
  | 64 => ⟨S12288x1184x16, .f32⟩
  | 65 => ⟨S12288x1184x16, .f32⟩
  | 66 => ⟨S_, .f32⟩
  | 67 => ⟨S12288x1184x16, .f32⟩
  | 68 => ⟨S12288x1184x16, .f32⟩
  | 69 => ⟨S_, .f32⟩
  | 70 => ⟨S12288x1184x16, .f32⟩
  | 71 => ⟨S12288x1184x16, .i1⟩
  | 72 => ⟨S12288x1184x16, .f32⟩
  | 73 => ⟨S_, .f32⟩
  | 74 => ⟨S12288x1184x16, .f32⟩
  | 75 => ⟨S12288x1184x16, .f32⟩
  | 76 => ⟨S_, .f32⟩
  | 77 => ⟨S12288x1184x16, .f32⟩
  | 78 => ⟨S12288x1184x16, .f32⟩
  | 79 => ⟨S12288x1184x16, .f32⟩
  | 80 => ⟨S_, .f32⟩
  | 81 => ⟨S12288x1184x16, .f32⟩
  | 82 => ⟨S12288x1184x16, .f32⟩
  | 83 => ⟨S_, .f32⟩
  | 84 => ⟨S12288x1184x16, .f32⟩
  | 85 => ⟨S12288x1184x16, .f32⟩
  | 86 => ⟨S12288x1184x16, .f32⟩
  | 87 => ⟨S12288x1184x16, .f32⟩
  | 88 => ⟨S12288x1184x16, .f32⟩
  | 89 => ⟨S_, .f32⟩
  | 90 => ⟨S12288x1184x16, .f32⟩
  | 91 => ⟨S12288x1184x16, .f32⟩
  | 92 => ⟨S12288x1184x16, .f32⟩
  | 93 => ⟨S12288x1184x16, .f32⟩
  | 94 => ⟨S_, .i32⟩
  | 95 => ⟨S12288x18944, .i32⟩
  | 96 => ⟨S12288x18944, .i32⟩
  | 97 => ⟨S12288x18944, .f32⟩
  | 98 => ⟨S12288x1184x16, .f32⟩
  | 99 => ⟨S_, .f32⟩
  | 100 => ⟨S12288x1184x16, .f32⟩
  | 101 => ⟨S12288x1184x16, .f32⟩
  | 102 => ⟨S12288x1184x16, .i1⟩
  | 103 => ⟨S12288x1184x16, .f32⟩
  | 104 => ⟨S12288x1184x16, .f32⟩
  | 105 => ⟨S12288x1184x16, .f32⟩
  | 106 => ⟨S_, .f32⟩
  | 107 => ⟨S12288x1184x16, .f32⟩
  | 108 => ⟨S12288x1184x16, .i1⟩
  | 109 => ⟨S_, .f32⟩
  | 110 => ⟨S12288x1184x16, .f32⟩
  | 111 => ⟨S12288x1184x16, .f32⟩
  | 112 => ⟨S_, .f32⟩
  | 113 => ⟨S12288x1184x16, .f32⟩
  | 114 => ⟨S12288x1184x16, .i1⟩
  | 115 => ⟨S_, .f32⟩
  | 116 => ⟨S12288x1184x16, .f32⟩
  | 117 => ⟨S12288x1184x16, .f32⟩
  | 118 => ⟨S_, .f32⟩
  | 119 => ⟨S12288x1184x16, .f32⟩
  | 120 => ⟨S12288x1184x16, .i1⟩
  | 121 => ⟨S_, .f32⟩
  | 122 => ⟨S_, .f32⟩
  | 123 => ⟨S12288x1184x16, .f32⟩
  | 124 => ⟨S12288x1184x16, .f32⟩
  | 125 => ⟨S12288x1184x16, .f32⟩
  | 126 => ⟨S12288x1184x16, .f32⟩
  | 127 => ⟨S12288x1184x16, .f32⟩
  | _ => ⟨S1x1, .f32⟩

abbrev hbmTy0_1 (i : Nat) : BufTy := match i % 128 with
  | 0 => ⟨S12288x1184x16, .f32⟩
  | 1 => ⟨S12288x1184x16, .i32⟩
  | 2 => ⟨S_, .f32⟩
  | 3 => ⟨S12288x1184x16, .f32⟩
  | 4 => ⟨S12288x1184x16, .i1⟩
  | 5 => ⟨S_, .f32⟩
  | 6 => ⟨S12288x1184x16, .f32⟩
  | 7 => ⟨S12288x1184x16, .i1⟩
  | 8 => ⟨S12288x1184x16, .i1⟩
  | 9 => ⟨S12288x1184x16, .i32⟩
  | 10 => ⟨S_, .i32⟩
  | 11 => ⟨S12288x1184x16, .i32⟩
  | 12 => ⟨S12288x1184x16, .i32⟩
  | 13 => ⟨S12288x1184x16, .i32⟩
  | 14 => ⟨S12288x9472x2, .i32⟩
  | 15 => ⟨S12288x9472x1, .i32⟩
  | 16 => ⟨S12288x9472, .i32⟩
  | 17 => ⟨S12288x9472x1, .i32⟩
  | 18 => ⟨S12288x9472, .i32⟩
  | 19 => ⟨S_, .i32⟩
  | 20 => ⟨S12288x9472, .i32⟩
  | 21 => ⟨S12288x9472, .i32⟩
  | 22 => ⟨S12288x9472, .i32⟩
  | 23 => ⟨S12288x9472, .i8⟩
  | 24 => ⟨S_, .i32⟩
  | 25 => ⟨S12288x9472x2, .i32⟩
  | 26 => ⟨S12288x9472x2, .i32⟩
  | 27 => ⟨S12288x9472x2, .bf16⟩
  | 28 => ⟨S_, .i32⟩
  | 29 => ⟨S12288x9472x2, .i32⟩
  | 30 => ⟨S12288x9472x2, .i32⟩
  | 31 => ⟨S_, .i32⟩
  | 32 => ⟨S12288x9472x2, .i32⟩
  | 33 => ⟨S12288x9472x2, .i32⟩
  | 34 => ⟨S_, .i32⟩
  | 35 => ⟨S12288x9472x2, .i32⟩
  | 36 => ⟨S12288x9472x2, .i1⟩
  | 37 => ⟨S_, .bf16⟩
  | 38 => ⟨S12288x9472x2, .bf16⟩
  | 39 => ⟨S12288x9472x2, .bf16⟩
  | 40 => ⟨S_, .i32⟩
  | 41 => ⟨S12288x9472x2, .i32⟩
  | 42 => ⟨S12288x9472x2, .i1⟩
  | 43 => ⟨S_, .bf16⟩
  | 44 => ⟨S12288x9472x2, .bf16⟩
  | 45 => ⟨S12288x9472x2, .bf16⟩
  | 46 => ⟨S_, .bf16⟩
  | 47 => ⟨S12288x9472x2, .bf16⟩
  | 48 => ⟨S12288x9472x2, .bf16⟩
  | 49 => ⟨S_, .i32⟩
  | 50 => ⟨S12288x9472x2, .i32⟩
  | 51 => ⟨S12288x9472x2, .i1⟩
  | 52 => ⟨S_, .bf16⟩
  | 53 => ⟨S12288x9472x2, .bf16⟩
  | 54 => ⟨S12288x9472x2, .bf16⟩
  | 55 => ⟨S_, .bf16⟩
  | 56 => ⟨S12288x9472x2, .bf16⟩
  | 57 => ⟨S12288x9472x2, .bf16⟩
  | 58 => ⟨S_, .bf16⟩
  | 59 => ⟨S12288x9472x2, .bf16⟩
  | 60 => ⟨S12288x9472x2, .bf16⟩
  | 61 => ⟨S12288x9472x2, .bf16⟩
  | 62 => ⟨S12288x9472x2, .bf16⟩
  | 63 => ⟨S12288x9472x2, .bf16⟩
  | 64 => ⟨S_, .i32⟩
  | 65 => ⟨S12288x9472x2, .i32⟩
  | 66 => ⟨S12288x9472x2, .i32⟩
  | 67 => ⟨S_, .i32⟩
  | 68 => ⟨S12288x9472x2, .i32⟩
  | 69 => ⟨S12288x9472x2, .i1⟩
  | 70 => ⟨S12288x9472x2, .bf16⟩
  | 71 => ⟨S12288x9472x2, .bf16⟩
  | 72 => ⟨S12288x1184x16, .bf16⟩
  | 73 => ⟨S12288x1184, .bf16⟩
  | 74 => ⟨S12288x1184x1, .bf16⟩
  | 75 => ⟨S12288x1184x16, .bf16⟩
  | 76 => ⟨S12288x1184x16, .bf16⟩
  | 77 => ⟨S12288x18944, .bf16⟩
  | 78 => ⟨S9472x3584x2, .bf16⟩
  | 79 => ⟨S9472x2x3584, .bf16⟩
  | 80 => ⟨S18944x3584, .bf16⟩
  | 81 => ⟨S12288x3584, .f32⟩
  | 82 => ⟨S_, .f32⟩
  | 83 => ⟨S_, .f32⟩
  | 84 => ⟨S_, .f32⟩
  | 85 => ⟨S12288x3584, .f32⟩
  | 86 => ⟨S12288x3584, .f32⟩
  | 87 => ⟨S12288x3584, .bf16⟩
  | 88 => ⟨S12288x1184, .fp8e4m3⟩
  | 89 => ⟨S6x2048x1184, .fp8e4m3⟩
  | 90 => ⟨S6x1184x2048, .fp8e4m3⟩
  | _ => ⟨S1x1, .f32⟩

abbrev hbmTy (i : Nat) : BufTy := match i / 128 with
  | 0 => hbmTy0_0 i
  | 1 => hbmTy0_1 i
  | _ => ⟨S1x1, .f32⟩

abbrev bufTy : (tb : Table) → Fin (tcTables nBuf tb) → BufTy
  | .hbm, ⟨i, _⟩ => hbmTy i
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_cst_8 : Ref sig .tc := ⟨.hbm, 48, rfl⟩
abbrev main_v24 : Ref sig .tc := ⟨.hbm, 49, rfl⟩
abbrev main_v25 : Ref sig .tc := ⟨.hbm, 50, rfl⟩
abbrev main_cst_9 : Ref sig .tc := ⟨.hbm, 51, rfl⟩
abbrev main_cst_10 : Ref sig .tc := ⟨.hbm, 52, rfl⟩
abbrev main_call3_v0 : Ref sig .tc := ⟨.hbm, 53, rfl⟩
abbrev main_call3_v1 : Ref sig .tc := ⟨.hbm, 54, rfl⟩
abbrev main_v26 : Ref sig .tc := ⟨.hbm, 55, rfl⟩
abbrev main_cst_11 : Ref sig .tc := ⟨.hbm, 56, rfl⟩
abbrev main_call4_v0 : Ref sig .tc := ⟨.hbm, 57, rfl⟩
abbrev main_v27 : Ref sig .tc := ⟨.hbm, 58, rfl⟩
abbrev main_cst_12 : Ref sig .tc := ⟨.hbm, 59, rfl⟩
abbrev main_v28 : Ref sig .tc := ⟨.hbm, 60, rfl⟩
abbrev main_v29 : Ref sig .tc := ⟨.hbm, 61, rfl⟩
abbrev main_cst_13 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_14 : Ref sig .tc := ⟨.hbm, 66, rfl⟩
abbrev main_v33 : Ref sig .tc := ⟨.hbm, 67, rfl⟩
abbrev main_v34 : Ref sig .tc := ⟨.hbm, 68, rfl⟩
abbrev main_cst_15 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_16 : Ref sig .tc := ⟨.hbm, 73, rfl⟩
abbrev main_v38 : Ref sig .tc := ⟨.hbm, 74, rfl⟩
abbrev main_v39 : Ref sig .tc := ⟨.hbm, 75, rfl⟩
abbrev main_cst_17 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_18 : Ref sig .tc := ⟨.hbm, 80, rfl⟩
abbrev main_v43 : Ref sig .tc := ⟨.hbm, 81, rfl⟩
abbrev main_v44 : Ref sig .tc := ⟨.hbm, 82, rfl⟩
abbrev main_cst_19 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_20 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_21 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_22 : Ref sig .tc := ⟨.hbm, 106, rfl⟩
abbrev main_v64 : Ref sig .tc := ⟨.hbm, 107, rfl⟩
abbrev main_v65 : Ref sig .tc := ⟨.hbm, 108, rfl⟩
abbrev main_cst_23 : Ref sig .tc := ⟨.hbm, 109, rfl⟩
abbrev main_v66 : Ref sig .tc := ⟨.hbm, 110, rfl⟩
abbrev main_v67 : Ref sig .tc := ⟨.hbm, 111, rfl⟩
abbrev main_cst_24 : Ref sig .tc := ⟨.hbm, 112, rfl⟩
abbrev main_v68 : Ref sig .tc := ⟨.hbm, 113, rfl⟩
abbrev main_v69 : Ref sig .tc := ⟨.hbm, 114, rfl⟩
abbrev main_cst_25 : Ref sig .tc := ⟨.hbm, 115, rfl⟩
abbrev main_v70 : Ref sig .tc := ⟨.hbm, 116, rfl⟩
abbrev main_v71 : Ref sig .tc := ⟨.hbm, 117, rfl⟩
abbrev main_cst_26 : Ref sig .tc := ⟨.hbm, 118, rfl⟩
abbrev main_v72 : Ref sig .tc := ⟨.hbm, 119, rfl⟩
abbrev main_v73 : Ref sig .tc := ⟨.hbm, 120, rfl⟩
abbrev main_cst_27 : Ref sig .tc := ⟨.hbm, 121, rfl⟩
abbrev main_cst_28 : Ref sig .tc := ⟨.hbm, 122, rfl⟩
abbrev main_call8_v0 : Ref sig .tc := ⟨.hbm, 123, rfl⟩
abbrev main_call8_v1 : Ref sig .tc := ⟨.hbm, 124, rfl⟩
abbrev main_v74 : Ref sig .tc := ⟨.hbm, 125, rfl⟩
abbrev main_call9_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_29 : Ref sig .tc := ⟨.hbm, 130, rfl⟩
abbrev main_v78 : Ref sig .tc := ⟨.hbm, 131, rfl⟩
abbrev main_v79 : Ref sig .tc := ⟨.hbm, 132, rfl⟩
abbrev main_cst_30 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_31 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_32 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_33 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_34 : Ref sig .tc := ⟨.hbm, 156, rfl⟩
abbrev main_v99 : Ref sig .tc := ⟨.hbm, 157, rfl⟩
abbrev main_v100 : Ref sig .tc := ⟨.hbm, 158, rfl⟩
abbrev main_c_35 : Ref sig .tc := ⟨.hbm, 159, rfl⟩
abbrev main_v101 : Ref sig .tc := ⟨.hbm, 160, rfl⟩
abbrev main_v102 : Ref sig .tc := ⟨.hbm, 161, rfl⟩
abbrev main_c_36 : Ref sig .tc := ⟨.hbm, 162, rfl⟩
abbrev main_v103 : Ref sig .tc := ⟨.hbm, 163, rfl⟩
abbrev main_v104 : Ref sig .tc := ⟨.hbm, 164, rfl⟩
abbrev main_cst_37 : Ref sig .tc := ⟨.hbm, 165, rfl⟩
abbrev main_v105 : Ref sig .tc := ⟨.hbm, 166, rfl⟩
abbrev main_v106 : Ref sig .tc := ⟨.hbm, 167, rfl⟩
abbrev main_c_38 : Ref sig .tc := ⟨.hbm, 168, rfl⟩
abbrev main_v107 : Ref sig .tc := ⟨.hbm, 169, rfl⟩
abbrev main_v108 : Ref sig .tc := ⟨.hbm, 170, rfl⟩
abbrev main_cst_39 : Ref sig .tc := ⟨.hbm, 171, rfl⟩
abbrev main_v109 : Ref sig .tc := ⟨.hbm, 172, rfl⟩
abbrev main_v110 : Ref sig .tc := ⟨.hbm, 173, rfl⟩
abbrev main_cst_40 : Ref sig .tc := ⟨.hbm, 174, rfl⟩
abbrev main_v111 : Ref sig .tc := ⟨.hbm, 175, rfl⟩
abbrev main_v112 : Ref sig .tc := ⟨.hbm, 176, rfl⟩
abbrev main_c_41 : Ref sig .tc := ⟨.hbm, 177, rfl⟩
abbrev main_v113 : Ref sig .tc := ⟨.hbm, 178, rfl⟩
abbrev main_v114 : Ref sig .tc := ⟨.hbm, 179, rfl⟩
abbrev main_cst_42 : Ref sig .tc := ⟨.hbm, 180, rfl⟩
abbrev main_v115 : Ref sig .tc := ⟨.hbm, 181, rfl⟩
abbrev main_v116 : Ref sig .tc := ⟨.hbm, 182, rfl⟩
abbrev main_cst_43 : Ref sig .tc := ⟨.hbm, 183, rfl⟩
abbrev main_v117 : Ref sig .tc := ⟨.hbm, 184, rfl⟩
abbrev main_v118 : Ref sig .tc := ⟨.hbm, 185, rfl⟩
abbrev main_cst_44 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_c_45 : Ref sig .tc := ⟨.hbm, 192, rfl⟩
abbrev main_v124 : Ref sig .tc := ⟨.hbm, 193, rfl⟩
abbrev main_v125 : Ref sig .tc := ⟨.hbm, 194, rfl⟩
abbrev main_c_46 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩

abbrev nD : Nat := 1
abbrev τ : Topo := Topo.v7x

variable {F : FTy → Type} [FloatOps F]
-- ==== Prep.lean ====
abbrev S12288x18944 : Shape := ⟨2, ![12288, 18944]⟩
abbrev S18944x1792 : Shape := ⟨2, ![18944, 1792]⟩
abbrev S224x18944 : Shape := ⟨2, ![224, 18944]⟩
abbrev S1x1 : Shape := ⟨2, ![1, 1]⟩
abbrev S18944x3584 : Shape := ⟨2, ![18944, 3584]⟩
abbrev S12288x512 : Shape := ⟨2, ![12288, 512]⟩
abbrev S512x1792 : Shape := ⟨2, ![512, 1792]⟩
abbrev S224x512 : Shape := ⟨2, ![224, 512]⟩
abbrev S512x3584 : Shape := ⟨2, ![512, 3584]⟩
abbrev S16x512 : Shape := ⟨2, ![16, 512]⟩
abbrev S256x512 : Shape := ⟨2, ![256, 512]⟩
abbrev S16x16x512 : Shape := ⟨3, ![16, 16, 512]⟩
abbrev S1x16x512 : Shape := ⟨3, ![1, 16, 512]⟩
abbrev S1 : Shape := ⟨1, ![1]⟩
abbrev S1x1x1 : Shape := ⟨3, ![1, 1, 1]⟩
abbrev S512x224 : Shape := ⟨2, ![512, 224]⟩
abbrev S8x128 : Shape := ⟨2, ![8, 128]⟩
abbrev S8x128x1 : Shape := ⟨3, ![8, 128, 1]⟩
abbrev S512x32 : Shape := ⟨2, ![512, 32]⟩
abbrev S512x256 : Shape := ⟨2, ![512, 256]⟩
abbrev S32x256 : Shape := ⟨2, ![32, 256]⟩
abbrev S32x256x1 : Shape := ⟨3, ![32, 256, 1]⟩
abbrev S32x256x16 : Shape := ⟨3, ![32, 256, 16]⟩
abbrev S32x4096 : Shape := ⟨2, ![32, 4096]⟩
abbrev S32x128 : Shape := ⟨2, ![32, 128]⟩
abbrev S_ : Shape := ⟨0, ![]⟩

abbrev nBuf : Space → Nat
  | .hbm => 13
  | .vmem => 9
  | .smem => 1
  | _ => 0

abbrev bufTy : (tb : Table) → Fin (tcTables nBuf tb) → BufTy
  | .hbm, ⟨0, _⟩ => ⟨S12288x18944, .bf16⟩
  | .hbm, ⟨1, _⟩ => ⟨S18944x1792, .i8⟩
  | .hbm, ⟨2, _⟩ => ⟨S224x18944, .fp8e4m3⟩
  | .hbm, ⟨3, _⟩ => ⟨S1x1, .f32⟩
  | .hbm, ⟨4, _⟩ => ⟨S18944x3584, .bf16⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S12288x512, .bf16⟩
  | .local _ .vmem, ⟨1, _⟩ => ⟨S12288x512, .bf16⟩
  | .local _ .vmem, ⟨2, _⟩ => ⟨S512x1792, .i8⟩
  | .local _ .vmem, ⟨3, _⟩ => ⟨S512x1792, .i8⟩
  | .local _ .vmem, ⟨4, _⟩ => ⟨S224x512, .fp8e4m3⟩
  | .local _ .vmem, ⟨5, _⟩ => ⟨S224x512, .fp8e4m3⟩
  | .local _ .vmem, ⟨6, _⟩ => ⟨S512x3584, .bf16⟩
  | .local _ .vmem, ⟨7, _⟩ => ⟨S512x3584, .bf16⟩
  | .local _ .vmem, ⟨8, _⟩ => ⟨S16x512, .bf16⟩
  | .local _ .smem, ⟨0, _⟩ => ⟨S1x1, .f32⟩
  | _, _ => ⟨S12288x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![37], ![false]⟩

@[reducible] def k0_t1_loop : Scf.Loop 32 :=
  let c0_i32_1 : BitVec 32 := 0#32
  let c48_i32 : BitVec 32 := 48#32
  let v3 : BitVec 32 := Scalar.addi c0_i32_1 c48_i32
  let c1_i32 : BitVec 32 := 1#32
  ⟨c0_i32_1, v3, c1_i32⟩
def k0_off1 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c256_i32 : BitVec 32 := 256#32
  let v6385 : BitVec 32 := Scalar.muli arg7 c256_i32
  let v6386 : Index := Scalar.indexCast v6385
  let c0_1316 : Index := 0#32
  ![v6386.toNat, 0]
def k0_cond2 (i : grid0.Coords) : BitVec 1 :=
  let arg0 : BitVec 32 := BitVec.ofNat 32 (i 0).val
  let c36_i32 : BitVec 32 := 36#32
  let v4 : BitVec 1 := Scalar.cmpi .eq arg0 c36_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrepReferenceIdeal.lean ====
abbrev S12288x18944 : Shape := ⟨2, ![12288, 18944]⟩
abbrev S18944x1792 : Shape := ⟨2, ![18944, 1792]⟩
abbrev S224x18944 : Shape := ⟨2, ![224, 18944]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S12288x18944, .bf16⟩
  | .hbm, ⟨1, _⟩ => ⟨S18944x1792, .i8⟩
  | .hbm, ⟨2, _⟩ => ⟨S224x18944, .fp8e4m3⟩
  | .hbm, ⟨3, _⟩ => ⟨S12288x18944, .f32⟩
  | .hbm, ⟨4, _⟩ => ⟨S12288x18944, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S12288x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_call0_v0 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== Proof.Bits.Quant.lean ====
/- The kernel body, read as a list of pieces: the loads and merges of half a block of scales, the quantisation of a pair of
   tiles, the store of a chunk of scales, one tile of the product. The printed body is this list, unrolled. -/
module

public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The values -/

/-- The lane of an element, at eight rows and at sixteen. -/
def lane8 : IVec S8x128 32 := iota .tc S8x128 32 [1] iota_S8x128_d1_w32
def lane16 : IVec S16x128 32 := iota .tc S16x128 32 [1] iota_S16x128_d1_w32
/-- The even lanes. -/
def even8 : IVec S8x128 1 := cmpi .eq (andi lane8 (broadcast S8x128 1#32)) (broadcast S8x128 0#32)
/-- The lanes whose bit `d` is clear. -/
def keep (d : BitVec 32) : IVec S16x128 1 := cmpi .eq (andi lane16 (broadcast S16x128 d)) (broadcast S16x128 0#32)

/-- The magnitudes of sixteen rows. -/
def absw (x : Vec F S16x128 .bf16) : FVec F S16x128 .f32 := extf .f32 (absf (show FVec F S16x128 .bf16 from x)) bitsLt_bf16_f32

/-- One level of the merge: in the lanes whose bit `d` is clear the maximum of `u` with its neighbour `d` lanes up, in the
    others the maximum of `w` with its neighbour `d` lanes down (`e` is 128 less `d`). -/
def mergeMax (d e : BitVec 32) (u w : FVec F S16x128 .f32) : FVec F S16x128 .f32 :=
  maximumf (select (keep d) u w)
    (select (keep d) (dynamicRotate 1 e none u rotates_S16x128_d1) (dynamicRotate 1 d none w rotates_S16x128_d1))

/-- The merge of sixteen tiles: the block maxima of tile `i` end in lanes `16 b + i`. -/
def mergeTree (x0 x1 x2 x3 x4 x5 x6 x7 x8 x9 x10 x11 x12 x13 x14 x15 : Vec F S16x128 .bf16) : FVec F S16x128 .f32 :=
  mergeMax 1#32 127#32
    (mergeMax 2#32 126#32
      (mergeMax 4#32 124#32 (mergeMax 8#32 120#32 (absw x0) (absw x8)) (mergeMax 8#32 120#32 (absw x4) (absw x12)))
      (mergeMax 4#32 124#32 (mergeMax 8#32 120#32 (absw x2) (absw x10)) (mergeMax 8#32 120#32 (absw x6) (absw x14))))
    (mergeMax 2#32 126#32
      (mergeMax 4#32 124#32 (mergeMax 8#32 120#32 (absw x1) (absw x9)) (mergeMax 8#32 120#32 (absw x5) (absw x13)))
      (mergeMax 4#32 124#32 (mergeMax 8#32 120#32 (absw x3) (absw x11)) (mergeMax 8#32 120#32 (absw x7) (absw x15))))

/-- The block scales of thirty-two rows, from the block maxima of their two halves. -/
def sfOf (g : F .f32) (A B : FVec F S16x128 .f32) : FVec F S32x128 .f32 :=
  extf .f32 (truncf .fp8e4m3 (minimumf (broadcast S32x128 (Scalar.ofBits .f32 0x43E00000#32)) (maximumf (broadcast S32x128 (Scalar.ofBits .f32 0x00000000#32))
    (divf (concatenate S32x128 0 [⟨S16x128, A⟩, ⟨S16x128, B⟩] concatenates_S16x128_S16x128_S32x128_d0)
      (broadcast S32x128 (Scalar.mulf (Scalar.ofBits .f32 0x40C00000#32) g))))) bitsLt_fp8e4m3_f32) bitsLt_fp8e4m3_f32

/-- The factor each element of a block is divided by, times four: zero where the scale is zero. -/
def r4Of (g : F .f32) (sf : FVec F S32x128 .f32) : FVec F S32x128 .f32 :=
  select (cmpf .oeq sf (broadcast S32x128 (Scalar.ofBits .f32 0x00000000#32))) (broadcast S32x128 (Scalar.ofBits .f32 0x00000000#32))
    (divf (broadcast S32x128 (Scalar.ofBits .f32 0x40800000#32))
      (select (cmpf .oeq sf (broadcast S32x128 (Scalar.ofBits .f32 0x00000000#32))) (broadcast S32x128 (Scalar.ofBits .f32 0x3F800000#32))
        (mulf sf (broadcast S32x128 g))))

/-- The scales times sixty-four. -/
def s64Of (sf : FVec F S32x128 .f32) : FVec F S32x128 .f32 := mulf sf (broadcast S32x128 (Scalar.ofBits .f32 0x42800000#32))

/-- Lane indices, as the gather takes them. -/
def nrm (idx : IVec S8x128 32) : IVec S8x128 32 :=
  shapeCast S8x128 (shapeCast S8x128x1 (select (cmpi .slt idx (broadcast S8x128 0#32)) (addi idx (broadcast S8x128 128#32)) idx) shapeCasts_S8x128_S8x128x1)
    shapeCasts_S8x128x1_S8x128

/-- The gather along lanes, eight rows at a time. -/
def gl (x : FVec F S32x128 .f32) (idx : IVec S8x128 32) : FVec F S32x128 .f32 :=
  concatenate S32x128 0
    [⟨S8x128, dynamicGather 1 (extractStridedSlice S8x128 ![0, 0] x slices_S32x128_o0_0_S8x128) (nrm idx)⟩,
     ⟨S8x128, dynamicGather 1 (extractStridedSlice S8x128 ![8, 0] x slices_S32x128_o8_0_S8x128) (nrm idx)⟩,
     ⟨S8x128, dynamicGather 1 (extractStridedSlice S8x128 ![16, 0] x slices_S32x128_o16_0_S8x128) (nrm idx)⟩,
     ⟨S8x128, dynamicGather 1 (extractStridedSlice S8x128 ![24, 0] x slices_S32x128_o24_0_S8x128) (nrm idx)⟩]
    concatenates_S8x128_S8x128_S8x128_S8x128_S32x128_d0

/-- The lanes that hold the scales of tile `i`. -/
def tidx (i : ℕ) : IVec S8x128 32 := ori (andi lane8 (broadcast S8x128 112#32)) (broadcast S8x128 (BitVec.ofNat 32 i))

/-- The magnitudes over their scales, times four. -/
def aV (x : Vec F S32x128 .bf16) (r4 : FVec F S32x128 .f32) (i : ℕ) : FVec F S32x128 .f32 :=
  mulf (extf .f32 (absf (show FVec F S32x128 .bf16 from x)) bitsLt_bf16_f32) (gl r4 (tidx i))

def fcst (b : BitVec 32) : FVec F S32x128 .f32 := broadcast S32x128 (Scalar.ofBits .f32 b)

/-- A magnitude clipped to the range of the steps two and four. -/
def clipV (a : FVec F S32x128 .f32) : FVec F S32x128 .f32 :=
  minimumf (broadcast S32x128 (Scalar.ofBits .f32 0x41C00000#32)) (maximumf (broadcast S32x128 (Scalar.ofBits .f32 0x40800000#32)) a)

/-- One line of the piecewise linear code. -/
def lineV (base : BitVec 32) (slope : BitVec 32) (c : FVec F S32x128 .f32) : IVec S32x128 32 :=
  addi (broadcast S32x128 base) (fptosi 32 (ceil (mulf c (broadcast S32x128 (Scalar.ofBits .f32 slope)))))

/-- The code of a clipped magnitude: its position among the eight values, in units of 2^-24. -/
def bitsV (c : FVec F S32x128 .f32) : IVec S32x128 32 :=
  minsi (minsi (lineV 0#32 0x4B000000#32 c) (lineV 33554432#32 0x4A800000#32 c)) (lineV 67108864#32 0x4A000000#32 c)

/-- The part of the position below the first step of one. -/
def lowV (a : FVec F S32x128 .f32) : IVec S32x128 32 :=
  fptosi 32 (roundeven (ceil (mulf (minimumf a (broadcast S32x128 (Scalar.ofBits .f32 0x40800000#32)))
    (broadcast S32x128 (Scalar.ofBits .f32 0x4B000000#32)))))

/-- The four magnitudes of a word, complemented. -/
def yV (a : FVec F S32x128 .f32) (rb : Vec F S32x128 .i32) : IVec S8x128 32 :=
  xori (bitcast S8x128 32 (trunci 8 (shrsi (subi (subi (shrui (show IVec S32x128 32 from rb) (broadcast S32x128 8#32)) (bitsV (clipV a))) (lowV a)) (broadcast S32x128 24#32)) natLt_8_32)
    bitcasts_S32x128_w8_S8x128_w32) (constantI S8x128 32 4294967295#32)

/-- The four signs of a word. -/
def sgnV (x : Vec F S32x128 .bf16) : IVec S8x128 32 :=
  bitcast S8x128 32 (trunci 8 (select (cmpf .olt (extf .f32 (show FVec F S32x128 .bf16 from x) bitsLt_bf16_f32) (broadcast S32x128 (Scalar.ofBits .f32 0x00000000#32)))
    (broadcast S32x128 8#32) (broadcast S32x128 0#32)) natLt_8_32) bitcasts_S32x128_w8_S8x128_w32

def magV (y : IVec S8x128 32) : IVec S8x128 32 := subi y (broadcast S8x128 16843009#32)
def negV (y sgn : IVec S8x128 32) : IVec S8x128 32 :=
  andi (andi sgn (addi y (broadcast S8x128 101058054#32))) (broadcast S8x128 134744072#32)
def f8V (mag neg : IVec S8x128 32) : FVec F S32x128 .fp8e4m3 :=
  bitcastToFloat .fp8e4m3 (bitcast S32x128 8 (ori (shli mag (broadcast S8x128 2#32)) (shli neg (broadcast S8x128 4#32))) bitcasts_S8x128_w32_S32x128_w8)

/-- The nibbles of a tile, four rows to a word. -/
def nibV (x : Vec F S32x128 .bf16) (rb : Vec F S32x128 .i32) (r4 : FVec F S32x128 .f32) (i : ℕ) : IVec S8x128 32 :=
  ori (magV (yV (aV x r4 i) rb)) (negV (yV (aV x r4 i) rb) (sgnV x))

/-- The decoded tile: what the product multiplies. -/
def decV (x : Vec F S32x128 .bf16) (rb : Vec F S32x128 .i32) (r4 s64 : FVec F S32x128 .f32) (i : ℕ) : FVec F S32x128 .bf16 :=
  mulf (extf .bf16 (f8V (magV (yV (aV x r4 i) rb)) (negV (yV (aV x r4 i) rb) (sgnV x)) : FVec F S32x128 .fp8e4m3) bitsLt_fp8e4m3_bf16)
    (truncf .bf16 (gl s64 (tidx i)) bitsLt_bf16_f32)

/-- Two tiles of nibbles packed: the even lanes' nibble low, the odd lanes' high. -/
def packV (c0 c1 : IVec S8x128 32) : IVec S32x128 8 :=
  bitcast S32x128 8 (dynamicGather 1
    (ori (select even8 c0 (dynamicRotate 1 1#32 none c1 rotates_S8x128_d1))
      (shli (select even8 (dynamicRotate 1 127#32 none c0 rotates_S8x128_d1) c1) (broadcast S8x128 4#32)))
    (nrm (ori (shli (andi lane8 (broadcast S8x128 63#32)) (broadcast S8x128 1#32)) (shrsi lane8 (broadcast S8x128 6#32)))))
    bitcasts_S8x128_w32_S32x128_w8

/-- The order a chunk's scales are stored in. -/
def sord : IVec S8x128 32 := ori (shli (andi lane8 (broadcast S8x128 7#32)) (broadcast S8x128 4#32)) (shrsi lane8 (broadcast S8x128 3#32))

/-- A chunk's scales, blocks by rows. -/
def stV (s0 s1 s2 s3 : FVec F S32x128 .f32) : FVec F S128x128 .f32 :=
  transpose S128x128 [1, 0] (concatenate S128x128 0 [⟨S32x128, gl s0 sord⟩, ⟨S32x128, gl s1 sord⟩, ⟨S32x128, gl s2 sord⟩, ⟨S32x128, gl s3 sord⟩]
    concatenates_S32x128_S32x128_S32x128_S32x128_S128x128_d0) transposes_S128x128_p1_0_S128x128

def sc1V (s : FVec F S32x128 .f32) : FVec F S1x32x128 .fp8e4m3 :=
  shapeCast S1x32x128 (truncf .fp8e4m3 s bitsLt_fp8e4m3_f32) shapeCasts_S32x128_S1x32x128

/-- One tile of the accumulator after a step: the product of operand and weights where the row block starts (`first`), that
    product added to the tile `d` elsewhere. -/
def tile (first : BitVec 1) (a : Vec F S512x512 .bf16) (w : Vec F S256x512 .i32) (d : Vec F S512x512 .f32) : FVec F S512x512 .f32 :=
  Scalar.select first
    (matmul dot_S512x512_S512x512_S512x512_1_0_0_1_n_n none (show FVec F S512x512 .bf16 from a)
      (bitcastToFloat .bf16 (bitcast S512x512 16 w bitcasts_S256x512_w32_S512x512_w16))
      (constant S512x512 .f32 0x00000000#32))
    (addf d (matmul dot_S512x512_S512x512_S512x512_1_0_0_1_n_n none (show FVec F S512x512 .bf16 from a)
      (bitcastToFloat .bf16 (bitcast S512x512 16 w bitcasts_S256x512_w32_S512x512_w16))
      (constant S512x512 .f32 0x00000000#32)))

/-! ## The rectangles -/

/-- The first of the thirty-two rows of unit `u` in row group `rg`. -/
def row (u rg : ℕ) : ℕ := u / 4 * 512 + rg * 128 + u % 4 * 32

theorem row_le {u rg : ℕ} (hu : u < 8) (hr : rg < 4) : row u rg + 32 ≤ 1024 := by unfold row; omega
theorem row_dvd (u rg : ℕ) : 32 ∣ row u rg := by unfold row; omega

theorem inbH (u : Fin 8) (h : Fin 2) (i : Fin 16) :
    ∀ a, (![row u.val (i.val / 4) + h.val * 16, i.val % 4 * 128] : Fin 2 → ℕ) a + S16x128.size a ≤ S1024x512.size a := by
  have := row_le u.isLt (show i.val / 4 < 4 by omega)
  intro a; fin_cases a
  · show row u.val (i.val / 4) + h.val * 16 + 16 ≤ 1024; omega
  · show i.val % 4 * 128 + 128 ≤ 512; omega
theorem inbT (u : Fin 8) (i : Fin 16) :
    ∀ a, (![row u.val (i.val / 4), i.val % 4 * 128] : Fin 2 → ℕ) a + S32x128.size a ≤ S1024x512.size a := by
  have := row_le u.isLt (show i.val / 4 < 4 by omega)
  intro a; fin_cases a
  · show row u.val (i.val / 4) + 32 ≤ 1024; omega
  · show i.val % 4 * 128 + 128 ≤ 512; omega
theorem inbC (u : Fin 8) (p : Fin 8) :
    ∀ a, (![row u.val (p.val / 2), p.val % 2 * 128] : Fin 2 → ℕ) a + S32x128.size a ≤ S1024x256.size a := by
  have := row_le u.isLt (show p.val / 2 < 4 by omega)
  intro a; fin_cases a
  · show row u.val (p.val / 2) + 32 ≤ 1024; omega
  · show p.val % 2 * 128 + 128 ≤ 256; omega
theorem inbS (c : Fin 2) (r : Fin 4) :
    ∀ a, (![0, 0, c.val * 512 + r.val * 128] : Fin 3 → ℕ) a + S1x32x128.size a ≤ S1x32x1024.size a := by
  intro a; fin_cases a
  · show 0 + 1 ≤ 1; omega
  · show 0 + 32 ≤ 32; omega
  · show c.val * 512 + r.val * 128 + 128 ≤ 1024; omega
theorem inbA (j : Fin 14) : ∀ a, (![j.val % 2 * 512, 0] : Fin 2 → ℕ) a + S512x512.size a ≤ S1024x512.size a := by
  intro a; fin_cases a
  · show j.val % 2 * 512 + 512 ≤ 1024; omega
  · show 0 + 512 ≤ 512; omega
theorem inbW (j : Fin 14) : ∀ a, (![0, j.val / 2 * 512] : Fin 2 → ℕ) a + S256x512.size a ≤ S256x3584.size a := by
  intro a; fin_cases a
  · show 0 + 256 ≤ 256; omega
  · show j.val / 2 * 512 + 512 ≤ 3584; omega
theorem inbD (j : Fin 14) : ∀ a, (![j.val % 2 * 512, j.val / 2 * 512] : Fin 2 → ℕ) a + S512x512.size a ≤ S1024x3584.size a := by
  intro a; fin_cases a
  · show j.val % 2 * 512 + 512 ≤ 1024; omega
  · show j.val / 2 * 512 + 512 ≤ 3584; omega

abbrev rH (u : Fin 8) (h : Fin 2) (i : Fin 16) : Rect S1024x512 := Rect.unit (s := S1024x512) ![row u.val (i.val / 4) + h.val * 16, i.val % 4 * 128] S16x128.size (inbH u h i)
abbrev rT (u : Fin 8) (i : Fin 16) : Rect S1024x512 := Rect.unit (s := S1024x512) ![row u.val (i.val / 4), i.val % 4 * 128] S32x128.size (inbT u i)
abbrev rC (u : Fin 8) (p : Fin 8) : Rect S1024x256 := Rect.unit (s := S1024x256) ![row u.val (p.val / 2), p.val % 2 * 128] S32x128.size (inbC u p)
abbrev rS (c : Fin 2) (r : Fin 4) : Rect S1x32x1024 := Rect.unit (s := S1x32x1024) ![0, 0, c.val * 512 + r.val * 128] S1x32x128.size (inbS c r)
abbrev rA (j : Fin 14) : Rect S1024x512 := Rect.unit (s := S1024x512) ![j.val % 2 * 512, 0] S512x512.size (inbA j)
abbrev rW (j : Fin 14) : Rect S256x3584 := Rect.unit (s := S256x3584) ![0, j.val / 2 * 512] S256x512.size (inbW j)
abbrev rD (j : Fin 14) : Rect S1024x3584 := Rect.unit (s := S1024x3584) ![j.val % 2 * 512, j.val / 2 * 512] S512x512.size (inbD j)

theorem packT (u : Fin 8) (i : Fin 16) : (rT u i).PackedRows (EltTy.packing .bf16) :=
  .inr ⟨Nat.le_refl 2, rfl, .inl ⟨Dvd.dvd.trans (by decide) (row_dvd u.val (i.val / 4)), (by decide : (2 : ℕ) ∣ 32)⟩⟩
theorem packC (u : Fin 8) (p : Fin 8) : (rC u p).PackedRows (EltTy.packing .i8) :=
  .inr ⟨Nat.le_refl 2, rfl, .inl ⟨Dvd.dvd.trans (by decide) (row_dvd u.val (p.val / 2)), (by decide : (4 : ℕ) ∣ 32)⟩⟩
theorem packS (c : Fin 2) (r : Fin 4) : (rS c r).PackedRows (EltTy.packing .fp8e4m3) :=
  .inr ⟨Nat.le_succ 2, rfl, .inl ⟨(by decide : (4 : ℕ) ∣ 0), (by decide : (4 : ℕ) ∣ 32)⟩⟩

/-! ## The pieces -/

/-- A piece of the body. -/
inductive Piece where
  | half (u : Fin 8) (h : Fin 2)
  | pair (u : Fin 8) (p : Fin 8)
  | scl (c : Fin 2)
  | mm (j : Fin 14)
  deriving DecidableEq

/-- The pieces of the first point: the quantiser alone. -/
def fillList : List Piece :=
  [.half 0 0, .half 0 1, .half 1 0, .pair 0 0, .half 1 1, .pair 0 1, .pair 0 2, .pair 0 3, .pair 0 4,
   .pair 0 5, .pair 0 6, .pair 0 7, .half 2 0, .pair 1 0, .half 2 1, .pair 1 1, .pair 1 2, .pair 1 3,
   .pair 1 4, .pair 1 5, .pair 1 6, .pair 1 7, .half 3 0, .pair 2 0, .half 3 1, .pair 2 1, .pair 2 2,
   .pair 2 3, .pair 2 4, .pair 2 5, .pair 2 6, .pair 2 7, .half 4 0, .pair 3 0, .half 4 1, .pair 3 1,
   .pair 3 2, .pair 3 3, .pair 3 4, .pair 3 5, .pair 3 6, .pair 3 7, .scl 0, .half 5 0, .pair 4 0, .half 5 1,
   .pair 4 1, .pair 4 2, .pair 4 3, .pair 4 4, .pair 4 5, .pair 4 6, .pair 4 7, .half 6 0, .pair 5 0,
   .half 6 1, .pair 5 1, .pair 5 2, .pair 5 3, .pair 5 4, .pair 5 5, .pair 5 6, .pair 5 7, .half 7 0,
   .pair 6 0, .half 7 1, .pair 6 1, .pair 6 2, .pair 6 3, .pair 6 4, .pair 6 5, .pair 6 6, .pair 6 7,
   .pair 7 0, .pair 7 1, .pair 7 2, .pair 7 3, .pair 7 4, .pair 7 5, .pair 7 6, .pair 7 7, .scl 1]

/-- The pieces of a later point: the quantiser's, dealt out between the fourteen tiles of the product. -/
def stepList : List Piece :=
  [.mm 0, .half 0 0, .half 0 1, .mm 1, .half 1 0, .pair 0 0, .half 1 1, .pair 0 1, .pair 0 2, .pair 0 3,
   .mm 2, .pair 0 4, .pair 0 5, .pair 0 6, .pair 0 7, .half 2 0, .pair 1 0, .mm 3, .half 2 1, .pair 1 1,
   .pair 1 2, .pair 1 3, .pair 1 4, .pair 1 5, .mm 4, .pair 1 6, .pair 1 7, .half 3 0, .pair 2 0, .half 3 1,
   .pair 2 1, .pair 2 2, .mm 5, .pair 2 3, .pair 2 4, .pair 2 5, .pair 2 6, .pair 2 7, .mm 6, .half 4 0,
   .pair 3 0, .half 4 1, .pair 3 1, .pair 3 2, .pair 3 3, .pair 3 4, .pair 3 5, .mm 7, .pair 3 6, .pair 3 7,
   .scl 0, .half 5 0, .pair 4 0, .half 5 1, .pair 4 1, .mm 8, .pair 4 2, .pair 4 3, .pair 4 4, .pair 4 5,
   .pair 4 6, .mm 9, .pair 4 7, .half 6 0, .pair 5 0, .half 6 1, .pair 5 1, .pair 5 2, .pair 5 3, .mm 10,
   .pair 5 4, .pair 5 5, .pair 5 6, .pair 5 7, .half 7 0, .pair 6 0, .mm 11, .half 7 1, .pair 6 1, .pair 6 2,
   .pair 6 3, .pair 6 4, .pair 6 5, .mm 12, .pair 6 6, .pair 6 7, .pair 7 0, .pair 7 1, .pair 7 2, .mm 13,
   .pair 7 3, .pair 7 4, .pair 7 5, .pair 7 6, .pair 7 7, .scl 1]

section Prog

variable (arg3 : Memref sig .tc .vmem S1024x512 .bf16) (harg3 : arg3.IsWhole) (arg4 : Memref sig .tc .vmem S1024x512 .i32)
  (arg5 : Memref sig .tc .vmem S256x3584 .i32) (arg7 : Memref sig .tc .vmem S1024x256 .i8) (harg7 : arg7.IsWhole)
  (arg8 : Memref sig .tc .vmem S1x32x1024 .fp8e4m3) (harg8 : arg8.IsWhole)
  (an : Memref sig .tc .vmem S1024x512 .bf16) (han : an.IsWhole) (ao : Memref sig .tc .vmem S1024x512 .bf16)
  (arg11 : Memref sig .tc .vmem S1024x3584 .f32)

/-- A load of sixteen rows of the input. -/
def ldH (u : Fin 8) (h : Fin 2) (i : Fin 16) : Prog (TpuEff nD τ sig (Elt F) Λ₀ .tc) (Vec F S16x128 .bf16) :=
  Prog.lift (.load arg3 (rH u h i).toLoadRect (View.loadsAt_vmem h_S16x128))

/-- The block maxima of half a unit. -/
def halfProg (u : Fin 8) (h : Fin 2) : Prog (TpuEff nD τ sig (Elt F) Λ₀ .tc) (FVec F S16x128 .f32) := do
  let x0 ← ldH arg3 u h 0
  let x8 ← ldH arg3 u h 8
  let x1 ← ldH arg3 u h 1
  let x9 ← ldH arg3 u h 9
  let x2 ← ldH arg3 u h 2
  let x10 ← ldH arg3 u h 10
  let x3 ← ldH arg3 u h 3
  let x11 ← ldH arg3 u h 11
  let x4 ← ldH arg3 u h 4
  let x12 ← ldH arg3 u h 12
  let x5 ← ldH arg3 u h 5
  let x13 ← ldH arg3 u h 13
  let x6 ← ldH arg3 u h 6
  let x14 ← ldH arg3 u h 14
  let x7 ← ldH arg3 u h 7
  let x15 ← ldH arg3 u h 15
  pure (mergeTree x0 x1 x2 x3 x4 x5 x6 x7 x8 x9 x10 x11 x12 x13 x14 x15)

/-- One tile quantised: its decoded values stored, its nibbles returned. -/
def tileProg (u : Fin 8) (i : Fin 16) (r4 s64 : FVec F S32x128 .f32) : Prog (TpuEff nD τ sig (Elt F) Λ₀ .tc) (IVec S8x128 32) := do
  let x : Vec F S32x128 .bf16 ← Prog.lift (.load arg3 (rT u i).toLoadRect (View.loadsAt_vmem h_S32x128))
  let rb : Vec F S32x128 .i32 ← Prog.lift (.load arg4 (rT u i).toLoadRect (View.loadsAt_vmem h_S32x128))
  let _d : Vec F S32x128 .bf16 ← Prog.lift (.load an (rT u i).toLoadRect (View.loadsAt_vmem h_S32x128))
  Prog.lift (.store an (rT u i) (shapeCast S32x128 (decV x rb r4 s64 i.val) shapeCasts_S32x128_S32x128) Finset.univ
    (View.stores_vmem h_S32x128 (han.storeExact_slice rfl _ (packT u i)) (fun _ => rfl)) (.inl rfl))
  pure (nibV x rb r4 i.val)

def t0 (p : Fin 8) : Fin 16 := ⟨2 * p.val, by omega⟩
def t1 (p : Fin 8) : Fin 16 := ⟨2 * p.val + 1, by omega⟩

/-- A pair of tiles quantised and their codes stored. -/
def pairProg (u : Fin 8) (p : Fin 8) (r4 s64 : FVec F S32x128 .f32) : Prog (TpuEff nD τ sig (Elt F) Λ₀ .tc) PUnit := do
  let c0 ← tileProg arg3 arg4 an han u (t0 p) r4 s64
  let c1 ← tileProg arg3 arg4 an han u (t1 p) r4 s64
  let _d : Vec F S32x128 .i8 ← Prog.lift (.load arg7 (rC u p).toLoadRect (View.loadsAt_vmem h_S32x128))
  Prog.lift (.store arg7 (rC u p) (packV c0 c1) Finset.univ
    (View.stores_vmem h_S32x128 (harg7.storeExact_slice rfl _ (packC u p)) (fun _ => rfl)) (.inl rfl))

/-- One group of a chunk's scales stored. -/
def sclProg1 (c : Fin 2) (r : Fin 4) (v : FVec F S32x128 .f32) : Prog (TpuEff nD τ sig (Elt F) Λ₀ .tc) PUnit := do
  let _d : Vec F S1x32x128 .fp8e4m3 ← Prog.lift (.load arg8 (rS c r).toLoadRect (View.loadsAt_vmem h_S1x32x128))
  Prog.lift (.store arg8 (rS c r) (sc1V v) Finset.univ
    (View.stores_vmem h_S1x32x128 (harg8.storeExact_slice rfl _ (packS c r)) (fun _ => rfl)) (.inl rfl))

/-- A chunk's scales stored. -/
def sclProg (c : Fin 2) (st : FVec F S128x128 .f32) : Prog (TpuEff nD τ sig (Elt F) Λ₀ .tc) PUnit := do
  sclProg1 arg8 harg8 c 0 (extractStridedSlice S32x128 ![0, 0] st slices_S128x128_o0_0_S32x128)
  sclProg1 arg8 harg8 c 1 (extractStridedSlice S32x128 ![32, 0] st slices_S128x128_o32_0_S32x128)
  sclProg1 arg8 harg8 c 2 (extractStridedSlice S32x128 ![64, 0] st slices_S128x128_o64_0_S32x128)
  sclProg1 arg8 harg8 c 3 (extractStridedSlice S32x128 ![96, 0] st slices_S128x128_o96_0_S32x128)

/-- One tile of the product. -/
def mmProg (first : BitVec 1) (j : Fin 14) : Prog (TpuEff nD τ sig (Elt F) Λ₀ .tc) PUnit := do
  let a : Vec F S512x512 .bf16 ← Prog.lift (.load ao (rA j).toLoadRect (View.loadsAt_vmem h_S512x512))
  let w : Vec F S256x512 .i32 ← Prog.lift (.load arg5 (rW j).toLoadRect (View.loadsAt_vmem h_S256x512))
  let d : Vec F S512x512 .f32 ← Prog.lift (.load arg11 (rD j).toLoadRect (View.loadsAt_vmem h_S512x512))
  let _d : Vec F S512x512 .f32 ← Prog.lift (.load arg11 (rD j).toLoadRect (View.loadsAt_vmem h_S512x512))
  Prog.lift (.store arg11 (rD j) (shapeCast S512x512 (tile first a w d) shapeCasts_S512x512_S512x512) Finset.univ
    (View.stores_vmem_bits_univ h_S512x512 rfl) (.inl rfl))

/-- What the pieces hand on: the block maxima of each half unit. -/
abbrev Maxima (F : FTy → Type) := ℕ → FVec F S16x128 .f32

def sfAt (g : F .f32) (s : Maxima F) (u : ℕ) : FVec F S32x128 .f32 := sfOf g (s (2 * u)) (s (2 * u + 1))

/-- One piece run. -/
def exec (g : F .f32) (first : BitVec 1) (s : Maxima F) : Piece → Prog (TpuEff nD τ sig (Elt F) Λ₀ .tc) (Maxima F)
  | .half u h => do
    let v ← halfProg arg3 u h
    pure (fun k => cond (Nat.beq k (2 * u.val + h.val)) v (s k))
  | .pair u p => do
    pairProg arg3 arg4 arg7 harg7 an han u p (r4Of g (sfAt g s u.val)) (s64Of (sfAt g s u.val))
    pure s
  | .scl c => do
    sclProg arg8 harg8 c (stV (sfAt g s (4 * c.val)) (sfAt g s (4 * c.val + 1)) (sfAt g s (4 * c.val + 2)) (sfAt g s (4 * c.val + 3)))
    pure s
  | .mm j => do
    mmProg arg5 ao arg11 first j
    pure s

/-- A list of pieces run. -/
def run (g : F .f32) (first : BitVec 1) : List Piece → Maxima F → Prog (TpuEff nD τ sig (Elt F) Λ₀ .tc) PUnit
  | [], _ => pure ⟨⟩
  | q :: L, s => exec arg3 arg4 arg5 arg7 harg7 arg8 harg8 an han ao arg11 g first s q >>= run g first L

end Prog

/-- Before any piece the maxima are anything: zero, say. -/
def noMaxima : Maxima F := fun _ => constant S16x128 .f32 0x00000000#32

end Cert.Kernel.Gen

end
-- ==== Proof.Bits.QuantBody.lean ====
/- The printed body is the list of pieces. -/
module

public import proofs.«01_k».proof.Proof.Bits.Quant

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-- The body with its unrolled branches as runs of pieces. -/
def bodyProg (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole) :
    Prog (TpuEff nD τ sig (Elt F) Λ₀ .tc) PUnit := do
  let g : Elt F .f32 ← smemLoad arg1 (Rect.unit (s := S1x1) ![0, 0] S1x1.size inb_S1x1_S1x1_0_0) numel1_S1x1 rfl
  if k0_h1 : k0_cond1 i = 1#1 then
    run arg3 arg4 arg5 arg7 harg7 arg8 harg8 arg9 harg9 arg10 arg11 g 0#1 fillList noMaxima
  else pure ⟨⟩
  if k0_h2 : k0_cond2 i = 1#1 then
    run arg3 arg4 arg5 arg7 harg7 arg8 harg8 arg10 harg10 arg9 arg11 g (Scalar.cmpi .eq (Scalar.remsi (Scalar.subi (BitVec.ofNat 32 (i 0).val) 1#32) 37#32) 0#32) stepList noMaxima
  else pure ⟨⟩
  if k0_h3 : k0_cond3 i = 1#1 then
    run arg3 arg4 arg5 arg7 harg7 arg8 harg8 arg9 harg9 arg10 arg11 g (Scalar.cmpi .eq (Scalar.remsi (Scalar.subi (BitVec.ofNat 32 (i 0).val) 1#32) 37#32) 0#32) stepList noMaxima
  else pure ⟨⟩
  if k0_h4 : k0_cond4 i = 1#1 then do
    let wg : Elt F .f32 ← smemLoad arg2 (Rect.unit (s := S1x1) ![0, 0] S1x1.size inb_S1x1_S1x1_0_0) numel1_S1x1 rfl
    let d : Vec F S1024x3584 .f32 ← Prog.lift (.load arg11 (Rect.unit (s := S1024x3584) ![0, 0] S1024x3584.size inb_S1024x3584_S1024x3584_0_0).toLoadRect (View.loadsAt_vmem h_S1024x3584))
    let _d : Vec F S1024x3584 .bf16 ← Prog.lift (.load arg6 (Rect.unit (s := S1024x3584) ![0, 0] S1024x3584.size inb_S1024x3584_S1024x3584_0_0).toLoadRect (View.loadsAt_vmem h_S1024x3584))
    Prog.lift (.store arg6 (Rect.unit (s := S1024x3584) ![0, 0] S1024x3584.size inb_S1024x3584_S1024x3584_0_0)
      (truncf .bf16 (mulf (show FVec F S1024x3584 .f32 from d) (broadcast S1024x3584 (Scalar.mulf g wg))) bitsLt_bf16_f32) Finset.univ
      (View.stores_vmem h_S1024x3584 (harg6.storeExact_slice rfl _ packedbf16_S1024x3584_S1024x3584_0_0) (fun _ => rfl)) (.inl rfl))
    pure ⟨⟩
  else pure ⟨⟩
  pure ⟨⟩

set_option maxHeartbeats 0 in
theorem body_eq (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole) :
    cc0_quant_dgrad (F := F) i arg1 harg1 arg2 harg2 arg3 harg3 arg4 harg4 arg5 harg5 arg6 harg6 arg7 harg7 arg8 harg8 arg9 harg9 arg10 harg10 arg11 harg11 = bodyProg i arg1 harg1 arg2 harg2 arg3 harg3 arg4 harg4 arg5 harg5 arg6 harg6 arg7 harg7 arg8 harg8 arg9 harg9 arg10 harg10 arg11 harg11 := by
  sl_kernel_rfl

end Cert.Kernel.Gen

end
-- ==== Proof.Bits.QuantRun.lean ====
/- What a run of pieces leaves in the buffers it writes: block by block, the values the pieces store. -/
module

public import proofs.«01_k».proof.Proof.Bits.QuantBody
public import Idealize.ShloMosaic.Lib.Pipeline.Value
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## What the pieces store, by place -/

/-- The block maxima of half a unit of a block of inputs. -/
def halfV (x : Vec F S1024x512 .bf16) (u : Fin 8) (h : Fin 2) : FVec F S16x128 .f32 :=
  mergeTree (View.ld (Val := Elt F) x (rH u h 0)) (View.ld (Val := Elt F) x (rH u h 1)) (View.ld (Val := Elt F) x (rH u h 2))
    (View.ld (Val := Elt F) x (rH u h 3)) (View.ld (Val := Elt F) x (rH u h 4)) (View.ld (Val := Elt F) x (rH u h 5))
    (View.ld (Val := Elt F) x (rH u h 6)) (View.ld (Val := Elt F) x (rH u h 7)) (View.ld (Val := Elt F) x (rH u h 8))
    (View.ld (Val := Elt F) x (rH u h 9)) (View.ld (Val := Elt F) x (rH u h 10)) (View.ld (Val := Elt F) x (rH u h 11))
    (View.ld (Val := Elt F) x (rH u h 12)) (View.ld (Val := Elt F) x (rH u h 13)) (View.ld (Val := Elt F) x (rH u h 14))
    (View.ld (Val := Elt F) x (rH u h 15))

/-- The scales of a unit. -/
def sfU (g : F .f32) (x : Vec F S1024x512 .bf16) (u : Fin 8) : FVec F S32x128 .f32 := sfOf g (halfV x u 0) (halfV x u 1)

/-- The decoded values and the nibbles of a tile. -/
def decU (g : F .f32) (x : Vec F S1024x512 .bf16) (rb : Vec F S1024x512 .i32) (u : Fin 8) (i : Fin 16) : FVec F S32x128 .bf16 :=
  decV (View.ld (Val := Elt F) x (rT u i)) (View.ld (Val := Elt F) rb (rT u i)) (r4Of g (sfU g x u)) (s64Of (sfU g x u)) i.val
def nibU (g : F .f32) (x : Vec F S1024x512 .bf16) (rb : Vec F S1024x512 .i32) (u : Fin 8) (i : Fin 16) : IVec S8x128 32 :=
  nibV (View.ld (Val := Elt F) x (rT u i)) (View.ld (Val := Elt F) rb (rT u i)) (r4Of g (sfU g x u)) i.val
def codU (g : F .f32) (x : Vec F S1024x512 .bf16) (rb : Vec F S1024x512 .i32) (u : Fin 8) (p : Fin 8) : IVec S32x128 8 :=
  packV (nibU g x rb u (t0 p)) (nibU g x rb u (t1 p))

/-- The scales of a chunk, and one group of them as stored. -/
def stU (g : F .f32) (x : Vec F S1024x512 .bf16) (c : Fin 2) : FVec F S128x128 .f32 :=
  stV (sfU g x ⟨4 * c.val, by omega⟩) (sfU g x ⟨4 * c.val + 1, by omega⟩) (sfU g x ⟨4 * c.val + 2, by omega⟩) (sfU g x ⟨4 * c.val + 3, by omega⟩)
def sl4 (st : FVec F S128x128 .f32) (r : Fin 4) : FVec F S32x128 .f32 := match r with
  | 0 => extractStridedSlice S32x128 ![0, 0] st slices_S128x128_o0_0_S32x128
  | 1 => extractStridedSlice S32x128 ![32, 0] st slices_S128x128_o32_0_S32x128
  | 2 => extractStridedSlice S32x128 ![64, 0] st slices_S128x128_o64_0_S32x128
  | 3 => extractStridedSlice S32x128 ![96, 0] st slices_S128x128_o96_0_S32x128

/-- The unit and the tile of a place in a block, and its place in the tile. -/
def unitA (y : S1024x512.Idx) : Fin 8 := ⟨(y 0).val / 512 * 4 + (y 0).val % 128 / 32, by have h : (y 0).val < 1024 := (y 0).isLt; omega⟩
def tileA (y : S1024x512.Idx) : Fin 16 :=
  ⟨(y 0).val % 512 / 128 * 4 + (y 1).val / 128, by have h : (y 1).val < 512 := (y 1).isLt; omega⟩
def locA (y : S1024x512.Idx) : S32x128.Idx := fun a => match a with
  | ⟨0, _⟩ => ⟨(y 0).val % 32, Nat.mod_lt _ (by decide)⟩
  | ⟨1, _⟩ => ⟨(y 1).val % 128, Nat.mod_lt _ (by decide)⟩
def unitC (y : S1024x256.Idx) : Fin 8 := ⟨(y 0).val / 512 * 4 + (y 0).val % 128 / 32, by have h : (y 0).val < 1024 := (y 0).isLt; omega⟩
def pairC (y : S1024x256.Idx) : Fin 8 :=
  ⟨(y 0).val % 512 / 128 * 2 + (y 1).val / 128, by have h : (y 1).val < 256 := (y 1).isLt; omega⟩
def locC (y : S1024x256.Idx) : S32x128.Idx := fun a => match a with
  | ⟨0, _⟩ => ⟨(y 0).val % 32, Nat.mod_lt _ (by decide)⟩
  | ⟨1, _⟩ => ⟨(y 1).val % 128, Nat.mod_lt _ (by decide)⟩
def chunkS (y : S1x32x1024.Idx) : Fin 2 := ⟨(y 2).val / 512, by have h : (y 2).val < 1024 := (y 2).isLt; omega⟩
def groupS (y : S1x32x1024.Idx) : Fin 4 := ⟨(y 2).val % 512 / 128, by omega⟩
def locS (y : S1x32x1024.Idx) : S1x32x128.Idx := fun a => match a with
  | ⟨0, _⟩ => ⟨0, Nat.one_pos⟩
  | ⟨1, _⟩ => ⟨(y 1).val, (y 1).isLt⟩
  | ⟨2, _⟩ => ⟨(y 2).val % 128, Nat.mod_lt _ (by decide)⟩
def tileD (y : S1024x3584.Idx) : Fin 14 :=
  ⟨(y 1).val / 512 * 2 + (y 0).val / 512, by have h : (y 0).val < 1024 := (y 0).isLt; have h : (y 1).val < 3584 := (y 1).isLt; omega⟩
def locD (y : S1024x3584.Idx) : S512x512.Idx := fun a => match a with
  | ⟨0, _⟩ => ⟨(y 0).val % 512, Nat.mod_lt _ (by decide)⟩
  | ⟨1, _⟩ => ⟨(y 1).val % 512, Nat.mod_lt _ (by decide)⟩

/-- The operand block of a block of inputs: every element decoded. -/
def aOf (g : F .f32) (x : Vec F S1024x512 .bf16) (rb : Vec F S1024x512 .i32) : Vec F S1024x512 .bf16 := fun y =>
  decU g x rb (unitA y) (tileA y) (locA y)
/-- The codes of a block of inputs. -/
def cOf (g : F .f32) (x : Vec F S1024x512 .bf16) (rb : Vec F S1024x512 .i32) : Vec F S1024x256 .i8 := fun y =>
  codU g x rb (unitC y) (pairC y) (locC y)
/-- The scales of a block of inputs. -/
def sOf (g : F .f32) (x : Vec F S1024x512 .bf16) : Vec F S1x32x1024 .fp8e4m3 := fun y =>
  sc1V (sl4 (stU g x (chunkS y)) (groupS y)) (locS y)
/-- The accumulator after a step. -/
def tileU (first : BitVec 1) (a : Vec F S1024x512 .bf16) (w : Vec F S256x3584 .i32) (d : Vec F S1024x3584 .f32) (j : Fin 14) : FVec F S512x512 .f32 :=
  tile first (View.ld (Val := Elt F) a (rA j)) (View.ld (Val := Elt F) w (rW j)) (View.ld (Val := Elt F) d (rD j))
def accStep (first : BitVec 1) (a : Vec F S1024x512 .bf16) (w : Vec F S256x3584 .i32) (d : Vec F S1024x3584 .f32) : Vec F S1024x3584 .f32 := fun y =>
  tileU first a w d (tileD y) (locD y)

/-! ## Where the rectangles lie -/

theorem embT (u : Fin 8) (i : Fin 16) (j : S32x128.Idx) :
    unitA ((rT u i).emb j) = u ∧ tileA ((rT u i).emb j) = i ∧ locA ((rT u i).emb j) = j := by
  have h0 : (j 0).val < 32 := (j 0).isLt
  have h1 : (j 1).val < 128 := (j 1).isLt
  have hu := u.isLt; have hi := i.isLt
  have e0 : ((rT u i).emb j 0).val = (u.val / 4 * 512 + i.val / 4 * 128 + u.val % 4 * 32) + 1 * (j 0).val := rfl
  have e1 : ((rT u i).emb j 1).val = i.val % 4 * 128 + 1 * (j 1).val := rfl
  refine ⟨Fin.ext ?_, Fin.ext ?_, funext fun b => Fin.ext ?_⟩
  · show ((rT u i).emb j 0).val / 512 * 4 + ((rT u i).emb j 0).val % 128 / 32 = _; rw [e0]; omega
  · show ((rT u i).emb j 0).val % 512 / 128 * 4 + ((rT u i).emb j 1).val / 128 = _; rw [e0, e1]; omega
  · match b with
    | ⟨0, _⟩ => show ((rT u i).emb j 0).val % 32 = (j 0).val; rw [e0]; omega
    | ⟨1, _⟩ => show ((rT u i).emb j 1).val % 128 = (j 1).val; rw [e1]; omega
theorem embC (u : Fin 8) (p : Fin 8) (j : S32x128.Idx) :
    unitC ((rC u p).emb j) = u ∧ pairC ((rC u p).emb j) = p ∧ locC ((rC u p).emb j) = j := by
  have h0 : (j 0).val < 32 := (j 0).isLt
  have h1 : (j 1).val < 128 := (j 1).isLt
  have hu := u.isLt; have hi := p.isLt
  have e0 : ((rC u p).emb j 0).val = (u.val / 4 * 512 + p.val / 2 * 128 + u.val % 4 * 32) + 1 * (j 0).val := rfl
  have e1 : ((rC u p).emb j 1).val = p.val % 2 * 128 + 1 * (j 1).val := rfl
  refine ⟨Fin.ext ?_, Fin.ext ?_, funext fun b => Fin.ext ?_⟩
  · show ((rC u p).emb j 0).val / 512 * 4 + ((rC u p).emb j 0).val % 128 / 32 = _; rw [e0]; omega
  · show ((rC u p).emb j 0).val % 512 / 128 * 2 + ((rC u p).emb j 1).val / 128 = _; rw [e0, e1]; omega
  · match b with
    | ⟨0, _⟩ => show ((rC u p).emb j 0).val % 32 = (j 0).val; rw [e0]; omega
    | ⟨1, _⟩ => show ((rC u p).emb j 1).val % 128 = (j 1).val; rw [e1]; omega
theorem embS (c : Fin 2) (r : Fin 4) (j : S1x32x128.Idx) :
    chunkS ((rS c r).emb j) = c ∧ groupS ((rS c r).emb j) = r ∧ locS ((rS c r).emb j) = j := by
  have h0 : (j 0).val < 1 := (j 0).isLt
  have h1 : (j 1).val < 32 := (j 1).isLt
  have h2 : (j 2).val < 128 := (j 2).isLt
  have hu := c.isLt; have hi := r.isLt
  have e1 : ((rS c r).emb j 1).val = 0 + 1 * (j 1).val := rfl
  have e2 : ((rS c r).emb j 2).val = c.val * 512 + r.val * 128 + 1 * (j 2).val := rfl
  refine ⟨Fin.ext ?_, Fin.ext ?_, funext fun b => Fin.ext ?_⟩
  · show ((rS c r).emb j 2).val / 512 = _; rw [e2]; omega
  · show ((rS c r).emb j 2).val % 512 / 128 = _; rw [e2]; omega
  · match b with
    | ⟨0, _⟩ => show 0 = (j 0).val; omega
    | ⟨1, _⟩ => show ((rS c r).emb j 1).val = (j 1).val; rw [e1]; omega
    | ⟨2, _⟩ => show ((rS c r).emb j 2).val % 128 = (j 2).val; rw [e2]; omega
theorem embD (k : Fin 14) (j : S512x512.Idx) : tileD ((rD k).emb j) = k ∧ locD ((rD k).emb j) = j := by
  have h0 : (j 0).val < 512 := (j 0).isLt
  have h1 : (j 1).val < 512 := (j 1).isLt
  have hu := k.isLt
  have e0 : ((rD k).emb j 0).val = k.val % 2 * 512 + 1 * (j 0).val := rfl
  have e1 : ((rD k).emb j 1).val = k.val / 2 * 512 + 1 * (j 1).val := rfl
  refine ⟨Fin.ext ?_, funext fun b => Fin.ext ?_⟩
  · show ((rD k).emb j 1).val / 512 * 2 + ((rD k).emb j 0).val / 512 = _; rw [e0, e1]; omega
  · match b with
    | ⟨0, _⟩ => show ((rD k).emb j 0).val % 512 = (j 0).val; rw [e0]; omega
    | ⟨1, _⟩ => show ((rD k).emb j 1).val % 512 = (j 1).val; rw [e1]; omega

/-- A place lies in the tile of its unit and tile number. -/
theorem placeT (y : S1024x512.Idx) : (rT (unitA y) (tileA y)).emb (locA y) = y := by
  have h0 : (y 0).val < 1024 := (y 0).isLt
  have h1 : (y 1).val < 512 := (y 1).isLt
  funext b; apply Fin.ext
  match b with
  | ⟨0, _⟩ =>
    show (((y 0).val / 512 * 4 + (y 0).val % 128 / 32) / 4 * 512 + ((y 0).val % 512 / 128 * 4 + (y 1).val / 128) / 4 * 128
      + ((y 0).val / 512 * 4 + (y 0).val % 128 / 32) % 4 * 32) + 1 * ((y 0).val % 32) = (y 0).val
    omega
  | ⟨1, _⟩ =>
    show ((y 0).val % 512 / 128 * 4 + (y 1).val / 128) % 4 * 128 + 1 * ((y 1).val % 128) = (y 1).val
    omega
theorem placeC (y : S1024x256.Idx) : (rC (unitC y) (pairC y)).emb (locC y) = y := by
  have h0 : (y 0).val < 1024 := (y 0).isLt
  have h1 : (y 1).val < 256 := (y 1).isLt
  funext b; apply Fin.ext
  match b with
  | ⟨0, _⟩ =>
    show (((y 0).val / 512 * 4 + (y 0).val % 128 / 32) / 4 * 512 + ((y 0).val % 512 / 128 * 2 + (y 1).val / 128) / 2 * 128
      + ((y 0).val / 512 * 4 + (y 0).val % 128 / 32) % 4 * 32) + 1 * ((y 0).val % 32) = (y 0).val
    omega
  | ⟨1, _⟩ =>
    show ((y 0).val % 512 / 128 * 2 + (y 1).val / 128) % 2 * 128 + 1 * ((y 1).val % 128) = (y 1).val
    omega
theorem placeS (y : S1x32x1024.Idx) : (rS (chunkS y) (groupS y)).emb (locS y) = y := by
  have h0 : (y 0).val < 1 := (y 0).isLt
  have h2 : (y 2).val < 1024 := (y 2).isLt
  funext b; apply Fin.ext
  match b with
  | ⟨0, _⟩ => show 0 + 1 * 0 = (y 0).val; omega
  | ⟨1, _⟩ => show 0 + 1 * (y 1).val = (y 1).val; omega
  | ⟨2, _⟩ => show (y 2).val / 512 * 512 + (y 2).val % 512 / 128 * 128 + 1 * ((y 2).val % 128) = (y 2).val; omega
theorem placeD (y : S1024x3584.Idx) : (rD (tileD y)).emb (locD y) = y := by
  have h0 : (y 0).val < 1024 := (y 0).isLt
  have h1 : (y 1).val < 3584 := (y 1).isLt
  funext b; apply Fin.ext
  match b with
  | ⟨0, _⟩ => show ((y 1).val / 512 * 2 + (y 0).val / 512) % 2 * 512 + 1 * ((y 0).val % 512) = (y 0).val; omega
  | ⟨1, _⟩ => show ((y 1).val / 512 * 2 + (y 0).val / 512) / 2 * 512 + 1 * ((y 1).val % 512) = (y 1).val; omega

theorem mem_rT (u : Fin 8) (i : Fin 16) (y : S1024x512.Idx) : y ∈ (rT u i).set ↔ unitA y = u ∧ tileA y = i := by
  constructor
  · intro h; obtain ⟨j, rfl⟩ := (rT u i).exists_idx_of_mem h
    exact ⟨(embT u i j).1, (embT u i j).2.1⟩
  · rintro ⟨rfl, rfl⟩; rw [← Rect.map_emb_univ, Finset.mem_map]; exact ⟨locA y, Finset.mem_univ _, placeT y⟩
theorem mem_rC (u : Fin 8) (p : Fin 8) (y : S1024x256.Idx) : y ∈ (rC u p).set ↔ unitC y = u ∧ pairC y = p := by
  constructor
  · intro h; obtain ⟨j, rfl⟩ := (rC u p).exists_idx_of_mem h
    exact ⟨(embC u p j).1, (embC u p j).2.1⟩
  · rintro ⟨rfl, rfl⟩; rw [← Rect.map_emb_univ, Finset.mem_map]; exact ⟨locC y, Finset.mem_univ _, placeC y⟩
theorem mem_rS (c : Fin 2) (r : Fin 4) (y : S1x32x1024.Idx) : y ∈ (rS c r).set ↔ chunkS y = c ∧ groupS y = r := by
  constructor
  · intro h; obtain ⟨j, rfl⟩ := (rS c r).exists_idx_of_mem h
    exact ⟨(embS c r j).1, (embS c r j).2.1⟩
  · rintro ⟨rfl, rfl⟩; rw [← Rect.map_emb_univ, Finset.mem_map]; exact ⟨locS y, Finset.mem_univ _, placeS y⟩
theorem mem_rD (k : Fin 14) (y : S1024x3584.Idx) : y ∈ (rD k).set ↔ tileD y = k := by
  constructor
  · intro h; obtain ⟨j, rfl⟩ := (rD k).exists_idx_of_mem h
    exact (embD k j).1
  · rintro rfl; rw [← Rect.map_emb_univ, Finset.mem_map]; exact ⟨locD y, Finset.mem_univ _, placeD y⟩

theorem aOf_emb (g : F .f32) (x : Vec F S1024x512 .bf16) (rb : Vec F S1024x512 .i32) (u : Fin 8) (i : Fin 16) (j : S32x128.Idx) :
    aOf g x rb ((rT u i).emb j) = decU g x rb u i j := by
  obtain ⟨h1, h2, h3⟩ := embT u i j
  show decU g x rb (unitA _) (tileA _) (locA _) = _; rw [h1, h2, h3]
theorem cOf_emb (g : F .f32) (x : Vec F S1024x512 .bf16) (rb : Vec F S1024x512 .i32) (u : Fin 8) (p : Fin 8) (j : S32x128.Idx) :
    cOf g x rb ((rC u p).emb j) = codU g x rb u p j := by
  obtain ⟨h1, h2, h3⟩ := embC u p j
  show codU g x rb (unitC _) (pairC _) (locC _) = _; rw [h1, h2, h3]
theorem sOf_emb (g : F .f32) (x : Vec F S1024x512 .bf16) (c : Fin 2) (r : Fin 4) (j : S1x32x128.Idx) :
    sOf g x ((rS c r).emb j) = sc1V (sl4 (stU g x c) r) j := by
  obtain ⟨h1, h2, h3⟩ := embS c r j
  show sc1V (sl4 (stU g x (chunkS _)) (groupS _)) (locS _) = _; rw [h1, h2, h3]
theorem accStep_emb (first : BitVec 1) (a : Vec F S1024x512 .bf16) (w : Vec F S256x3584 .i32) (d : Vec F S1024x3584 .f32) (k : Fin 14) (j : S512x512.Idx) :
    accStep first a w d ((rD k).emb j) = tileU first a w d k j := by
  obtain ⟨h1, h2⟩ := embD k j
  show tileU first a w d (tileD _) (locD _) = _; rw [h1, h2]

/-! ## Buffers filled by parts -/

open Classical in
/-- Contents that are `T` where `P` holds and `x` elsewhere. -/
def mix {s : Shape} {α : Type} (P : s.Idx → Prop) (T x : s.Idx → α) : s.Idx → α := fun y => if P y then T y else x y

theorem mix_true {s : Shape} {α : Type} {P : s.Idx → Prop} {T x : s.Idx → α} (h : ∀ y, P y) : mix P T x = T :=
  funext fun y => if_pos (h y)
theorem mix_false {s : Shape} {α : Type} {P : s.Idx → Prop} {T x : s.Idx → α} (h : ∀ y, ¬P y) : mix P T x = x :=
  funext fun y => if_neg (h y)
theorem mix_congr {s : Shape} {α : Type} {P P' : s.Idx → Prop} {T x : s.Idx → α} (h : ∀ y, P y ↔ P' y) : mix P T x = mix P' T x := by
  rw [show P = P' from funext fun y => propext (h y)]

variable (c : Dev nD) (E : Set ℕ)

/-- A load reads the contents through its rectangle. -/
theorem wp_ldr {α : Type} {Q : α → sProp 𝕄} {sp : CoreSpace} {s : Shape} {e : EltTy} {m : Memref sig .tc sp s e} {r : Rect s}
    {hl : m.view.LoadsAt r.toLoadRect} {k : (r.shape.Idx → Elt F e) → Prog (TpuEff nD τ sig (Elt F) Λ₀ .tc) α} {x : s.Idx → Elt F e} :
    owns (c : Thread nD τ) m fullShare x
      ⊢ iprop((owns (c : Thread nD τ) m fullShare x -∗ wp frame (wpE (defs₀ (F := F)) Variants.none c none) E (k (View.ld (Val := Elt F) x r)) Q)
        -∗ wp frame (wpE (defs₀ (F := F)) Variants.none c none) E (.op (.load m r.toLoadRect hl) k) Q) := by
  unfold owns
  iintro ⟨%f, %hf, H⟩ Hk
  subst hf
  iapply (wp_load Variants.none (c : Thread nD τ) none E (hl := hl) (k := k) (f := f) (S := m.view.set) (View.setOn_subset_set _ _)) $$ H
  iintro H
  iapply Hk
  iexists f; isplitr; · ipureintro; rfl
  iexact H

/-- A store of a part of the target. -/
theorem wp_str {α : Type} {Q : α → sProp 𝕄} {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {P P' : s.Idx → Prop} {T x : s.Idx → Elt F e}
    (hw : ∀ j, w j = T (r.emb j)) (hP : ∀ y, P' y ↔ y ∈ r.set ∨ P y) :
    owns (c : Thread nD τ) m fullShare (mix P T x)
      ⊢ iprop((owns (c : Thread nD τ) m fullShare (mix P' T x) -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩ Hk
  iapply (wp_store Variants.none (c : Thread nD τ) none E (w := w) (hx := hx) (hm := hm) (k := k) (f := f) (S := m.view.set)
    ((View.setOn_subset_set _ _).trans (View.set_slice_subset _ _))) $$ H
  iintro H
  iapply Hk
  iexists _; isplitr
  swap; · iexact H
  ipureintro
  funext y
  by_cases hy : y ∈ r.set
  · obtain ⟨j, rfl⟩ := r.exists_idx_of_mem hy
    rw [show mix P' T x (r.idx j) = T (r.idx j) from if_pos ((hP _).2 (Or.inl hy))]
    exact (View.read_slice_write_emb (v := m.view) r f w (Finset.mem_univ j)).trans (hw j)
  · rw [show m.view.read (Elt F) ((m.access r).write (Elt F) f w Finset.univ) y = m.view.read (Elt F) f y from
      View.read_slice_write_of_not_mem (v := m.view) r f w Finset.univ (by rw [Rect.map_emb_univ]; exact hy), hf]
    by_cases hp : P y
    · rw [show mix P T x y = T y from if_pos hp, show mix P' T x y = T y from if_pos ((hP y).2 (Or.inr hp))]
    · rw [show mix P T x y = x y from if_neg hp, show mix P' T x y = x y from if_neg fun h => ((hP y).1 h).elim hy hp]

/-- A program that has ended. -/
theorem wp_end {α : Type} {Q : α → sProp 𝕄} {a : α} : Q a ⊢ wp frame (wpE (defs₀ (F := F)) Variants.none (c : Thread nD τ) none) E (.ret a) Q :=
  BI.fupd_intro

/-! ## The pieces -/

section Pieces

variable (arg3 : Memref sig .tc .vmem S1024x512 .bf16) (arg4 : Memref sig .tc .vmem S1024x512 .i32) (arg5 : Memref sig .tc .vmem S256x3584 .i32)
  (arg7 : Memref sig .tc .vmem S1024x256 .i8) (harg7 : arg7.IsWhole) (arg8 : Memref sig .tc .vmem S1x32x1024 .fp8e4m3) (harg8 : arg8.IsWhole)
  (an : Memref sig .tc .vmem S1024x512 .bf16) (han : an.IsWhole) (ao : Memref sig .tc .vmem S1024x512 .bf16) (arg11 : Memref sig .tc .vmem S1024x3584 .f32)
  (x3 : Vec F S1024x512 .bf16) (x4 : Vec F S1024x512 .i32) (x5 : Vec F S256x3584 .i32) (x7 : Vec F S1024x256 .i8) (x8 : Vec F S1x32x1024 .fp8e4m3)
  (xn xo : Vec F S1024x512 .bf16) (xa : Vec F S1024x3584 .f32) (g : F .f32) (first : BitVec 1)

theorem wp_half (u : Fin 8) (h : Fin 2) (K : FVec F S16x128 .f32 → sProp 𝕄) :
    owns (c : Thread nD τ) arg3 fullShare x3
      ⊢ iprop((owns (c : Thread nD τ) arg3 fullShare x3 -∗ K (halfV x3 u h))
        -∗ wp frame (wpE (defs₀ (F := F)) Variants.none c none) E (halfProg arg3 u h) K) := by
  unfold halfV
  iintro H Hk
  unfold halfProg ldH
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_end c E)
  iapply Hk
  iexact H

theorem wp_tile (u : Fin 8) (i : Fin 16) (P P' : S1024x512.Idx → Prop) (hP : ∀ y, P' y ↔ y ∈ (rT u i).set ∨ P y) (K : IVec S8x128 32 → sProp 𝕄) :
    iprop(owns (c : Thread nD τ) arg3 fullShare x3 ∗ owns (c : Thread nD τ) arg4 fullShare x4 ∗ owns (c : Thread nD τ) an fullShare (mix P (aOf g x3 x4) xn)
        ∗ (iprop(owns (c : Thread nD τ) arg3 fullShare x3 ∗ owns (c : Thread nD τ) arg4 fullShare x4
            ∗ owns (c : Thread nD τ) an fullShare (mix P' (aOf g x3 x4) xn)) -∗ K (nibU g x3 x4 u i)))
      ⊢ wp frame (wpE (defs₀ (F := F)) Variants.none c none) E (tileProg arg3 arg4 an han u i (r4Of g (sfU g x3 u)) (s64Of (sfU g x3 u))) K := by
  unfold nibU
  iintro ⟨H3, H4, HN, Hk⟩
  unfold tileProg
  iapply (wp_ldr c E) $$ H3; iintro H3
  iapply (wp_ldr c E) $$ H4; iintro H4
  iapply (wp_ldr c E) $$ HN; iintro HN
  iapply (wp_str c E (P := P) (P' := P') (T := aOf g x3 x4) (x := xn) (fun j => by rw [aOf_emb, shapeCast_self]; rfl) hP) $$ HN
  iintro HN
  iapply (wp_end c E)
  iapply Hk
  isplitl [H3]; · iexact H3
  isplitl [H4]; · iexact H4
  iexact HN

theorem wp_pair (u : Fin 8) (p : Fin 8) (P P' : S1024x512.Idx → Prop) (hP : ∀ y, P' y ↔ y ∈ (rT u (t1 p)).set ∨ (y ∈ (rT u (t0 p)).set ∨ P y))
    (R R' : S1024x256.Idx → Prop) (hR : ∀ y, R' y ↔ y ∈ (rC u p).set ∨ R y) (K : PUnit → sProp 𝕄) :
    iprop(owns (c : Thread nD τ) arg3 fullShare x3 ∗ owns (c : Thread nD τ) arg4 fullShare x4 ∗ owns (c : Thread nD τ) an fullShare (mix P (aOf g x3 x4) xn)
        ∗ owns (c : Thread nD τ) arg7 fullShare (mix R (cOf g x3 x4) x7)
        ∗ (iprop(owns (c : Thread nD τ) arg3 fullShare x3 ∗ owns (c : Thread nD τ) arg4 fullShare x4
            ∗ owns (c : Thread nD τ) an fullShare (mix P' (aOf g x3 x4) xn)
            ∗ owns (c : Thread nD τ) arg7 fullShare (mix R' (cOf g x3 x4) x7)) -∗ K ⟨⟩))
      ⊢ wp frame (wpE (defs₀ (F := F)) Variants.none c none) E
          (pairProg arg3 arg4 arg7 harg7 an han u p (r4Of g (sfU g x3 u)) (s64Of (sfU g x3 u))) K := by
  iintro ⟨H3, H4, HN, H7, Hk⟩
  unfold pairProg
  rw [wp_bind]
  iapply (wp_tile c E arg3 arg4 an han x3 x4 xn g u (t0 p) P (fun y => y ∈ (rT u (t0 p)).set ∨ P y) (fun y => Iff.rfl))
  isplitl [H3]; · iexact H3
  isplitl [H4]; · iexact H4
  isplitl [HN]; · iexact HN
  iintro ⟨H3, H4, HN⟩
  rw [wp_bind]
  iapply (wp_tile c E arg3 arg4 an han x3 x4 xn g u (t1 p) _ P' hP)
  isplitl [H3]; · iexact H3
  isplitl [H4]; · iexact H4
  isplitl [HN]; · iexact HN
  iintro ⟨H3, H4, HN⟩
  iapply (wp_ldr c E) $$ H7; iintro H7
  iapply (wp_str c E (P := R) (P' := R') (T := cOf g x3 x4) (x := x7) (fun j => by rw [cOf_emb]; rfl) hR) $$ H7
  iintro H7
  iapply (wp_end c E)
  iapply Hk
  isplitl [H3]; · iexact H3
  isplitl [H4]; · iexact H4
  isplitl [HN]; · iexact HN
  iexact H7

theorem wp_scl1 (k : Fin 2) (r : Fin 4) (v : FVec F S32x128 .f32) (hv : v = sl4 (stU g x3 k) r) (R R' : S1x32x1024.Idx → Prop)
    (hR : ∀ y, R' y ↔ y ∈ (rS k r).set ∨ R y) (K : PUnit → sProp 𝕄) :
    owns (c : Thread nD τ) arg8 fullShare (mix R (sOf g x3) x8)
      ⊢ iprop((owns (c : Thread nD τ) arg8 fullShare (mix R' (sOf g x3) x8) -∗ K ⟨⟩)
        -∗ wp frame (wpE (defs₀ (F := F)) Variants.none c none) E (sclProg1 arg8 harg8 k r v) K) := by
  subst hv
  iintro H Hk
  unfold sclProg1
  iapply (wp_ldr c E) $$ H; iintro H
  iapply (wp_str c E (P := R) (P' := R') (T := sOf g x3) (x := x8) (fun j => by rw [sOf_emb]) hR) $$ H
  iintro H
  iapply (wp_end c E)
  iapply Hk
  iexact H

theorem wp_scl (k : Fin 2) (R R' : S1x32x1024.Idx → Prop) (hR : ∀ y, R' y ↔ chunkS y = k ∨ R y) (K : PUnit → sProp 𝕄) :
    owns (c : Thread nD τ) arg8 fullShare (mix R (sOf g x3) x8)
      ⊢ iprop((owns (c : Thread nD τ) arg8 fullShare (mix R' (sOf g x3) x8) -∗ K ⟨⟩)
        -∗ wp frame (wpE (defs₀ (F := F)) Variants.none c none) E (sclProg arg8 harg8 k (stU g x3 k)) K) := by
  iintro H Hk
  unfold sclProg
  rw [wp_bind]
  iapply (wp_scl1 c E arg8 harg8 x3 x8 g k 0 _ rfl R (fun y => y ∈ (rS k 0).set ∨ R y) (fun y => Iff.rfl)) $$ H
  iintro H
  rw [wp_bind]
  iapply (wp_scl1 c E arg8 harg8 x3 x8 g k 1 _ rfl _ (fun y => y ∈ (rS k 1).set ∨ (y ∈ (rS k 0).set ∨ R y)) (fun y => Iff.rfl)) $$ H
  iintro H
  rw [wp_bind]
  iapply (wp_scl1 c E arg8 harg8 x3 x8 g k 2 _ rfl _ (fun y => y ∈ (rS k 2).set ∨ (y ∈ (rS k 1).set ∨ (y ∈ (rS k 0).set ∨ R y))) (fun y => Iff.rfl)) $$ H
  iintro H
  iapply (wp_scl1 c E arg8 harg8 x3 x8 g k 3 _ rfl _ R' (fun y => by
    rw [hR]
    simp only [mem_rS]
    have hh : groupS y = 3 ∨ groupS y = 2 ∨ groupS y = 1 ∨ groupS y = 0 := by
      generalize groupS y = q; revert q; decide
    tauto)) $$ H
  iexact Hk

theorem wp_mm (j : Fin 14) (R R' : S1024x3584.Idx → Prop) (hR : ∀ y, R' y ↔ y ∈ (rD j).set ∨ R y) (hn : ∀ y, y ∈ (rD j).set → ¬R y) (K : PUnit → sProp 𝕄) :
    iprop(owns (c : Thread nD τ) ao fullShare xo ∗ owns (c : Thread nD τ) arg5 fullShare x5
        ∗ owns (c : Thread nD τ) arg11 fullShare (mix R (accStep first xo x5 xa) xa)
        ∗ (iprop(owns (c : Thread nD τ) ao fullShare xo ∗ owns (c : Thread nD τ) arg5 fullShare x5
            ∗ owns (c : Thread nD τ) arg11 fullShare (mix R' (accStep first xo x5 xa) xa)) -∗ K ⟨⟩))
      ⊢ wp frame (wpE (defs₀ (F := F)) Variants.none c none) E (mmProg arg5 ao arg11 first j) K := by
  iintro ⟨HO, H5, HA, Hk⟩
  unfold mmProg
  iapply (wp_ldr c E) $$ HO; iintro HO
  iapply (wp_ldr c E) $$ H5; iintro H5
  iapply (wp_ldr c E) $$ HA; iintro HA
  iapply (wp_ldr c E) $$ HA; iintro HA
  have hd : View.ld (Val := Elt F) (mix R (accStep first xo x5 xa) xa) (rD j) = View.ld (Val := Elt F) xa (rD j) := by
    funext z
    exact if_neg (hn _ (by rw [← Rect.map_emb_univ, Finset.mem_map]; exact ⟨z, Finset.mem_univ _, rfl⟩))
  iapply (wp_str c E (P := R) (P' := R') (T := accStep first xo x5 xa) (x := xa) (fun z => by rw [accStep_emb, shapeCast_self, hd]; rfl) hR) $$ HA
  iintro HA
  iapply (wp_end c E)
  iapply Hk
  isplitl [HO]; · iexact HO
  isplitl [H5]; · iexact H5
  iexact HA

/-! ## The list -/

/-- The piece that stores each place. -/
def pieceA (y : S1024x512.Idx) : Piece := .pair (unitA y) ⟨(tileA y).val / 2, by have := (tileA y).isLt; omega⟩
def pieceC (y : S1024x256.Idx) : Piece := .pair (unitC y) (pairC y)
def pieceS (y : S1x32x1024.Idx) : Piece := .scl (chunkS y)
def pieceD (y : S1024x3584.Idx) : Piece := .mm (tileD y)

/-- What a piece needs done before it. -/
def okPiece (L : List Piece) : Piece → Prop
  | .half _ _ => True
  | .pair u _ => .half u 0 ∈ L ∧ .half u 1 ∈ L
  | .scl k => ∀ v : Fin 8, v.val / 4 = k.val → .half v 0 ∈ L ∧ .half v 1 ∈ L
  | .mm j => .mm j ∉ L

instance (L : List Piece) (q : Piece) : Decidable (okPiece L q) := by
  cases q <;> unfold okPiece <;> infer_instance

/-- The maxima handed on are those of the half units done. -/
def goodMax (L : List Piece) (s : Maxima F) : Prop := ∀ (u : Fin 8) (h : Fin 2), Piece.half u h ∈ L → s (2 * u.val + h.val) = halfV x3 u h

theorem sfAt_good {L : List Piece} {s : Maxima F} (hs : goodMax x3 L s) (u : Fin 8) (h0 : Piece.half u 0 ∈ L) (h1 : Piece.half u 1 ∈ L) :
    sfAt g s u.val = sfU g x3 u := by
  unfold sfAt sfU
  have e0 := hs u 0 h0; have e1 := hs u 1 h1
  rw [show 2 * u.val = 2 * u.val + (0 : Fin 2).val from rfl, e0]
  exact congrArg _ e1

/-- The buffers when the pieces of a list are done. -/
def bufs (L : List Piece) : sProp 𝕄 :=
  iprop(owns (c : Thread nD τ) arg3 fullShare x3 ∗ owns (c : Thread nD τ) arg4 fullShare x4 ∗ owns (c : Thread nD τ) arg5 fullShare x5
    ∗ owns (c : Thread nD τ) ao fullShare xo
    ∗ owns (c : Thread nD τ) an fullShare (mix (fun y => pieceA y ∈ L) (aOf g x3 x4) xn)
    ∗ owns (c : Thread nD τ) arg7 fullShare (mix (fun y => pieceC y ∈ L) (cOf g x3 x4) x7)
    ∗ owns (c : Thread nD τ) arg8 fullShare (mix (fun y => pieceS y ∈ L) (sOf g x3) x8)
    ∗ owns (c : Thread nD τ) arg11 fullShare (mix (fun y => pieceD y ∈ L) (accStep first xo x5 xa) xa))

theorem wp_exec (q : Piece) (L : List Piece) (s : Maxima F) (hs : goodMax x3 L s) (hq : okPiece L q) (K : Maxima F → sProp 𝕄) :
    iprop(bufs c arg3 arg4 arg5 arg7 arg8 an ao arg11 x3 x4 x5 x7 x8 xn xo xa g first L
        ∗ (∀ s', ⌜goodMax x3 (q :: L) s'⌝ -∗ bufs c arg3 arg4 arg5 arg7 arg8 an ao arg11 x3 x4 x5 x7 x8 xn xo xa g first (q :: L) -∗ K s'))
      ⊢ wp frame (wpE (defs₀ (F := F)) Variants.none c none) E (exec arg3 arg4 arg5 arg7 harg7 arg8 harg8 an han ao arg11 g first s q) K := by
  cases q with
  | half u h =>
    unfold bufs
    iintro ⟨⟨H3, H4, H5, HO, HN, H7, H8, HA⟩, Hk⟩
    unfold exec
    rw [wp_bind]
    iapply (wp_half c E arg3 x3 u h) $$ H3
    iintro H3
    rw [wp_pure]
    imodintro
    have hs' : goodMax x3 (Piece.half u h :: L) (fun k => cond (Nat.beq k (2 * u.val + h.val)) (halfV x3 u h) (s k)) := by
      intro u' h' hm
      by_cases he : u' = u ∧ h' = h
      · obtain ⟨rfl, rfl⟩ := he
        show cond (Nat.beq _ _) _ _ = _
        rw [Nat.beq_refl]; rfl
      · have hne : ¬ (2 * u'.val + h'.val = 2 * u.val + h.val) := by
          intro hh
          have := h'.isLt; have := h.isLt
          exact he ⟨Fin.ext (by omega), Fin.ext (by omega)⟩
        show cond (Nat.beq _ _) _ _ = _
        rw [show Nat.beq (2 * u'.val + h'.val) (2 * u.val + h.val) = false from Bool.eq_false_iff.2 fun hb => hne (Nat.eq_of_beq_eq_true hb)]
        refine hs u' h' ?_
        rcases List.mem_cons.1 hm with h1 | h1
        · exact absurd (by injection h1 with a b; exact ⟨a, b⟩) he
        · exact h1
    ispecialize Hk $$ %_ %hs'
    iapply Hk
    rw [mix_congr (P := fun y => pieceA y ∈ Piece.half u h :: L) (P' := fun y => pieceA y ∈ L) (fun y => by simp [pieceA]),
      mix_congr (P := fun y => pieceC y ∈ Piece.half u h :: L) (P' := fun y => pieceC y ∈ L) (fun y => by simp [pieceC]),
      mix_congr (P := fun y => pieceS y ∈ Piece.half u h :: L) (P' := fun y => pieceS y ∈ L) (fun y => by simp [pieceS]),
      mix_congr (P := fun y => pieceD y ∈ Piece.half u h :: L) (P' := fun y => pieceD y ∈ L) (fun y => by simp [pieceD])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA
  | pair u p =>
    unfold bufs
    iintro ⟨⟨H3, H4, H5, HO, HN, H7, H8, HA⟩, Hk⟩
    unfold exec
    rw [wp_bind, sfAt_good x3 g hs u hq.1 hq.2]
    iapply (wp_pair c E arg3 arg4 arg7 harg7 an han x3 x4 x7 xn g u p _ (fun y => pieceA y ∈ Piece.pair u p :: L) (fun y => by
        rw [mem_rT, mem_rT, List.mem_cons, ← _root_.or_assoc]
        refine or_congr ?_ Iff.rfl
        unfold pieceA t0 t1
        rw [Piece.pair.injEq, ← _root_.and_or_left]
        refine and_congr Iff.rfl ?_
        rw [Fin.ext_iff, Fin.ext_iff, Fin.ext_iff]
        show (tileA y).val / 2 = p.val ↔ (tileA y).val = 2 * p.val + 1 ∨ (tileA y).val = 2 * p.val
        omega)
      _ (fun y => pieceC y ∈ Piece.pair u p :: L) (fun y => by
        rw [mem_rC, List.mem_cons]
        refine or_congr ?_ Iff.rfl
        unfold pieceC
        rw [Piece.pair.injEq]))
    isplitl [H3]; · iexact H3
    isplitl [H4]; · iexact H4
    isplitl [HN]; · iexact HN
    isplitl [H7]; · iexact H7
    iintro ⟨H3, H4, HN, H7⟩
    rw [wp_pure]
    imodintro
    ispecialize Hk $$ %_ %(by
      intro u' h' hm
      refine hs u' h' ?_
      rcases List.mem_cons.1 hm with h1 | h1
      · cases h1
      · exact h1)
    iapply Hk
    rw [mix_congr (P := fun y => pieceS y ∈ Piece.pair u p :: L) (P' := fun y => pieceS y ∈ L) (fun y => by simp [pieceS]),
      mix_congr (P := fun y => pieceD y ∈ Piece.pair u p :: L) (P' := fun y => pieceD y ∈ L) (fun y => by simp [pieceD])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA
  | scl k =>
    unfold bufs
    iintro ⟨⟨H3, H4, H5, HO, HN, H7, H8, HA⟩, Hk⟩
    unfold exec
    have hk := k.isLt
    have e (n : ℕ) (hn : n < 8) (hd : n / 4 = k.val) : sfAt g s n = sfU g x3 ⟨n, hn⟩ :=
      sfAt_good x3 g hs ⟨n, hn⟩ (hq ⟨n, hn⟩ hd).1 (hq ⟨n, hn⟩ hd).2
    rw [wp_bind, e (4 * k.val) (by omega) (by omega), e (4 * k.val + 1) (by omega) (by omega), e (4 * k.val + 2) (by omega) (by omega),
      e (4 * k.val + 3) (by omega) (by omega)]
    iapply (wp_scl c E arg8 harg8 x3 x8 g k _ (fun y => pieceS y ∈ Piece.scl k :: L) (fun y => by
        rw [List.mem_cons]
        refine or_congr ?_ Iff.rfl
        unfold pieceS
        rw [Piece.scl.injEq])) $$ H8
    iintro H8
    rw [wp_pure]
    imodintro
    ispecialize Hk $$ %_ %(by
      intro u' h' hm
      refine hs u' h' ?_
      rcases List.mem_cons.1 hm with h1 | h1
      · cases h1
      · exact h1)
    iapply Hk
    rw [mix_congr (P := fun y => pieceA y ∈ Piece.scl k :: L) (P' := fun y => pieceA y ∈ L) (fun y => by simp [pieceA]),
      mix_congr (P := fun y => pieceC y ∈ Piece.scl k :: L) (P' := fun y => pieceC y ∈ L) (fun y => by simp [pieceC]),
      mix_congr (P := fun y => pieceD y ∈ Piece.scl k :: L) (P' := fun y => pieceD y ∈ L) (fun y => by simp [pieceD])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA
  | mm j =>
    unfold bufs
    iintro ⟨⟨H3, H4, H5, HO, HN, H7, H8, HA⟩, Hk⟩
    unfold exec
    rw [wp_bind]
    iapply (wp_mm c E arg5 ao arg11 x5 xo xa first j _ (fun y => pieceD y ∈ Piece.mm j :: L) (fun y => by
        rw [mem_rD, List.mem_cons]
        refine or_congr ?_ Iff.rfl
        unfold pieceD
        rw [Piece.mm.injEq]) (fun y hy => by
        rw [mem_rD] at hy
        unfold pieceD; rw [hy]; exact hq))
    isplitl [HO]; · iexact HO
    isplitl [H5]; · iexact H5
    isplitl [HA]; · iexact HA
    iintro ⟨HO, H5, HA⟩
    rw [wp_pure]
    imodintro
    ispecialize Hk $$ %_ %(by
      intro u' h' hm
      refine hs u' h' ?_
      rcases List.mem_cons.1 hm with h1 | h1
      · cases h1
      · exact h1)
    iapply Hk
    rw [mix_congr (P := fun y => pieceA y ∈ Piece.mm j :: L) (P' := fun y => pieceA y ∈ L) (fun y => by simp [pieceA]),
      mix_congr (P := fun y => pieceC y ∈ Piece.mm j :: L) (P' := fun y => pieceC y ∈ L) (fun y => by simp [pieceC]),
      mix_congr (P := fun y => pieceS y ∈ Piece.mm j :: L) (P' := fun y => pieceS y ∈ L) (fun y => by simp [pieceS])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA

/-- What a list needs done before it. -/
def okList : List Piece → List Piece → Prop
  | _, [] => True
  | L, q :: R => okPiece L q ∧ okList (q :: L) R

instance okListDec : (L R : List Piece) → Decidable (okList L R)
  | _, [] => isTrue trivial
  | L, q :: R => @instDecidableAnd _ _ _ (okListDec (q :: L) R)

theorem wp_run (R : List Piece) : ∀ (L : List Piece) (s : Maxima F) (hs : goodMax x3 L s) (hq : okList L R) (K : PUnit → sProp 𝕄),
    iprop(bufs c arg3 arg4 arg5 arg7 arg8 an ao arg11 x3 x4 x5 x7 x8 xn xo xa g first L
        ∗ (bufs c arg3 arg4 arg5 arg7 arg8 an ao arg11 x3 x4 x5 x7 x8 xn xo xa g first (R.reverse ++ L) -∗ K ⟨⟩))
      ⊢ wp frame (wpE (defs₀ (F := F)) Variants.none c none) E (run arg3 arg4 arg5 arg7 harg7 arg8 harg8 an han ao arg11 g first R s) K := by
  induction R with
  | nil =>
    intro L s hs hq K
    iintro ⟨H, Hk⟩
    unfold run
    rw [wp_pure]
    imodintro
    iapply Hk
    iexact H
  | cons q R ih =>
    intro L s hs hq K
    iintro ⟨H, Hk⟩
    unfold run
    rw [wp_bind]
    iapply (wp_exec c E arg3 arg4 arg5 arg7 harg7 arg8 harg8 an han ao arg11 x3 x4 x5 x7 x8 xn xo xa g first q L s hs hq.1)
    isplitl [H]; · iexact H
    iintro %s' %hs' H
    iapply (ih (q :: L) s' hs' hq.2)
    isplitl [H]; · iexact H
    rw [List.reverse_cons, List.append_assoc]
    iexact Hk

end Pieces

theorem fill_ok : okList [] fillList := by decide
theorem step_ok : okList [] stepList := by decide
theorem pair_fill (u p : Fin 8) : Piece.pair u p ∈ fillList.reverse ++ [] := by revert u p; decide
theorem scl_fill (k : Fin 2) : Piece.scl k ∈ fillList.reverse ++ [] := by revert k; decide
theorem mm_fill (j : Fin 14) : Piece.mm j ∉ fillList.reverse ++ [] := by revert j; decide
theorem pair_step (u p : Fin 8) : Piece.pair u p ∈ stepList.reverse ++ [] := by revert u p; decide
theorem scl_step (k : Fin 2) : Piece.scl k ∈ stepList.reverse ++ [] := by revert k; decide
theorem mm_step (j : Fin 14) : Piece.mm j ∈ stepList.reverse ++ [] := by revert j; decide

section Whole

variable (arg3 : Memref sig .tc .vmem S1024x512 .bf16) (arg4 : Memref sig .tc .vmem S1024x512 .i32) (arg5 : Memref sig .tc .vmem S256x3584 .i32)
  (arg7 : Memref sig .tc .vmem S1024x256 .i8) (harg7 : arg7.IsWhole) (arg8 : Memref sig .tc .vmem S1x32x1024 .fp8e4m3) (harg8 : arg8.IsWhole)
  (an : Memref sig .tc .vmem S1024x512 .bf16) (han : an.IsWhole) (ao : Memref sig .tc .vmem S1024x512 .bf16) (arg11 : Memref sig .tc .vmem S1024x3584 .f32)
  (x3 : Vec F S1024x512 .bf16) (x4 : Vec F S1024x512 .i32) (x5 : Vec F S256x3584 .i32) (x7 : Vec F S1024x256 .i8) (x8 : Vec F S1x32x1024 .fp8e4m3)
  (xn xo : Vec F S1024x512 .bf16) (xa : Vec F S1024x3584 .f32) (g : F .f32) (first : BitVec 1)

/-- The first point's run: the block quantised. -/
theorem wp_fill (K : PUnit → sProp 𝕄) :
    iprop(owns (c : Thread nD τ) arg3 fullShare x3 ∗ owns (c : Thread nD τ) arg4 fullShare x4 ∗ owns (c : Thread nD τ) arg5 fullShare x5
        ∗ owns (c : Thread nD τ) ao fullShare xo ∗ owns (c : Thread nD τ) an fullShare xn ∗ owns (c : Thread nD τ) arg7 fullShare x7
        ∗ owns (c : Thread nD τ) arg8 fullShare x8 ∗ owns (c : Thread nD τ) arg11 fullShare xa
        ∗ (iprop(owns (c : Thread nD τ) arg3 fullShare x3 ∗ owns (c : Thread nD τ) arg4 fullShare x4 ∗ owns (c : Thread nD τ) arg5 fullShare x5
            ∗ owns (c : Thread nD τ) ao fullShare xo ∗ owns (c : Thread nD τ) an fullShare (aOf g x3 x4) ∗ owns (c : Thread nD τ) arg7 fullShare (cOf g x3 x4)
            ∗ owns (c : Thread nD τ) arg8 fullShare (sOf g x3) ∗ owns (c : Thread nD τ) arg11 fullShare xa) -∗ K ⟨⟩))
      ⊢ wp frame (wpE (defs₀ (F := F)) Variants.none c none) E (run arg3 arg4 arg5 arg7 harg7 arg8 harg8 an han ao arg11 g first fillList noMaxima) K := by
  iintro ⟨H3, H4, H5, HO, HN, H7, H8, HA, Hk⟩
  iapply (wp_run c E arg3 arg4 arg5 arg7 harg7 arg8 harg8 an han ao arg11 x3 x4 x5 x7 x8 xn xo xa g first fillList [] noMaxima
    (fun u h hm => absurd hm (List.not_mem_nil)) fill_ok)
  unfold bufs
  rw [mix_false (P := fun y => pieceA y ∈ []) (fun y => List.not_mem_nil), mix_false (P := fun y => pieceC y ∈ []) (fun y => List.not_mem_nil),
    mix_false (P := fun y => pieceS y ∈ []) (fun y => List.not_mem_nil), mix_false (P := fun y => pieceD y ∈ []) (fun y => List.not_mem_nil),
    mix_true (P := fun y => pieceA y ∈ _) (fun y => pair_fill _ _), mix_true (P := fun y => pieceC y ∈ _) (fun y => pair_fill _ _),
    mix_true (P := fun y => pieceS y ∈ _) (fun y => scl_fill _), mix_false (P := fun y => pieceD y ∈ _) (fun y => mm_fill _)]
  isplitr [Hk]
  swap; · iexact Hk
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- Every later point's run: the block quantised and a step of the product. -/
theorem wp_step (K : PUnit → sProp 𝕄) :
    iprop(owns (c : Thread nD τ) arg3 fullShare x3 ∗ owns (c : Thread nD τ) arg4 fullShare x4 ∗ owns (c : Thread nD τ) arg5 fullShare x5
        ∗ owns (c : Thread nD τ) ao fullShare xo ∗ owns (c : Thread nD τ) an fullShare xn ∗ owns (c : Thread nD τ) arg7 fullShare x7
        ∗ owns (c : Thread nD τ) arg8 fullShare x8 ∗ owns (c : Thread nD τ) arg11 fullShare xa
        ∗ (iprop(owns (c : Thread nD τ) arg3 fullShare x3 ∗ owns (c : Thread nD τ) arg4 fullShare x4 ∗ owns (c : Thread nD τ) arg5 fullShare x5
            ∗ owns (c : Thread nD τ) ao fullShare xo ∗ owns (c : Thread nD τ) an fullShare (aOf g x3 x4) ∗ owns (c : Thread nD τ) arg7 fullShare (cOf g x3 x4)
            ∗ owns (c : Thread nD τ) arg8 fullShare (sOf g x3) ∗ owns (c : Thread nD τ) arg11 fullShare (accStep first xo x5 xa)) -∗ K ⟨⟩))
      ⊢ wp frame (wpE (defs₀ (F := F)) Variants.none c none) E (run arg3 arg4 arg5 arg7 harg7 arg8 harg8 an han ao arg11 g first stepList noMaxima) K := by
  iintro ⟨H3, H4, H5, HO, HN, H7, H8, HA, Hk⟩
  iapply (wp_run c E arg3 arg4 arg5 arg7 harg7 arg8 harg8 an han ao arg11 x3 x4 x5 x7 x8 xn xo xa g first stepList [] noMaxima
    (fun u h hm => absurd hm (List.not_mem_nil)) step_ok)
  unfold bufs
  rw [mix_false (P := fun y => pieceA y ∈ []) (fun y => List.not_mem_nil), mix_false (P := fun y => pieceC y ∈ []) (fun y => List.not_mem_nil),
    mix_false (P := fun y => pieceS y ∈ []) (fun y => List.not_mem_nil), mix_false (P := fun y => pieceD y ∈ []) (fun y => List.not_mem_nil),
    mix_true (P := fun y => pieceA y ∈ _) (fun y => pair_step _ _), mix_true (P := fun y => pieceC y ∈ _) (fun y => pair_step _ _),
    mix_true (P := fun y => pieceS y ∈ _) (fun y => scl_step _), mix_true (P := fun y => pieceD y ∈ _) (fun y => mm_step _)]
  isplitr [Hk]
  swap; · iexact Hk
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

end Whole

end Cert.Kernel.Gen

end
-- ==== Proof.Bits.QuantCases.lean ====
/- The kernel body at a point of the grid, one run for each way its branches can be taken. -/
module

public import proofs.«01_k».proof.Proof.Bits.QuantRun

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-- The one index of a [1,1] array. -/
abbrev one11 : S1x1.Idx := fun a => match a with | ⟨0, _⟩ => (0 : Fin 1) | ⟨1, _⟩ => (0 : Fin 1)

theorem eq_one11 (y : S1x1.Idx) : y = one11 := funext fun a => Fin.ext (by
  match a with
  | ⟨0, _⟩ => exact Nat.lt_one_iff.mp (y 0).isLt
  | ⟨1, _⟩ => exact Nat.lt_one_iff.mp (y 1).isLt)

/-- A [1,1] load reads the one element. -/
theorem ld11 (x : Vec F S1x1 .f32) (r : Rect S1x1) (j : r.shape.Idx) : View.ld (Val := Elt F) x r j = x one11 :=
  congrArg x (eq_one11 _)

/-- The output block a row block ends with: the accumulator times the product of the two scale factors, in the output's type. -/
def outVal (x1 x2 : Vec F S1x1 .f32) (acc : Vec F S1024x3584 .f32) : Vec F S1024x3584 .bf16 :=
  truncf .bf16 (mulf (show FVec F S1024x3584 .f32 from acc) (broadcast S1024x3584 (Scalar.mulf (x1 one11) (x2 one11)))) bitsLt_bf16_f32

theorem emb_full (z : S1024x3584.Idx) :
    (Rect.unit (s := S1024x3584) ![0, 0] S1024x3584.size inb_S1024x3584_S1024x3584_0_0).emb z = z := by
  funext a; apply Fin.ext
  match a with
  | ⟨0, _⟩ => show 0 + 1 * (z 0).val = (z 0).val; omega
  | ⟨1, _⟩ => show 0 + 1 * (z 1).val = (z 1).val; omega

theorem ld_full (x : Vec F S1024x3584 .f32) :
    View.ld (Val := Elt F) x (Rect.unit (s := S1024x3584) ![0, 0] S1024x3584.size inb_S1024x3584_S1024x3584_0_0) = x :=
  funext fun z => congrArg x (emb_full z)

/-- A store of the whole. -/
theorem wp_stf (c : Dev nD) (E : Set ℕ) {α : Type} {Q : α → sProp 𝕄} {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {T x : s.Idx → Elt F e}
    (hr : ∀ y, y ∈ r.set) (hw : ∀ j, w j = T (r.emb j)) :
    owns (c : Thread nD τ) m fullShare x
      ⊢ iprop((owns (c : Thread nD τ) m fullShare T -∗ wp frame (wpE (defs₀ (F := F)) Variants.none c none) E (k ⟨⟩) Q)
        -∗ wp frame (wpE (defs₀ (F := F)) Variants.none c none) E (.op (.store m r w Finset.univ hx hm) k) Q) := by
  have h := wp_str (F := F) c E (Q := Q) (m := m) (r := r) (w := w) (hx := hx) (hm := hm) (k := k) (P := fun _ => False) (P' := fun _ => True) (T := T) (x := x) hw
    (fun y => ⟨fun _ => Or.inl (hr y), fun _ => trivial⟩)
  rwa [mix_false (fun _ h => h), mix_true (fun _ => trivial)] at h

/-- The first point: the first operand buffer is filled. -/
theorem runA (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : k0_cond1 i = 1#1) (hc2 : ¬k0_cond2 i = 1#1) (hc3 : ¬k0_cond3 i = 1#1) (hc4 : ¬k0_cond4 i = 1#1)
    (x1 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg10 fullShare xo
        ∗ (∃ d, owns (c : Thread nD τ) arg9 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg3 fullShare x3
          ∗ owns (c : Thread nD τ) arg4 fullShare x4
          ∗ owns (c : Thread nD τ) arg5 fullShare x5
          ∗ owns (c : Thread nD τ) arg10 fullShare xo
          ∗ owns (c : Thread nD τ) arg9 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare xa) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_pos hc1, dif_neg hc2, dif_neg hc3, dif_neg hc4, Prog.bind_op, Prog.bind_ret, Prog.bind_lift]
  iintro ⟨H1, H3, H4, H5, HO, ⟨%dN, HN⟩, ⟨%d7, H7⟩, ⟨%d8, H8⟩, HA, Hk⟩
  iapply (wp_ldr c E) $$ H1; iintro H1
  rw [ld11, wp_bind]
  iapply (wp_fill c E arg3 arg4 arg5 arg7 harg7 arg8 harg8 arg9 harg9 arg10 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_end c E)
  iapply Hk
  isplitl [H1]; · iexact H1
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An odd point inside a row block: the second operand buffer is filled, the product steps from the first. -/
theorem runB (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : k0_cond2 i = 1#1) (hc3 : ¬k0_cond3 i = 1#1) (hc4 : ¬k0_cond4 i = 1#1)
    (x1 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg9 fullShare xo
        ∗ (∃ d, owns (c : Thread nD τ) arg10 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg3 fullShare x3
          ∗ owns (c : Thread nD τ) arg4 fullShare x4
          ∗ owns (c : Thread nD τ) arg5 fullShare x5
          ∗ owns (c : Thread nD τ) arg9 fullShare xo
          ∗ owns (c : Thread nD τ) arg10 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_pos hc2, dif_neg hc3, dif_neg hc4, Prog.bind_op, Prog.bind_ret, Prog.bind_lift]
  iintro ⟨H1, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg10 harg10 arg9 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_end c E)
  iapply Hk
  isplitl [H1]; · iexact H1
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An odd point that ends a row block: the output block is written too. -/
theorem runB_out (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : k0_cond2 i = 1#1) (hc3 : ¬k0_cond3 i = 1#1) (hc4 : k0_cond4 i = 1#1)
    (x1 x2 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg2 fullShare x2
        ∗ (∃ d, owns (c : Thread nD τ) arg6 fullShare d)
        ∗ owns (c : Thread nD τ) arg3 fullShare x3
        ∗ owns (c : Thread nD τ) arg4 fullShare x4
        ∗ owns (c : Thread nD τ) arg5 fullShare x5
        ∗ owns (c : Thread nD τ) arg9 fullShare xo
        ∗ (∃ d, owns (c : Thread nD τ) arg10 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg2 fullShare x2
          ∗ owns (c : Thread nD τ) arg6 fullShare (outVal x1 x2 (accStep (Scalar.cmpi .eq (Scalar.remsi (Scalar.subi (BitVec.ofNat 32 (i 0).val) 1#32) 37#32) 0#32) xo x5 xa))
          ∗ owns (c : Thread nD τ) arg3 fullShare x3
          ∗ owns (c : Thread nD τ) arg4 fullShare x4
          ∗ owns (c : Thread nD τ) arg5 fullShare x5
          ∗ owns (c : Thread nD τ) arg9 fullShare xo
          ∗ owns (c : Thread nD τ) arg10 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_pos hc2, dif_neg hc3, dif_pos hc4, Prog.bind_op, Prog.bind_ret, Prog.bind_lift]
  iintro ⟨H1, H2, ⟨%d6, H6⟩, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg10 harg10 arg9 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_ldr c E) $$ H2; iintro H2
  rw [ld11]
  iapply (wp_ldr c E) $$ HA; iintro HA
  rw [ld_full]
  iapply (wp_ldr c E) $$ H6; iintro H6
  iapply (wp_stf c E (T := outVal x1 x2 (accStep (Scalar.cmpi .eq (Scalar.remsi (Scalar.subi (BitVec.ofNat 32 (i 0).val) 1#32) 37#32) 0#32) xo x5 xa)) (fun y => by
    rw [← emb_full y, ← Rect.map_emb_univ, Finset.mem_map]; exact ⟨y, Finset.mem_univ _, rfl⟩) (fun j => by rw [emb_full]; rfl)) $$ H6
  iintro H6
  iapply (wp_end c E)
  iapply Hk
  isplitl [H1]; · iexact H1
  isplitl [H2]; · iexact H2
  isplitl [H6]; · iexact H6
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An even point inside a row block: the first operand buffer is filled, the product steps from the second. -/
theorem runC (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : ¬k0_cond2 i = 1#1) (hc3 : k0_cond3 i = 1#1) (hc4 : ¬k0_cond4 i = 1#1)
    (x1 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg10 fullShare xo
        ∗ (∃ d, owns (c : Thread nD τ) arg9 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg3 fullShare x3
          ∗ owns (c : Thread nD τ) arg4 fullShare x4
          ∗ owns (c : Thread nD τ) arg5 fullShare x5
          ∗ owns (c : Thread nD τ) arg10 fullShare xo
          ∗ owns (c : Thread nD τ) arg9 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_neg hc2, dif_pos hc3, dif_neg hc4, Prog.bind_op, Prog.bind_ret, Prog.bind_lift]
  iintro ⟨H1, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg9 harg9 arg10 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_end c E)
  iapply Hk
  isplitl [H1]; · iexact H1
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An even point that ends a row block: the output block is written too. -/
theorem runC_out (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : ¬k0_cond2 i = 1#1) (hc3 : k0_cond3 i = 1#1) (hc4 : k0_cond4 i = 1#1)
    (x1 x2 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg2 fullShare x2
        ∗ (∃ d, owns (c : Thread nD τ) arg6 fullShare d)
        ∗ owns (c : Thread nD τ) arg3 fullShare x3
        ∗ owns (c : Thread nD τ) arg4 fullShare x4
        ∗ owns (c : Thread nD τ) arg5 fullShare x5
        ∗ owns (c : Thread nD τ) arg10 fullShare xo
        ∗ (∃ d, owns (c : Thread nD τ) arg9 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg2 fullShare x2
          ∗ owns (c : Thread nD τ) arg6 fullShare (outVal x1 x2 (accStep (Scalar.cmpi .eq (Scalar.remsi (Scalar.subi (BitVec.ofNat 32 (i 0).val) 1#32) 37#32) 0#32) xo x5 xa))
          ∗ owns (c : Thread nD τ) arg3 fullShare x3
          ∗ owns (c : Thread nD τ) arg4 fullShare x4
          ∗ owns (c : Thread nD τ) arg5 fullShare x5
          ∗ owns (c : Thread nD τ) arg10 fullShare xo
          ∗ owns (c : Thread nD τ) arg9 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_neg hc2, dif_pos hc3, dif_pos hc4, Prog.bind_op, Prog.bind_ret, Prog.bind_lift]
  iintro ⟨H1, H2, ⟨%d6, H6⟩, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg9 harg9 arg10 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_ldr c E) $$ H2; iintro H2
  rw [ld11]
  iapply (wp_ldr c E) $$ HA; iintro HA
  rw [ld_full]
  iapply (wp_ldr c E) $$ H6; iintro H6
  iapply (wp_stf c E (T := outVal x1 x2 (accStep (Scalar.cmpi .eq (Scalar.remsi (Scalar.subi (BitVec.ofNat 32 (i 0).val) 1#32) 37#32) 0#32) xo x5 xa)) (fun y => by
    rw [← emb_full y, ← Rect.map_emb_univ, Finset.mem_map]; exact ⟨y, Finset.mem_univ _, rfl⟩) (fun j => by rw [emb_full]; rfl)) $$ H6
  iintro H6
  iapply (wp_end c E)
  iapply Hk
  isplitl [H1]; · iexact H1
  isplitl [H2]; · iexact H2
  isplitl [H6]; · iexact H6
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

end Cert.Kernel.Gen

end
-- ==== Proof.Bits.QuantFrame.lean ====
/- The frame run: the invariant that carries the two operand buffers and the accumulator from point to point, the body's
   obligation at every point, and the run of the whole program. -/
module

public import proofs.«01_k».proof.Proof.Bits.QuantCases
public import Idealize.ShloMosaic.Lib.Quiescent
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The body's branch conditions -/

/-- The first branch is the first point's; the second the odd points'; the third the even points' after the first; the fourth
    that of the points that end a row block. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
theorem hcond3 : ∀ t : Fin cfg0.N, k0_cond3 (grid0.coords t) = 1#1 ↔ t.val % 2 = 0 ∧ t.val ≠ 0 :=
  (by decide +kernel : ∀ t : Fin grid0.N, k0_cond3 (grid0.coords t) = 1#1 ↔ t.val % 2 = 0 ∧ t.val ≠ 0)
theorem hcond4 : ∀ t : Fin cfg0.N, k0_cond4 (grid0.coords t) = 1#1 ↔ t.val % 37 = 0 ∧ t.val ≠ 0 :=
  (by decide +kernel : ∀ t : Fin grid0.N, k0_cond4 (grid0.coords t) = 1#1 ↔ t.val % 37 = 0 ∧ t.val ≠ 0)

/-- The step number inside a row block that a point multiplies at, as the body computes it. -/
abbrev kprev (i : grid0.Coords) : BitVec 32 := Scalar.remsi (Scalar.subi (BitVec.ofNat 32 (i 0).val) 1#32) 37#32

/-- It is zero exactly at the first step of a row block. -/
theorem kprev_zero : ∀ t : Fin cfg0.N, t.val ≠ 0 →
    Scalar.cmpi .eq (kprev (grid0.coords t)) 0#32 = if (t.val - 1) % 37 = 0 then 1#1 else 0#1 :=
  (by decide +kernel : ∀ t : Fin grid0.N, t.val ≠ 0 →
    Scalar.cmpi .eq (kprev (grid0.coords t)) 0#32 = if (t.val - 1) % 37 = 0 then 1#1 else 0#1)

/-! ## Where the windows are idle -/

theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl
theorem live_in6 : ∀ t : Fin cfg0.N, cfg0.idle 6 (grid0.coords t) = false := by decide +kernel
theorem live_in7 : ∀ t : Fin cfg0.N, cfg0.idle 7 (grid0.coords t) = false := by decide +kernel
/-- The output window is idle where the fourth branch is not taken, live where it is. -/
theorem idle_out : ∀ t : Fin cfg0.N, ¬k0_cond4 (grid0.coords t) = 1#1 → cfg0.idle 5 (grid0.coords t) = true := by decide +kernel
theorem live_out : ∀ t : Fin cfg0.N, k0_cond4 (grid0.coords t) = 1#1 → cfg0.idle 5 (grid0.coords t) = false := by decide +kernel
/-- The pipeline writes the output block back exactly at the points of the fourth branch. -/
theorem flush_out : ∀ t : Fin cfg0.N, (cfg0.win 5).flush t = true ↔ t.val % 37 = 0 ∧ t.val ≠ 0 :=
  (by decide +kernel : ∀ t : Fin grid0.N, (cfg0.win 5).flush t = true ↔ t.val % 37 = 0 ∧ t.val ≠ 0)
theorem noFlush_out (t : Fin cfg0.N) (h : ¬(t.val % 37 = 0 ∧ t.val ≠ 0)) : (cfg0.win 5).flush t = false := by
  rcases hf : (cfg0.win 5).flush t with _ | _
  · rfl
  · exact absurd ((flush_out t).mp hf) h

/-! ## The memrefs of the body -/

abbrev ms0 (t : Fin cfg0.N) : Memref sig .tc .smem S1x1 .f32 := win0_0.stage (cfg0.slots t 0)
abbrev ms1 (t : Fin cfg0.N) : Memref sig .tc .smem S1x1 .f32 := win0_1.stage (cfg0.slots t 1)
abbrev ms2 (t : Fin cfg0.N) : Memref sig .tc .vmem S1024x512 .bf16 := win0_2.stage (cfg0.slots t 2)
abbrev ms3 (t : Fin cfg0.N) : Memref sig .tc .vmem S1024x512 .i32 := win0_3.stage (cfg0.slots t 3)
abbrev ms4 (t : Fin cfg0.N) : Memref sig .tc .vmem S256x3584 .i32 := win0_4.stage (cfg0.slots t 4)
abbrev ms5 (t : Fin cfg0.N) : Memref sig .tc .vmem S1024x3584 .bf16 := win0_5.stage (cfg0.slots t 5)
abbrev ms6 (t : Fin cfg0.N) : Memref sig .tc .vmem S1024x256 .i8 := win0_6.stage (cfg0.slots t 6)
abbrev ms7 (t : Fin cfg0.N) : Memref sig .tc .vmem S1x32x1024 .fp8e4m3 := win0_7.stage (cfg0.slots t 7)
/-- The scratch operands: the two operand buffers and the accumulator. -/
abbrev sc0 : Memref sig .tc .vmem S1024x512 .bf16 := Memref.whole cc0_scratch0
abbrev sc1 : Memref sig .tc .vmem S1024x512 .bf16 := Memref.whole cc0_scratch1
abbrev sc2 : Memref sig .tc .vmem S1024x3584 .f32 := Memref.whole cc0_scratch2

/-- The launch's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

variable (m : (ℓ : Loc nD τ sig) → Buf (Elt F) ℓ) (ρ : Dev nD → PrngReg)

/-- What a point quantises its block to: the operand block, the codes and the scales. -/
def gAt (c : Dev nD) (t : Fin cfg0.N) : F .f32 := (iblk m c 0 t : Vec F S1x1 .f32) one11
def aAt (c : Dev nD) (t : Fin cfg0.N) : Vec F S1024x512 .bf16 := aOf (gAt m c t) (iblk m c 2 t) (iblk m c 3 t)
def cAt (c : Dev nD) (t : Fin cfg0.N) : Vec F S1024x256 .i8 := cOf (gAt m c t) (iblk m c 2 t) (iblk m c 3 t)
def sAt (c : Dev nD) (t : Fin cfg0.N) : Vec F S1x32x1024 .fp8e4m3 := sOf (gAt m c t) (iblk m c 2 t)

/-- THE ACCUMULATOR after point `n`: from point 1 on, the step of that point over what the point before left, from the
    operand block of the point before and this point's weight words. (What point 0 leaves is never read.) -/
def accAt (c : Dev nD) : (n : ℕ) → n < cfg0.N → Vec F S1024x3584 .f32
  | 0, _ => constant S1024x3584 .f32 0x00000000#32
  | n + 1, h => accStep (Scalar.cmpi .eq (kprev (grid0.coords ⟨n + 1, h⟩)) 0#32) (aAt m c ⟨n, Nat.lt_of_succ_lt h⟩)
      (iblk m c 4 ⟨n + 1, h⟩) (accAt c n (Nat.lt_of_succ_lt h))

/-- A step that starts a row block does not look at what the accumulator held. -/
theorem accStep_first (a : Vec F S1024x512 .bf16) (w : Vec F S256x3584 .i32) (d d' : Vec F S1024x3584 .f32) :
    accStep 1#1 a w d = accStep 1#1 a w d' := by
  funext y; rfl

/-- So the step of a point is `accAt` there, over what the point before left — or, at the first step, over anything. -/
theorem step_eq (c : Dev nD) (t : Fin cfg0.N) (hz : t.val ≠ 0) (d : Vec F S1024x3584 .f32)
    (hd : t.val - 1 ≠ 0 → d = accAt m c (t.val - 1) (Nat.lt_of_le_of_lt (Nat.sub_le _ _) t.isLt)) :
    accStep (Scalar.cmpi .eq (kprev (grid0.coords t)) 0#32) (aAt m c ⟨t.val - 1, Nat.lt_of_le_of_lt (Nat.sub_le _ _) t.isLt⟩)
      (iblk m c 4 t) d = accAt m c t.val t.isLt := by
  obtain ⟨n, hn⟩ := t
  cases n with
  | zero => exact absurd rfl hz
  | succ n =>
    by_cases h : n = 0
    · subst h
      show _ = accStep _ _ _ _
      rw [kprev_zero ⟨0 + 1, hn⟩ hz]
      exact accStep_first _ _ _ _
    · rw [hd h]; rfl

/-- The invariant before position `n`: at the start, every scratch buffer at anything; after point `n`, the operand buffer
    that point filled at its operand block, the other at anything, and the accumulator (from point 1 on) at `accAt`. -/
def PhiS (c : Dev nD) : (n : ℕ) → n ≤ cfg0.N → sProp 𝕄
  | 0, _ => Pipeline.ΦA spec0 c
  | n + 1, hn => iprop(iprop(
      (if n % 2 = 0 then owns (c : Thread nD τ) sc0 fullShare (aAt m c ⟨n, hn⟩) else iprop(∃ d, owns (c : Thread nD τ) sc0 fullShare d))
      ∗ (if n % 2 = 0 then iprop(∃ d, owns (c : Thread nD τ) sc1 fullShare d) else owns (c : Thread nD τ) sc1 fullShare (aAt m c ⟨n, hn⟩))
      ∗ (∃ d, ⌜n ≠ 0 → d = accAt m c n hn⌝ ∗ owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ_even (c : Dev nD) (n : ℕ) (hn : n + 1 ≤ cfg0.N) (he : n % 2 = 0) :
    PhiS m c (n + 1) hn = iprop(iprop(owns (c : Thread nD τ) sc0 fullShare (aAt m c ⟨n, hn⟩)
      ∗ iprop(∃ d, owns (c : Thread nD τ) sc1 fullShare d)
      ∗ (∃ d, ⌜n ≠ 0 → d = accAt m c n hn⌝ ∗ owns (c : Thread nD τ) sc2 fullShare d)) ∗ (∃ r, prngReg c r)) := by
  dsimp only [PhiS]; rw [if_pos he, if_pos he]

theorem PhiS_succ_odd (c : Dev nD) (n : ℕ) (hn : n + 1 ≤ cfg0.N) (he : ¬n % 2 = 0) :
    PhiS m c (n + 1) hn = iprop(iprop(iprop(∃ d, owns (c : Thread nD τ) sc0 fullShare d)
      ∗ owns (c : Thread nD τ) sc1 fullShare (aAt m c ⟨n, hn⟩)
      ∗ (∃ d, ⌜n ≠ 0 → d = accAt m c n hn⌝ ∗ owns (c : Thread nD τ) sc2 fullShare d)) ∗ (∃ r, prngReg c r)) := by
  dsimp only [PhiS]; rw [if_neg he, if_neg he]

/-- The same before a point that is not the first. -/
theorem PhiS_pos_even (c : Dev nD) (n : ℕ) (h : n ≤ cfg0.N) (hz : n ≠ 0) (he : (n - 1) % 2 = 0) :
    PhiS m c n h = iprop(iprop(owns (c : Thread nD τ) sc0 fullShare (aAt m c ⟨n - 1, by omega⟩)
      ∗ iprop(∃ d, owns (c : Thread nD τ) sc1 fullShare d)
      ∗ (∃ d, ⌜n - 1 ≠ 0 → d = accAt m c (n - 1) (by omega)⌝ ∗ owns (c : Thread nD τ) sc2 fullShare d)) ∗ (∃ r, prngReg c r)) := by
  cases n with
  | zero => exact absurd rfl hz
  | succ n => exact PhiS_succ_even m c n h he
theorem PhiS_pos_odd (c : Dev nD) (n : ℕ) (h : n ≤ cfg0.N) (hz : n ≠ 0) (he : ¬(n - 1) % 2 = 0) :
    PhiS m c n h = iprop(iprop(iprop(∃ d, owns (c : Thread nD τ) sc0 fullShare d)
      ∗ owns (c : Thread nD τ) sc1 fullShare (aAt m c ⟨n - 1, by omega⟩)
      ∗ (∃ d, ⌜n - 1 ≠ 0 → d = accAt m c (n - 1) (by omega)⌝ ∗ owns (c : Thread nD τ) sc2 fullShare d)) ∗ (∃ r, prngReg c r)) := by
  cases n with
  | zero => exact absurd rfl hz
  | succ n => exact PhiS_succ_odd m c n h he

/-! ## The pipeline's proof data -/

/-- The arrays as launched; after the body each input's buffer at its block and the outputs' at the scaled accumulator, the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outVal (iblk m c 0 t) (iblk m c 1 t) (accAt m c t.val t.isLt)
    | ⟨6, _⟩ => cAt m c t
    | ⟨7, _⟩ => sAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after6 (c : Dev nD) (t : Fin cfg0.N) : (dats m 0 c).after 6 t = cAt m c t := by dsimp only [dats]
theorem after7 (c : Dev nD) (t : Fin cfg0.N) : (dats m 0 c).after 7 t = sAt m c t := by dsimp only [dats]
theorem after5 (c : Dev nD) (t : Fin cfg0.N) :
    (dats m 0 c).after 5 t = outVal (iblk m c 0 t) (iblk m c 1 t) (accAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t
    ∗ (dats m 0 c).leavesExact 7 t)

/-- Every input window's buffer is left at its block. -/
theorem leaves0 (c : Dev nD) (t : Fin cfg0.N) : (dats m 0 c).leavesExact 0 t = owns (c : Thread nD τ) (ms0 t) fullShare (iblk m c 0 t) := by
  unfold Dat.leavesExact; rw [live_in0 t, after0]
theorem leaves1 (c : Dev nD) (t : Fin cfg0.N) : (dats m 0 c).leavesExact 1 t = owns (c : Thread nD τ) (ms1 t) fullShare (iblk m c 1 t) := by
  unfold Dat.leavesExact; rw [live_in1 t, after1]
theorem leaves2 (c : Dev nD) (t : Fin cfg0.N) : (dats m 0 c).leavesExact 2 t = owns (c : Thread nD τ) (ms2 t) fullShare (iblk m c 2 t) := by
  unfold Dat.leavesExact; rw [live_in2 t, after2]
theorem leaves3 (c : Dev nD) (t : Fin cfg0.N) : (dats m 0 c).leavesExact 3 t = owns (c : Thread nD τ) (ms3 t) fullShare (iblk m c 3 t) := by
  unfold Dat.leavesExact; rw [live_in3 t, after3]
theorem leaves4 (c : Dev nD) (t : Fin cfg0.N) : (dats m 0 c).leavesExact 4 t = owns (c : Thread nD τ) (ms4 t) fullShare (iblk m c 4 t) := by
  unfold Dat.leavesExact; rw [live_in4 t, after4]
theorem leaves6 (c : Dev nD) (t : Fin cfg0.N) : (dats m 0 c).leavesExact 6 t = owns (c : Thread nD τ) (ms6 t) fullShare (cAt m c t) := by
  unfold Dat.leavesExact; rw [live_in6 t, after6]
theorem leaves7 (c : Dev nD) (t : Fin cfg0.N) : (dats m 0 c).leavesExact 7 t = owns (c : Thread nD τ) (ms7 t) fullShare (sAt m c t) := by
  unfold Dat.leavesExact; rw [live_in7 t, after7]
theorem leaves5 (c : Dev nD) (t : Fin cfg0.N) (h : k0_cond4 (grid0.coords t) = 1#1) :
    (dats m 0 c).leavesExact 5 t = owns (c : Thread nD τ) (ms5 t) fullShare (outVal (iblk m c 0 t) (iblk m c 1 t) (accAt m c t.val t.isLt)) := by
  unfold Dat.leavesExact; rw [live_out t h, after5]

set_option maxHeartbeats 4800000 in
/-- The body at any point: the closed forms of the branch conditions say which run applies; the invariant hands it the
    scratch buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = PhiS m c (t.val + 1) t.isLt from rfl, PhiS_castSucc m c t, leaves0, leaves1, leaves2, leaves3, leaves4, leaves6, leaves7]
  by_cases hz : t.val = 0
  · have h3 : ¬k0_cond4 (grid0.coords t) = 1#1 := fun h => ((hcond4 t).mp h).2 hz
    rw [PhiS_zero m c _ _ hz, PhiA_eq, PhiS_succ_even m c t.val _ (by omega),
      Dat.leavesExact_idle (dats m 0 c) 5 t (idle_out t h3) (noFlush_out t (fun h => h.2 hz))]
    iintro ⟨⟨⟨HA, ⟨%db, HB⟩, ⟨%da, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ _ _ _ _ ((hcond1 t).mpr hz) (fun h => by have := (hcond2 t).mp h; omega) (fun h => ((hcond3 t).mp h).2 hz) h3 (iblk m c 0 t) (iblk m c 2 t) (iblk m c 3 t) (iblk m c 4 t) db da Set.univ _)
    isplitl [H0]; · iexact H0
    isplitl [H2]; · iexact H2
    isplitl [H3]; · iexact H3
    isplitl [H4]; · iexact H4
    isplitl [HB]; · iexact HB
    isplitl [HA]; · iexact HA
    isplitl [H6]; · iexists _; iexact H6
    isplitl [H7]; · iexists _; iexact H7
    isplitl [HC]; · iexact HC
    iintro ⟨H0, H2, H3, H4, HB, HA, H6, H7, HC⟩
    isplitl [HA HB HC Hg]
    · isplitl [HA HB HC]
      · isplitl [HA]; · iexact HA
        isplitl [HB]; · iexists _; iexact HB
        iexists da; isplitr; · ipureintro; exact fun h => absurd hz h
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iexact H7
  · have n0 : ¬k0_cond1 (grid0.coords t) = 1#1 := fun h => hz ((hcond1 t).mp h)
    by_cases ho : t.val % 2 = 1
    · have c1 : k0_cond2 (grid0.coords t) = 1#1 := (hcond2 t).mpr ho
      have n2 : ¬k0_cond3 (grid0.coords t) = 1#1 := fun h => by have := ((hcond3 t).mp h).1; omega
      rw [PhiS_pos_even m c _ _ hz (by omega), PhiS_succ_odd m c t.val _ (by omega)]
      by_cases h3 : k0_cond4 (grid0.coords t) = 1#1
      · rw [leaves5 m c t h3]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runB_out c (grid0.coords t) _ _ _ _ _ _ _ _ _ _ _ _ _ _ _ _ _ _ _ _ _ _ n0 c1 n2 h3 (iblk m c 0 t) (iblk m c 1 t) (iblk m c 2 t) (iblk m c 3 t) (iblk m c 4 t) _ da Set.univ _)
        isplitl [H0]; · iexact H0
        isplitl [H1]; · iexact H1
        isplitl [H5]; · iexists _; iexact H5
        isplitl [H2]; · iexact H2
        isplitl [H3]; · iexact H3
        isplitl [H4]; · iexact H4
        isplitl [HA]; · iexact HA
        isplitl [HB]; · iexact HB
        isplitl [H6]; · iexists _; iexact H6
        isplitl [H7]; · iexists _; iexact H7
        isplitl [HC]; · iexact HC
        rw [step_eq m c t hz da hda]
        iintro ⟨H0, H1, H5, H2, H3, H4, HA, HB, H6, H7, HC⟩
        isplitl [HA HB HC Hg]
        · isplitl [HA HB HC]
          · isplitl [HA]; · iexists _; iexact HA
            isplitl [HB]; · iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [Dat.leavesExact_idle (dats m 0 c) 5 t (idle_out t h3) (noFlush_out t (fun h => h3 ((hcond4 t).mpr h)))]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runB c (grid0.coords t) _ _ _ _ _ _ _ _ _ _ _ _ _ _ _ _ _ _ _ _ _ _ n0 c1 n2 h3 (iblk m c 0 t) (iblk m c 2 t) (iblk m c 3 t) (iblk m c 4 t) _ da Set.univ _)
        isplitl [H0]; · iexact H0
        isplitl [H2]; · iexact H2
        isplitl [H3]; · iexact H3
        isplitl [H4]; · iexact H4
        isplitl [HA]; · iexact HA
        isplitl [HB]; · iexact HB
        isplitl [H6]; · iexists _; iexact H6
        isplitl [H7]; · iexists _; iexact H7
        isplitl [HC]; · iexact HC
        rw [step_eq m c t hz da hda]
        iintro ⟨H0, H2, H3, H4, HA, HB, H6, H7, HC⟩
        isplitl [HA HB HC Hg]
        · isplitl [HA HB HC]
          · isplitl [HA]; · iexists _; iexact HA
            isplitl [HB]; · iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iexact H7
    · have n1 : ¬k0_cond2 (grid0.coords t) = 1#1 := fun h => ho ((hcond2 t).mp h)
      have c2 : k0_cond3 (grid0.coords t) = 1#1 := (hcond3 t).mpr ⟨by omega, hz⟩
      rw [PhiS_pos_odd m c _ _ hz (by omega), PhiS_succ_even m c t.val _ (by omega)]
      by_cases h3 : k0_cond4 (grid0.coords t) = 1#1
      · rw [leaves5 m c t h3]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runC_out c (grid0.coords t) _ _ _ _ _ _ _ _ _ _ _ _ _ _ _ _ _ _ _ _ _ _ n0 n1 c2 h3 (iblk m c 0 t) (iblk m c 1 t) (iblk m c 2 t) (iblk m c 3 t) (iblk m c 4 t) _ da Set.univ _)
        isplitl [H0]; · iexact H0
        isplitl [H1]; · iexact H1
        isplitl [H5]; · iexists _; iexact H5
        isplitl [H2]; · iexact H2
        isplitl [H3]; · iexact H3
        isplitl [H4]; · iexact H4
        isplitl [HB]; · iexact HB
        isplitl [HA]; · iexact HA
        isplitl [H6]; · iexists _; iexact H6
        isplitl [H7]; · iexists _; iexact H7
        isplitl [HC]; · iexact HC
        rw [step_eq m c t hz da hda]
        iintro ⟨H0, H1, H5, H2, H3, H4, HB, HA, H6, H7, HC⟩
        isplitl [HA HB HC Hg]
        · isplitl [HA HB HC]
          · isplitl [HA]; · iexact HA
            isplitl [HB]; · iexists _; iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [Dat.leavesExact_idle (dats m 0 c) 5 t (idle_out t h3) (noFlush_out t (fun h => h3 ((hcond4 t).mpr h)))]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runC c (grid0.coords t) _ _ _ _ _ _ _ _ _ _ _ _ _ _ _ _ _ _ _ _ _ _ n0 n1 c2 h3 (iblk m c 0 t) (iblk m c 2 t) (iblk m c 3 t) (iblk m c 4 t) _ da Set.univ _)
        isplitl [H0]; · iexact H0
        isplitl [H2]; · iexact H2
        isplitl [H3]; · iexact H3
        isplitl [H4]; · iexact H4
        isplitl [HB]; · iexact HB
        isplitl [HA]; · iexact HA
        isplitl [H6]; · iexists _; iexact H6
        isplitl [H7]; · iexists _; iexact H7
        isplitl [HC]; · iexact HC
        rw [step_eq m c t hz da hda]
        iintro ⟨H0, H2, H3, H4, HB, HA, H6, H7, HC⟩
        isplitl [HA HB HC Hg]
        · isplitl [HA HB HC]
          · isplitl [HA]; · iexact HA
            isplitl [HB]; · iexists _; iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the named contents are forgotten. -/
theorem hout (c : Dev nD) : (dats m 0 c).Φ (Fin.last cfg0.N) ⊢ Pipeline.ΦA spec0 c := by
  have hN : cfg0.N = 445 := N_0
  rw [show (dats m 0 c).Φ (Fin.last cfg0.N) = PhiS m c cfg0.N (Nat.le_refl _) from rfl,
    PhiS_pos_even m c _ _ (by omega) (by rw [hN]), PhiA_eq]
  iintro ⟨⟨HA, HB, ⟨%d, -, HC⟩⟩, Hg⟩
  isplitl [HA HB HC]
  · isplitl [HA]; · iexists _; iexact HA
    isplitl [HB]; · iexact HB
    iexists _; iexact HC
  iexact Hg

/-! ## The run and the frame -/

set_option backward.isDefEq.respectTransparency.types false in
/-- The launch: every execution ends, with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched. -/
theorem unchanged : θ_run defs (onTc (τ := τ) (main (F := F))) (s₀ m ρ) (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  frame_of m ρ (dats m) (A_eq m) (run_main m ρ)

/-- THE FRAME: every execution ends, the argument arrays unchanged and every semaphore counter at zero. -/
theorem frame_main : θ_run defs (onTc (τ := τ) (main (F := F))) (s₀ m ρ) (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Quant.lean ====
/- The kernel body, read as a list of pieces: the loads and merges of half a block of scales, the quantisation of a pair of
   tiles, the store of a chunk of scales, one tile of the product. The printed body is this list, unrolled. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The values -/

/-- The lane of an element, at eight rows and at sixteen. -/
def lane8 : IVec S8x128 32 := iota .tc S8x128 32 [1] iota_S8x128_d1_w32
def lane16 : IVec S16x128 32 := iota .tc S16x128 32 [1] iota_S16x128_d1_w32
/-- The even lanes. -/
def even8 : IVec S8x128 1 := cmpi .eq (andi lane8 (broadcast S8x128 1#32)) (broadcast S8x128 0#32)
/-- The lanes whose bit `d` is clear. -/
def keep (d : BitVec 32) : IVec S16x128 1 := cmpi .eq (andi lane16 (broadcast S16x128 d)) (broadcast S16x128 0#32)

/-- The magnitudes of sixteen rows. -/
def absw (x : Vec F S16x128 .bf16) : FVec F S16x128 .f32 := extf .f32 (absf (show FVec F S16x128 .bf16 from x)) bitsLt_bf16_f32

/-- One level of the merge: in the lanes whose bit `d` is clear the maximum of `u` with its neighbour `d` lanes up, in the
    others the maximum of `w` with its neighbour `d` lanes down (`e` is 128 less `d`). -/
def mergeMax (d e : BitVec 32) (u w : FVec F S16x128 .f32) : FVec F S16x128 .f32 :=
  maximumf (select (keep d) u w)
    (select (keep d) (dynamicRotate 1 e none u rotates_S16x128_d1) (dynamicRotate 1 d none w rotates_S16x128_d1))

/-- The merge of sixteen tiles: the block maxima of tile `i` end in lanes `16 b + i`. -/
def mergeTree (x0 x1 x2 x3 x4 x5 x6 x7 x8 x9 x10 x11 x12 x13 x14 x15 : Vec F S16x128 .bf16) : FVec F S16x128 .f32 :=
  mergeMax 1#32 127#32
    (mergeMax 2#32 126#32
      (mergeMax 4#32 124#32 (mergeMax 8#32 120#32 (absw x0) (absw x8)) (mergeMax 8#32 120#32 (absw x4) (absw x12)))
      (mergeMax 4#32 124#32 (mergeMax 8#32 120#32 (absw x2) (absw x10)) (mergeMax 8#32 120#32 (absw x6) (absw x14))))
    (mergeMax 2#32 126#32
      (mergeMax 4#32 124#32 (mergeMax 8#32 120#32 (absw x1) (absw x9)) (mergeMax 8#32 120#32 (absw x5) (absw x13)))
      (mergeMax 4#32 124#32 (mergeMax 8#32 120#32 (absw x3) (absw x11)) (mergeMax 8#32 120#32 (absw x7) (absw x15))))

/-- The block scales of thirty-two rows, from the block maxima of their two halves. -/
def sfOf (g : F .f32) (A B : FVec F S16x128 .f32) : FVec F S32x128 .f32 :=
  extf .f32 (truncf .fp8e4m3 (minimumf (broadcast S32x128 (Scalar.ofBits .f32 0x43E00000#32)) (maximumf (broadcast S32x128 (Scalar.ofBits .f32 0x00000000#32))
    (divf (concatenate S32x128 0 [⟨S16x128, A⟩, ⟨S16x128, B⟩] concatenates_S16x128_S16x128_S32x128_d0)
      (broadcast S32x128 (Scalar.mulf (Scalar.ofBits .f32 0x40C00000#32) g))))) bitsLt_fp8e4m3_f32) bitsLt_fp8e4m3_f32

/-- The factor each element of a block is divided by, times four: zero where the scale is zero. -/
def r4Of (g : F .f32) (sf : FVec F S32x128 .f32) : FVec F S32x128 .f32 :=
  select (cmpf .oeq sf (broadcast S32x128 (Scalar.ofBits .f32 0x00000000#32))) (broadcast S32x128 (Scalar.ofBits .f32 0x00000000#32))
    (divf (broadcast S32x128 (Scalar.ofBits .f32 0x40800000#32))
      (select (cmpf .oeq sf (broadcast S32x128 (Scalar.ofBits .f32 0x00000000#32))) (broadcast S32x128 (Scalar.ofBits .f32 0x3F800000#32))
        (mulf sf (broadcast S32x128 g))))

/-- The scales times sixty-four. -/
def s64Of (sf : FVec F S32x128 .f32) : FVec F S32x128 .f32 := mulf sf (broadcast S32x128 (Scalar.ofBits .f32 0x42800000#32))

/-- Lane indices, as the gather takes them. -/
def nrm (idx : IVec S8x128 32) : IVec S8x128 32 :=
  shapeCast S8x128 (shapeCast S8x128x1 (select (cmpi .slt idx (broadcast S8x128 0#32)) (addi idx (broadcast S8x128 128#32)) idx) shapeCasts_S8x128_S8x128x1)
    shapeCasts_S8x128x1_S8x128

/-- The gather along lanes, eight rows at a time. -/
def gl (x : FVec F S32x128 .f32) (idx : IVec S8x128 32) : FVec F S32x128 .f32 :=
  concatenate S32x128 0
    [⟨S8x128, dynamicGather 1 (extractStridedSlice S8x128 ![0, 0] x slices_S32x128_o0_0_S8x128) (nrm idx)⟩,
     ⟨S8x128, dynamicGather 1 (extractStridedSlice S8x128 ![8, 0] x slices_S32x128_o8_0_S8x128) (nrm idx)⟩,
     ⟨S8x128, dynamicGather 1 (extractStridedSlice S8x128 ![16, 0] x slices_S32x128_o16_0_S8x128) (nrm idx)⟩,
     ⟨S8x128, dynamicGather 1 (extractStridedSlice S8x128 ![24, 0] x slices_S32x128_o24_0_S8x128) (nrm idx)⟩]
    concatenates_S8x128_S8x128_S8x128_S8x128_S32x128_d0

/-- The lanes that hold the scales of tile `i`. -/
def tidx (i : ℕ) : IVec S8x128 32 := ori (andi lane8 (broadcast S8x128 112#32)) (broadcast S8x128 (BitVec.ofNat 32 i))

/-- The magnitudes over their scales, times four. -/
def aV (x : Vec F S32x128 .bf16) (r4 : FVec F S32x128 .f32) (i : ℕ) : FVec F S32x128 .f32 :=
  mulf (extf .f32 (absf (show FVec F S32x128 .bf16 from x)) bitsLt_bf16_f32) (gl r4 (tidx i))

def fcst (b : BitVec 32) : FVec F S32x128 .f32 := broadcast S32x128 (Scalar.ofBits .f32 b)

/-- A magnitude clipped to the range of the steps two and four. -/
def clipV (a : FVec F S32x128 .f32) : FVec F S32x128 .f32 :=
  minimumf (broadcast S32x128 (Scalar.ofBits .f32 0x41C00000#32)) (maximumf (broadcast S32x128 (Scalar.ofBits .f32 0x40800000#32)) a)

/-- One line of the piecewise linear code. -/
def lineV (base : BitVec 32) (slope : BitVec 32) (c : FVec F S32x128 .f32) : IVec S32x128 32 :=
  addi (broadcast S32x128 base) (fptosi 32 (ceil (mulf c (broadcast S32x128 (Scalar.ofBits .f32 slope)))))

/-- The code of a clipped magnitude: its position among the eight values, in units of 2^-24. -/
def bitsV (c : FVec F S32x128 .f32) : IVec S32x128 32 :=
  minsi (minsi (lineV 0#32 0x4B000000#32 c) (lineV 33554432#32 0x4A800000#32 c)) (lineV 67108864#32 0x4A000000#32 c)

/-- The part of the position below the first step of one. -/
def lowV (a : FVec F S32x128 .f32) : IVec S32x128 32 :=
  fptosi 32 (roundeven (ceil (mulf (minimumf a (broadcast S32x128 (Scalar.ofBits .f32 0x40800000#32)))
    (broadcast S32x128 (Scalar.ofBits .f32 0x4B000000#32)))))

/-- The four magnitudes of a word, complemented. -/
def yV (a : FVec F S32x128 .f32) (rb : Vec F S32x128 .i32) : IVec S8x128 32 :=
  xori (bitcast S8x128 32 (trunci 8 (shrsi (subi (subi (shrui (show IVec S32x128 32 from rb) (broadcast S32x128 8#32)) (bitsV (clipV a))) (lowV a)) (broadcast S32x128 24#32)) natLt_8_32)
    bitcasts_S32x128_w8_S8x128_w32) (constantI S8x128 32 4294967295#32)

/-- The four signs of a word. -/
def sgnV (x : Vec F S32x128 .bf16) : IVec S8x128 32 :=
  bitcast S8x128 32 (trunci 8 (select (cmpf .olt (extf .f32 (show FVec F S32x128 .bf16 from x) bitsLt_bf16_f32) (broadcast S32x128 (Scalar.ofBits .f32 0x00000000#32)))
    (broadcast S32x128 8#32) (broadcast S32x128 0#32)) natLt_8_32) bitcasts_S32x128_w8_S8x128_w32

def magV (y : IVec S8x128 32) : IVec S8x128 32 := subi y (broadcast S8x128 16843009#32)
def negV (y sgn : IVec S8x128 32) : IVec S8x128 32 :=
  andi (andi sgn (addi y (broadcast S8x128 101058054#32))) (broadcast S8x128 134744072#32)
def f8V (mag neg : IVec S8x128 32) : FVec F S32x128 .fp8e4m3 :=
  bitcastToFloat .fp8e4m3 (bitcast S32x128 8 (ori (shli mag (broadcast S8x128 2#32)) (shli neg (broadcast S8x128 4#32))) bitcasts_S8x128_w32_S32x128_w8)

/-- The nibbles of a tile, four rows to a word. -/
def nibV (x : Vec F S32x128 .bf16) (rb : Vec F S32x128 .i32) (r4 : FVec F S32x128 .f32) (i : ℕ) : IVec S8x128 32 :=
  ori (magV (yV (aV x r4 i) rb)) (negV (yV (aV x r4 i) rb) (sgnV x))

/-- The decoded tile: what the product multiplies. -/
def decV (x : Vec F S32x128 .bf16) (rb : Vec F S32x128 .i32) (r4 s64 : FVec F S32x128 .f32) (i : ℕ) : FVec F S32x128 .bf16 :=
  mulf (extf .bf16 (f8V (magV (yV (aV x r4 i) rb)) (negV (yV (aV x r4 i) rb) (sgnV x)) : FVec F S32x128 .fp8e4m3) bitsLt_fp8e4m3_bf16)
    (truncf .bf16 (gl s64 (tidx i)) bitsLt_bf16_f32)

/-- Two tiles of nibbles packed: the even lanes' nibble low, the odd lanes' high. -/
def packV (c0 c1 : IVec S8x128 32) : IVec S32x128 8 :=
  bitcast S32x128 8 (dynamicGather 1
    (ori (select even8 c0 (dynamicRotate 1 1#32 none c1 rotates_S8x128_d1))
      (shli (select even8 (dynamicRotate 1 127#32 none c0 rotates_S8x128_d1) c1) (broadcast S8x128 4#32)))
    (nrm (ori (shli (andi lane8 (broadcast S8x128 63#32)) (broadcast S8x128 1#32)) (shrsi lane8 (broadcast S8x128 6#32)))))
    bitcasts_S8x128_w32_S32x128_w8

/-- The order a chunk's scales are stored in. -/
def sord : IVec S8x128 32 := ori (shli (andi lane8 (broadcast S8x128 7#32)) (broadcast S8x128 4#32)) (shrsi lane8 (broadcast S8x128 3#32))

/-- A chunk's scales, blocks by rows. -/
def stV (s0 s1 s2 s3 : FVec F S32x128 .f32) : FVec F S128x128 .f32 :=
  transpose S128x128 [1, 0] (concatenate S128x128 0 [⟨S32x128, gl s0 sord⟩, ⟨S32x128, gl s1 sord⟩, ⟨S32x128, gl s2 sord⟩, ⟨S32x128, gl s3 sord⟩]
    concatenates_S32x128_S32x128_S32x128_S32x128_S128x128_d0) transposes_S128x128_p1_0_S128x128

def sc1V (s : FVec F S32x128 .f32) : FVec F S1x32x128 .fp8e4m3 :=
  shapeCast S1x32x128 (truncf .fp8e4m3 s bitsLt_fp8e4m3_f32) shapeCasts_S32x128_S1x32x128

/-- One tile of the accumulator after a step: the product of operand and weights where the row block starts (`first`), that
    product added to the tile `d` elsewhere. -/
def tile (first : BitVec 1) (a : Vec F S512x512 .bf16) (w : Vec F S256x512 .i32) (d : Vec F S512x512 .f32) : FVec F S512x512 .f32 :=
  Scalar.select first
    (matmul dot_S512x512_S512x512_S512x512_1_0_0_1_n_n none (show FVec F S512x512 .bf16 from a)
      (bitcastToFloat .bf16 (bitcast S512x512 16 w bitcasts_S256x512_w32_S512x512_w16))
      (constant S512x512 .f32 0x00000000#32))
    (addf d (matmul dot_S512x512_S512x512_S512x512_1_0_0_1_n_n none (show FVec F S512x512 .bf16 from a)
      (bitcastToFloat .bf16 (bitcast S512x512 16 w bitcasts_S256x512_w32_S512x512_w16))
      (constant S512x512 .f32 0x00000000#32)))

/-! ## The rectangles -/

/-- The first of the thirty-two rows of unit `u` in row group `rg`. -/
def row (u rg : ℕ) : ℕ := u / 4 * 512 + rg * 128 + u % 4 * 32

theorem row_le {u rg : ℕ} (hu : u < 8) (hr : rg < 4) : row u rg + 32 ≤ 1024 := by unfold row; omega
theorem row_dvd (u rg : ℕ) : 32 ∣ row u rg := by unfold row; omega

theorem inbH (u : Fin 8) (h : Fin 2) (i : Fin 16) :
    ∀ a, (![row u.val (i.val / 4) + h.val * 16, i.val % 4 * 128] : Fin 2 → ℕ) a + S16x128.size a ≤ S1024x512.size a := by
  have := row_le u.isLt (show i.val / 4 < 4 by omega)
  intro a; fin_cases a
  · show row u.val (i.val / 4) + h.val * 16 + 16 ≤ 1024; omega
  · show i.val % 4 * 128 + 128 ≤ 512; omega
theorem inbT (u : Fin 8) (i : Fin 16) :
    ∀ a, (![row u.val (i.val / 4), i.val % 4 * 128] : Fin 2 → ℕ) a + S32x128.size a ≤ S1024x512.size a := by
  have := row_le u.isLt (show i.val / 4 < 4 by omega)
  intro a; fin_cases a
  · show row u.val (i.val / 4) + 32 ≤ 1024; omega
  · show i.val % 4 * 128 + 128 ≤ 512; omega
theorem inbC (u : Fin 8) (p : Fin 8) :
    ∀ a, (![row u.val (p.val / 2), p.val % 2 * 128] : Fin 2 → ℕ) a + S32x128.size a ≤ S1024x256.size a := by
  have := row_le u.isLt (show p.val / 2 < 4 by omega)
  intro a; fin_cases a
  · show row u.val (p.val / 2) + 32 ≤ 1024; omega
  · show p.val % 2 * 128 + 128 ≤ 256; omega
theorem inbS (c : Fin 2) (r : Fin 4) :
    ∀ a, (![0, 0, c.val * 512 + r.val * 128] : Fin 3 → ℕ) a + S1x32x128.size a ≤ S1x32x1024.size a := by
  intro a; fin_cases a
  · show 0 + 1 ≤ 1; omega
  · show 0 + 32 ≤ 32; omega
  · show c.val * 512 + r.val * 128 + 128 ≤ 1024; omega
theorem inbA (j : Fin 14) : ∀ a, (![j.val % 2 * 512, 0] : Fin 2 → ℕ) a + S512x512.size a ≤ S1024x512.size a := by
  intro a; fin_cases a
  · show j.val % 2 * 512 + 512 ≤ 1024; omega
  · show 0 + 512 ≤ 512; omega
theorem inbW (j : Fin 14) : ∀ a, (![0, j.val / 2 * 512] : Fin 2 → ℕ) a + S256x512.size a ≤ S256x3584.size a := by
  intro a; fin_cases a
  · show 0 + 256 ≤ 256; omega
  · show j.val / 2 * 512 + 512 ≤ 3584; omega
theorem inbD (j : Fin 14) : ∀ a, (![j.val % 2 * 512, j.val / 2 * 512] : Fin 2 → ℕ) a + S512x512.size a ≤ S1024x3584.size a := by
  intro a; fin_cases a
  · show j.val % 2 * 512 + 512 ≤ 1024; omega
  · show j.val / 2 * 512 + 512 ≤ 3584; omega

abbrev rH (u : Fin 8) (h : Fin 2) (i : Fin 16) : Rect S1024x512 := Rect.unit (s := S1024x512) ![row u.val (i.val / 4) + h.val * 16, i.val % 4 * 128] S16x128.size (inbH u h i)
abbrev rT (u : Fin 8) (i : Fin 16) : Rect S1024x512 := Rect.unit (s := S1024x512) ![row u.val (i.val / 4), i.val % 4 * 128] S32x128.size (inbT u i)
abbrev rC (u : Fin 8) (p : Fin 8) : Rect S1024x256 := Rect.unit (s := S1024x256) ![row u.val (p.val / 2), p.val % 2 * 128] S32x128.size (inbC u p)
abbrev rS (c : Fin 2) (r : Fin 4) : Rect S1x32x1024 := Rect.unit (s := S1x32x1024) ![0, 0, c.val * 512 + r.val * 128] S1x32x128.size (inbS c r)
abbrev rA (j : Fin 14) : Rect S1024x512 := Rect.unit (s := S1024x512) ![j.val % 2 * 512, 0] S512x512.size (inbA j)
abbrev rW (j : Fin 14) : Rect S256x3584 := Rect.unit (s := S256x3584) ![0, j.val / 2 * 512] S256x512.size (inbW j)
abbrev rD (j : Fin 14) : Rect S1024x3584 := Rect.unit (s := S1024x3584) ![j.val % 2 * 512, j.val / 2 * 512] S512x512.size (inbD j)

theorem packT (u : Fin 8) (i : Fin 16) : (rT u i).PackedRows (EltTy.packing .bf16) :=
  .inr ⟨Nat.le_refl 2, rfl, .inl ⟨Dvd.dvd.trans (by decide) (row_dvd u.val (i.val / 4)), (by decide : (2 : ℕ) ∣ 32)⟩⟩
theorem packC (u : Fin 8) (p : Fin 8) : (rC u p).PackedRows (EltTy.packing .i8) :=
  .inr ⟨Nat.le_refl 2, rfl, .inl ⟨Dvd.dvd.trans (by decide) (row_dvd u.val (p.val / 2)), (by decide : (4 : ℕ) ∣ 32)⟩⟩
theorem packS (c : Fin 2) (r : Fin 4) : (rS c r).PackedRows (EltTy.packing .fp8e4m3) :=
  .inr ⟨Nat.le_succ 2, rfl, .inl ⟨(by decide : (4 : ℕ) ∣ 0), (by decide : (4 : ℕ) ∣ 32)⟩⟩

/-! ## The pieces -/

/-- A piece of the body. -/
inductive Piece where
  | half (u : Fin 8) (h : Fin 2)
  | pair (u : Fin 8) (p : Fin 8)
  | scl (c : Fin 2)
  | mm (j : Fin 14)
  deriving DecidableEq

/-- The pieces of the first point: the quantiser alone. -/
def fillList : List Piece :=
  [.half 0 0, .half 0 1, .half 1 0, .pair 0 0, .half 1 1, .pair 0 1, .pair 0 2, .pair 0 3, .pair 0 4,
   .pair 0 5, .pair 0 6, .pair 0 7, .half 2 0, .pair 1 0, .half 2 1, .pair 1 1, .pair 1 2, .pair 1 3,
   .pair 1 4, .pair 1 5, .pair 1 6, .pair 1 7, .half 3 0, .pair 2 0, .half 3 1, .pair 2 1, .pair 2 2,
   .pair 2 3, .pair 2 4, .pair 2 5, .pair 2 6, .pair 2 7, .half 4 0, .pair 3 0, .half 4 1, .pair 3 1,
   .pair 3 2, .pair 3 3, .pair 3 4, .pair 3 5, .pair 3 6, .pair 3 7, .scl 0, .half 5 0, .pair 4 0, .half 5 1,
   .pair 4 1, .pair 4 2, .pair 4 3, .pair 4 4, .pair 4 5, .pair 4 6, .pair 4 7, .half 6 0, .pair 5 0,
   .half 6 1, .pair 5 1, .pair 5 2, .pair 5 3, .pair 5 4, .pair 5 5, .pair 5 6, .pair 5 7, .half 7 0,
   .pair 6 0, .half 7 1, .pair 6 1, .pair 6 2, .pair 6 3, .pair 6 4, .pair 6 5, .pair 6 6, .pair 6 7,
   .pair 7 0, .pair 7 1, .pair 7 2, .pair 7 3, .pair 7 4, .pair 7 5, .pair 7 6, .pair 7 7, .scl 1]

/-- The pieces of a later point: the quantiser's, dealt out between the fourteen tiles of the product. -/
def stepList : List Piece :=
  [.mm 0, .half 0 0, .half 0 1, .mm 1, .half 1 0, .pair 0 0, .half 1 1, .pair 0 1, .pair 0 2, .pair 0 3,
   .mm 2, .pair 0 4, .pair 0 5, .pair 0 6, .pair 0 7, .half 2 0, .pair 1 0, .mm 3, .half 2 1, .pair 1 1,
   .pair 1 2, .pair 1 3, .pair 1 4, .pair 1 5, .mm 4, .pair 1 6, .pair 1 7, .half 3 0, .pair 2 0, .half 3 1,
   .pair 2 1, .pair 2 2, .mm 5, .pair 2 3, .pair 2 4, .pair 2 5, .pair 2 6, .pair 2 7, .mm 6, .half 4 0,
   .pair 3 0, .half 4 1, .pair 3 1, .pair 3 2, .pair 3 3, .pair 3 4, .pair 3 5, .mm 7, .pair 3 6, .pair 3 7,
   .scl 0, .half 5 0, .pair 4 0, .half 5 1, .pair 4 1, .mm 8, .pair 4 2, .pair 4 3, .pair 4 4, .pair 4 5,
   .pair 4 6, .mm 9, .pair 4 7, .half 6 0, .pair 5 0, .half 6 1, .pair 5 1, .pair 5 2, .pair 5 3, .mm 10,
   .pair 5 4, .pair 5 5, .pair 5 6, .pair 5 7, .half 7 0, .pair 6 0, .mm 11, .half 7 1, .pair 6 1, .pair 6 2,
   .pair 6 3, .pair 6 4, .pair 6 5, .mm 12, .pair 6 6, .pair 6 7, .pair 7 0, .pair 7 1, .pair 7 2, .mm 13,
   .pair 7 3, .pair 7 4, .pair 7 5, .pair 7 6, .pair 7 7, .scl 1]

section Prog

variable (arg3 : Memref sig .tc .vmem S1024x512 .bf16) (harg3 : arg3.IsWhole) (arg4 : Memref sig .tc .vmem S1024x512 .i32)
  (arg5 : Memref sig .tc .vmem S256x3584 .i32) (arg7 : Memref sig .tc .vmem S1024x256 .i8) (harg7 : arg7.IsWhole)
  (arg8 : Memref sig .tc .vmem S1x32x1024 .fp8e4m3) (harg8 : arg8.IsWhole)
  (an : Memref sig .tc .vmem S1024x512 .bf16) (han : an.IsWhole) (ao : Memref sig .tc .vmem S1024x512 .bf16)
  (arg11 : Memref sig .tc .vmem S1024x3584 .f32)

/-- A load of sixteen rows of the input. -/
def ldH (u : Fin 8) (h : Fin 2) (i : Fin 16) : Prog (TpuEff nD τ sig (Elt F) Λ₀ .tc) (Vec F S16x128 .bf16) :=
  Prog.lift (.load arg3 (rH u h i).toLoadRect (View.loadsAt_vmem h_S16x128))

/-- The block maxima of half a unit. -/
def halfProg (u : Fin 8) (h : Fin 2) : Prog (TpuEff nD τ sig (Elt F) Λ₀ .tc) (FVec F S16x128 .f32) := do
  let x0 ← ldH arg3 u h 0
  let x8 ← ldH arg3 u h 8
  let x1 ← ldH arg3 u h 1
  let x9 ← ldH arg3 u h 9
  let x2 ← ldH arg3 u h 2
  let x10 ← ldH arg3 u h 10
  let x3 ← ldH arg3 u h 3
  let x11 ← ldH arg3 u h 11
  let x4 ← ldH arg3 u h 4
  let x12 ← ldH arg3 u h 12
  let x5 ← ldH arg3 u h 5
  let x13 ← ldH arg3 u h 13
  let x6 ← ldH arg3 u h 6
  let x14 ← ldH arg3 u h 14
  let x7 ← ldH arg3 u h 7
  let x15 ← ldH arg3 u h 15
  pure (mergeTree x0 x1 x2 x3 x4 x5 x6 x7 x8 x9 x10 x11 x12 x13 x14 x15)

/-- One tile quantised: its decoded values stored, its nibbles returned. -/
def tileProg (u : Fin 8) (i : Fin 16) (r4 s64 : FVec F S32x128 .f32) : Prog (TpuEff nD τ sig (Elt F) Λ₀ .tc) (IVec S8x128 32) := do
  let x : Vec F S32x128 .bf16 ← Prog.lift (.load arg3 (rT u i).toLoadRect (View.loadsAt_vmem h_S32x128))
  let rb : Vec F S32x128 .i32 ← Prog.lift (.load arg4 (rT u i).toLoadRect (View.loadsAt_vmem h_S32x128))
  let _d : Vec F S32x128 .bf16 ← Prog.lift (.load an (rT u i).toLoadRect (View.loadsAt_vmem h_S32x128))
  Prog.lift (.store an (rT u i) (shapeCast S32x128 (decV x rb r4 s64 i.val) shapeCasts_S32x128_S32x128) Finset.univ
    (View.stores_vmem h_S32x128 (han.storeExact_slice rfl _ (packT u i)) (fun _ => rfl)) (.inl rfl))
  pure (nibV x rb r4 i.val)

def t0 (p : Fin 8) : Fin 16 := ⟨2 * p.val, by omega⟩
def t1 (p : Fin 8) : Fin 16 := ⟨2 * p.val + 1, by omega⟩

/-- A pair of tiles quantised and their codes stored. -/
def pairProg (u : Fin 8) (p : Fin 8) (r4 s64 : FVec F S32x128 .f32) : Prog (TpuEff nD τ sig (Elt F) Λ₀ .tc) PUnit := do
  let c0 ← tileProg arg3 arg4 an han u (t0 p) r4 s64
  let c1 ← tileProg arg3 arg4 an han u (t1 p) r4 s64
  let _d : Vec F S32x128 .i8 ← Prog.lift (.load arg7 (rC u p).toLoadRect (View.loadsAt_vmem h_S32x128))
  Prog.lift (.store arg7 (rC u p) (packV c0 c1) Finset.univ
    (View.stores_vmem h_S32x128 (harg7.storeExact_slice rfl _ (packC u p)) (fun _ => rfl)) (.inl rfl))

/-- One group of a chunk's scales stored. -/
def sclProg1 (c : Fin 2) (r : Fin 4) (v : FVec F S32x128 .f32) : Prog (TpuEff nD τ sig (Elt F) Λ₀ .tc) PUnit := do
  let _d : Vec F S1x32x128 .fp8e4m3 ← Prog.lift (.load arg8 (rS c r).toLoadRect (View.loadsAt_vmem h_S1x32x128))
  Prog.lift (.store arg8 (rS c r) (sc1V v) Finset.univ
    (View.stores_vmem h_S1x32x128 (harg8.storeExact_slice rfl _ (packS c r)) (fun _ => rfl)) (.inl rfl))

/-- A chunk's scales stored. -/
def sclProg (c : Fin 2) (st : FVec F S128x128 .f32) : Prog (TpuEff nD τ sig (Elt F) Λ₀ .tc) PUnit := do
  sclProg1 arg8 harg8 c 0 (extractStridedSlice S32x128 ![0, 0] st slices_S128x128_o0_0_S32x128)
  sclProg1 arg8 harg8 c 1 (extractStridedSlice S32x128 ![32, 0] st slices_S128x128_o32_0_S32x128)
  sclProg1 arg8 harg8 c 2 (extractStridedSlice S32x128 ![64, 0] st slices_S128x128_o64_0_S32x128)
  sclProg1 arg8 harg8 c 3 (extractStridedSlice S32x128 ![96, 0] st slices_S128x128_o96_0_S32x128)

/-- One tile of the product. -/
def mmProg (first : BitVec 1) (j : Fin 14) : Prog (TpuEff nD τ sig (Elt F) Λ₀ .tc) PUnit := do
  let a : Vec F S512x512 .bf16 ← Prog.lift (.load ao (rA j).toLoadRect (View.loadsAt_vmem h_S512x512))
  let w : Vec F S256x512 .i32 ← Prog.lift (.load arg5 (rW j).toLoadRect (View.loadsAt_vmem h_S256x512))
  let d : Vec F S512x512 .f32 ← Prog.lift (.load arg11 (rD j).toLoadRect (View.loadsAt_vmem h_S512x512))
  let _d : Vec F S512x512 .f32 ← Prog.lift (.load arg11 (rD j).toLoadRect (View.loadsAt_vmem h_S512x512))
  Prog.lift (.store arg11 (rD j) (shapeCast S512x512 (tile first a w d) shapeCasts_S512x512_S512x512) Finset.univ
    (View.stores_vmem_bits_univ h_S512x512 rfl) (.inl rfl))

/-- What the pieces hand on: the block maxima of each half unit. -/
abbrev Maxima (F : FTy → Type) := ℕ → FVec F S16x128 .f32

def sfAt (g : F .f32) (s : Maxima F) (u : ℕ) : FVec F S32x128 .f32 := sfOf g (s (2 * u)) (s (2 * u + 1))

/-- One piece run. -/
def exec (g : F .f32) (first : BitVec 1) (s : Maxima F) : Piece → Prog (TpuEff nD τ sig (Elt F) Λ₀ .tc) (Maxima F)
  | .half u h => do
    let v ← halfProg arg3 u h
    pure (fun k => cond (Nat.beq k (2 * u.val + h.val)) v (s k))
  | .pair u p => do
    pairProg arg3 arg4 arg7 harg7 an han u p (r4Of g (sfAt g s u.val)) (s64Of (sfAt g s u.val))
    pure s
  | .scl c => do
    sclProg arg8 harg8 c (stV (sfAt g s (4 * c.val)) (sfAt g s (4 * c.val + 1)) (sfAt g s (4 * c.val + 2)) (sfAt g s (4 * c.val + 3)))
    pure s
  | .mm j => do
    mmProg arg5 ao arg11 first j
    pure s

/-- A list of pieces run. -/
def run (g : F .f32) (first : BitVec 1) : List Piece → Maxima F → Prog (TpuEff nD τ sig (Elt F) Λ₀ .tc) PUnit
  | [], _ => pure ⟨⟩
  | q :: L, s => exec arg3 arg4 arg5 arg7 harg7 arg8 harg8 an han ao arg11 g first s q >>= run g first L

end Prog

/-- Before any piece the maxima are anything: zero, say. -/
def noMaxima : Maxima F := fun _ => constant S16x128 .f32 0x00000000#32

end Cert.KernelIdeal.Gen

end
-- ==== Proof.QuantBody.lean ====
/- The printed body is the list of pieces. -/
module

public import proofs.«01_k».proof.Proof.Quant

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-- The body with its unrolled branches as runs of pieces. -/
def bodyProg (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole) :
    Prog (TpuEff nD τ sig (Elt F) Λ₀ .tc) PUnit := do
  let g : Elt F .f32 ← smemLoad arg1 (Rect.unit (s := S1x1) ![0, 0] S1x1.size inb_S1x1_S1x1_0_0) numel1_S1x1 rfl
  if k0_h1 : k0_cond1 i = 1#1 then
    run arg3 arg4 arg5 arg7 harg7 arg8 harg8 arg9 harg9 arg10 arg11 g 0#1 fillList noMaxima
  else pure ⟨⟩
  if k0_h2 : k0_cond2 i = 1#1 then
    run arg3 arg4 arg5 arg7 harg7 arg8 harg8 arg10 harg10 arg9 arg11 g (Scalar.cmpi .eq (Scalar.remsi (Scalar.subi (BitVec.ofNat 32 (i 0).val) 1#32) 37#32) 0#32) stepList noMaxima
  else pure ⟨⟩
  if k0_h3 : k0_cond3 i = 1#1 then
    run arg3 arg4 arg5 arg7 harg7 arg8 harg8 arg9 harg9 arg10 arg11 g (Scalar.cmpi .eq (Scalar.remsi (Scalar.subi (BitVec.ofNat 32 (i 0).val) 1#32) 37#32) 0#32) stepList noMaxima
  else pure ⟨⟩
  if k0_h4 : k0_cond4 i = 1#1 then do
    let wg : Elt F .f32 ← smemLoad arg2 (Rect.unit (s := S1x1) ![0, 0] S1x1.size inb_S1x1_S1x1_0_0) numel1_S1x1 rfl
    let d : Vec F S1024x3584 .f32 ← Prog.lift (.load arg11 (Rect.unit (s := S1024x3584) ![0, 0] S1024x3584.size inb_S1024x3584_S1024x3584_0_0).toLoadRect (View.loadsAt_vmem h_S1024x3584))
    let _d : Vec F S1024x3584 .bf16 ← Prog.lift (.load arg6 (Rect.unit (s := S1024x3584) ![0, 0] S1024x3584.size inb_S1024x3584_S1024x3584_0_0).toLoadRect (View.loadsAt_vmem h_S1024x3584))
    Prog.lift (.store arg6 (Rect.unit (s := S1024x3584) ![0, 0] S1024x3584.size inb_S1024x3584_S1024x3584_0_0)
      (truncf .bf16 (mulf (show FVec F S1024x3584 .f32 from d) (broadcast S1024x3584 (Scalar.mulf g wg))) bitsLt_bf16_f32) Finset.univ
      (View.stores_vmem h_S1024x3584 (harg6.storeExact_slice rfl _ packedbf16_S1024x3584_S1024x3584_0_0) (fun _ => rfl)) (.inl rfl))
    pure ⟨⟩
  else pure ⟨⟩
  pure ⟨⟩

set_option maxHeartbeats 0 in
theorem body_eq (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole) :
    cc0_quant_dgrad (F := F) i arg1 harg1 arg2 harg2 arg3 harg3 arg4 harg4 arg5 harg5 arg6 harg6 arg7 harg7 arg8 harg8 arg9 harg9 arg10 harg10 arg11 harg11 = bodyProg i arg1 harg1 arg2 harg2 arg3 harg3 arg4 harg4 arg5 harg5 arg6 harg6 arg7 harg7 arg8 harg8 arg9 harg9 arg10 harg10 arg11 harg11 := by
  sl_kernel_rfl

end Cert.KernelIdeal.Gen

end
-- ==== Proof.QuantRun.lean ====
/- What a run of pieces leaves in the buffers it writes: block by block, the values the pieces store. -/
module

public import proofs.«01_k».proof.Proof.QuantBody
public import Idealize.ShloMosaic.Lib.Pipeline.Value
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## What the pieces store, by place -/

/-- The block maxima of half a unit of a block of inputs. -/
def halfV (x : Vec F S1024x512 .bf16) (u : Fin 8) (h : Fin 2) : FVec F S16x128 .f32 :=
  mergeTree (View.ld (Val := Elt F) x (rH u h 0)) (View.ld (Val := Elt F) x (rH u h 1)) (View.ld (Val := Elt F) x (rH u h 2))
    (View.ld (Val := Elt F) x (rH u h 3)) (View.ld (Val := Elt F) x (rH u h 4)) (View.ld (Val := Elt F) x (rH u h 5))
    (View.ld (Val := Elt F) x (rH u h 6)) (View.ld (Val := Elt F) x (rH u h 7)) (View.ld (Val := Elt F) x (rH u h 8))
    (View.ld (Val := Elt F) x (rH u h 9)) (View.ld (Val := Elt F) x (rH u h 10)) (View.ld (Val := Elt F) x (rH u h 11))
    (View.ld (Val := Elt F) x (rH u h 12)) (View.ld (Val := Elt F) x (rH u h 13)) (View.ld (Val := Elt F) x (rH u h 14))
    (View.ld (Val := Elt F) x (rH u h 15))

/-- The scales of a unit. -/
def sfU (g : F .f32) (x : Vec F S1024x512 .bf16) (u : Fin 8) : FVec F S32x128 .f32 := sfOf g (halfV x u 0) (halfV x u 1)

/-- The decoded values and the nibbles of a tile. -/
def decU (g : F .f32) (x : Vec F S1024x512 .bf16) (rb : Vec F S1024x512 .i32) (u : Fin 8) (i : Fin 16) : FVec F S32x128 .bf16 :=
  decV (View.ld (Val := Elt F) x (rT u i)) (View.ld (Val := Elt F) rb (rT u i)) (r4Of g (sfU g x u)) (s64Of (sfU g x u)) i.val
def nibU (g : F .f32) (x : Vec F S1024x512 .bf16) (rb : Vec F S1024x512 .i32) (u : Fin 8) (i : Fin 16) : IVec S8x128 32 :=
  nibV (View.ld (Val := Elt F) x (rT u i)) (View.ld (Val := Elt F) rb (rT u i)) (r4Of g (sfU g x u)) i.val
def codU (g : F .f32) (x : Vec F S1024x512 .bf16) (rb : Vec F S1024x512 .i32) (u : Fin 8) (p : Fin 8) : IVec S32x128 8 :=
  packV (nibU g x rb u (t0 p)) (nibU g x rb u (t1 p))

/-- The scales of a chunk, and one group of them as stored. -/
def stU (g : F .f32) (x : Vec F S1024x512 .bf16) (c : Fin 2) : FVec F S128x128 .f32 :=
  stV (sfU g x ⟨4 * c.val, by omega⟩) (sfU g x ⟨4 * c.val + 1, by omega⟩) (sfU g x ⟨4 * c.val + 2, by omega⟩) (sfU g x ⟨4 * c.val + 3, by omega⟩)
def sl4 (st : FVec F S128x128 .f32) (r : Fin 4) : FVec F S32x128 .f32 := match r with
  | 0 => extractStridedSlice S32x128 ![0, 0] st slices_S128x128_o0_0_S32x128
  | 1 => extractStridedSlice S32x128 ![32, 0] st slices_S128x128_o32_0_S32x128
  | 2 => extractStridedSlice S32x128 ![64, 0] st slices_S128x128_o64_0_S32x128
  | 3 => extractStridedSlice S32x128 ![96, 0] st slices_S128x128_o96_0_S32x128

/-- The unit and the tile of a place in a block, and its place in the tile. -/
def unitA (y : S1024x512.Idx) : Fin 8 := ⟨(y 0).val / 512 * 4 + (y 0).val % 128 / 32, by have h : (y 0).val < 1024 := (y 0).isLt; omega⟩
def tileA (y : S1024x512.Idx) : Fin 16 :=
  ⟨(y 0).val % 512 / 128 * 4 + (y 1).val / 128, by have h : (y 1).val < 512 := (y 1).isLt; omega⟩
def locA (y : S1024x512.Idx) : S32x128.Idx := fun a => match a with
  | ⟨0, _⟩ => ⟨(y 0).val % 32, Nat.mod_lt _ (by decide)⟩
  | ⟨1, _⟩ => ⟨(y 1).val % 128, Nat.mod_lt _ (by decide)⟩
def unitC (y : S1024x256.Idx) : Fin 8 := ⟨(y 0).val / 512 * 4 + (y 0).val % 128 / 32, by have h : (y 0).val < 1024 := (y 0).isLt; omega⟩
def pairC (y : S1024x256.Idx) : Fin 8 :=
  ⟨(y 0).val % 512 / 128 * 2 + (y 1).val / 128, by have h : (y 1).val < 256 := (y 1).isLt; omega⟩
def locC (y : S1024x256.Idx) : S32x128.Idx := fun a => match a with
  | ⟨0, _⟩ => ⟨(y 0).val % 32, Nat.mod_lt _ (by decide)⟩
  | ⟨1, _⟩ => ⟨(y 1).val % 128, Nat.mod_lt _ (by decide)⟩
def chunkS (y : S1x32x1024.Idx) : Fin 2 := ⟨(y 2).val / 512, by have h : (y 2).val < 1024 := (y 2).isLt; omega⟩
def groupS (y : S1x32x1024.Idx) : Fin 4 := ⟨(y 2).val % 512 / 128, by omega⟩
def locS (y : S1x32x1024.Idx) : S1x32x128.Idx := fun a => match a with
  | ⟨0, _⟩ => ⟨0, Nat.one_pos⟩
  | ⟨1, _⟩ => ⟨(y 1).val, (y 1).isLt⟩
  | ⟨2, _⟩ => ⟨(y 2).val % 128, Nat.mod_lt _ (by decide)⟩
def tileD (y : S1024x3584.Idx) : Fin 14 :=
  ⟨(y 1).val / 512 * 2 + (y 0).val / 512, by have h : (y 0).val < 1024 := (y 0).isLt; have h : (y 1).val < 3584 := (y 1).isLt; omega⟩
def locD (y : S1024x3584.Idx) : S512x512.Idx := fun a => match a with
  | ⟨0, _⟩ => ⟨(y 0).val % 512, Nat.mod_lt _ (by decide)⟩
  | ⟨1, _⟩ => ⟨(y 1).val % 512, Nat.mod_lt _ (by decide)⟩

/-- The operand block of a block of inputs: every element decoded. -/
def aOf (g : F .f32) (x : Vec F S1024x512 .bf16) (rb : Vec F S1024x512 .i32) : Vec F S1024x512 .bf16 := fun y =>
  decU g x rb (unitA y) (tileA y) (locA y)
/-- The codes of a block of inputs. -/
def cOf (g : F .f32) (x : Vec F S1024x512 .bf16) (rb : Vec F S1024x512 .i32) : Vec F S1024x256 .i8 := fun y =>
  codU g x rb (unitC y) (pairC y) (locC y)
/-- The scales of a block of inputs. -/
def sOf (g : F .f32) (x : Vec F S1024x512 .bf16) : Vec F S1x32x1024 .fp8e4m3 := fun y =>
  sc1V (sl4 (stU g x (chunkS y)) (groupS y)) (locS y)
/-- The accumulator after a step. -/
def tileU (first : BitVec 1) (a : Vec F S1024x512 .bf16) (w : Vec F S256x3584 .i32) (d : Vec F S1024x3584 .f32) (j : Fin 14) : FVec F S512x512 .f32 :=
  tile first (View.ld (Val := Elt F) a (rA j)) (View.ld (Val := Elt F) w (rW j)) (View.ld (Val := Elt F) d (rD j))
def accStep (first : BitVec 1) (a : Vec F S1024x512 .bf16) (w : Vec F S256x3584 .i32) (d : Vec F S1024x3584 .f32) : Vec F S1024x3584 .f32 := fun y =>
  tileU first a w d (tileD y) (locD y)

/-! ## Where the rectangles lie -/

theorem embT (u : Fin 8) (i : Fin 16) (j : S32x128.Idx) :
    unitA ((rT u i).emb j) = u ∧ tileA ((rT u i).emb j) = i ∧ locA ((rT u i).emb j) = j := by
  have h0 : (j 0).val < 32 := (j 0).isLt
  have h1 : (j 1).val < 128 := (j 1).isLt
  have hu := u.isLt; have hi := i.isLt
  have e0 : ((rT u i).emb j 0).val = (u.val / 4 * 512 + i.val / 4 * 128 + u.val % 4 * 32) + 1 * (j 0).val := rfl
  have e1 : ((rT u i).emb j 1).val = i.val % 4 * 128 + 1 * (j 1).val := rfl
  refine ⟨Fin.ext ?_, Fin.ext ?_, funext fun b => Fin.ext ?_⟩
  · show ((rT u i).emb j 0).val / 512 * 4 + ((rT u i).emb j 0).val % 128 / 32 = _; rw [e0]; omega
  · show ((rT u i).emb j 0).val % 512 / 128 * 4 + ((rT u i).emb j 1).val / 128 = _; rw [e0, e1]; omega
  · match b with
    | ⟨0, _⟩ => show ((rT u i).emb j 0).val % 32 = (j 0).val; rw [e0]; omega
    | ⟨1, _⟩ => show ((rT u i).emb j 1).val % 128 = (j 1).val; rw [e1]; omega
theorem embC (u : Fin 8) (p : Fin 8) (j : S32x128.Idx) :
    unitC ((rC u p).emb j) = u ∧ pairC ((rC u p).emb j) = p ∧ locC ((rC u p).emb j) = j := by
  have h0 : (j 0).val < 32 := (j 0).isLt
  have h1 : (j 1).val < 128 := (j 1).isLt
  have hu := u.isLt; have hi := p.isLt
  have e0 : ((rC u p).emb j 0).val = (u.val / 4 * 512 + p.val / 2 * 128 + u.val % 4 * 32) + 1 * (j 0).val := rfl
  have e1 : ((rC u p).emb j 1).val = p.val % 2 * 128 + 1 * (j 1).val := rfl
  refine ⟨Fin.ext ?_, Fin.ext ?_, funext fun b => Fin.ext ?_⟩
  · show ((rC u p).emb j 0).val / 512 * 4 + ((rC u p).emb j 0).val % 128 / 32 = _; rw [e0]; omega
  · show ((rC u p).emb j 0).val % 512 / 128 * 2 + ((rC u p).emb j 1).val / 128 = _; rw [e0, e1]; omega
  · match b with
    | ⟨0, _⟩ => show ((rC u p).emb j 0).val % 32 = (j 0).val; rw [e0]; omega
    | ⟨1, _⟩ => show ((rC u p).emb j 1).val % 128 = (j 1).val; rw [e1]; omega
theorem embS (c : Fin 2) (r : Fin 4) (j : S1x32x128.Idx) :
    chunkS ((rS c r).emb j) = c ∧ groupS ((rS c r).emb j) = r ∧ locS ((rS c r).emb j) = j := by
  have h0 : (j 0).val < 1 := (j 0).isLt
  have h1 : (j 1).val < 32 := (j 1).isLt
  have h2 : (j 2).val < 128 := (j 2).isLt
  have hu := c.isLt; have hi := r.isLt
  have e1 : ((rS c r).emb j 1).val = 0 + 1 * (j 1).val := rfl
  have e2 : ((rS c r).emb j 2).val = c.val * 512 + r.val * 128 + 1 * (j 2).val := rfl
  refine ⟨Fin.ext ?_, Fin.ext ?_, funext fun b => Fin.ext ?_⟩
  · show ((rS c r).emb j 2).val / 512 = _; rw [e2]; omega
  · show ((rS c r).emb j 2).val % 512 / 128 = _; rw [e2]; omega
  · match b with
    | ⟨0, _⟩ => show 0 = (j 0).val; omega
    | ⟨1, _⟩ => show ((rS c r).emb j 1).val = (j 1).val; rw [e1]; omega
    | ⟨2, _⟩ => show ((rS c r).emb j 2).val % 128 = (j 2).val; rw [e2]; omega
theorem embD (k : Fin 14) (j : S512x512.Idx) : tileD ((rD k).emb j) = k ∧ locD ((rD k).emb j) = j := by
  have h0 : (j 0).val < 512 := (j 0).isLt
  have h1 : (j 1).val < 512 := (j 1).isLt
  have hu := k.isLt
  have e0 : ((rD k).emb j 0).val = k.val % 2 * 512 + 1 * (j 0).val := rfl
  have e1 : ((rD k).emb j 1).val = k.val / 2 * 512 + 1 * (j 1).val := rfl
  refine ⟨Fin.ext ?_, funext fun b => Fin.ext ?_⟩
  · show ((rD k).emb j 1).val / 512 * 2 + ((rD k).emb j 0).val / 512 = _; rw [e0, e1]; omega
  · match b with
    | ⟨0, _⟩ => show ((rD k).emb j 0).val % 512 = (j 0).val; rw [e0]; omega
    | ⟨1, _⟩ => show ((rD k).emb j 1).val % 512 = (j 1).val; rw [e1]; omega

/-- A place lies in the tile of its unit and tile number. -/
theorem placeT (y : S1024x512.Idx) : (rT (unitA y) (tileA y)).emb (locA y) = y := by
  have h0 : (y 0).val < 1024 := (y 0).isLt
  have h1 : (y 1).val < 512 := (y 1).isLt
  funext b; apply Fin.ext
  match b with
  | ⟨0, _⟩ =>
    show (((y 0).val / 512 * 4 + (y 0).val % 128 / 32) / 4 * 512 + ((y 0).val % 512 / 128 * 4 + (y 1).val / 128) / 4 * 128
      + ((y 0).val / 512 * 4 + (y 0).val % 128 / 32) % 4 * 32) + 1 * ((y 0).val % 32) = (y 0).val
    omega
  | ⟨1, _⟩ =>
    show ((y 0).val % 512 / 128 * 4 + (y 1).val / 128) % 4 * 128 + 1 * ((y 1).val % 128) = (y 1).val
    omega
theorem placeC (y : S1024x256.Idx) : (rC (unitC y) (pairC y)).emb (locC y) = y := by
  have h0 : (y 0).val < 1024 := (y 0).isLt
  have h1 : (y 1).val < 256 := (y 1).isLt
  funext b; apply Fin.ext
  match b with
  | ⟨0, _⟩ =>
    show (((y 0).val / 512 * 4 + (y 0).val % 128 / 32) / 4 * 512 + ((y 0).val % 512 / 128 * 2 + (y 1).val / 128) / 2 * 128
      + ((y 0).val / 512 * 4 + (y 0).val % 128 / 32) % 4 * 32) + 1 * ((y 0).val % 32) = (y 0).val
    omega
  | ⟨1, _⟩ =>
    show ((y 0).val % 512 / 128 * 2 + (y 1).val / 128) % 2 * 128 + 1 * ((y 1).val % 128) = (y 1).val
    omega
theorem placeS (y : S1x32x1024.Idx) : (rS (chunkS y) (groupS y)).emb (locS y) = y := by
  have h0 : (y 0).val < 1 := (y 0).isLt
  have h2 : (y 2).val < 1024 := (y 2).isLt
  funext b; apply Fin.ext
  match b with
  | ⟨0, _⟩ => show 0 + 1 * 0 = (y 0).val; omega
  | ⟨1, _⟩ => show 0 + 1 * (y 1).val = (y 1).val; omega
  | ⟨2, _⟩ => show (y 2).val / 512 * 512 + (y 2).val % 512 / 128 * 128 + 1 * ((y 2).val % 128) = (y 2).val; omega
theorem placeD (y : S1024x3584.Idx) : (rD (tileD y)).emb (locD y) = y := by
  have h0 : (y 0).val < 1024 := (y 0).isLt
  have h1 : (y 1).val < 3584 := (y 1).isLt
  funext b; apply Fin.ext
  match b with
  | ⟨0, _⟩ => show ((y 1).val / 512 * 2 + (y 0).val / 512) % 2 * 512 + 1 * ((y 0).val % 512) = (y 0).val; omega
  | ⟨1, _⟩ => show ((y 1).val / 512 * 2 + (y 0).val / 512) / 2 * 512 + 1 * ((y 1).val % 512) = (y 1).val; omega

theorem mem_rT (u : Fin 8) (i : Fin 16) (y : S1024x512.Idx) : y ∈ (rT u i).set ↔ unitA y = u ∧ tileA y = i := by
  constructor
  · intro h; obtain ⟨j, rfl⟩ := (rT u i).exists_idx_of_mem h
    exact ⟨(embT u i j).1, (embT u i j).2.1⟩
  · rintro ⟨rfl, rfl⟩; rw [← Rect.map_emb_univ, Finset.mem_map]; exact ⟨locA y, Finset.mem_univ _, placeT y⟩
theorem mem_rC (u : Fin 8) (p : Fin 8) (y : S1024x256.Idx) : y ∈ (rC u p).set ↔ unitC y = u ∧ pairC y = p := by
  constructor
  · intro h; obtain ⟨j, rfl⟩ := (rC u p).exists_idx_of_mem h
    exact ⟨(embC u p j).1, (embC u p j).2.1⟩
  · rintro ⟨rfl, rfl⟩; rw [← Rect.map_emb_univ, Finset.mem_map]; exact ⟨locC y, Finset.mem_univ _, placeC y⟩
theorem mem_rS (c : Fin 2) (r : Fin 4) (y : S1x32x1024.Idx) : y ∈ (rS c r).set ↔ chunkS y = c ∧ groupS y = r := by
  constructor
  · intro h; obtain ⟨j, rfl⟩ := (rS c r).exists_idx_of_mem h
    exact ⟨(embS c r j).1, (embS c r j).2.1⟩
  · rintro ⟨rfl, rfl⟩; rw [← Rect.map_emb_univ, Finset.mem_map]; exact ⟨locS y, Finset.mem_univ _, placeS y⟩
theorem mem_rD (k : Fin 14) (y : S1024x3584.Idx) : y ∈ (rD k).set ↔ tileD y = k := by
  constructor
  · intro h; obtain ⟨j, rfl⟩ := (rD k).exists_idx_of_mem h
    exact (embD k j).1
  · rintro rfl; rw [← Rect.map_emb_univ, Finset.mem_map]; exact ⟨locD y, Finset.mem_univ _, placeD y⟩

theorem aOf_emb (g : F .f32) (x : Vec F S1024x512 .bf16) (rb : Vec F S1024x512 .i32) (u : Fin 8) (i : Fin 16) (j : S32x128.Idx) :
    aOf g x rb ((rT u i).emb j) = decU g x rb u i j := by
  obtain ⟨h1, h2, h3⟩ := embT u i j
  show decU g x rb (unitA _) (tileA _) (locA _) = _; rw [h1, h2, h3]
theorem cOf_emb (g : F .f32) (x : Vec F S1024x512 .bf16) (rb : Vec F S1024x512 .i32) (u : Fin 8) (p : Fin 8) (j : S32x128.Idx) :
    cOf g x rb ((rC u p).emb j) = codU g x rb u p j := by
  obtain ⟨h1, h2, h3⟩ := embC u p j
  show codU g x rb (unitC _) (pairC _) (locC _) = _; rw [h1, h2, h3]
theorem sOf_emb (g : F .f32) (x : Vec F S1024x512 .bf16) (c : Fin 2) (r : Fin 4) (j : S1x32x128.Idx) :
    sOf g x ((rS c r).emb j) = sc1V (sl4 (stU g x c) r) j := by
  obtain ⟨h1, h2, h3⟩ := embS c r j
  show sc1V (sl4 (stU g x (chunkS _)) (groupS _)) (locS _) = _; rw [h1, h2, h3]
theorem accStep_emb (first : BitVec 1) (a : Vec F S1024x512 .bf16) (w : Vec F S256x3584 .i32) (d : Vec F S1024x3584 .f32) (k : Fin 14) (j : S512x512.Idx) :
    accStep first a w d ((rD k).emb j) = tileU first a w d k j := by
  obtain ⟨h1, h2⟩ := embD k j
  show tileU first a w d (tileD _) (locD _) = _; rw [h1, h2]

/-! ## Buffers filled by parts -/

open Classical in
/-- Contents that are `T` where `P` holds and `x` elsewhere. -/
def mix {s : Shape} {α : Type} (P : s.Idx → Prop) (T x : s.Idx → α) : s.Idx → α := fun y => if P y then T y else x y

theorem mix_true {s : Shape} {α : Type} {P : s.Idx → Prop} {T x : s.Idx → α} (h : ∀ y, P y) : mix P T x = T :=
  funext fun y => if_pos (h y)
theorem mix_false {s : Shape} {α : Type} {P : s.Idx → Prop} {T x : s.Idx → α} (h : ∀ y, ¬P y) : mix P T x = x :=
  funext fun y => if_neg (h y)
theorem mix_congr {s : Shape} {α : Type} {P P' : s.Idx → Prop} {T x : s.Idx → α} (h : ∀ y, P y ↔ P' y) : mix P T x = mix P' T x := by
  rw [show P = P' from funext fun y => propext (h y)]

variable (c : Dev nD) (E : Set ℕ)

/-- A load reads the contents through its rectangle. -/
theorem wp_ldr {α : Type} {Q : α → sProp 𝕄} {sp : CoreSpace} {s : Shape} {e : EltTy} {m : Memref sig .tc sp s e} {r : Rect s}
    {hl : m.view.LoadsAt r.toLoadRect} {k : (r.shape.Idx → Elt F e) → Prog (TpuEff nD τ sig (Elt F) Λ₀ .tc) α} {x : s.Idx → Elt F e} :
    owns (c : Thread nD τ) m fullShare x
      ⊢ iprop((owns (c : Thread nD τ) m fullShare x -∗ wp frame (wpE (defs₀ (F := F)) Variants.none c none) E (k (View.ld (Val := Elt F) x r)) Q)
        -∗ wp frame (wpE (defs₀ (F := F)) Variants.none c none) E (.op (.load m r.toLoadRect hl) k) Q) := by
  unfold owns
  iintro ⟨%f, %hf, H⟩ Hk
  subst hf
  iapply (wp_load Variants.none (c : Thread nD τ) none E (hl := hl) (k := k) (f := f) (S := m.view.set) (View.setOn_subset_set _ _)) $$ H
  iintro H
  iapply Hk
  iexists f; isplitr; · ipureintro; rfl
  iexact H

/-- A store of a part of the target. -/
theorem wp_str {α : Type} {Q : α → sProp 𝕄} {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {P P' : s.Idx → Prop} {T x : s.Idx → Elt F e}
    (hw : ∀ j, w j = T (r.emb j)) (hP : ∀ y, P' y ↔ y ∈ r.set ∨ P y) :
    owns (c : Thread nD τ) m fullShare (mix P T x)
      ⊢ iprop((owns (c : Thread nD τ) m fullShare (mix P' T x) -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩ Hk
  iapply (wp_store Variants.none (c : Thread nD τ) none E (w := w) (hx := hx) (hm := hm) (k := k) (f := f) (S := m.view.set)
    ((View.setOn_subset_set _ _).trans (View.set_slice_subset _ _))) $$ H
  iintro H
  iapply Hk
  iexists _; isplitr
  swap; · iexact H
  ipureintro
  funext y
  by_cases hy : y ∈ r.set
  · obtain ⟨j, rfl⟩ := r.exists_idx_of_mem hy
    rw [show mix P' T x (r.idx j) = T (r.idx j) from if_pos ((hP _).2 (Or.inl hy))]
    exact (View.read_slice_write_emb (v := m.view) r f w (Finset.mem_univ j)).trans (hw j)
  · rw [show m.view.read (Elt F) ((m.access r).write (Elt F) f w Finset.univ) y = m.view.read (Elt F) f y from
      View.read_slice_write_of_not_mem (v := m.view) r f w Finset.univ (by rw [Rect.map_emb_univ]; exact hy), hf]
    by_cases hp : P y
    · rw [show mix P T x y = T y from if_pos hp, show mix P' T x y = T y from if_pos ((hP y).2 (Or.inr hp))]
    · rw [show mix P T x y = x y from if_neg hp, show mix P' T x y = x y from if_neg fun h => ((hP y).1 h).elim hy hp]

/-- A program that has ended. -/
theorem wp_end {α : Type} {Q : α → sProp 𝕄} {a : α} : Q a ⊢ wp frame (wpE (defs₀ (F := F)) Variants.none (c : Thread nD τ) none) E (.ret a) Q :=
  BI.fupd_intro

/-! ## The pieces -/

section Pieces

variable (arg3 : Memref sig .tc .vmem S1024x512 .bf16) (arg4 : Memref sig .tc .vmem S1024x512 .i32) (arg5 : Memref sig .tc .vmem S256x3584 .i32)
  (arg7 : Memref sig .tc .vmem S1024x256 .i8) (harg7 : arg7.IsWhole) (arg8 : Memref sig .tc .vmem S1x32x1024 .fp8e4m3) (harg8 : arg8.IsWhole)
  (an : Memref sig .tc .vmem S1024x512 .bf16) (han : an.IsWhole) (ao : Memref sig .tc .vmem S1024x512 .bf16) (arg11 : Memref sig .tc .vmem S1024x3584 .f32)
  (x3 : Vec F S1024x512 .bf16) (x4 : Vec F S1024x512 .i32) (x5 : Vec F S256x3584 .i32) (x7 : Vec F S1024x256 .i8) (x8 : Vec F S1x32x1024 .fp8e4m3)
  (xn xo : Vec F S1024x512 .bf16) (xa : Vec F S1024x3584 .f32) (g : F .f32) (first : BitVec 1)

theorem wp_half (u : Fin 8) (h : Fin 2) (K : FVec F S16x128 .f32 → sProp 𝕄) :
    owns (c : Thread nD τ) arg3 fullShare x3
      ⊢ iprop((owns (c : Thread nD τ) arg3 fullShare x3 -∗ K (halfV x3 u h))
        -∗ wp frame (wpE (defs₀ (F := F)) Variants.none c none) E (halfProg arg3 u h) K) := by
  unfold halfV
  iintro H Hk
  unfold halfProg ldH
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_ldr c E) $$ H; iintro H
  iapply (wp_end c E)
  iapply Hk
  iexact H

theorem wp_tile (u : Fin 8) (i : Fin 16) (P P' : S1024x512.Idx → Prop) (hP : ∀ y, P' y ↔ y ∈ (rT u i).set ∨ P y) (K : IVec S8x128 32 → sProp 𝕄) :
    iprop(owns (c : Thread nD τ) arg3 fullShare x3 ∗ owns (c : Thread nD τ) arg4 fullShare x4 ∗ owns (c : Thread nD τ) an fullShare (mix P (aOf g x3 x4) xn)
        ∗ (iprop(owns (c : Thread nD τ) arg3 fullShare x3 ∗ owns (c : Thread nD τ) arg4 fullShare x4
            ∗ owns (c : Thread nD τ) an fullShare (mix P' (aOf g x3 x4) xn)) -∗ K (nibU g x3 x4 u i)))
      ⊢ wp frame (wpE (defs₀ (F := F)) Variants.none c none) E (tileProg arg3 arg4 an han u i (r4Of g (sfU g x3 u)) (s64Of (sfU g x3 u))) K := by
  unfold nibU
  iintro ⟨H3, H4, HN, Hk⟩
  unfold tileProg
  iapply (wp_ldr c E) $$ H3; iintro H3
  iapply (wp_ldr c E) $$ H4; iintro H4
  iapply (wp_ldr c E) $$ HN; iintro HN
  iapply (wp_str c E (P := P) (P' := P') (T := aOf g x3 x4) (x := xn) (fun j => by rw [aOf_emb, shapeCast_self]; rfl) hP) $$ HN
  iintro HN
  iapply (wp_end c E)
  iapply Hk
  isplitl [H3]; · iexact H3
  isplitl [H4]; · iexact H4
  iexact HN

theorem wp_pair (u : Fin 8) (p : Fin 8) (P P' : S1024x512.Idx → Prop) (hP : ∀ y, P' y ↔ y ∈ (rT u (t1 p)).set ∨ (y ∈ (rT u (t0 p)).set ∨ P y))
    (R R' : S1024x256.Idx → Prop) (hR : ∀ y, R' y ↔ y ∈ (rC u p).set ∨ R y) (K : PUnit → sProp 𝕄) :
    iprop(owns (c : Thread nD τ) arg3 fullShare x3 ∗ owns (c : Thread nD τ) arg4 fullShare x4 ∗ owns (c : Thread nD τ) an fullShare (mix P (aOf g x3 x4) xn)
        ∗ owns (c : Thread nD τ) arg7 fullShare (mix R (cOf g x3 x4) x7)
        ∗ (iprop(owns (c : Thread nD τ) arg3 fullShare x3 ∗ owns (c : Thread nD τ) arg4 fullShare x4
            ∗ owns (c : Thread nD τ) an fullShare (mix P' (aOf g x3 x4) xn)
            ∗ owns (c : Thread nD τ) arg7 fullShare (mix R' (cOf g x3 x4) x7)) -∗ K ⟨⟩))
      ⊢ wp frame (wpE (defs₀ (F := F)) Variants.none c none) E
          (pairProg arg3 arg4 arg7 harg7 an han u p (r4Of g (sfU g x3 u)) (s64Of (sfU g x3 u))) K := by
  iintro ⟨H3, H4, HN, H7, Hk⟩
  unfold pairProg
  rw [wp_bind]
  iapply (wp_tile c E arg3 arg4 an han x3 x4 xn g u (t0 p) P (fun y => y ∈ (rT u (t0 p)).set ∨ P y) (fun y => Iff.rfl))
  isplitl [H3]; · iexact H3
  isplitl [H4]; · iexact H4
  isplitl [HN]; · iexact HN
  iintro ⟨H3, H4, HN⟩
  rw [wp_bind]
  iapply (wp_tile c E arg3 arg4 an han x3 x4 xn g u (t1 p) _ P' hP)
  isplitl [H3]; · iexact H3
  isplitl [H4]; · iexact H4
  isplitl [HN]; · iexact HN
  iintro ⟨H3, H4, HN⟩
  iapply (wp_ldr c E) $$ H7; iintro H7
  iapply (wp_str c E (P := R) (P' := R') (T := cOf g x3 x4) (x := x7) (fun j => by rw [cOf_emb]; rfl) hR) $$ H7
  iintro H7
  iapply (wp_end c E)
  iapply Hk
  isplitl [H3]; · iexact H3
  isplitl [H4]; · iexact H4
  isplitl [HN]; · iexact HN
  iexact H7

theorem wp_scl1 (k : Fin 2) (r : Fin 4) (v : FVec F S32x128 .f32) (hv : v = sl4 (stU g x3 k) r) (R R' : S1x32x1024.Idx → Prop)
    (hR : ∀ y, R' y ↔ y ∈ (rS k r).set ∨ R y) (K : PUnit → sProp 𝕄) :
    owns (c : Thread nD τ) arg8 fullShare (mix R (sOf g x3) x8)
      ⊢ iprop((owns (c : Thread nD τ) arg8 fullShare (mix R' (sOf g x3) x8) -∗ K ⟨⟩)
        -∗ wp frame (wpE (defs₀ (F := F)) Variants.none c none) E (sclProg1 arg8 harg8 k r v) K) := by
  subst hv
  iintro H Hk
  unfold sclProg1
  iapply (wp_ldr c E) $$ H; iintro H
  iapply (wp_str c E (P := R) (P' := R') (T := sOf g x3) (x := x8) (fun j => by rw [sOf_emb]) hR) $$ H
  iintro H
  iapply (wp_end c E)
  iapply Hk
  iexact H

theorem wp_scl (k : Fin 2) (R R' : S1x32x1024.Idx → Prop) (hR : ∀ y, R' y ↔ chunkS y = k ∨ R y) (K : PUnit → sProp 𝕄) :
    owns (c : Thread nD τ) arg8 fullShare (mix R (sOf g x3) x8)
      ⊢ iprop((owns (c : Thread nD τ) arg8 fullShare (mix R' (sOf g x3) x8) -∗ K ⟨⟩)
        -∗ wp frame (wpE (defs₀ (F := F)) Variants.none c none) E (sclProg arg8 harg8 k (stU g x3 k)) K) := by
  iintro H Hk
  unfold sclProg
  rw [wp_bind]
  iapply (wp_scl1 c E arg8 harg8 x3 x8 g k 0 _ rfl R (fun y => y ∈ (rS k 0).set ∨ R y) (fun y => Iff.rfl)) $$ H
  iintro H
  rw [wp_bind]
  iapply (wp_scl1 c E arg8 harg8 x3 x8 g k 1 _ rfl _ (fun y => y ∈ (rS k 1).set ∨ (y ∈ (rS k 0).set ∨ R y)) (fun y => Iff.rfl)) $$ H
  iintro H
  rw [wp_bind]
  iapply (wp_scl1 c E arg8 harg8 x3 x8 g k 2 _ rfl _ (fun y => y ∈ (rS k 2).set ∨ (y ∈ (rS k 1).set ∨ (y ∈ (rS k 0).set ∨ R y))) (fun y => Iff.rfl)) $$ H
  iintro H
  iapply (wp_scl1 c E arg8 harg8 x3 x8 g k 3 _ rfl _ R' (fun y => by
    rw [hR]
    simp only [mem_rS]
    have hh : groupS y = 3 ∨ groupS y = 2 ∨ groupS y = 1 ∨ groupS y = 0 := by
      generalize groupS y = q; revert q; decide
    tauto)) $$ H
  iexact Hk

theorem wp_mm (j : Fin 14) (R R' : S1024x3584.Idx → Prop) (hR : ∀ y, R' y ↔ y ∈ (rD j).set ∨ R y) (hn : ∀ y, y ∈ (rD j).set → ¬R y) (K : PUnit → sProp 𝕄) :
    iprop(owns (c : Thread nD τ) ao fullShare xo ∗ owns (c : Thread nD τ) arg5 fullShare x5
        ∗ owns (c : Thread nD τ) arg11 fullShare (mix R (accStep first xo x5 xa) xa)
        ∗ (iprop(owns (c : Thread nD τ) ao fullShare xo ∗ owns (c : Thread nD τ) arg5 fullShare x5
            ∗ owns (c : Thread nD τ) arg11 fullShare (mix R' (accStep first xo x5 xa) xa)) -∗ K ⟨⟩))
      ⊢ wp frame (wpE (defs₀ (F := F)) Variants.none c none) E (mmProg arg5 ao arg11 first j) K := by
  iintro ⟨HO, H5, HA, Hk⟩
  unfold mmProg
  iapply (wp_ldr c E) $$ HO; iintro HO
  iapply (wp_ldr c E) $$ H5; iintro H5
  iapply (wp_ldr c E) $$ HA; iintro HA
  iapply (wp_ldr c E) $$ HA; iintro HA
  have hd : View.ld (Val := Elt F) (mix R (accStep first xo x5 xa) xa) (rD j) = View.ld (Val := Elt F) xa (rD j) := by
    funext z
    exact if_neg (hn _ (by rw [← Rect.map_emb_univ, Finset.mem_map]; exact ⟨z, Finset.mem_univ _, rfl⟩))
  iapply (wp_str c E (P := R) (P' := R') (T := accStep first xo x5 xa) (x := xa) (fun z => by rw [accStep_emb, shapeCast_self, hd]; rfl) hR) $$ HA
  iintro HA
  iapply (wp_end c E)
  iapply Hk
  isplitl [HO]; · iexact HO
  isplitl [H5]; · iexact H5
  iexact HA

/-! ## The list -/

/-- The piece that stores each place. -/
def pieceA (y : S1024x512.Idx) : Piece := .pair (unitA y) ⟨(tileA y).val / 2, by have := (tileA y).isLt; omega⟩
def pieceC (y : S1024x256.Idx) : Piece := .pair (unitC y) (pairC y)
def pieceS (y : S1x32x1024.Idx) : Piece := .scl (chunkS y)
def pieceD (y : S1024x3584.Idx) : Piece := .mm (tileD y)

/-- What a piece needs done before it. -/
def okPiece (L : List Piece) : Piece → Prop
  | .half _ _ => True
  | .pair u _ => .half u 0 ∈ L ∧ .half u 1 ∈ L
  | .scl k => ∀ v : Fin 8, v.val / 4 = k.val → .half v 0 ∈ L ∧ .half v 1 ∈ L
  | .mm j => .mm j ∉ L

instance (L : List Piece) (q : Piece) : Decidable (okPiece L q) := by
  cases q <;> unfold okPiece <;> infer_instance

/-- The maxima handed on are those of the half units done. -/
def goodMax (L : List Piece) (s : Maxima F) : Prop := ∀ (u : Fin 8) (h : Fin 2), Piece.half u h ∈ L → s (2 * u.val + h.val) = halfV x3 u h

theorem sfAt_good {L : List Piece} {s : Maxima F} (hs : goodMax x3 L s) (u : Fin 8) (h0 : Piece.half u 0 ∈ L) (h1 : Piece.half u 1 ∈ L) :
    sfAt g s u.val = sfU g x3 u := by
  unfold sfAt sfU
  have e0 := hs u 0 h0; have e1 := hs u 1 h1
  rw [show 2 * u.val = 2 * u.val + (0 : Fin 2).val from rfl, e0]
  exact congrArg _ e1

/-- The buffers when the pieces of a list are done. -/
def bufs (L : List Piece) : sProp 𝕄 :=
  iprop(owns (c : Thread nD τ) arg3 fullShare x3 ∗ owns (c : Thread nD τ) arg4 fullShare x4 ∗ owns (c : Thread nD τ) arg5 fullShare x5
    ∗ owns (c : Thread nD τ) ao fullShare xo
    ∗ owns (c : Thread nD τ) an fullShare (mix (fun y => pieceA y ∈ L) (aOf g x3 x4) xn)
    ∗ owns (c : Thread nD τ) arg7 fullShare (mix (fun y => pieceC y ∈ L) (cOf g x3 x4) x7)
    ∗ owns (c : Thread nD τ) arg8 fullShare (mix (fun y => pieceS y ∈ L) (sOf g x3) x8)
    ∗ owns (c : Thread nD τ) arg11 fullShare (mix (fun y => pieceD y ∈ L) (accStep first xo x5 xa) xa))

theorem wp_exec (q : Piece) (L : List Piece) (s : Maxima F) (hs : goodMax x3 L s) (hq : okPiece L q) (K : Maxima F → sProp 𝕄) :
    iprop(bufs c arg3 arg4 arg5 arg7 arg8 an ao arg11 x3 x4 x5 x7 x8 xn xo xa g first L
        ∗ (∀ s', ⌜goodMax x3 (q :: L) s'⌝ -∗ bufs c arg3 arg4 arg5 arg7 arg8 an ao arg11 x3 x4 x5 x7 x8 xn xo xa g first (q :: L) -∗ K s'))
      ⊢ wp frame (wpE (defs₀ (F := F)) Variants.none c none) E (exec arg3 arg4 arg5 arg7 harg7 arg8 harg8 an han ao arg11 g first s q) K := by
  cases q with
  | half u h =>
    unfold bufs
    iintro ⟨⟨H3, H4, H5, HO, HN, H7, H8, HA⟩, Hk⟩
    unfold exec
    rw [wp_bind]
    iapply (wp_half c E arg3 x3 u h) $$ H3
    iintro H3
    rw [wp_pure]
    imodintro
    have hs' : goodMax x3 (Piece.half u h :: L) (fun k => cond (Nat.beq k (2 * u.val + h.val)) (halfV x3 u h) (s k)) := by
      intro u' h' hm
      by_cases he : u' = u ∧ h' = h
      · obtain ⟨rfl, rfl⟩ := he
        show cond (Nat.beq _ _) _ _ = _
        rw [Nat.beq_refl]; rfl
      · have hne : ¬ (2 * u'.val + h'.val = 2 * u.val + h.val) := by
          intro hh
          have := h'.isLt; have := h.isLt
          exact he ⟨Fin.ext (by omega), Fin.ext (by omega)⟩
        show cond (Nat.beq _ _) _ _ = _
        rw [show Nat.beq (2 * u'.val + h'.val) (2 * u.val + h.val) = false from Bool.eq_false_iff.2 fun hb => hne (Nat.eq_of_beq_eq_true hb)]
        refine hs u' h' ?_
        rcases List.mem_cons.1 hm with h1 | h1
        · exact absurd (by injection h1 with a b; exact ⟨a, b⟩) he
        · exact h1
    ispecialize Hk $$ %_ %hs'
    iapply Hk
    rw [mix_congr (P := fun y => pieceA y ∈ Piece.half u h :: L) (P' := fun y => pieceA y ∈ L) (fun y => by simp [pieceA]),
      mix_congr (P := fun y => pieceC y ∈ Piece.half u h :: L) (P' := fun y => pieceC y ∈ L) (fun y => by simp [pieceC]),
      mix_congr (P := fun y => pieceS y ∈ Piece.half u h :: L) (P' := fun y => pieceS y ∈ L) (fun y => by simp [pieceS]),
      mix_congr (P := fun y => pieceD y ∈ Piece.half u h :: L) (P' := fun y => pieceD y ∈ L) (fun y => by simp [pieceD])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA
  | pair u p =>
    unfold bufs
    iintro ⟨⟨H3, H4, H5, HO, HN, H7, H8, HA⟩, Hk⟩
    unfold exec
    rw [wp_bind, sfAt_good x3 g hs u hq.1 hq.2]
    iapply (wp_pair c E arg3 arg4 arg7 harg7 an han x3 x4 x7 xn g u p _ (fun y => pieceA y ∈ Piece.pair u p :: L) (fun y => by
        rw [mem_rT, mem_rT, List.mem_cons, ← _root_.or_assoc]
        refine or_congr ?_ Iff.rfl
        unfold pieceA t0 t1
        rw [Piece.pair.injEq, ← _root_.and_or_left]
        refine and_congr Iff.rfl ?_
        rw [Fin.ext_iff, Fin.ext_iff, Fin.ext_iff]
        show (tileA y).val / 2 = p.val ↔ (tileA y).val = 2 * p.val + 1 ∨ (tileA y).val = 2 * p.val
        omega)
      _ (fun y => pieceC y ∈ Piece.pair u p :: L) (fun y => by
        rw [mem_rC, List.mem_cons]
        refine or_congr ?_ Iff.rfl
        unfold pieceC
        rw [Piece.pair.injEq]))
    isplitl [H3]; · iexact H3
    isplitl [H4]; · iexact H4
    isplitl [HN]; · iexact HN
    isplitl [H7]; · iexact H7
    iintro ⟨H3, H4, HN, H7⟩
    rw [wp_pure]
    imodintro
    ispecialize Hk $$ %_ %(by
      intro u' h' hm
      refine hs u' h' ?_
      rcases List.mem_cons.1 hm with h1 | h1
      · cases h1
      · exact h1)
    iapply Hk
    rw [mix_congr (P := fun y => pieceS y ∈ Piece.pair u p :: L) (P' := fun y => pieceS y ∈ L) (fun y => by simp [pieceS]),
      mix_congr (P := fun y => pieceD y ∈ Piece.pair u p :: L) (P' := fun y => pieceD y ∈ L) (fun y => by simp [pieceD])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA
  | scl k =>
    unfold bufs
    iintro ⟨⟨H3, H4, H5, HO, HN, H7, H8, HA⟩, Hk⟩
    unfold exec
    have hk := k.isLt
    have e (n : ℕ) (hn : n < 8) (hd : n / 4 = k.val) : sfAt g s n = sfU g x3 ⟨n, hn⟩ :=
      sfAt_good x3 g hs ⟨n, hn⟩ (hq ⟨n, hn⟩ hd).1 (hq ⟨n, hn⟩ hd).2
    rw [wp_bind, e (4 * k.val) (by omega) (by omega), e (4 * k.val + 1) (by omega) (by omega), e (4 * k.val + 2) (by omega) (by omega),
      e (4 * k.val + 3) (by omega) (by omega)]
    iapply (wp_scl c E arg8 harg8 x3 x8 g k _ (fun y => pieceS y ∈ Piece.scl k :: L) (fun y => by
        rw [List.mem_cons]
        refine or_congr ?_ Iff.rfl
        unfold pieceS
        rw [Piece.scl.injEq])) $$ H8
    iintro H8
    rw [wp_pure]
    imodintro
    ispecialize Hk $$ %_ %(by
      intro u' h' hm
      refine hs u' h' ?_
      rcases List.mem_cons.1 hm with h1 | h1
      · cases h1
      · exact h1)
    iapply Hk
    rw [mix_congr (P := fun y => pieceA y ∈ Piece.scl k :: L) (P' := fun y => pieceA y ∈ L) (fun y => by simp [pieceA]),
      mix_congr (P := fun y => pieceC y ∈ Piece.scl k :: L) (P' := fun y => pieceC y ∈ L) (fun y => by simp [pieceC]),
      mix_congr (P := fun y => pieceD y ∈ Piece.scl k :: L) (P' := fun y => pieceD y ∈ L) (fun y => by simp [pieceD])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA
  | mm j =>
    unfold bufs
    iintro ⟨⟨H3, H4, H5, HO, HN, H7, H8, HA⟩, Hk⟩
    unfold exec
    rw [wp_bind]
    iapply (wp_mm c E arg5 ao arg11 x5 xo xa first j _ (fun y => pieceD y ∈ Piece.mm j :: L) (fun y => by
        rw [mem_rD, List.mem_cons]
        refine or_congr ?_ Iff.rfl
        unfold pieceD
        rw [Piece.mm.injEq]) (fun y hy => by
        rw [mem_rD] at hy
        unfold pieceD; rw [hy]; exact hq))
    isplitl [HO]; · iexact HO
    isplitl [H5]; · iexact H5
    isplitl [HA]; · iexact HA
    iintro ⟨HO, H5, HA⟩
    rw [wp_pure]
    imodintro
    ispecialize Hk $$ %_ %(by
      intro u' h' hm
      refine hs u' h' ?_
      rcases List.mem_cons.1 hm with h1 | h1
      · cases h1
      · exact h1)
    iapply Hk
    rw [mix_congr (P := fun y => pieceA y ∈ Piece.mm j :: L) (P' := fun y => pieceA y ∈ L) (fun y => by simp [pieceA]),
      mix_congr (P := fun y => pieceC y ∈ Piece.mm j :: L) (P' := fun y => pieceC y ∈ L) (fun y => by simp [pieceC]),
      mix_congr (P := fun y => pieceS y ∈ Piece.mm j :: L) (P' := fun y => pieceS y ∈ L) (fun y => by simp [pieceS])]
    isplitl [H3]; · iexact H3
    isplitl [H4]; · iexact H4
    isplitl [H5]; · iexact H5
    isplitl [HO]; · iexact HO
    isplitl [HN]; · iexact HN
    isplitl [H7]; · iexact H7
    isplitl [H8]; · iexact H8
    iexact HA

/-- What a list needs done before it. -/
def okList : List Piece → List Piece → Prop
  | _, [] => True
  | L, q :: R => okPiece L q ∧ okList (q :: L) R

instance okListDec : (L R : List Piece) → Decidable (okList L R)
  | _, [] => isTrue trivial
  | L, q :: R => @instDecidableAnd _ _ _ (okListDec (q :: L) R)

theorem wp_run (R : List Piece) : ∀ (L : List Piece) (s : Maxima F) (hs : goodMax x3 L s) (hq : okList L R) (K : PUnit → sProp 𝕄),
    iprop(bufs c arg3 arg4 arg5 arg7 arg8 an ao arg11 x3 x4 x5 x7 x8 xn xo xa g first L
        ∗ (bufs c arg3 arg4 arg5 arg7 arg8 an ao arg11 x3 x4 x5 x7 x8 xn xo xa g first (R.reverse ++ L) -∗ K ⟨⟩))
      ⊢ wp frame (wpE (defs₀ (F := F)) Variants.none c none) E (run arg3 arg4 arg5 arg7 harg7 arg8 harg8 an han ao arg11 g first R s) K := by
  induction R with
  | nil =>
    intro L s hs hq K
    iintro ⟨H, Hk⟩
    unfold run
    rw [wp_pure]
    imodintro
    iapply Hk
    iexact H
  | cons q R ih =>
    intro L s hs hq K
    iintro ⟨H, Hk⟩
    unfold run
    rw [wp_bind]
    iapply (wp_exec c E arg3 arg4 arg5 arg7 harg7 arg8 harg8 an han ao arg11 x3 x4 x5 x7 x8 xn xo xa g first q L s hs hq.1)
    isplitl [H]; · iexact H
    iintro %s' %hs' H
    iapply (ih (q :: L) s' hs' hq.2)
    isplitl [H]; · iexact H
    rw [List.reverse_cons, List.append_assoc]
    iexact Hk

end Pieces

theorem fill_ok : okList [] fillList := by decide
theorem step_ok : okList [] stepList := by decide
theorem pair_fill (u p : Fin 8) : Piece.pair u p ∈ fillList.reverse ++ [] := by revert u p; decide
theorem scl_fill (k : Fin 2) : Piece.scl k ∈ fillList.reverse ++ [] := by revert k; decide
theorem mm_fill (j : Fin 14) : Piece.mm j ∉ fillList.reverse ++ [] := by revert j; decide
theorem pair_step (u p : Fin 8) : Piece.pair u p ∈ stepList.reverse ++ [] := by revert u p; decide
theorem scl_step (k : Fin 2) : Piece.scl k ∈ stepList.reverse ++ [] := by revert k; decide
theorem mm_step (j : Fin 14) : Piece.mm j ∈ stepList.reverse ++ [] := by revert j; decide

section Whole

variable (arg3 : Memref sig .tc .vmem S1024x512 .bf16) (arg4 : Memref sig .tc .vmem S1024x512 .i32) (arg5 : Memref sig .tc .vmem S256x3584 .i32)
  (arg7 : Memref sig .tc .vmem S1024x256 .i8) (harg7 : arg7.IsWhole) (arg8 : Memref sig .tc .vmem S1x32x1024 .fp8e4m3) (harg8 : arg8.IsWhole)
  (an : Memref sig .tc .vmem S1024x512 .bf16) (han : an.IsWhole) (ao : Memref sig .tc .vmem S1024x512 .bf16) (arg11 : Memref sig .tc .vmem S1024x3584 .f32)
  (x3 : Vec F S1024x512 .bf16) (x4 : Vec F S1024x512 .i32) (x5 : Vec F S256x3584 .i32) (x7 : Vec F S1024x256 .i8) (x8 : Vec F S1x32x1024 .fp8e4m3)
  (xn xo : Vec F S1024x512 .bf16) (xa : Vec F S1024x3584 .f32) (g : F .f32) (first : BitVec 1)

/-- The first point's run: the block quantised. -/
theorem wp_fill (K : PUnit → sProp 𝕄) :
    iprop(owns (c : Thread nD τ) arg3 fullShare x3 ∗ owns (c : Thread nD τ) arg4 fullShare x4 ∗ owns (c : Thread nD τ) arg5 fullShare x5
        ∗ owns (c : Thread nD τ) ao fullShare xo ∗ owns (c : Thread nD τ) an fullShare xn ∗ owns (c : Thread nD τ) arg7 fullShare x7
        ∗ owns (c : Thread nD τ) arg8 fullShare x8 ∗ owns (c : Thread nD τ) arg11 fullShare xa
        ∗ (iprop(owns (c : Thread nD τ) arg3 fullShare x3 ∗ owns (c : Thread nD τ) arg4 fullShare x4 ∗ owns (c : Thread nD τ) arg5 fullShare x5
            ∗ owns (c : Thread nD τ) ao fullShare xo ∗ owns (c : Thread nD τ) an fullShare (aOf g x3 x4) ∗ owns (c : Thread nD τ) arg7 fullShare (cOf g x3 x4)
            ∗ owns (c : Thread nD τ) arg8 fullShare (sOf g x3) ∗ owns (c : Thread nD τ) arg11 fullShare xa) -∗ K ⟨⟩))
      ⊢ wp frame (wpE (defs₀ (F := F)) Variants.none c none) E (run arg3 arg4 arg5 arg7 harg7 arg8 harg8 an han ao arg11 g first fillList noMaxima) K := by
  iintro ⟨H3, H4, H5, HO, HN, H7, H8, HA, Hk⟩
  iapply (wp_run c E arg3 arg4 arg5 arg7 harg7 arg8 harg8 an han ao arg11 x3 x4 x5 x7 x8 xn xo xa g first fillList [] noMaxima
    (fun u h hm => absurd hm (List.not_mem_nil)) fill_ok)
  unfold bufs
  rw [mix_false (P := fun y => pieceA y ∈ []) (fun y => List.not_mem_nil), mix_false (P := fun y => pieceC y ∈ []) (fun y => List.not_mem_nil),
    mix_false (P := fun y => pieceS y ∈ []) (fun y => List.not_mem_nil), mix_false (P := fun y => pieceD y ∈ []) (fun y => List.not_mem_nil),
    mix_true (P := fun y => pieceA y ∈ _) (fun y => pair_fill _ _), mix_true (P := fun y => pieceC y ∈ _) (fun y => pair_fill _ _),
    mix_true (P := fun y => pieceS y ∈ _) (fun y => scl_fill _), mix_false (P := fun y => pieceD y ∈ _) (fun y => mm_fill _)]
  isplitr [Hk]
  swap; · iexact Hk
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- Every later point's run: the block quantised and a step of the product. -/
theorem wp_step (K : PUnit → sProp 𝕄) :
    iprop(owns (c : Thread nD τ) arg3 fullShare x3 ∗ owns (c : Thread nD τ) arg4 fullShare x4 ∗ owns (c : Thread nD τ) arg5 fullShare x5
        ∗ owns (c : Thread nD τ) ao fullShare xo ∗ owns (c : Thread nD τ) an fullShare xn ∗ owns (c : Thread nD τ) arg7 fullShare x7
        ∗ owns (c : Thread nD τ) arg8 fullShare x8 ∗ owns (c : Thread nD τ) arg11 fullShare xa
        ∗ (iprop(owns (c : Thread nD τ) arg3 fullShare x3 ∗ owns (c : Thread nD τ) arg4 fullShare x4 ∗ owns (c : Thread nD τ) arg5 fullShare x5
            ∗ owns (c : Thread nD τ) ao fullShare xo ∗ owns (c : Thread nD τ) an fullShare (aOf g x3 x4) ∗ owns (c : Thread nD τ) arg7 fullShare (cOf g x3 x4)
            ∗ owns (c : Thread nD τ) arg8 fullShare (sOf g x3) ∗ owns (c : Thread nD τ) arg11 fullShare (accStep first xo x5 xa)) -∗ K ⟨⟩))
      ⊢ wp frame (wpE (defs₀ (F := F)) Variants.none c none) E (run arg3 arg4 arg5 arg7 harg7 arg8 harg8 an han ao arg11 g first stepList noMaxima) K := by
  iintro ⟨H3, H4, H5, HO, HN, H7, H8, HA, Hk⟩
  iapply (wp_run c E arg3 arg4 arg5 arg7 harg7 arg8 harg8 an han ao arg11 x3 x4 x5 x7 x8 xn xo xa g first stepList [] noMaxima
    (fun u h hm => absurd hm (List.not_mem_nil)) step_ok)
  unfold bufs
  rw [mix_false (P := fun y => pieceA y ∈ []) (fun y => List.not_mem_nil), mix_false (P := fun y => pieceC y ∈ []) (fun y => List.not_mem_nil),
    mix_false (P := fun y => pieceS y ∈ []) (fun y => List.not_mem_nil), mix_false (P := fun y => pieceD y ∈ []) (fun y => List.not_mem_nil),
    mix_true (P := fun y => pieceA y ∈ _) (fun y => pair_step _ _), mix_true (P := fun y => pieceC y ∈ _) (fun y => pair_step _ _),
    mix_true (P := fun y => pieceS y ∈ _) (fun y => scl_step _), mix_true (P := fun y => pieceD y ∈ _) (fun y => mm_step _)]
  isplitr [Hk]
  swap; · iexact Hk
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

end Whole

end Cert.KernelIdeal.Gen

end
-- ==== Proof.Scalar.lean ====
/- The arithmetic of one element: how the kernel and the reference round a magnitude to one of the eight values, and that
   they choose the same one. -/
module

public import Idealize.ShloMosaic.Lib.ValueIdx
public import Idealize.ShloMosaic.Lib.IdealHost

@[expose] public section

noncomputable section

namespace Cert.Nvfp4

open Idealize.ShloMosaic

/-! ## Constants -/

theorem c0 : Ideal.ofBits .f32 0x00000000#32 = ((0 : ℝ) : EReal) := by simp [Ideal.ofBits, Ideal.ieee]
theorem cHalf : Ideal.ofBits .f32 0x3F000000#32 = ((1 / 2 : ℝ) : EReal) := by simp [Ideal.ofBits, Ideal.ieee, -EReal.coe_mul]; norm_num
theorem c1 : Ideal.ofBits .f32 0x3F800000#32 = ((1 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c6 : Ideal.ofBits .f32 0x40C00000#32 = ((6 : ℝ) : EReal) := by simp [Ideal.ofBits, Ideal.ieee, -EReal.coe_mul]; norm_num
theorem c7 : Ideal.ofBits .f32 0x40E00000#32 = ((7 : ℝ) : EReal) := by simp [Ideal.ofBits, Ideal.ieee, -EReal.coe_mul]; norm_num
theorem c24 : Ideal.ofBits .f32 0x41C00000#32 = ((24 : ℝ) : EReal) := by simp [Ideal.ofBits, Ideal.ieee, -EReal.coe_mul]; norm_num
theorem c64 : Ideal.ofBits .f32 0x42800000#32 = ((64 : ℝ) : EReal) := by simp [Ideal.ofBits, Ideal.ieee, -EReal.coe_mul]; norm_num
theorem c448 : Ideal.ofBits .f32 0x43E00000#32 = ((448 : ℝ) : EReal) := by simp [Ideal.ofBits, Ideal.ieee, -EReal.coe_mul]; norm_num
theorem c23 : Ideal.ofBits .f32 0x4B000000#32 = ((8388608 : ℝ) : EReal) := by simp [Ideal.ofBits, Ideal.ieee, -EReal.coe_mul]
theorem c22 : Ideal.ofBits .f32 0x4A800000#32 = ((4194304 : ℝ) : EReal) := by simp [Ideal.ofBits, Ideal.ieee, -EReal.coe_mul]; norm_num
theorem c21 : Ideal.ofBits .f32 0x4A000000#32 = ((2097152 : ℝ) : EReal) := by simp [Ideal.ofBits, Ideal.ieee, -EReal.coe_mul]; norm_num
theorem cm24 : Ideal.ofBits .f32 0x33800000#32 = ((1 / 16777216 : ℝ) : EReal) := by simp [Ideal.ofBits, Ideal.ieee, -EReal.coe_mul]; norm_num
theorem cbot : Ideal.ofBits .f32 0xFF800000#32 = ⊥ := by simp [Ideal.ofBits, Ideal.ieee]
theorem b0h : Ideal.ofBits .bf16 0x3F00#16 = ((1 / 2 : ℝ) : EReal) := by simp [Ideal.ofBits, Ideal.ieee, -EReal.coe_mul]; norm_num
theorem b1 : Ideal.ofBits .bf16 0x3F80#16 = ((1 : ℝ) : EReal) := by simp [Ideal.ofBits, Ideal.ieee, -EReal.coe_mul]; norm_num
theorem b2 : Ideal.ofBits .bf16 0x4000#16 = ((2 : ℝ) : EReal) := by simp [Ideal.ofBits, Ideal.ieee, -EReal.coe_mul]; norm_num
theorem b4 : Ideal.ofBits .bf16 0x4080#16 = ((4 : ℝ) : EReal) := by simp [Ideal.ofBits, Ideal.ieee, -EReal.coe_mul]; norm_num

/-! ## Selections -/

theorem sel_lt {α : Type} (a b : EReal) (x y : α) : Scalar.select (Ideal.cmp .olt a b) x y = if a < b then x else y := by
  unfold Scalar.select Ideal.cmp
  by_cases h : a < b <;> simp [h]
theorem sel_eq {α : Type} (a b : EReal) (x y : α) : Scalar.select (Ideal.cmp .oeq a b) x y = if a = b then x else y := by
  unfold Scalar.select Ideal.cmp
  by_cases h : a = b <;> simp [h]

/-- A whole number in range, converted to a word. -/
theorem fptosi_int (n : ℤ) (h1 : -2147483648 ≤ n) (h2 : n < 2147483648) : Ideal.fptosi 32 (((n : ℤ) : ℝ) : EReal) = BitVec.ofInt 32 n := by
  unfold Ideal.fptosi
  rw [Ideal.toIntClamped_coe]
  congr 1
  simp only [Int.floor_intCast, Int.ceil_intCast, ite_self]
  norm_num
  omega

theorem ofInt_add (a b : ℤ) : BitVec.ofInt 32 a + BitVec.ofInt 32 b = BitVec.ofInt 32 (a + b) := by
  rw [BitVec.ofInt_add]
theorem ofInt_sub (a b : ℤ) : BitVec.ofInt 32 a - BitVec.ofInt 32 b = BitVec.ofInt 32 (a - b) := by
  have h := ofInt_add (a - b) b
  rw [sub_add_cancel] at h
  rw [← h]; exact BitVec.add_sub_cancel _ _

theorem minsi_ofInt (a b : ℤ) (ha : -2147483648 ≤ a) (ha' : a < 2147483648) (hb : -2147483648 ≤ b) (hb' : b < 2147483648) :
    IntOp.minsi (BitVec.ofInt 32 a) (BitVec.ofInt 32 b) = BitVec.ofInt 32 (min a b) := by
  have e1 : (BitVec.ofInt 32 a).toInt = a := by rw [BitVec.toInt_ofInt]; exact Int.bmod_eq_of_le (by omega) (by omega)
  have e2 : (BitVec.ofInt 32 b).toInt = b := by rw [BitVec.toInt_ofInt]; exact Int.bmod_eq_of_le (by omega) (by omega)
  unfold IntOp.minsi
  by_cases h : a < b
  · rw [if_pos (by rw [BitVec.slt_iff_toInt_lt, e1, e2]; exact h), min_eq_left h.le]
  · rw [if_neg (by rw [BitVec.slt_iff_toInt_lt, e1, e2]; exact h), min_eq_right (by omega)]

/-! ## The position of a magnitude among the eight values, and the value drawn -/

/-- The eight values 0, 1/2, 1, 3/2, 2, 3, 4, 6 sit at the positions 0 to 7; between them the position is linear. -/
def pos (t : ℝ) : ℝ := if t < 2 then 2 * t else if t < 4 then t + 2 else t / 2 + 4

/-- The position drawn: up with the fraction's probability. -/
def magI (t : ℝ) (n : ℕ) : ℤ := ⌈pos t - n / 16777216⌉

def magN (t : ℝ) (n : ℕ) : ℕ := (magI t n).toNat

theorem pos_nonneg {t : ℝ} (h0 : 0 ≤ t) : 0 ≤ pos t := by unfold pos; split_ifs <;> linarith
theorem pos_le {t : ℝ} (h6 : t ≤ 6) : pos t ≤ 7 := by unfold pos; split_ifs <;> linarith
theorem pos_pos {t : ℝ} (h0 : 0 < t) : 0 < pos t := by unfold pos; split_ifs <;> linarith

theorem magI_nonneg {t : ℝ} {n : ℕ} (h0 : 0 ≤ t) (hn : n < 16777216) : 0 ≤ magI t n := by
  have h : (-1 : ℤ) < magI t n := by
    unfold magI
    rw [Int.lt_ceil]
    have := pos_nonneg h0
    have hn' : (n : ℝ) < 16777216 := by exact_mod_cast hn
    have : (n : ℝ) / 16777216 < 1 := by rw [div_lt_one (by norm_num)]; exact hn'
    push_cast; linarith
  omega

theorem magI_le {t : ℝ} {n : ℕ} (h6 : t ≤ 6) : magI t n ≤ 7 := by
  unfold magI
  rw [Int.ceil_le]
  have := pos_le h6
  have : (0 : ℝ) ≤ (n : ℝ) / 16777216 := by positivity
  push_cast; linarith

theorem magN_cast {t : ℝ} {n : ℕ} (h0 : 0 ≤ t) (hn : n < 16777216) : ((magN t n : ℕ) : ℤ) = magI t n :=
  Int.toNat_of_nonneg (magI_nonneg h0 hn)

theorem magN_le {t : ℝ} {n : ℕ} (h6 : t ≤ 6) : magN t n ≤ 7 := by
  have := magI_le (n := n) h6; unfold magN; omega

theorem magN_zero {n : ℕ} : magN 0 n = 0 := by
  unfold magN
  have : magI 0 n ≤ 0 := by
    unfold magI pos
    rw [Int.ceil_le]
    have : (0 : ℝ) ≤ (n : ℝ) / 16777216 := by positivity
    rw [if_pos (by norm_num)]; push_cast; linarith
  omega

/-- A position between `k` and `k + 1`: the draw takes the upper where the fraction exceeds the random number. -/
theorem magI_split {t : ℝ} {n : ℕ} (k : ℤ) (f : ℝ) (hp : pos t = k + f) (hf0 : 0 ≤ f) (hf1 : f < 1) (hn : n < 16777216) :
    magI t n = if (n : ℝ) * (1 / 16777216) < f then k + 1 else k := by
  have hn' : (n : ℝ) < 16777216 := by exact_mod_cast hn
  have hu0 : (0 : ℝ) ≤ (n : ℝ) / 16777216 := by positivity
  have hu1 : (n : ℝ) / 16777216 < 1 := by rw [div_lt_one (by norm_num)]; exact hn'
  have e : (n : ℝ) * (1 / 16777216) = (n : ℝ) / 16777216 := by ring
  rw [e]
  unfold magI
  rw [hp]
  split_ifs with h
  · rw [Int.ceil_eq_iff]; push_cast; constructor <;> linarith
  · rw [Int.ceil_eq_iff]; push_cast; constructor <;> linarith

/-! ## The kernel's draw -/

/-- The kernel's word: shifted random bits less the two parts of the code. -/
theorem draw_byte {t : ℝ} (h0 : 0 ≤ t) (h6 : t ≤ 6) (rb : BitVec 32) (B L : ℤ) (hBL : B + L = 33554432 + ⌈pos t * 16777216⌉) :
    (((rb >>> 8 - BitVec.ofInt 32 B) - BitVec.ofInt 32 L).sshiftRight 24).setWidth 8
      = ~~~ BitVec.ofNat 8 (magN t (rb >>> 8).toNat + 1) := by
  have hn : (rb >>> 8).toNat < 16777216 := by
    rw [BitVec.toNat_ushiftRight, Nat.shiftRight_eq_div_pow]; have := rb.isLt; omega
  generalize hN : (rb >>> 8).toNat = n at hn ⊢
  have ern : rb >>> 8 = BitVec.ofInt 32 n := by
    apply BitVec.eq_of_toNat_eq
    rw [hN]; simp; omega
  set P := ⌈pos t * 16777216⌉ with hP
  have hm0 := magI_nonneg h0 hn
  have hm7 := magI_le (n := n) h6
  have hmc := magN_cast h0 hn
  set m := magI t n with hm
  have hP1 : P ≤ n + m * 16777216 := by
    rw [hP, Int.ceil_le]
    have : pos t - n / 16777216 ≤ m := Int.le_ceil _
    push_cast; linarith
  have hP2 : (m - 1) * 16777216 < P - n := by
    have h1 : pos t * 16777216 ≤ P := Int.le_ceil _
    have h2 : ((m : ℝ)) < pos t - n / 16777216 + 1 := Int.ceil_lt_add_one _
    have : (((m - 1) * 16777216 : ℤ) : ℝ) < ((P - n : ℤ) : ℝ) := by push_cast; linarith
    exact_mod_cast this
  have ew : (rb >>> 8 - BitVec.ofInt 32 B) - BitVec.ofInt 32 L = BitVec.ofInt 32 (n - 33554432 - P) := by
    rw [ern, ofInt_sub, ofInt_sub]
    congr 1; omega
  rw [ew]
  have es : (BitVec.ofInt 32 (n - 33554432 - P)).sshiftRight 24 = BitVec.ofInt 32 (-2 - m) := by
    apply BitVec.eq_of_toInt_eq
    rw [BitVec.toInt_sshiftRight, BitVec.toInt_ofInt, BitVec.toInt_ofInt, Int.bmod_eq_of_le (by omega) (by omega),
      Int.bmod_eq_of_le (by omega) (by omega), Int.shiftRight_eq_div_pow]
    have : ((n : ℤ) - 33554432 - P) / (2 ^ 24 : ℕ) = -2 - m := by
      norm_num
      omega
    exact_mod_cast this
  rw [es]
  have : magN t n = m.toNat := rfl
  rw [this]
  clear_value m
  interval_cases m <;> decide

/-- The two parts of the code add up to the position. -/
theorem code_sum {t : ℝ} (h0 : 0 ≤ t) (h6 : t ≤ 6) :
    min (min (0 + ⌈max 4 (4 * t) * 8388608⌉) (33554432 + ⌈max 4 (4 * t) * 4194304⌉)) (67108864 + ⌈max 4 (4 * t) * 2097152⌉)
      + ⌈min (4 * t) 4 * 8388608⌉ = 33554432 + ⌈pos t * 16777216⌉ := by
  have hI : ∀ (a : ℤ) (x : ℝ), a + ⌈x⌉ = ⌈(a : ℝ) + x⌉ := fun a x => by rw [add_comm (a : ℝ), Int.ceil_add_intCast, add_comm]
  have hmono : ∀ x y : ℝ, min ⌈x⌉ ⌈y⌉ = ⌈min x y⌉ := fun x y => (Int.ceil_mono.map_min).symm
  rw [hI 0, hI 33554432, hI 67108864, hmono, hmono]
  by_cases h1 : t ≤ 1
  · rw [max_eq_left (by linarith), min_eq_left (by linarith : 4 * t ≤ 4)]
    have e : min (min (((0 : ℤ) : ℝ) + 4 * 8388608) (((33554432 : ℤ) : ℝ) + 4 * 4194304)) (((67108864 : ℤ) : ℝ) + 4 * 2097152) = ((33554432 : ℤ) : ℝ) := by norm_num
    rw [e, Int.ceil_intCast]
    unfold pos; rw [if_pos (by linarith)]
    congr 2; ring
  · push Not at h1
    rw [max_eq_right (by linarith), min_eq_right (by linarith : 4 ≤ 4 * t)]
    have e : ⌈(4 : ℝ) * 8388608⌉ = 33554432 := by
      have : (4 : ℝ) * 8388608 = ((33554432 : ℤ) : ℝ) := by norm_num
      rw [this, Int.ceil_intCast]
    rw [e, add_comm]
    congr 2
    unfold pos
    push_cast
    split_ifs with h2 h4
    · rw [min_eq_left, min_eq_left] <;> [ring; linarith; (rw [min_eq_left] <;> linarith)]
    · rw [min_eq_left, min_eq_right] <;> [ring; linarith; (rw [min_eq_right] <;> linarith)]
    · rw [min_eq_right]; · ring
      · rw [min_eq_right] <;> linarith

/-- `roundeven` of a whole number is that number. -/
theorem roundHalfEven_int (n : ℤ) : Ideal.roundHalfEven (n : ℝ) = n := by
  unfold Ideal.roundHalfEven
  simp

/-- A ceiling between two whole numbers. -/
theorem ceil_range {x : ℝ} (h0 : 0 ≤ x) {K : ℤ} (hK : x ≤ K) : 0 ≤ ⌈x⌉ ∧ ⌈x⌉ ≤ K := ⟨Int.ceil_nonneg h0, Int.ceil_le.2 hK⟩

/-- The kernel's code of a magnitude, in the kernel's own operations. -/
def kBits (c : EReal) : BitVec 32 :=
  IntOp.minsi (IntOp.minsi
    (IntOp.addi 0#32 (Ideal.fptosi 32 (Ideal.liftRound Int.ceil (c * Ideal.ofBits .f32 0x4B000000#32))))
    (IntOp.addi 33554432#32 (Ideal.fptosi 32 (Ideal.liftRound Int.ceil (c * Ideal.ofBits .f32 0x4A800000#32)))))
    (IntOp.addi 67108864#32 (Ideal.fptosi 32 (Ideal.liftRound Int.ceil (c * Ideal.ofBits .f32 0x4A000000#32))))
def kLow (a : EReal) : BitVec 32 :=
  Ideal.fptosi 32 (Ideal.liftRound Ideal.roundHalfEven (Ideal.liftRound Int.ceil (min a (Ideal.ofBits .f32 0x40800000#32) * Ideal.ofBits .f32 0x4B000000#32)))
def kClip (a : EReal) : EReal := min (Ideal.ofBits .f32 0x41C00000#32) (max (Ideal.ofBits .f32 0x40800000#32) a)
def kByte (a : EReal) (rb : BitVec 32) : BitVec 8 :=
  (IntOp.shrsi .vector (IntOp.subi (IntOp.subi (IntOp.shrui .vector rb 8#32) (kBits (kClip a))) (kLow a)) 24#32).setWidth 8

/-- The kernel's byte is the complement of the position drawn, plus one. -/
theorem kByte_eq {t : ℝ} (h0 : 0 ≤ t) (h6 : t ≤ 6) (a : EReal) (rb : BitVec 32)
    (hc : kClip a = ((max 4 (4 * t) : ℝ) : EReal)) (hl : min a (Ideal.ofBits .f32 0x40800000#32) = ((min (4 * t) 4 : ℝ) : EReal)) :
    kByte a rb = ~~~ BitVec.ofNat 8 (magN t (rb >>> 8).toNat + 1) := by
  have hc4 : (4 : ℝ) ≤ max 4 (4 * t) := le_max_left _ _
  have hc24 : max 4 (4 * t) ≤ (24 : ℝ) := max_le (by norm_num) (by linarith)
  have hl0 : (0 : ℝ) ≤ min (4 * t) 4 := le_min (by linarith) (by norm_num)
  have hl4 : min (4 * t) 4 ≤ (4 : ℝ) := min_le_right _ _
  have r1 := ceil_range (x := max 4 (4 * t) * 8388608) (by positivity) (K := 201326592) (by push_cast; linarith)
  have r2 := ceil_range (x := max 4 (4 * t) * 4194304) (by positivity) (K := 201326592) (by push_cast; linarith)
  have r3 := ceil_range (x := max 4 (4 * t) * 2097152) (by positivity) (K := 201326592) (by push_cast; linarith)
  have r4 := ceil_range (x := min (4 * t) 4 * 8388608) (by positivity) (K := 33554432) (by push_cast; linarith)
  have eB : kBits (kClip a) = BitVec.ofInt 32 (min (min (0 + ⌈max 4 (4 * t) * 8388608⌉) (33554432 + ⌈max 4 (4 * t) * 4194304⌉)) (67108864 + ⌈max 4 (4 * t) * 2097152⌉)) := by
    rw [hc]; unfold kBits
    rw [c23, c22, c21, ← EReal.coe_mul, ← EReal.coe_mul, ← EReal.coe_mul, Ideal.liftRound_coe, Ideal.liftRound_coe, Ideal.liftRound_coe,
      fptosi_int _ (by omega) (by omega), fptosi_int _ (by omega) (by omega), fptosi_int _ (by omega) (by omega)]
    show IntOp.minsi (IntOp.minsi (BitVec.ofInt 32 0 + _) (BitVec.ofInt 32 33554432 + _)) (BitVec.ofInt 32 67108864 + _) = _
    rw [ofInt_add, ofInt_add, ofInt_add, minsi_ofInt _ _ (by omega) (by omega) (by omega) (by omega),
      minsi_ofInt _ _ (by omega) (by omega) (by omega) (by omega)]
  have eL : kLow a = BitVec.ofInt 32 ⌈min (4 * t) 4 * 8388608⌉ := by
    unfold kLow
    rw [hl, c23, ← EReal.coe_mul, Ideal.liftRound_coe, Ideal.liftRound_coe, roundHalfEven_int, fptosi_int _ (by omega) (by omega)]
  have := draw_byte h0 h6 rb _ _ (code_sum h0 h6)
  rw [← this]
  unfold kByte
  rw [eB, eL]
  rfl

/-! ## The reference's draw -/

def rLo (a : EReal) : EReal :=
  Scalar.select (Ideal.cmp .olt a (Ideal.ofBits .f32 0x40000000#32)) (Ideal.liftRound Int.floor (a * Ideal.ofBits .f32 0x40000000#32) * Ideal.ofBits .f32 0x3F000000#32)
    (Scalar.select (Ideal.cmp .olt a (Ideal.ofBits .f32 0x40800000#32)) (Ideal.liftRound Int.floor a)
      (Ideal.ofBits .f32 0x40800000#32 + Ideal.ofBits .f32 0x40000000#32 * Ideal.liftRound Int.floor ((a - Ideal.ofBits .f32 0x40800000#32) * Ideal.ofBits .f32 0x3F000000#32)))
def rStep (a : EReal) : EReal :=
  Scalar.select (Ideal.cmp .olt a (Ideal.ofBits .f32 0x40000000#32)) (Ideal.ofBits .f32 0x3F000000#32)
    (Scalar.select (Ideal.cmp .olt a (Ideal.ofBits .f32 0x40800000#32)) (Ideal.ofBits .f32 0x3F800000#32) (Ideal.ofBits .f32 0x40000000#32))
/-- The value drawn. -/
def rQ (a : EReal) (rb : BitVec 32) : EReal :=
  Scalar.select (Ideal.cmp .olt (((IntOp.shrui .host rb 8#32).toNat : ℝ) * Ideal.ofBits .f32 0x33800000#32)
      ((a - rLo a) * Ideal.div (Ideal.ofBits .f32 0x3F800000#32) (rStep a))) (rLo a + rStep a) (rLo a)
/-- Its position. -/
def rMag (q : EReal) : BitVec 32 :=
  Ideal.fptosi 32 (Scalar.select (Ideal.cmp .olt q (Ideal.ofBits .f32 0x40000000#32)) (q * Ideal.ofBits .f32 0x40000000#32)
    (Scalar.select (Ideal.cmp .olt q (Ideal.ofBits .f32 0x40800000#32)) (q + Ideal.ofBits .f32 0x40000000#32)
      (Scalar.select (Ideal.cmp .oeq q (Ideal.ofBits .f32 0x40800000#32)) (Ideal.ofBits .f32 0x40C00000#32) (Ideal.ofBits .f32 0x40E00000#32))))

theorem fptosi_nat {r : ℝ} (m : ℤ) (hr : r = m) (h0 : 0 ≤ m) (h7 : m ≤ 7) : Ideal.fptosi 32 (r : EReal) = BitVec.ofNat 32 m.toNat := by
  rw [hr, fptosi_int _ (by omega) (by omega)]
  interval_cases m <;> rfl

/-- The position the reference gives a value, over the reals. -/
theorem rMag_coe (q : ℝ) (m : ℤ) (h0 : 0 ≤ m) (h7 : m ≤ 7)
    (h : (if q < 2 then q * 2 else if q < 4 then q + 2 else if q = 4 then 6 else 7) = (m : ℝ)) :
    rMag (q : EReal) = BitVec.ofNat 32 m.toNat := by
  unfold rMag
  rw [c2, c4, c6, c7, sel_lt, sel_lt, sel_eq, ← EReal.coe_mul, ← EReal.coe_add]
  simp only [EReal.coe_lt_coe_iff, EReal.coe_eq_coe_iff]
  rw [← fptosi_nat m h.symm.symm h0 h7]
  congr 1
  split_ifs <;> rfl

/-- The reference draws the same position; its value is positive where the position is not zero. -/
theorem rQ_eq {t : ℝ} (h0 : 0 ≤ t) (h6 : t ≤ 6) (rb : BitVec 32) :
    rMag (rQ (t : EReal) rb) = BitVec.ofNat 32 (magN t (rb >>> 8).toNat)
      ∧ ((0 : EReal) < rQ (t : EReal) rb ↔ magN t (rb >>> 8).toNat ≠ 0) := by
  have hn : (rb >>> 8).toNat < 16777216 := by
    rw [BitVec.toNat_ushiftRight, Nat.shiftRight_eq_div_pow]; have := rb.isLt; omega
  have hsh : IntOp.shrui .host rb 8#32 = rb >>> 8 := rfl
  unfold rQ
  rw [hsh]
  generalize (rb >>> 8).toNat = n at hn ⊢
  have hm0 := magI_nonneg h0 hn
  have hm7 := magI_le (n := n) h6
  unfold magN
  -- the three ranges
  suffices H : ∃ (k : ℤ) (f lo st : ℝ), pos t = k + f ∧ 0 ≤ f ∧ f < 1 ∧ rLo (t : EReal) = (lo : EReal) ∧ rStep (t : EReal) = (st : EReal) ∧ st ≠ 0
      ∧ (t - lo) * (1 * (1 / st)) = f
      ∧ (∀ q : ℝ, (q = lo ∨ (q = lo + st ∧ 0 < f)) → (if q < 2 then q * 2 else if q < 4 then q + 2 else if q = 4 then 6 else 7) = (if q = lo then (k : ℝ) else k + 1))
      ∧ 0 < st ∧ (0 < lo ↔ 0 < k) ∧ 0 ≤ lo ∧ 0 ≤ k by
    obtain ⟨k, f, lo, st, hp, hf0, hf1, hlo, hst, hst0, hfr, hq, hstp, hlok, hlo0, hk0⟩ := H
    have hs := magI_split k f hp hf0 hf1 hn
    rw [hlo, hst, c1, cm24, Ideal.div_coe hst0, ← EReal.coe_mul, ← EReal.coe_mul, ← EReal.coe_sub, ← EReal.coe_mul, ← EReal.coe_add, sel_lt, hfr]
    simp only [EReal.coe_lt_coe_iff]
    by_cases hc : (n : ℝ) * (1 / 16777216) < f
    · rw [if_pos hc] at hs ⊢
      have hfp : 0 < f := lt_of_le_of_lt (by positivity) hc
      have := hq (lo + st) (.inr ⟨rfl, hfp⟩)
      have hne : ¬ lo + st = lo := fun h => by linarith
      simp only [hne, if_false] at this
      refine ⟨rMag_coe _ _ hm0 hm7 ?_, ?_⟩
      · rw [this, hs]; push_cast; rfl
      · have : (0 : ℝ) < lo + st := by linarith
        constructor
        · intro _; omega
        · intro _; exact_mod_cast this
    · rw [if_neg hc] at hs ⊢
      have := hq lo (.inl rfl)
      rw [if_pos rfl] at this
      refine ⟨rMag_coe _ _ hm0 hm7 ?_, ?_⟩
      · rw [this, hs]
      · rw [hs]
        constructor
        · intro h; have : 0 < lo := by exact_mod_cast h
          have := hlok.1 this; omega
        · intro h; have : 0 < lo := hlok.2 (by omega)
          exact_mod_cast this
  by_cases h2 : t < 2
  · refine ⟨⌊2 * t⌋, 2 * t - ⌊2 * t⌋, ⌊2 * t⌋ * (1 / 2), 1 / 2, ?_, ?_, ?_, ?_, ?_, by norm_num, by ring, ?_, by norm_num, ?_, ?_, ?_⟩
    · unfold pos; rw [if_pos h2]; ring
    · have := Int.floor_le (2 * t); linarith
    · have := Int.lt_floor_add_one (2 * t); linarith
    · unfold rLo; rw [c2, c4, cHalf, sel_lt, if_pos (by exact_mod_cast h2), ← EReal.coe_mul, Ideal.liftRound_coe, ← EReal.coe_mul, mul_comm t]
    · unfold rStep; rw [c2, sel_lt, if_pos (by exact_mod_cast h2), cHalf]
    · have hk1 : 0 ≤ ⌊2 * t⌋ := Int.floor_nonneg.2 (by linarith)
      have hk2 : ⌊2 * t⌋ < 4 := Int.floor_lt.2 (by push_cast; linarith)
      generalize ⌊2 * t⌋ = k at hk1 hk2 ⊢
      rintro q (rfl | ⟨rfl, -⟩) <;> interval_cases k <;> norm_num
    · constructor
      · intro h; have : (0 : ℝ) < (⌊2 * t⌋ : ℝ) := by linarith
        exact_mod_cast this
      · intro h; have : (0 : ℝ) < (⌊2 * t⌋ : ℝ) := by exact_mod_cast h
        linarith
    · have : (0 : ℝ) ≤ (⌊2 * t⌋ : ℝ) := by exact_mod_cast Int.floor_nonneg.2 (by linarith : 0 ≤ 2 * t)
      linarith
    · exact Int.floor_nonneg.2 (by linarith)
  · by_cases h4 : t < 4
    · have hk1 : 2 ≤ ⌊t⌋ := Int.le_floor.2 (by push_cast; linarith)
      have hk2 : ⌊t⌋ < 4 := Int.floor_lt.2 (by push_cast; linarith)
      refine ⟨⌊t⌋ + 2, t - ⌊t⌋, ⌊t⌋, 1, ?_, ?_, ?_, ?_, ?_, by norm_num, by ring, ?_, by norm_num, ?_, ?_, ?_⟩
      · unfold pos; rw [if_neg h2, if_pos h4]; push_cast; ring
      · have := Int.floor_le t; linarith
      · have := Int.lt_floor_add_one t; linarith
      · unfold rLo; rw [c2, c4, cHalf, sel_lt, if_neg (by exact_mod_cast h2), sel_lt, if_pos (by exact_mod_cast h4), Ideal.liftRound_coe]
      · unfold rStep; rw [c2, c4, sel_lt, if_neg (by exact_mod_cast h2), sel_lt, if_pos (by exact_mod_cast h4), c1]
      · generalize ⌊t⌋ = k at hk1 hk2 ⊢
        rintro q (rfl | ⟨rfl, -⟩) <;> interval_cases k <;> norm_num
      · constructor
        · intro h; omega
        · intro h; have : 0 < ⌊t⌋ := by omega
          exact_mod_cast this
      · have : 0 ≤ ⌊t⌋ := by omega
        exact_mod_cast this
      · omega
    · have hk1 : 0 ≤ ⌊(t - 4) * (1 / 2)⌋ := Int.floor_nonneg.2 (by linarith)
      have hk2 : ⌊(t - 4) * (1 / 2)⌋ < 2 := Int.floor_lt.2 (by push_cast; linarith)
      refine ⟨⌊(t - 4) * (1 / 2)⌋ + 6, (t - 4) * (1 / 2) - ⌊(t - 4) * (1 / 2)⌋, 4 + 2 * ⌊(t - 4) * (1 / 2)⌋, 2, ?_, ?_, ?_, ?_, ?_, by norm_num, by ring, ?_, by norm_num, ?_, ?_, ?_⟩
      · unfold pos; rw [if_neg h2, if_neg h4]; push_cast; ring
      · have := Int.floor_le ((t - 4) * (1 / 2)); linarith
      · have := Int.lt_floor_add_one ((t - 4) * (1 / 2)); linarith
      · unfold rLo; rw [c2, c4, cHalf, sel_lt, if_neg (by exact_mod_cast h2), sel_lt, if_neg (by exact_mod_cast h4), ← EReal.coe_sub, ← EReal.coe_mul,
          Ideal.liftRound_coe, ← EReal.coe_mul, ← EReal.coe_add]
      · unfold rStep; rw [c2, c4, sel_lt, if_neg (by exact_mod_cast h2), sel_lt, if_neg (by exact_mod_cast h4)]
      · have hk3 : 0 < (t - 4) * (1 / 2) - ⌊(t - 4) * (1 / 2)⌋ → ⌊(t - 4) * (1 / 2)⌋ < 1 := by
          intro h
          rw [Int.floor_lt]; push_cast
          by_contra hc; push Not at hc
          have e1 : (t - 4) * (1 / 2) = ((1 : ℤ) : ℝ) := by push_cast; linarith
          rw [e1, Int.floor_intCast] at h; linarith
        generalize ⌊(t - 4) * (1 / 2)⌋ = k at hk1 hk2 hk3 ⊢
        rintro q (rfl | ⟨rfl, hf⟩)
        · interval_cases k <;> norm_num
        · have := hk3 hf
          interval_cases k; norm_num
      · constructor
        · intro h; omega
        · intro h; have : (0 : ℝ) ≤ (⌊(t - 4) * (1 / 2)⌋ : ℝ) := by exact_mod_cast hk1
          linarith
      · have : (0 : ℝ) ≤ (⌊(t - 4) * (1 / 2)⌋ : ℝ) := by exact_mod_cast hk1
        linarith
      · omega

/-! ## One element -/

def absE (x : EReal) : EReal := max x (-x)
/-- The scale of a block whose largest magnitude is `A`. -/
def scl (g A : EReal) : EReal :=
  min (Ideal.ofBits .f32 0x43E00000#32) (max (Ideal.ofBits .f32 0x00000000#32) (Ideal.div A (Ideal.ofBits .f32 0x40C00000#32 * g)))
/-- The kernel's factor: four over the block's divisor. -/
def kR4 (g s : EReal) : EReal :=
  Scalar.select (Ideal.cmp .oeq s (Ideal.ofBits .f32 0x00000000#32)) (Ideal.ofBits .f32 0x00000000#32)
    (Ideal.div (Ideal.ofBits .f32 0x40800000#32) (Scalar.select (Ideal.cmp .oeq s (Ideal.ofBits .f32 0x00000000#32)) (Ideal.ofBits .f32 0x3F800000#32) (s * g)))
/-- The reference's quotient. -/
def rV (g s x : EReal) : EReal :=
  Scalar.select (Ideal.cmp .oeq s (Ideal.ofBits .f32 0x00000000#32)) (Ideal.ofBits .f32 0x00000000#32)
    (Ideal.div x (Scalar.select (Ideal.cmp .oeq s (Ideal.ofBits .f32 0x00000000#32)) (Ideal.ofBits .f32 0x3F800000#32) (s * g)))

/-- Both divide by the same real number, or by nothing. -/
theorem factor {g A : EReal} (hg : g ≠ 0) (hA : 0 ≤ A) :
    ∃ r : ℝ, 0 ≤ r ∧ kR4 g (scl g A) = ((4 * r : ℝ) : EReal) ∧ (∀ x, rV g (scl g A) x = x * (r : EReal)) := by
  by_cases hs : scl g A = 0
  · refine ⟨0, le_refl _, ?_, fun x => ?_⟩
    · unfold kR4; rw [hs, c0, sel_eq, if_pos (by simp)]; simp
    · unfold rV; rw [hs, c0, sel_eq, if_pos (by simp)]; simp
  have h0 : 0 ≤ scl g A := by
    unfold scl; rw [c0, c448]
    exact le_min (by exact_mod_cast (by norm_num : (0 : ℝ) ≤ 448)) (le_max_left _ _)
  have hle : scl g A ≤ ((448 : ℝ) : EReal) := by unfold scl; rw [c448]; exact min_le_left _ _
  have hpos : 0 < Ideal.div A (Ideal.ofBits .f32 0x40C00000#32 * g) := by
    by_contra hc; push Not at hc
    apply hs
    unfold scl; rw [c0, c448]
    have : max ((0 : ℝ) : EReal) (Ideal.div A (Ideal.ofBits .f32 0x40C00000#32 * g)) = ((0 : ℝ) : EReal) := max_eq_left hc
    rw [this]
    exact min_eq_right (by exact_mod_cast (by norm_num : (0 : ℝ) ≤ 448))
  have h6 : (0 : EReal) < ((6 : ℝ) : EReal) := by exact_mod_cast (by norm_num : (0 : ℝ) < 6)
  -- the global scale is a positive real
  have hgr : ∃ γ : ℝ, 0 < γ ∧ g = (γ : EReal) := by
    rw [c6] at hpos
    unfold Ideal.div at hpos
    induction g with
    | bot => rw [EReal.mul_bot_of_pos h6, if_neg (by simp), EReal.inv_bot, mul_zero] at hpos; exact absurd hpos (lt_irrefl _)
    | top => rw [EReal.mul_top_of_pos h6, if_neg (by simp), EReal.inv_top, mul_zero] at hpos; exact absurd hpos (lt_irrefl _)
    | coe γ =>
      have hγ : γ ≠ 0 := fun h => hg (by rw [h]; rfl)
      refine ⟨γ, ?_, rfl⟩
      by_contra hc
      have hneg : γ < 0 := lt_of_le_of_ne (not_lt.1 hc) hγ
      rw [← EReal.coe_mul, if_neg (by exact_mod_cast (by positivity : (6 * γ : ℝ) ≠ 0)), ← EReal.coe_inv] at hpos
      have hi : ((6 * γ)⁻¹ : ℝ) ≤ 0 := by
        apply le_of_lt; rw [inv_lt_zero]; linarith
      have hi' : (0 : EReal) ≤ ((-(6 * γ)⁻¹ : ℝ) : EReal) := by exact_mod_cast neg_nonneg.2 hi
      have e : A * (((6 * γ)⁻¹ : ℝ) : EReal) = -(A * ((-(6 * γ)⁻¹ : ℝ) : EReal)) := by
        rw [EReal.coe_neg, mul_neg, neg_neg]
      rw [e] at hpos
      exact absurd hpos (not_lt.2 (by have h := EReal.neg_le_neg_iff.2 (mul_nonneg hA hi'); rwa [neg_zero] at h))
  obtain ⟨γ, hγ, rfl⟩ := hgr
  -- and so is the block's
  have hsr : ∃ σ : ℝ, 0 < σ ∧ scl (γ : EReal) A = (σ : EReal) := by
    generalize scl (γ : EReal) A = s at hs h0 hle
    induction s with
    | bot => exact absurd h0 (by simp)
    | top => exact absurd hle (by simp)
    | coe σ => exact ⟨σ, lt_of_le_of_ne (by exact_mod_cast h0) (fun h => hs (by rw [← h]; rfl)), rfl⟩
  obtain ⟨σ, hσ, hs'⟩ := hsr
  have hne : σ * γ ≠ 0 := by positivity
  have hs0 : ¬ ((σ : ℝ) : EReal) = ((0 : ℝ) : EReal) := by exact_mod_cast hσ.ne'
  refine ⟨1 / (σ * γ), by positivity, ?_, fun x => ?_⟩
  · unfold kR4; rw [hs', c0, c4, sel_eq, if_neg hs0, sel_eq, if_neg hs0, ← EReal.coe_mul, Ideal.div_coe hne, ← EReal.coe_mul]
  · unfold rV; rw [hs', c0, sel_eq, if_neg hs0, sel_eq, if_neg hs0, ← EReal.coe_mul, Ideal.div_coe hne]

/-- The position the kernel draws for an element, read off its byte. -/
def magE (g A x : EReal) (rb : BitVec 32) : ℕ := (~~~ (kByte (absE x * kR4 g (scl g A)) rb)).toNat - 1

theorem absE_nonneg (x : EReal) : 0 ≤ absE x := by
  unfold absE
  rcases le_total 0 x with h | h
  · exact le_max_of_le_left h
  · exact le_max_of_le_right (EReal.neg_nonneg.2 h)

theorem absE_mul {r : ℝ} (hr : 0 ≤ r) (x : EReal) : absE (x * (r : EReal)) = absE x * (r : EReal) := by
  have hr' : (0 : EReal) ≤ (r : EReal) := by exact_mod_cast hr
  unfold absE
  rw [← EReal.neg_mul]
  rcases le_total x (-x) with h | h
  · rw [max_eq_right h, max_eq_right (mul_le_mul_of_nonneg_right h hr')]
  · rw [max_eq_left h, max_eq_left (mul_le_mul_of_nonneg_right h hr')]

/-- The kernel and the reference draw the same position and the same sign. -/
theorem element {g A : EReal} (hg : g ≠ 0) (hA : 0 ≤ A) (x : EReal) (rb : BitVec 32) :
    magE g A x rb ≤ 7
      ∧ kByte (absE x * kR4 g (scl g A)) rb = ~~~ BitVec.ofNat 8 (magE g A x rb + 1)
      ∧ rMag (rQ (min (absE (rV g (scl g A) x)) (Ideal.ofBits .f32 0x40C00000#32)) rb) = BitVec.ofNat 32 (magE g A x rb)
      ∧ ((0 : EReal) < rQ (min (absE (rV g (scl g A) x)) (Ideal.ofBits .f32 0x40C00000#32)) rb ↔ magE g A x rb ≠ 0)
      ∧ (magE g A x rb ≠ 0 → (rV g (scl g A) x < 0 ↔ x < 0)) := by
  obtain ⟨r, hr, hk, hv⟩ := factor hg hA
  rw [hv]
  set w := absE (x * (r : EReal)) with hw
  have hw0 : 0 ≤ w := absE_nonneg _
  have ha : absE x * kR4 g (scl g A) = w * ((4 : ℝ) : EReal) := by
    rw [hk, hw, absE_mul hr, EReal.coe_mul, mul_comm ((4 : ℝ) : EReal), mul_assoc]
  -- the clipped magnitude is a real number
  obtain ⟨t, h0, h6, ht, hc, hl⟩ : ∃ t : ℝ, 0 ≤ t ∧ t ≤ 6 ∧ min w (Ideal.ofBits .f32 0x40C00000#32) = (t : EReal)
      ∧ kClip (w * ((4 : ℝ) : EReal)) = ((max 4 (4 * t) : ℝ) : EReal)
      ∧ min (w * ((4 : ℝ) : EReal)) (Ideal.ofBits .f32 0x40800000#32) = ((min (4 * t) 4 : ℝ) : EReal) := by
    rw [c6, c4]; unfold kClip; rw [c4, c24]
    clear_value w
    induction w with
    | bot => exact absurd hw0 (by simp)
    | top =>
      refine ⟨6, by norm_num, le_refl _, by simp, ?_, ?_⟩
      · rw [EReal.top_mul_of_pos (by exact_mod_cast (by norm_num : (0 : ℝ) < 4))]
        simp only [le_top, sup_of_le_right, inf_of_le_left]
        congr 1; norm_num
      · rw [EReal.top_mul_of_pos (by exact_mod_cast (by norm_num : (0 : ℝ) < 4))]
        simp only [le_top, inf_of_le_right]
        congr 1; norm_num
    | coe ω =>
      have hω : 0 ≤ ω := by exact_mod_cast hw0
      have emin : ∀ a b : ℝ, min (a : EReal) (b : EReal) = ((min a b : ℝ) : EReal) := fun a b => (EReal.coe_strictMono.monotone.map_min).symm
      have emax : ∀ a b : ℝ, max (a : EReal) (b : EReal) = ((max a b : ℝ) : EReal) := fun a b => (EReal.coe_strictMono.monotone.map_max).symm
      refine ⟨min ω 6, le_min hω (by norm_num), min_le_right _ _, emin _ _, ?_, ?_⟩
      · rw [← EReal.coe_mul, emax, emin]
        congr 1
        rcases le_total ω 6 with h | h
        · rw [min_eq_left h, min_eq_right (max_le (by norm_num) (by linarith)), mul_comm]
        · rw [min_eq_right h, max_eq_right (by linarith), min_eq_left (by linarith)]; norm_num
      · rw [← EReal.coe_mul, emin]
        congr 1
        rcases le_total ω 6 with h | h
        · rw [min_eq_left h, mul_comm]
        · rw [min_eq_right h, min_eq_right (by linarith)]; norm_num
  have hB := kByte_eq h0 h6 (absE x * kR4 g (scl g A)) rb (by rw [ha]; exact hc) (by rw [ha]; exact hl)
  have hm7 : magN t (rb >>> 8).toNat ≤ 7 := magN_le h6
  have em : magE g A x rb = magN t (rb >>> 8).toNat := by
    unfold magE
    rw [hB, BitVec.not_not, BitVec.toNat_ofNat]
    omega
  obtain ⟨hr1, hr2⟩ := rQ_eq h0 h6 rb
  rw [em, ht]
  refine ⟨hm7, hB, hr1, hr2, fun hne => ?_⟩
  have hrp : 0 < r := by
    rcases hr.lt_or_eq with h | h
    · exact h
    · exfalso; apply hne
      have : t = 0 := by
        rw [hw, ← h, EReal.coe_zero, mul_zero] at ht
        have : (((0 : ℝ)) : EReal) = (t : EReal) := by
          rw [← ht, c6]; unfold absE; rw [neg_zero, max_self]
          exact (min_eq_left (by exact_mod_cast (by norm_num : (0 : ℝ) ≤ 6))).symm
        exact_mod_cast this.symm
      rw [this, magN_zero]
  have hrp' : (0 : EReal) < (r : EReal) := by exact_mod_cast hrp
  constructor
  · intro h
    by_contra hx
    exact absurd h (not_lt.2 (mul_nonneg (not_lt.1 hx) hrp'.le))
  · intro h
    induction x with
    | bot => rw [EReal.bot_mul_of_pos hrp']; simp
    | top => simp at h
    | coe ξ =>
      rw [← EReal.coe_mul]
      have hξ : ξ < 0 := by exact_mod_cast h
      exact_mod_cast mul_neg_of_neg_of_pos hξ hrp

end Cert.Nvfp4
-- ==== Proof.Lanes.lean ====
/- Where the kernel's lane operations take each element: the merges that leave a block's maximum in its own lane, the gathers,
   the four rows a word holds. -/
module

public import proofs.«01_k».proof.Proof.QuantRun
public import proofs.«01_k».proof.Proof.Scalar
public import Idealize.ShloMosaic.Lib.ValueIdx
public import Idealize.ShloMosaic.Lib.BitcastPair
public import Idealize.ShloMosaic.Lib.KernelVsHost
public import Idealize.ShloMosaic.Lib.Pipeline.Value

@[expose] public section

set_option maxRecDepth 16384

noncomputable section

namespace Cert.KernelIdeal.Value

open Idealize.ShloMosaic Idealize.ShloMosaic.TcCoe Idealize.ShloMosaic.ValueIdx
open Cert.KernelIdeal Cert.KernelIdeal.Gen Cert.Nvfp4

variable {α : Type}

/-! ## Four bytes to a word -/

/-- Byte `k` of a word. -/
def byte (w : BitVec 32) (k : ℕ) : BitVec 8 := w.extractLsb' (8 * k) 8

theorem byte_pack (x : IVec S32x128 8) (r : Fin 8) (l : Fin 128) (k : Fin 4) :
    byte (bitcast S8x128 32 x bitcasts_S32x128_w8_S8x128_w32 (ix2 r l)) k.val = x (ix2 (⟨4 * r.val + k.val, by omega⟩ : Fin 32) l) := by
  apply BitVec.eq_of_getLsbD_eq
  intro i hi
  have hk := k.isLt
  have hr : S8x128.row (ix2 r l) = r.val := rfl
  unfold byte
  rw [BitVec.getLsbD_extractLsb', bitcast_getLsbD x _ _ (8 * k.val + i) (by omega) (by decide)]
  simp only [hi, decide_true, Bool.true_and]
  have e1 : (S8x128.row (ix2 r l) * 32 + (8 * k.val + i)) / 8 = 4 * r.val + k.val := by rw [hr]; omega
  have e2 : (S8x128.row (ix2 r l) * 32 + (8 * k.val + i)) % 8 = i := by rw [hr]; omega
  rw [e2]
  congr 2
  funext a
  apply Fin.ext
  fin_cases a
  · exact e1
  · rfl

theorem unpack_byte (x : IVec S8x128 32) (r : Fin 32) (l : Fin 128) :
    bitcast S32x128 8 x bitcasts_S8x128_w32_S32x128_w8 (ix2 r l) = byte (x (ix2 (⟨r.val / 4, by omega⟩ : Fin 8) l)) (r.val % 4) := by
  apply BitVec.eq_of_getLsbD_eq
  intro i hi
  have hr : S32x128.row (ix2 r l) = r.val := rfl
  unfold byte
  rw [BitVec.getLsbD_extractLsb', bitcast_getLsbD x _ _ i hi (by decide)]
  simp only [hi, decide_true, Bool.true_and]
  have e1 : (S32x128.row (ix2 r l) * 8 + i) / 32 = r.val / 4 := by rw [hr]; omega
  have e2 : (S32x128.row (ix2 r l) * 8 + i) % 32 = 8 * (r.val % 4) + i := by rw [hr]; omega
  rw [e2]
  congr 2
  funext a
  apply Fin.ext
  fin_cases a
  · exact e1
  · rfl

/-- A word is its four bytes. -/
theorem word_bytes (w : BitVec 32) :
    w.toNat = (byte w 0).toNat + 256 * (byte w 1).toNat + 65536 * (byte w 2).toNat + 16777216 * (byte w 3).toNat := by
  have := w.isLt
  simp only [byte, BitVec.extractLsb'_toNat, Nat.shiftRight_eq_div_pow]
  omega

theorem byte_of (w : BitVec 32) (b : ℕ → ℕ) (hb : ∀ k < 4, b k < 256)
    (h : w.toNat = b 0 + 256 * b 1 + 65536 * b 2 + 16777216 * b 3) (k : ℕ) (hk : k < 4) : byte w k = BitVec.ofNat 8 (b k) := by
  have h0 := hb 0 (by omega); have h1 := hb 1 (by omega); have h2 := hb 2 (by omega); have h3 := hb 3 (by omega)
  apply BitVec.eq_of_toNat_eq
  simp only [byte, BitVec.extractLsb'_toNat, Nat.shiftRight_eq_div_pow, BitVec.toNat_ofNat, h]
  interval_cases k <;> omega

/-- A word whose bytes are known is their sum. -/
theorem word_of (w : BitVec 32) (b : ℕ → ℕ) (hb : ∀ k < 4, b k < 256) (h : ∀ k < 4, byte w k = BitVec.ofNat 8 (b k)) :
    w.toNat = b 0 + 256 * b 1 + 65536 * b 2 + 16777216 * b 3 := by
  have e : ∀ k < 4, (byte w k).toNat = b k := fun k hk => by
    rw [h k hk, BitVec.toNat_ofNat]; exact Nat.mod_eq_of_lt (hb k hk)
  rw [word_bytes, e 0 (by omega), e 1 (by omega), e 2 (by omega), e 3 (by omega)]

theorem byte_and (a b : BitVec 32) (k : ℕ) : byte (a &&& b) k = byte a k &&& byte b k := by
  unfold byte; exact BitVec.extractLsb'_and
theorem byte_or (a b : BitVec 32) (k : ℕ) : byte (a ||| b) k = byte a k ||| byte b k := by
  unfold byte; exact BitVec.extractLsb'_or
theorem byte_not (a : BitVec 32) (k : ℕ) (hk : k < 4) : byte (a ^^^ 4294967295#32) k = ~~~ byte a k := by
  unfold byte
  rw [BitVec.extractLsb'_xor]
  interval_cases k <;> exact BitVec.xor_allOnes

section Words

variable (y sgn : BitVec 32) (m : ℕ → ℕ) (n : ℕ → Bool)
  (hm : ∀ k < 4, m k ≤ 7) (hy : ∀ k < 4, byte y k = BitVec.ofNat 8 (m k + 1))
  (hs : ∀ k < 4, byte sgn k = if n k then 8#8 else 0#8)
include hm hy

theorem mag_byte (k : ℕ) (hk : k < 4) : byte (y - 16843009#32) k = BitVec.ofNat 8 (m k) := by
  have h0 := hm 0 (by omega); have h1 := hm 1 (by omega); have h2 := hm 2 (by omega); have h3 := hm 3 (by omega)
  have hw := word_of y (fun k => m k + 1) (fun k hk => by have := hm k hk; show m k + 1 < 256; omega) hy
  refine byte_of _ m (fun k hk => by have := hm k hk; omega) ?_ k hk
  rw [BitVec.toNat_sub, hw]
  show (2 ^ 32 - 16843009 + _) % 2 ^ 32 = _
  omega

theorem six_byte (k : ℕ) (hk : k < 4) : byte (y + 101058054#32) k = BitVec.ofNat 8 (m k + 7) := by
  have h0 := hm 0 (by omega); have h1 := hm 1 (by omega); have h2 := hm 2 (by omega); have h3 := hm 3 (by omega)
  have hw := word_of y (fun k => m k + 1) (fun k hk => by have := hm k hk; show m k + 1 < 256; omega) hy
  refine byte_of _ (fun k => m k + 7) (fun k hk => by have := hm k hk; show m k + 7 < 256; omega) ?_ k hk
  rw [BitVec.toNat_add, hw]
  show (_ + 101058054) % 2 ^ 32 = _
  omega

include hs in
theorem neg_byte (k : ℕ) (hk : k < 4) :
    byte ((sgn &&& (y + 101058054#32)) &&& 134744072#32) k = BitVec.ofNat 8 (if n k ∧ m k ≠ 0 then 8 else 0) := by
  have hk7 := hm k hk
  rw [byte_and, byte_and, hs k hk, six_byte y m hm hy k hk]
  have e : byte 134744072#32 k = 8#8 := by interval_cases k <;> rfl
  rw [e]
  generalize m k = a at hk7 ⊢
  generalize n k = b
  interval_cases a <;> cases b <;> rfl

theorem shl2_byte (k : ℕ) (hk : k < 4) : byte ((y - 16843009#32) <<< 2) k = BitVec.ofNat 8 (4 * m k) := by
  have h0 := hm 0 (by omega); have h1 := hm 1 (by omega); have h2 := hm 2 (by omega); have h3 := hm 3 (by omega)
  have hw := word_of _ m (fun k hk => by have := hm k hk; omega) (mag_byte y m hm hy)
  refine byte_of _ (fun k => 4 * m k) (fun k hk => by have := hm k hk; show 4 * m k < 256; omega) ?_ k hk
  rw [BitVec.toNat_shiftLeft, hw, Nat.shiftLeft_eq]
  omega

include hs in
theorem shl4_byte (k : ℕ) (hk : k < 4) :
    byte (((sgn &&& (y + 101058054#32)) &&& 134744072#32) <<< 4) k = BitVec.ofNat 8 (16 * (if n k ∧ m k ≠ 0 then 8 else 0)) := by
  have hb : ∀ k, (if n k ∧ m k ≠ 0 then 8 else 0) ≤ 8 := fun k => by split_ifs <;> omega
  have hw := word_of _ (fun k => if n k ∧ m k ≠ 0 then 8 else 0) (fun k hk => by have := hb k; show (if n k ∧ m k ≠ 0 then 8 else 0) < 256; omega) (neg_byte y sgn m n hm hy hs)
  have h0 := hb 0; have h1 := hb 1; have h2 := hb 2; have h3 := hb 3
  refine byte_of _ (fun k => 16 * (if n k ∧ m k ≠ 0 then 8 else 0)) (fun k hk => by have := hb k; show 16 * (if n k ∧ m k ≠ 0 then 8 else 0) < 256; omega) ?_ k hk
  rw [BitVec.toNat_shiftLeft, hw, Nat.shiftLeft_eq]
  omega

include hs in
/-- A byte of nibbles. -/
theorem nib_byte (k : ℕ) (hk : k < 4) :
    byte ((y - 16843009#32) ||| ((sgn &&& (y + 101058054#32)) &&& 134744072#32)) k = BitVec.ofNat 8 (m k + if n k ∧ m k ≠ 0 then 8 else 0) := by
  have hk7 := hm k hk
  rw [byte_or, mag_byte y m hm hy k hk, neg_byte y sgn m n hm hy hs k hk]
  generalize m k = a at hk7 ⊢
  generalize n k = b
  interval_cases a <;> cases b <;> rfl

include hs in
/-- A byte of eight-bit floats. -/
theorem f8_byte (k : ℕ) (hk : k < 4) :
    byte (((y - 16843009#32) <<< 2) ||| (((sgn &&& (y + 101058054#32)) &&& 134744072#32) <<< 4)) k
      = BitVec.ofNat 8 (4 * m k + if n k ∧ m k ≠ 0 then 128 else 0) := by
  have hk7 := hm k hk
  rw [byte_or, shl2_byte y m hm hy k hk, shl4_byte y sgn m n hm hy hs k hk]
  generalize m k = a at hk7 ⊢
  generalize n k = b
  interval_cases a <;> cases b <;> rfl

end Words

/-! ## Lanes and gathers -/

theorem lane8_apply (r : Fin 8) (l : Fin 128) : lane8 (ix2 r l) = BitVec.ofNat 32 l.val := by
  show BitVec.ofNat 32 (0 * 128 + l.val) = _
  rw [zero_mul, zero_add]
theorem lane16_apply (r : Fin 16) (l : Fin 128) : lane16 (ix2 r l) = BitVec.ofNat 32 l.val := by
  show BitVec.ofNat 32 (0 * 128 + l.val) = _
  rw [zero_mul, zero_add]

theorem keep_apply (b : ℕ) (hb : b < 5) (r : Fin 16) (l : Fin 128) :
    keep (BitVec.ofNat 32 (2 ^ b)) (ix2 r l) = if l.val / 2 ^ b % 2 = 0 then 1#1 else 0#1 := by
  show IntOp.cmpi .eq (IntOp.andi (lane16 (ix2 r l)) (BitVec.ofNat 32 (2 ^ b))) 0#32 = _
  rw [lane16_apply]
  have : ∀ b < 5, ∀ l : Fin 128, IntOp.cmpi .eq (IntOp.andi (BitVec.ofNat 32 l.val) (BitVec.ofNat 32 (2 ^ b))) 0#32
      = if l.val / 2 ^ b % 2 = 0 then 1#1 else 0#1 := by decide
  exact this b hb l

theorem nrm_apply (idx : IVec S8x128 32) (r : Fin 8) (l : Fin 128) (n : ℕ) (hn : n < 128) (h : idx (ix2 r l) = BitVec.ofNat 32 n) :
    nrm idx (ix2 r l) = BitVec.ofNat 32 n := by
  have e : nrm idx = select (cmpi .slt idx (broadcast S8x128 0#32)) (addi idx (broadcast S8x128 128#32)) idx := by
    unfold nrm
    exact shapeCast_shapeCast _ _ _
  rw [e]
  show Scalar.select (IntOp.cmpi .slt (idx (ix2 r l)) 0#32) (IntOp.addi (idx (ix2 r l)) 128#32) (idx (ix2 r l)) = _
  rw [h]
  have : ∀ n < 128, Scalar.select (IntOp.cmpi .slt (BitVec.ofNat 32 n) 0#32) (IntOp.addi (BitVec.ofNat 32 n) 128#32) (BitVec.ofNat 32 n) = BitVec.ofNat 32 n := by decide
  exact this n hn

theorem gather_apply (x : S8x128.Idx → α) (idx : IVec S8x128 32) (r : Fin 8) (l : Fin 128) (n : ℕ) (hn : n < 128) (h : idx (ix2 r l) = BitVec.ofNat 32 n) :
    dynamicGather 1 x (nrm idx) (ix2 r l) = x (ix2 r (⟨n, hn⟩ : Fin 128)) := by
  unfold dynamicGather
  refine congrArg x (funext fun b => Fin.ext ?_)
  fin_cases b
  · rfl
  · show (nrm idx (ix2 r l)).toNat % 128 = n
    rw [nrm_apply idx r l n hn h, BitVec.toNat_ofNat]
    omega

/-- Four pieces of eight rows, one above the other. -/
theorem cat8_apply (y : Fin 4 → (S8x128.Idx → α)) (r : Fin 32) (l : Fin 128) :
    concatenate S32x128 0 [⟨S8x128, y 0⟩, ⟨S8x128, y 1⟩, ⟨S8x128, y 2⟩, ⟨S8x128, y 3⟩] concatenates_S8x128_S8x128_S8x128_S8x128_S32x128_d0 (ix2 r l)
      = y ⟨r.val / 8, by omega⟩ (ix2 (⟨r.val % 8, by omega⟩ : Fin 8) l) := by
  have key : ∀ (k : Fin 4) (hk : r.val / 8 = k.val),
      concatenate S32x128 0 [⟨S8x128, y 0⟩, ⟨S8x128, y 1⟩, ⟨S8x128, y 2⟩, ⟨S8x128, y 3⟩] concatenates_S8x128_S8x128_S8x128_S8x128_S32x128_d0 (ix2 r l)
        = y k (ix2 (⟨r.val % 8, by omega⟩ : Fin 8) l) := by
    intro k hk
    refine concatenate_apply_piece (0 : Fin S32x128.rank) [⟨S8x128, y 0⟩, ⟨S8x128, y 1⟩, ⟨S8x128, y 2⟩, ⟨S8x128, y 3⟩] _ _ k.val k.isLt S8x128 (y k) ?_ rfl (8 * k.val) ?_ _ ?_ ?_
    · fin_cases k <;> rfl
    · fin_cases k <;> rfl
    · intro b hb; fin_cases b
      · exact absurd rfl hb
      · rfl
    · show 8 * k.val + r.val % 8 = r.val
      omega
  exact key ⟨r.val / 8, by omega⟩ rfl

/-- Four pieces of thirty-two rows. -/
theorem cat32_apply (y : Fin 4 → (S32x128.Idx → α)) (r : Fin 128) (l : Fin 128) :
    concatenate S128x128 0 [⟨S32x128, y 0⟩, ⟨S32x128, y 1⟩, ⟨S32x128, y 2⟩, ⟨S32x128, y 3⟩] concatenates_S32x128_S32x128_S32x128_S32x128_S128x128_d0 (ix2 r l)
      = y ⟨r.val / 32, by omega⟩ (ix2 (⟨r.val % 32, by omega⟩ : Fin 32) l) := by
  have key : ∀ (k : Fin 4) (hk : r.val / 32 = k.val),
      concatenate S128x128 0 [⟨S32x128, y 0⟩, ⟨S32x128, y 1⟩, ⟨S32x128, y 2⟩, ⟨S32x128, y 3⟩] concatenates_S32x128_S32x128_S32x128_S32x128_S128x128_d0 (ix2 r l)
        = y k (ix2 (⟨r.val % 32, by omega⟩ : Fin 32) l) := by
    intro k hk
    refine concatenate_apply_piece (0 : Fin S128x128.rank) [⟨S32x128, y 0⟩, ⟨S32x128, y 1⟩, ⟨S32x128, y 2⟩, ⟨S32x128, y 3⟩] _ _ k.val k.isLt S32x128 (y k) ?_ rfl (32 * k.val) ?_ _ ?_ ?_
    · fin_cases k <;> rfl
    · fin_cases k <;> rfl
    · intro b hb; fin_cases b
      · exact absurd rfl hb
      · rfl
    · show 32 * k.val + r.val % 32 = r.val
      omega
  exact key ⟨r.val / 32, by omega⟩ rfl

/-- Two pieces of sixteen rows. -/
theorem cat16_apply (y : Fin 2 → (S16x128.Idx → α)) (r : Fin 32) (l : Fin 128) :
    concatenate S32x128 0 [⟨S16x128, y 0⟩, ⟨S16x128, y 1⟩] concatenates_S16x128_S16x128_S32x128_d0 (ix2 r l)
      = y ⟨r.val / 16, by omega⟩ (ix2 (⟨r.val % 16, by omega⟩ : Fin 16) l) := by
  have key : ∀ (k : Fin 2) (hk : r.val / 16 = k.val),
      concatenate S32x128 0 [⟨S16x128, y 0⟩, ⟨S16x128, y 1⟩] concatenates_S16x128_S16x128_S32x128_d0 (ix2 r l)
        = y k (ix2 (⟨r.val % 16, by omega⟩ : Fin 16) l) := by
    intro k hk
    refine concatenate_apply_piece (0 : Fin S32x128.rank) [⟨S16x128, y 0⟩, ⟨S16x128, y 1⟩] _ _ k.val k.isLt S16x128 (y k) ?_ rfl (16 * k.val) ?_ _ ?_ ?_
    · fin_cases k <;> rfl
    · fin_cases k <;> rfl
    · intro b hb; fin_cases b
      · exact absurd rfl hb
      · rfl
    · show 16 * k.val + r.val % 16 = r.val
      omega
  exact key ⟨r.val / 16, by omega⟩ rfl

/-- The gather along lanes reads its own row at the lane asked for. -/
theorem gl_apply (x : FVec Ideal S32x128 .f32) (idx : IVec S8x128 32) (r : Fin 32) (l : Fin 128) (n : ℕ) (hn : n < 128)
    (h : ∀ r : Fin 8, idx (ix2 r l) = BitVec.ofNat 32 n) : gl x idx (ix2 r l) = x (ix2 r (⟨n, hn⟩ : Fin 128)) := by
  have hsl : ∀ (o : ℕ) (ho : S32x128.Slices ![o, 0] S8x128) (hro : o + r.val % 8 = r.val),
      dynamicGather 1 (extractStridedSlice S8x128 ![o, 0] x ho) (nrm idx) (ix2 (⟨r.val % 8, by omega⟩ : Fin 8) l) = x (ix2 r (⟨n, hn⟩ : Fin 128)) := by
    intro o ho hro
    rw [gather_apply _ idx _ l n hn (h _)]
    unfold extractStridedSlice
    refine congrArg x (funext fun b => Fin.ext ?_)
    fin_cases b
    · exact hro
    · show 0 + n = n; omega
  refine (cat8_apply ![dynamicGather 1 (extractStridedSlice S8x128 ![0, 0] x slices_S32x128_o0_0_S8x128) (nrm idx),
    dynamicGather 1 (extractStridedSlice S8x128 ![8, 0] x slices_S32x128_o8_0_S8x128) (nrm idx),
    dynamicGather 1 (extractStridedSlice S8x128 ![16, 0] x slices_S32x128_o16_0_S8x128) (nrm idx),
    dynamicGather 1 (extractStridedSlice S8x128 ![24, 0] x slices_S32x128_o24_0_S8x128) (nrm idx)] r l).trans ?_
  have hr := r.isLt
  have hq : ∀ (k : Fin 4), (⟨r.val / 8, by omega⟩ : Fin 4) = k → r.val / 8 = k.val := fun k hk => congrArg Fin.val hk
  generalize hk : (⟨r.val / 8, by omega⟩ : Fin 4) = k at hq ⊢
  have hv := hq k rfl
  fin_cases k
  · exact hsl 0 slices_S32x128_o0_0_S8x128 (by simp only at hv; omega)
  · exact hsl 8 slices_S32x128_o8_0_S8x128 (by simp only at hv; omega)
  · exact hsl 16 slices_S32x128_o16_0_S8x128 (by simp only at hv; omega)
  · exact hsl 24 slices_S32x128_o24_0_S8x128 (by simp only at hv; omega)

theorem tidx_apply (i : Fin 16) (r : Fin 8) (l : Fin 128) : tidx i.val (ix2 r l) = BitVec.ofNat 32 (l.val / 16 * 16 + i.val) := by
  show IntOp.ori (IntOp.andi (lane8 (ix2 r l)) 112#32) (BitVec.ofNat 32 i.val) = _
  rw [lane8_apply]
  have h1 : ∀ l : Fin 128, IntOp.andi (BitVec.ofNat 32 l.val) 112#32 = BitVec.ofNat 32 (l.val / 16 * 16) := by decide
  have h2 : ∀ (b : Fin 8) (i : Fin 16), IntOp.ori (BitVec.ofNat 32 (b.val * 16)) (BitVec.ofNat 32 i.val) = BitVec.ofNat 32 (b.val * 16 + i.val) := by decide
  rw [h1]
  exact h2 ⟨l.val / 16, by omega⟩ i

theorem sord_apply (r : Fin 8) (l : Fin 128) : sord (ix2 r l) = BitVec.ofNat 32 (l.val % 8 * 16 + l.val / 8) := by
  show IntOp.ori (IntOp.shli .vector (IntOp.andi (lane8 (ix2 r l)) 7#32) 4#32) (IntOp.shrsi .vector (lane8 (ix2 r l)) 3#32) = _
  rw [lane8_apply]
  have : ∀ l : Fin 128, IntOp.ori (IntOp.shli .vector (IntOp.andi (BitVec.ofNat 32 l.val) 7#32) 4#32) (IntOp.shrsi .vector (BitVec.ofNat 32 l.val) 3#32)
      = BitVec.ofNat 32 (l.val % 8 * 16 + l.val / 8) := by decide
  exact this l

theorem pidx_apply (r : Fin 8) (l : Fin 128) :
    ori (shli (andi lane8 (broadcast S8x128 63#32)) (broadcast S8x128 1#32)) (shrsi lane8 (broadcast S8x128 6#32)) (ix2 r l)
      = BitVec.ofNat 32 (l.val % 64 * 2 + l.val / 64) := by
  show IntOp.ori (IntOp.shli .vector (IntOp.andi (lane8 (ix2 r l)) 63#32) 1#32) (IntOp.shrsi .vector (lane8 (ix2 r l)) 6#32) = _
  rw [lane8_apply]
  have : ∀ l : Fin 128, IntOp.ori (IntOp.shli .vector (IntOp.andi (BitVec.ofNat 32 l.val) 63#32) 1#32) (IntOp.shrsi .vector (BitVec.ofNat 32 l.val) 6#32)
      = BitVec.ofNat 32 (l.val % 64 * 2 + l.val / 64) := by decide
  exact this l

theorem even8_apply (r : Fin 8) (l : Fin 128) : even8 (ix2 r l) = if l.val % 2 = 0 then 1#1 else 0#1 := by
  show IntOp.cmpi .eq (IntOp.andi (lane8 (ix2 r l)) 1#32) 0#32 = _
  rw [lane8_apply]
  have : ∀ l : Fin 128, IntOp.cmpi .eq (IntOp.andi (BitVec.ofNat 32 l.val) 1#32) 0#32 = if l.val % 2 = 0 then 1#1 else 0#1 := by decide
  exact this l

theorem rot8_apply (e : BitVec 32) (x : S8x128.Idx → α) (r : Fin 8) (l k : Fin 128) (he : k.val = (l.val + 128 - e.toNat % 128) % 128) :
    dynamicRotate 1 e none x rotates_S8x128_d1 (ix2 r l) = x (ix2 r k) := by
  refine dynamicRotate_apply (s := S8x128) 1 e x _ _ _ fun b => ?_
  fin_cases b
  · rfl
  · exact he
theorem rot16_apply (e : BitVec 32) (x : S16x128.Idx → α) (r : Fin 16) (l k : Fin 128) (he : k.val = (l.val + 128 - e.toNat % 128) % 128) :
    dynamicRotate 1 e none x rotates_S16x128_d1 (ix2 r l) = x (ix2 r k) := by
  refine dynamicRotate_apply (s := S16x128) 1 e x _ _ _ fun b => ?_
  fin_cases b
  · rfl
  · exact he

/-! ## The merges -/

/-- One level of the merge, at a lane. -/
theorem mergeMax_apply (b : ℕ) (hb : b < 4) (u w : FVec Ideal S16x128 .f32) (r : Fin 16) (l : Fin 128) :
    mergeMax (BitVec.ofNat 32 (2 ^ b)) (BitVec.ofNat 32 (128 - 2 ^ b)) u w (ix2 r l)
      = if h : l.val / 2 ^ b % 2 = 0 then
          max (u (ix2 r l) : EReal) (u (ix2 r (⟨(l.val + 2 ^ b) % 128, Nat.mod_lt _ (by decide)⟩ : Fin 128)))
        else max (w (ix2 r l) : EReal) (w (ix2 r (⟨(l.val + 128 - 2 ^ b) % 128, Nat.mod_lt _ (by decide)⟩ : Fin 128))) := by
  show max (Scalar.select (keep _ (ix2 r l)) (u (ix2 r l)) (w (ix2 r l)) : EReal)
      (Scalar.select (keep _ (ix2 r l)) (dynamicRotate 1 _ none u rotates_S16x128_d1 (ix2 r l)) (dynamicRotate 1 _ none w rotates_S16x128_d1 (ix2 r l))) = _
  rw [keep_apply b (by omega)]
  have hp : 2 ^ b ≤ 8 := by interval_cases b <;> decide
  have hp0 : 0 < 2 ^ b := by positivity
  rw [rot16_apply _ u r l ⟨(l.val + 2 ^ b) % 128, Nat.mod_lt _ (by decide)⟩ (by
      show (l.val + 2 ^ b) % 128 = _
      rw [BitVec.toNat_ofNat]; omega),
    rot16_apply _ w r l ⟨(l.val + 128 - 2 ^ b) % 128, Nat.mod_lt _ (by decide)⟩ (by
      show (l.val + 128 - 2 ^ b) % 128 = _
      rw [BitVec.toNat_ofNat]; omega)]
  by_cases h : l.val / 2 ^ b % 2 = 0
  · rw [if_pos h, dif_pos h]; rfl
  · rw [if_neg h, dif_neg h]; rfl

/-- `u` holds, in each lane, the largest magnitude among the lanes of its sixteen that agree with it below `D`, of the tile
    that the lane's bits from `D` up number. -/
def IsMax (X : ℕ → Fin 16 → Fin 128 → EReal) (D p : ℕ) (u : FVec Ideal S16x128 .f32) : Prop :=
  ∀ (r : Fin 16) (l : Fin 128) (c : EReal), (u (ix2 r l) : EReal) ≤ c
    ↔ ∀ k : Fin 128, k.val / 16 = l.val / 16 → k.val % D = l.val % D → X (p + l.val % 16 / D * D) r k ≤ c

theorem isMax_merge (X : ℕ → Fin 16 → Fin 128 → EReal) (b : ℕ) (hb : b < 4) (p : ℕ) (u w : FVec Ideal S16x128 .f32)
    (hu : IsMax X (2 ^ (b + 1)) p u) (hw : IsMax X (2 ^ (b + 1)) (p + 2 ^ b) w) :
    IsMax X (2 ^ b) p (mergeMax (BitVec.ofNat 32 (2 ^ b)) (BitVec.ofNat 32 (128 - 2 ^ b)) u w) := by
  intro r l c
  rw [mergeMax_apply b hb]
  have hl := l.isLt
  by_cases h : l.val / 2 ^ b % 2 = 0
  · rw [dif_pos h, max_le_iff, hu, hu]
    have e1 : p + l.val % 16 / 2 ^ (b + 1) * 2 ^ (b + 1) = p + l.val % 16 / 2 ^ b * 2 ^ b := by
      interval_cases b <;> simp only [Nat.reducePow, Nat.reduceAdd] at h ⊢ <;> omega
    have e2 : p + (l.val + 2 ^ b) % 128 % 16 / 2 ^ (b + 1) * 2 ^ (b + 1) = p + l.val % 16 / 2 ^ b * 2 ^ b := by
      interval_cases b <;> simp only [Nat.reducePow, Nat.reduceAdd] at h ⊢ <;> omega
    dsimp only
    rw [e1, e2]
    constructor
    · rintro ⟨h1, h2⟩ k hk hk'
      by_cases hc : k.val % 2 ^ (b + 1) = l.val % 2 ^ (b + 1)
      · exact h1 k hk hc
      · refine h2 k ?_ ?_ <;> interval_cases b <;> simp only [Nat.reducePow, Nat.reduceAdd] at h hk' hc ⊢ <;> omega
    · intro h1
      constructor
      · intro k hk hk'
        refine h1 k hk ?_
        interval_cases b <;> simp only [Nat.reducePow, Nat.reduceAdd] at h hk' ⊢ <;> omega
      · intro k hk hk'
        refine h1 k ?_ ?_ <;> interval_cases b <;> simp only [Nat.reducePow, Nat.reduceAdd] at h hk hk' ⊢ <;> omega
  · rw [dif_neg h, max_le_iff, hw, hw]
    have e1 : p + 2 ^ b + l.val % 16 / 2 ^ (b + 1) * 2 ^ (b + 1) = p + l.val % 16 / 2 ^ b * 2 ^ b := by
      interval_cases b <;> simp only [Nat.reducePow, Nat.reduceAdd] at h ⊢ <;> omega
    have e2 : p + 2 ^ b + (l.val + 128 - 2 ^ b) % 128 % 16 / 2 ^ (b + 1) * 2 ^ (b + 1) = p + l.val % 16 / 2 ^ b * 2 ^ b := by
      interval_cases b <;> simp only [Nat.reducePow, Nat.reduceAdd] at h ⊢ <;> omega
    dsimp only
    rw [e1, e2]
    constructor
    · rintro ⟨h1, h2⟩ k hk hk'
      by_cases hc : k.val % 2 ^ (b + 1) = l.val % 2 ^ (b + 1)
      · exact h1 k hk hc
      · refine h2 k ?_ ?_ <;> interval_cases b <;> simp only [Nat.reducePow, Nat.reduceAdd] at h hk' hc ⊢ <;> omega
    · intro h1
      constructor
      · intro k hk hk'
        refine h1 k hk ?_
        interval_cases b <;> simp only [Nat.reducePow, Nat.reduceAdd] at h hk' ⊢ <;> omega
      · intro k hk hk'
        refine h1 k ?_ ?_ <;> interval_cases b <;> simp only [Nat.reducePow, Nat.reduceAdd] at h hk hk' ⊢ <;> omega

theorem isMax_abs (X : ℕ → Fin 16 → Fin 128 → EReal) (p : ℕ) (x : Vec Ideal S16x128 .bf16)
    (hx : ∀ r k, X p r k = absE (x (ix2 r k))) : IsMax X (2 ^ 4) p (absw x) := by
  intro r l c
  have hl := l.isLt
  have e : p + l.val % 16 / 2 ^ 4 * 2 ^ 4 = p := by norm_num
  rw [e]
  show absE (x (ix2 r l)) ≤ c ↔ _
  constructor
  · intro h k hk hk'
    have : k = l := Fin.ext (by norm_num at hk'; omega)
    rw [this, hx]; exact h
  · intro h
    rw [← hx]; exact h l rfl rfl

/-- The sixteen tiles merged. -/
theorem isMax_tree (x : Fin 16 → Vec Ideal S16x128 .bf16) :
    IsMax (fun n r k => absE (x (Fin.ofNat 16 n) (ix2 r k))) (2 ^ 0) 0
      (mergeTree (x 0) (x 1) (x 2) (x 3) (x 4) (x 5) (x 6) (x 7) (x 8) (x 9) (x 10) (x 11) (x 12) (x 13) (x 14) (x 15)) := by
  set X : ℕ → Fin 16 → Fin 128 → EReal := fun n r k => absE (x (Fin.ofNat 16 n) (ix2 r k)) with hX
  have a : ∀ i : Fin 16, IsMax X (2 ^ 4) i.val (absw (x i)) := fun i => isMax_abs X i.val (x i) fun r k => by
    have e : Fin.ofNat 16 i.val = i := Fin.ext (Nat.mod_eq_of_lt i.isLt)
    show absE (x (Fin.ofNat 16 i.val) (ix2 r k)) = _
    rw [e]
  have m3 : ∀ p q : Fin 16, q.val = p.val + 8 → IsMax X (2 ^ 3) p.val (mergeMax 8#32 120#32 (absw (x p)) (absw (x q))) :=
    fun p q h => isMax_merge X 3 (by omega) p.val _ _ (a p) (by have := a q; rw [h] at this; exact this)
  have m2 : ∀ (p : ℕ) (u w), IsMax X (2 ^ 3) p u → IsMax X (2 ^ 3) (p + 4) w → IsMax X (2 ^ 2) p (mergeMax 4#32 124#32 u w) :=
    fun p u w h1 h2 => isMax_merge X 2 (by omega) p u w h1 h2
  have m1 : ∀ (p : ℕ) (u w), IsMax X (2 ^ 2) p u → IsMax X (2 ^ 2) (p + 2) w → IsMax X (2 ^ 1) p (mergeMax 2#32 126#32 u w) :=
    fun p u w h1 h2 => isMax_merge X 1 (by omega) p u w h1 h2
  have m0 : ∀ (p : ℕ) (u w), IsMax X (2 ^ 1) p u → IsMax X (2 ^ 1) (p + 1) w → IsMax X (2 ^ 0) p (mergeMax 1#32 127#32 u w) :=
    fun p u w h1 h2 => isMax_merge X 0 (by omega) p u w h1 h2
  unfold mergeTree
  exact m0 0 _ _
    (m1 0 _ _ (m2 0 _ _ (m3 0 8 rfl) (m3 4 12 rfl)) (m2 2 _ _ (m3 2 10 rfl) (m3 6 14 rfl)))
    (m1 1 _ _ (m2 1 _ _ (m3 1 9 rfl) (m3 5 13 rfl)) (m2 3 _ _ (m3 3 11 rfl) (m3 7 15 rfl)))

/-- The block maxima in lane `l`: those of block `l / 16` of tile `l % 16`. -/
theorem mergeTree_le (x : Fin 16 → Vec Ideal S16x128 .bf16) (r : Fin 16) (l : Fin 128) (c : EReal) :
    (mergeTree (x 0) (x 1) (x 2) (x 3) (x 4) (x 5) (x 6) (x 7) (x 8) (x 9) (x 10) (x 11) (x 12) (x 13) (x 14) (x 15) (ix2 r l) : EReal) ≤ c
      ↔ ∀ k : Fin 128, k.val / 16 = l.val / 16 → absE (x (⟨l.val % 16, by omega⟩ : Fin 16) (ix2 r k)) ≤ c := by
  rw [isMax_tree x r l c]
  have e : Fin.ofNat 16 (0 + l.val % 16 / 2 ^ 0 * 2 ^ 0) = (⟨l.val % 16, by omega⟩ : Fin 16) := Fin.ext (by
    show (0 + l.val % 16 / 2 ^ 0 * 2 ^ 0) % 16 = l.val % 16
    norm_num)
  dsimp only
  rw [e]
  constructor
  · intro h k hk; exact h k hk (by simp [Nat.mod_one])
  · intro h k hk _; exact h k hk

end Cert.KernelIdeal.Value
-- ==== Proof.BlockValue.lean ====
/- What the quantiser leaves in its three buffers, element by element: the decoded operand, the packed codes, the scales. -/
module

public import proofs.«01_k».proof.Proof.Lanes

@[expose] public section

set_option maxRecDepth 16384

noncomputable section

namespace Cert.Nvfp4

open Idealize.ShloMosaic

/-- The eight magnitudes. -/
def e2m1 (m : ℕ) : ℝ := if m < 4 then m / 2 else if m < 6 then m - 2 else 2 * m - 8

/-- The nibble of an element: its position, and eight where it is negative and not zero. -/
def nibE (g A x : EReal) (rb : BitVec 32) : ℕ := magE g A x rb + if x < 0 ∧ magE g A x rb ≠ 0 then 8 else 0
/-- What the element decodes to. -/
def decE (g A x : EReal) (rb : BitVec 32) : EReal :=
  ((if x < 0 ∧ magE g A x rb ≠ 0 then -e2m1 (magE g A x rb) else e2m1 (magE g A x rb) : ℝ) : EReal) * scl g A
/-- Two nibbles in a byte. -/
def codeE (lo hi : ℕ) : BitVec 8 := BitVec.ofNat 8 (lo + 16 * hi)

/-- The eight-bit float of a nibble's byte is its value over sixty-four. -/
theorem f8_value (m : ℕ) (hm : m ≤ 7) (P : Prop) [Decidable P] :
    Ideal.ofBits .fp8e4m3 (BitVec.ofNat 8 (4 * m + if P ∧ m ≠ 0 then 128 else 0))
      = (((if P ∧ m ≠ 0 then -e2m1 m else e2m1 m) / 64 : ℝ) : EReal) := by
  unfold Ideal.ofBits Ideal.e4m3fn e2m1
  by_cases h : P <;> interval_cases m <;> simp [h, -EReal.coe_mul, -EReal.coe_neg] <;> norm_num

end Cert.Nvfp4

namespace Cert.KernelIdeal.Value

open Idealize.ShloMosaic Idealize.ShloMosaic.TcCoe Idealize.ShloMosaic.ValueIdx
open Cert.KernelIdeal Cert.KernelIdeal.Gen Cert.Nvfp4

/-! ## Scales -/

/-- The largest magnitude of a block of sixteen. -/
def bmax (x : Vec Ideal S1024x512 .bf16) (r : Fin 1024) (b : Fin 32) : EReal :=
  Finset.univ.sup fun e : Fin 16 => absE (x (ix2 r (⟨16 * b.val + e.val, by omega⟩ : Fin 512)))

theorem bmax_le (x : Vec Ideal S1024x512 .bf16) (r : Fin 1024) (b : Fin 32) (c : EReal) :
    bmax x r b ≤ c ↔ ∀ e : Fin 16, absE (x (ix2 r (⟨16 * b.val + e.val, by omega⟩ : Fin 512))) ≤ c := by
  unfold bmax
  rw [Finset.sup_le_iff]
  simp

theorem bmax_nonneg (x : Vec Ideal S1024x512 .bf16) (r : Fin 1024) (b : Fin 32) : 0 ≤ bmax x r b :=
  (absE_nonneg _).trans ((bmax_le x r b _).1 (le_refl _) 0)

theorem row_lt (u : Fin 8) (rg : ℕ) (hr : rg < 4) (R : ℕ) (hR : R < 32) : row u.val rg + R < 1024 := by
  have := row_le u.isLt hr; omega

theorem halfV_apply (x : Vec Ideal S1024x512 .bf16) (u : Fin 8) (h : Fin 2) (r : Fin 16) (l : Fin 128) :
    halfV x u h (ix2 r l) = bmax x ⟨row u.val (l.val % 16 / 4) + (h.val * 16 + r.val), row_lt u _ (by omega) _ (by omega)⟩
      ⟨l.val % 16 % 4 * 8 + l.val / 16, by omega⟩ := by
  refine eq_of_forall_ge_iff fun c => ?_
  rw [bmax_le]
  refine (mergeTree_le (fun i => View.ld (Val := Elt Ideal) x (rH u h i)) r l c).trans ?_
  have e : ∀ k : Fin 128, View.ld (Val := Elt Ideal) x (rH u h ⟨l.val % 16, by omega⟩) (ix2 r k)
      = x (ix2 (⟨row u.val (l.val % 16 / 4) + (h.val * 16 + r.val), row_lt u _ (by omega) _ (by omega)⟩ : Fin 1024)
          (⟨l.val % 16 % 4 * 128 + k.val, by omega⟩ : Fin 512)) := by
    intro k
    refine congrArg x (funext fun a => Fin.ext ?_)
    fin_cases a
    · show row u.val (l.val % 16 / 4) + h.val * 16 + 1 * r.val = row u.val (l.val % 16 / 4) + (h.val * 16 + r.val); omega
    · show l.val % 16 % 4 * 128 + 1 * k.val = l.val % 16 % 4 * 128 + k.val; omega
  constructor
  · intro hk e'
    have := hk ⟨16 * (l.val / 16) + e'.val, by omega⟩ (by show (16 * (l.val / 16) + e'.val) / 16 = _; omega)
    rw [e] at this
    have ee : (⟨l.val % 16 % 4 * 128 + (16 * (l.val / 16) + e'.val), by omega⟩ : Fin 512) = ⟨16 * (l.val % 16 % 4 * 8 + l.val / 16) + e'.val, by omega⟩ := Fin.ext (by
      show l.val % 16 % 4 * 128 + (16 * (l.val / 16) + e'.val) = 16 * (l.val % 16 % 4 * 8 + l.val / 16) + e'.val; omega)
    dsimp only at this
    rw [ee] at this
    exact this
  · intro hk k hk'
    rw [e]
    have := hk ⟨k.val % 16, by omega⟩
    have ee : (⟨16 * (l.val % 16 % 4 * 8 + l.val / 16) + k.val % 16, by omega⟩ : Fin 512) = ⟨l.val % 16 % 4 * 128 + k.val, by omega⟩ := Fin.ext (by
      show 16 * (l.val % 16 % 4 * 8 + l.val / 16) + k.val % 16 = l.val % 16 % 4 * 128 + k.val; omega)
    dsimp only at this
    rw [ee] at this
    exact this

theorem sfU_apply (g : EReal) (x : Vec Ideal S1024x512 .bf16) (u : Fin 8) (R : Fin 32) (l : Fin 128) :
    sfU (F := Ideal) g x u (ix2 R l) = scl g (bmax x ⟨row u.val (l.val % 16 / 4) + R.val, row_lt u _ (by omega) _ R.isLt⟩
      ⟨l.val % 16 % 4 * 8 + l.val / 16, by omega⟩) := by
  have e : concatenate S32x128 0 [⟨S16x128, halfV x u 0⟩, ⟨S16x128, halfV x u 1⟩] concatenates_S16x128_S16x128_S32x128_d0 (ix2 R l)
      = bmax x ⟨row u.val (l.val % 16 / 4) + R.val, row_lt u _ (by omega) _ R.isLt⟩ ⟨l.val % 16 % 4 * 8 + l.val / 16, by omega⟩ := by
    refine (cat16_apply (fun h => halfV x u h) R l).trans ?_
    rw [halfV_apply]
    congr 2
    show row u.val (l.val % 16 / 4) + (R.val / 16 * 16 + R.val % 16) = row u.val (l.val % 16 / 4) + R.val
    omega
  show scl g _ = _
  rw [← e]

/-! ## A tile -/

section Tile

variable (x : Vec Ideal S32x128 .bf16) (rb : Vec Ideal S32x128 .i32) (r4 s64 : FVec Ideal S32x128 .f32) (i : Fin 16)

theorem lane_lt (l : Fin 128) : l.val / 16 * 16 + i.val < 128 := by omega

theorem aV_apply (R : Fin 32) (l : Fin 128) :
    aV x r4 i.val (ix2 R l) = absE (x (ix2 R l)) * r4 (ix2 R (⟨l.val / 16 * 16 + i.val, lane_lt i l⟩ : Fin 128)) := by
  show absE (x (ix2 R l)) * gl r4 (tidx i.val) (ix2 R l) = _
  rw [gl_apply r4 (tidx i.val) R l _ (lane_lt i l) fun r => tidx_apply i r l]

theorem yV_byte (a : FVec Ideal S32x128 .f32) (r : Fin 8) (l : Fin 128) (k : Fin 4) :
    byte (yV a rb (ix2 r l)) k.val = ~~~ kByte (a (ix2 (⟨4 * r.val + k.val, by omega⟩ : Fin 32) l)) (rb (ix2 (⟨4 * r.val + k.val, by omega⟩ : Fin 32) l)) := by
  refine (byte_not _ k.val k.isLt).trans ?_
  rw [byte_pack]
  rfl

theorem sgnV_byte (r : Fin 8) (l : Fin 128) (k : Fin 4) :
    byte (sgnV x (ix2 r l)) k.val = if decide ((x (ix2 (⟨4 * r.val + k.val, by omega⟩ : Fin 32) l) : EReal) < 0) then 8#8 else 0#8 := by
  refine (byte_pack _ r l k).trans ?_
  show (Scalar.select (Ideal.cmp .olt (x (ix2 (⟨4 * r.val + k.val, by omega⟩ : Fin 32) l)) (Ideal.ofBits .f32 0x00000000#32)) 8#32 0#32).setWidth 8 = _
  rw [sel_lt, c0]
  by_cases h : (x (ix2 (⟨4 * r.val + k.val, by omega⟩ : Fin 32) l) : EReal) < 0
  · rw [if_pos (by simpa using h), if_pos (by simpa using h)]; rfl
  · rw [if_neg (by simpa using h), if_neg (by simpa using h)]; rfl

variable (g : EReal) (hg : g ≠ 0) (A : Fin 32 → Fin 128 → EReal) (hA : ∀ R l, 0 ≤ A R l)
  (h4 : ∀ (R : Fin 32) (l : Fin 128), r4 (ix2 R (⟨l.val / 16 * 16 + i.val, lane_lt i l⟩ : Fin 128)) = kR4 g (scl g (A R l)))
include hg hA h4

theorem y_byte (r : Fin 8) (l : Fin 128) (k : ℕ) (hk : k < 4) :
    byte (yV (aV x r4 i.val) rb (ix2 r l)) k
      = BitVec.ofNat 8 (magE g (A ⟨4 * r.val + k % 4, by omega⟩ l) (x (ix2 (⟨4 * r.val + k % 4, by omega⟩ : Fin 32) l)) (rb (ix2 (⟨4 * r.val + k % 4, by omega⟩ : Fin 32) l)) + 1) := by
  have hk' : k % 4 = k := Nat.mod_eq_of_lt hk
  have := yV_byte rb (aV x r4 i.val) r l ⟨k, hk⟩
  rw [aV_apply, h4] at this
  dsimp only at this
  simp only [hk']
  rw [this, (element hg (hA _ _) _ _).2.1, BitVec.not_not]

theorem nibV_byte (r : Fin 8) (l : Fin 128) (k : Fin 4) :
    byte (nibV x rb r4 i.val (ix2 r l)) k.val
      = BitVec.ofNat 8 (nibE g (A ⟨4 * r.val + k.val, by omega⟩ l) (x (ix2 (⟨4 * r.val + k.val, by omega⟩ : Fin 32) l)) (rb (ix2 (⟨4 * r.val + k.val, by omega⟩ : Fin 32) l))) := by
  have hk' : k.val % 4 = k.val := Nat.mod_eq_of_lt k.isLt
  have := nib_byte (yV (aV x r4 i.val) rb (ix2 r l)) (sgnV x (ix2 r l))
    (fun k => magE g (A ⟨4 * r.val + k % 4, by omega⟩ l) (x (ix2 (⟨4 * r.val + k % 4, by omega⟩ : Fin 32) l)) (rb (ix2 (⟨4 * r.val + k % 4, by omega⟩ : Fin 32) l)))
    (fun k => decide ((x (ix2 (⟨4 * r.val + k % 4, by omega⟩ : Fin 32) l) : EReal) < 0))
    (fun k hk => (element hg (hA _ _) _ _).1)
    (fun k hk => y_byte x rb r4 i g hg A hA h4 r l k hk)
    (fun k hk => by have := sgnV_byte x r l ⟨k, hk⟩; simpa only [Nat.mod_eq_of_lt hk] using this) k.val k.isLt
  simp only [hk', decide_eq_true_eq] at this
  exact this

theorem f8V_byte (r : Fin 8) (l : Fin 128) (k : Fin 4) :
    byte (ori (shli (magV (yV (aV x r4 i.val) rb)) (broadcast S8x128 2#32)) (shli (negV (yV (aV x r4 i.val) rb) (sgnV x)) (broadcast S8x128 4#32)) (ix2 r l)) k.val
      = BitVec.ofNat 8 (4 * magE g (A ⟨4 * r.val + k.val, by omega⟩ l) (x (ix2 (⟨4 * r.val + k.val, by omega⟩ : Fin 32) l)) (rb (ix2 (⟨4 * r.val + k.val, by omega⟩ : Fin 32) l))
        + if (x (ix2 (⟨4 * r.val + k.val, by omega⟩ : Fin 32) l) : EReal) < 0 ∧ magE g (A ⟨4 * r.val + k.val, by omega⟩ l) (x (ix2 (⟨4 * r.val + k.val, by omega⟩ : Fin 32) l)) (rb (ix2 (⟨4 * r.val + k.val, by omega⟩ : Fin 32) l)) ≠ 0 then 128 else 0) := by
  have hk' : k.val % 4 = k.val := Nat.mod_eq_of_lt k.isLt
  have := f8_byte (yV (aV x r4 i.val) rb (ix2 r l)) (sgnV x (ix2 r l))
    (fun k => magE g (A ⟨4 * r.val + k % 4, by omega⟩ l) (x (ix2 (⟨4 * r.val + k % 4, by omega⟩ : Fin 32) l)) (rb (ix2 (⟨4 * r.val + k % 4, by omega⟩ : Fin 32) l)))
    (fun k => decide ((x (ix2 (⟨4 * r.val + k % 4, by omega⟩ : Fin 32) l) : EReal) < 0))
    (fun k hk => (element hg (hA _ _) _ _).1)
    (fun k hk => y_byte x rb r4 i g hg A hA h4 r l k hk)
    (fun k hk => by have := sgnV_byte x r l ⟨k, hk⟩; simpa only [Nat.mod_eq_of_lt hk] using this) k.val k.isLt
  simp only [hk', decide_eq_true_eq] at this
  exact this

/-- An element of the decoded tile. -/
theorem decV_apply (h64 : ∀ (R : Fin 32) (l : Fin 128), s64 (ix2 R (⟨l.val / 16 * 16 + i.val, lane_lt i l⟩ : Fin 128)) = scl g (A R l) * Ideal.ofBits .f32 0x42800000#32)
    (R : Fin 32) (l : Fin 128) : decV x rb r4 s64 i.val (ix2 R l) = decE g (A R l) (x (ix2 R l)) (rb (ix2 R l)) := by
  have hR := R.isLt
  have e4 : (⟨4 * (R.val / 4) + R.val % 4, by omega⟩ : Fin 32) = R := Fin.ext (by show 4 * (R.val / 4) + R.val % 4 = R.val; omega)
  show Ideal.ofBits .fp8e4m3 (bitcast S32x128 8 _ bitcasts_S8x128_w32_S32x128_w8 (ix2 R l)) * gl s64 (tidx i.val) (ix2 R l) = _
  rw [gl_apply s64 (tidx i.val) R l _ (lane_lt i l) fun r => tidx_apply i r l, h64, unpack_byte]
  have := f8V_byte x rb r4 i g hg A hA h4 (⟨R.val / 4, by omega⟩ : Fin 8) l ⟨R.val % 4, by omega⟩
  simp only [e4] at this
  rw [this, f8_value _ (element hg (hA _ _) _ _).1, c64]
  unfold decE
  generalize (if (x (ix2 R l) : EReal) < 0 ∧ magE g (A R l) (x (ix2 R l)) (rb (ix2 R l)) ≠ 0 then -e2m1 (magE g (A R l) (x (ix2 R l)) (rb (ix2 R l))) else e2m1 (magE g (A R l) (x (ix2 R l)) (rb (ix2 R l)))) = v
  rw [mul_left_comm, mul_comm, ← EReal.coe_mul]
  congr 2
  ring_nf

end Tile

/-! ## A block -/

section Block

variable (g : EReal) (hg : g ≠ 0) (x : Vec Ideal S1024x512 .bf16) (rb : Vec Ideal S1024x512 .i32)

/-- The place of a tile's element in its block. -/
theorem ldT_apply {ε : EltTy} (z : Vec Ideal S1024x512 ε) (u : Fin 8) (i : Fin 16) (R : Fin 32) (l : Fin 128) :
    View.ld (Val := Elt Ideal) z (rT u i) (ix2 R l)
      = z (ix2 (⟨row u.val (i.val / 4) + R.val, row_lt u _ (by omega) _ R.isLt⟩ : Fin 1024) (⟨i.val % 4 * 128 + l.val, by omega⟩ : Fin 512)) := by
  refine congrArg z (funext fun a => Fin.ext ?_)
  fin_cases a
  · show row u.val (i.val / 4) + 1 * R.val = row u.val (i.val / 4) + R.val; omega
  · show i.val % 4 * 128 + 1 * l.val = i.val % 4 * 128 + l.val; omega

/-- The largest magnitude round an element of a tile. -/
def tmax (u : Fin 8) (i : Fin 16) (R : Fin 32) (l : Fin 128) : EReal :=
  bmax x ⟨row u.val (i.val / 4) + R.val, row_lt u _ (by omega) _ R.isLt⟩ ⟨i.val % 4 * 8 + l.val / 16, by omega⟩

theorem sf_lane (u : Fin 8) (i : Fin 16) (R : Fin 32) (l : Fin 128) :
    sfU (F := Ideal) g x u (ix2 R (⟨l.val / 16 * 16 + i.val, lane_lt i l⟩ : Fin 128)) = scl g (tmax x u i R l) := by
  rw [sfU_apply]
  unfold tmax
  have hi := i.isLt
  have e : (l.val / 16 * 16 + i.val) % 16 = i.val := by omega
  have e' : (l.val / 16 * 16 + i.val) / 16 = l.val / 16 := by omega
  simp only [e, e']

include hg

theorem decU_apply (u : Fin 8) (i : Fin 16) (R : Fin 32) (l : Fin 128) :
    decU (F := Ideal) g x rb u i (ix2 R l) = decE g (tmax x u i R l) (View.ld (Val := Elt Ideal) x (rT u i) (ix2 R l)) (View.ld (Val := Elt Ideal) rb (rT u i) (ix2 R l)) :=
  decV_apply _ _ _ _ i g hg (tmax x u i) (fun R l => bmax_nonneg _ _ _)
    (fun R l => congrArg (kR4 g) (sf_lane g x u i R l)) (fun R l => congrArg (· * Ideal.ofBits .f32 0x42800000#32) (sf_lane g x u i R l)) R l

theorem nibU_byte (u : Fin 8) (i : Fin 16) (R : Fin 32) (l : Fin 128) :
    byte (nibU (F := Ideal) g x rb u i (ix2 (⟨R.val / 4, by omega⟩ : Fin 8) l)) (R.val % 4)
      = BitVec.ofNat 8 (nibE g (tmax x u i R l) (View.ld (Val := Elt Ideal) x (rT u i) (ix2 R l)) (View.ld (Val := Elt Ideal) rb (rT u i) (ix2 R l))) := by
  have hR := R.isLt
  have e4 : (⟨4 * (R.val / 4) + R.val % 4, by omega⟩ : Fin 32) = R := Fin.ext (by show 4 * (R.val / 4) + R.val % 4 = R.val; omega)
  have := nibV_byte (View.ld (Val := Elt Ideal) x (rT u i)) (View.ld (Val := Elt Ideal) rb (rT u i)) (r4Of g (sfU g x u)) i g hg (tmax x u i) (fun R l => bmax_nonneg _ _ _)
    (fun R l => congrArg (kR4 g) (sf_lane g x u i R l)) (⟨R.val / 4, by omega⟩ : Fin 8) l ⟨R.val % 4, by omega⟩
  simp only [e4] at this
  exact this

/-- The decoded operand of a block. -/
theorem aOf_apply (r : Fin 1024) (k : Fin 512) :
    aOf (F := Ideal) g x rb (ix2 r k) = decE g (bmax x r ⟨k.val / 16, by omega⟩) (x (ix2 r k)) (rb (ix2 r k)) := by
  have hr := r.isLt; have hk := k.isLt
  show decU (F := Ideal) g x rb (unitA (ix2 r k)) (tileA (ix2 r k)) (locA (ix2 r k)) = _
  have el : locA (ix2 r k) = ix2 (⟨r.val % 32, by omega⟩ : Fin 32) (⟨k.val % 128, by omega⟩ : Fin 128) := by
    funext a; fin_cases a <;> rfl
  have er : (⟨row (unitA (ix2 r k)).val ((tileA (ix2 r k)).val / 4) + r.val % 32, row_lt _ _ (by omega) _ (by omega)⟩ : Fin 1024) = r := Fin.ext (by
    show (r.val / 512 * 4 + r.val % 128 / 32) / 4 * 512 + (r.val % 512 / 128 * 4 + k.val / 128) / 4 * 128 + (r.val / 512 * 4 + r.val % 128 / 32) % 4 * 32 + r.val % 32 = r.val
    omega)
  have ek : (⟨(tileA (ix2 r k)).val % 4 * 128 + k.val % 128, by omega⟩ : Fin 512) = k := Fin.ext (by
    show (r.val % 512 / 128 * 4 + k.val / 128) % 4 * 128 + k.val % 128 = k.val
    omega)
  have eb : (⟨(tileA (ix2 r k)).val % 4 * 8 + k.val % 128 / 16, by omega⟩ : Fin 32) = ⟨k.val / 16, by omega⟩ := Fin.ext (by
    show (r.val % 512 / 128 * 4 + k.val / 128) % 4 * 8 + k.val % 128 / 16 = k.val / 16
    omega)
  rw [el, decU_apply g hg, ldT_apply, ldT_apply]
  unfold tmax
  simp only [er, ek, eb]

end Block

end Cert.KernelIdeal.Value

end
-- ==== Proof.CodeValue.lean ====
/- The codes and the scales that the quantiser leaves of a block, element by element. -/
module

public import proofs.«01_k».proof.Proof.BlockValue

@[expose] public section

set_option maxRecDepth 16384

noncomputable section

namespace Cert.KernelIdeal.Value

open Idealize.ShloMosaic Idealize.ShloMosaic.TcCoe Idealize.ShloMosaic.ValueIdx
open Cert.KernelIdeal Cert.KernelIdeal.Gen Cert.Nvfp4

/-- A byte shifted up by a nibble. -/
theorem shl4 (w : BitVec 32) (b : ℕ → ℕ) (hb : ∀ k < 4, b k ≤ 15) (h : ∀ k < 4, byte w k = BitVec.ofNat 8 (b k)) (k : ℕ) (hk : k < 4) :
    byte (w <<< 4) k = BitVec.ofNat 8 (16 * b k) := by
  have h0 := hb 0 (by omega); have h1 := hb 1 (by omega); have h2 := hb 2 (by omega); have h3 := hb 3 (by omega)
  have hw := word_of w b (fun k hk => by have := hb k hk; omega) h
  refine byte_of _ (fun k => 16 * b k) (fun k hk => by have := hb k hk; show 16 * b k < 256; omega) ?_ k hk
  rw [BitVec.toNat_shiftLeft, hw, Nat.shiftLeft_eq]
  omega

theorem or_nibs (a b : ℕ) (ha : a ≤ 15) (hb : b ≤ 15) : BitVec.ofNat 8 a ||| BitVec.ofNat 8 (16 * b) = codeE a b := by
  unfold codeE
  interval_cases a <;> interval_cases b <;> rfl

theorem byte_pair (w0 w1 : BitVec 32) (b0 b1 : ℕ → ℕ) (hb0 : ∀ k < 4, b0 k ≤ 15) (hb1 : ∀ k < 4, b1 k ≤ 15)
    (h0 : ∀ k < 4, byte w0 k = BitVec.ofNat 8 (b0 k)) (h1 : ∀ k < 4, byte w1 k = BitVec.ofNat 8 (b1 k)) (k : ℕ) (hk : k < 4) :
    byte (w0 ||| w1 <<< 4) k = codeE (b0 k) (b1 k) := by
  rw [byte_or, h0 k hk, shl4 w1 b1 hb1 h1 k hk, or_nibs _ _ (hb0 k hk) (hb1 k hk)]

/-- A pair of packed tiles: the low lanes hold the first tile's pairs of neighbours, the high lanes the second's. -/
theorem packV_lo (a b : IVec S8x128 32) (R : Fin 32) (l n n' : Fin 128) (h : l.val < 64) (hn : n.val = 2 * l.val) (hn' : n'.val = 2 * l.val + 1) :
    packV a b (ix2 R l) = byte (a (ix2 (⟨R.val / 4, by omega⟩ : Fin 8) n) ||| a (ix2 (⟨R.val / 4, by omega⟩ : Fin 8) n') <<< 4) (R.val % 4) := by
  have hl : l.val % 64 * 2 + l.val / 64 < 128 := by omega
  unfold packV
  rw [unpack_byte, gather_apply _ _ _ _ _ hl (pidx_apply _ _), show (⟨l.val % 64 * 2 + l.val / 64, hl⟩ : Fin 128) = n from Fin.ext (by dsimp only; omega)]
  refine congrArg (byte · _) (congr (congrArg HOr.hOr ?_) (congrArg (fun w : BitVec 32 => w <<< 4) ?_))
  · show Scalar.select (even8 (ix2 _ n)) _ _ = _
    rw [even8_apply, if_pos (show n.val % 2 = 0 by omega)]
    rfl
  · show Scalar.select (even8 (ix2 _ n)) _ _ = _
    rw [even8_apply, if_pos (show n.val % 2 = 0 by omega), rot8_apply 127#32 _ _ n n' (by show n'.val = (n.val + 128 - 127 % 128) % 128; omega)]
    rfl
theorem packV_hi (a b : IVec S8x128 32) (R : Fin 32) (l n n' : Fin 128) (h : ¬ l.val < 64) (hn : n.val = 2 * l.val - 128) (hn' : n'.val = 2 * l.val - 127) :
    packV a b (ix2 R l) = byte (b (ix2 (⟨R.val / 4, by omega⟩ : Fin 8) n) ||| b (ix2 (⟨R.val / 4, by omega⟩ : Fin 8) n') <<< 4) (R.val % 4) := by
  have hl : l.val % 64 * 2 + l.val / 64 < 128 := by omega
  unfold packV
  rw [unpack_byte, gather_apply _ _ _ _ _ hl (pidx_apply _ _), show (⟨l.val % 64 * 2 + l.val / 64, hl⟩ : Fin 128) = n' from Fin.ext (by dsimp only; omega)]
  refine congrArg (byte · _) (congr (congrArg HOr.hOr ?_) (congrArg (fun w : BitVec 32 => w <<< 4) ?_))
  · show Scalar.select (even8 (ix2 _ n')) _ _ = _
    rw [even8_apply, if_neg (show ¬ n'.val % 2 = 0 by omega), rot8_apply 1#32 _ _ n' n (by show n.val = (n'.val + 128 - 1 % 128) % 128; omega)]
    rfl
  · show Scalar.select (even8 (ix2 _ n')) _ _ = _
    rw [even8_apply, if_neg (show ¬ n'.val % 2 = 0 by omega)]
    rfl

section Codes

variable (g : EReal) (hg : g ≠ 0) (x : Vec Ideal S1024x512 .bf16) (rb : Vec Ideal S1024x512 .i32)

/-- The nibble of an element of a block. -/
def nibB (r : Fin 1024) (k : Fin 512) : ℕ := nibE g (bmax x r ⟨k.val / 16, by omega⟩) (x (ix2 r k)) (rb (ix2 r k))

/-- The place in a block of an element of tile `i` of unit `u`. -/
def rowT (u : Fin 8) (i : Fin 16) (R : Fin 32) : Fin 1024 := ⟨row u.val (i.val / 4) + R.val, row_lt u _ (by omega) _ R.isLt⟩
def colT (i : Fin 16) (l : Fin 128) : Fin 512 := ⟨i.val % 4 * 128 + l.val, by omega⟩

include hg

theorem nibB_le (r : Fin 1024) (k : Fin 512) : nibB g x rb r k ≤ 15 := by
  have := (element hg (bmax_nonneg x r ⟨k.val / 16, by omega⟩) (x (ix2 r k)) (rb (ix2 r k))).1
  unfold nibB nibE
  split_ifs <;> omega

theorem nibU_word (u : Fin 8) (i : Fin 16) (r : Fin 8) (l : Fin 128) (k : ℕ) (hk : k < 4) :
    byte (nibU (F := Ideal) g x rb u i (ix2 r l)) k = BitVec.ofNat 8 (nibB g x rb (rowT u i ⟨4 * r.val + k % 4, by omega⟩) (colT i l)) := by
  have hr := r.isLt
  have hi := i.isLt
  have h := nibU_byte g hg x rb u i ⟨4 * r.val + k % 4, by omega⟩ l
  have e1 : (⟨(4 * r.val + k % 4) / 4, by omega⟩ : Fin 8) = r := Fin.ext (by show (4 * r.val + k % 4) / 4 = r.val; omega)
  have e2 : (4 * r.val + k % 4) % 4 = k := by omega
  have eb : (⟨(colT i l).val / 16, by omega⟩ : Fin 32) = ⟨i.val % 4 * 8 + l.val / 16, by omega⟩ := Fin.ext (by
    show (i.val % 4 * 128 + l.val) / 16 = i.val % 4 * 8 + l.val / 16; omega)
  simp only [e1, e2] at h
  rw [h, ldT_apply, ldT_apply]
  unfold nibB
  rw [eb]
  rfl

/-- Two neighbouring lanes of one tile, joined into a byte. -/
theorem pair_lanes (u : Fin 8) (i : Fin 16) (R : Fin 32) (l0 l1 : Fin 128) :
    byte (nibU (F := Ideal) g x rb u i (ix2 (⟨R.val / 4, by omega⟩ : Fin 8) l0) ||| nibU (F := Ideal) g x rb u i (ix2 (⟨R.val / 4, by omega⟩ : Fin 8) l1) <<< 4) (R.val % 4)
      = codeE (nibB g x rb (rowT u i R) (colT i l0)) (nibB g x rb (rowT u i R) (colT i l1)) := by
  have h := byte_pair (nibU (F := Ideal) g x rb u i (ix2 (⟨R.val / 4, by omega⟩ : Fin 8) l0)) (nibU (F := Ideal) g x rb u i (ix2 (⟨R.val / 4, by omega⟩ : Fin 8) l1))
    (fun k => nibB g x rb (rowT u i ⟨4 * (R.val / 4) + k % 4, by omega⟩) (colT i l0)) (fun k => nibB g x rb (rowT u i ⟨4 * (R.val / 4) + k % 4, by omega⟩) (colT i l1))
    (fun k _ => nibB_le g hg x rb _ _) (fun k _ => nibB_le g hg x rb _ _)
    (fun k hk => nibU_word g hg x rb u i _ l0 k hk) (fun k hk => nibU_word g hg x rb u i _ l1 k hk) (R.val % 4) (by omega)
  have e : (⟨4 * (R.val / 4) + R.val % 4 % 4, by omega⟩ : Fin 32) = R := Fin.ext (by show 4 * (R.val / 4) + R.val % 4 % 4 = R.val; omega)
  rw [h, e]

/-- The codes of a pair of tiles: byte `l` of a row holds columns `2 l` and `2 l + 1`. -/
theorem codU_apply (u p : Fin 8) (R : Fin 32) (l : Fin 128) :
    codU (F := Ideal) g x rb u p (ix2 R l)
      = codeE (nibB g x rb (rowT u (t0 p) R) ⟨p.val % 2 * 256 + 2 * l.val, by omega⟩) (nibB g x rb (rowT u (t0 p) R) ⟨p.val % 2 * 256 + 2 * l.val + 1, by omega⟩) := by
  have hp := p.isLt; have hl := l.isLt
  have er : rowT u (t1 p) R = rowT u (t0 p) R := Fin.ext (by
    show u.val / 4 * 512 + (2 * p.val + 1) / 4 * 128 + u.val % 4 * 32 + R.val = u.val / 4 * 512 + 2 * p.val / 4 * 128 + u.val % 4 * 32 + R.val
    omega)
  unfold codU
  by_cases h : l.val < 64
  · rw [packV_lo _ _ R l ⟨2 * l.val, by omega⟩ ⟨2 * l.val + 1, by omega⟩ h rfl rfl, pair_lanes g hg]
    congr 2 <;> apply Fin.ext
    · show 2 * p.val % 4 * 128 + 2 * l.val = p.val % 2 * 256 + 2 * l.val; omega
    · show 2 * p.val % 4 * 128 + (2 * l.val + 1) = p.val % 2 * 256 + 2 * l.val + 1; omega
  · rw [packV_hi _ _ R l ⟨2 * l.val - 128, by omega⟩ ⟨2 * l.val - 127, by omega⟩ h rfl rfl, pair_lanes g hg, er]
    congr 2 <;> apply Fin.ext
    · show (2 * p.val + 1) % 4 * 128 + (2 * l.val - 128) = p.val % 2 * 256 + 2 * l.val; omega
    · show (2 * p.val + 1) % 4 * 128 + (2 * l.val - 127) = p.val % 2 * 256 + 2 * l.val + 1; omega

/-- The codes of a block: columns `2 C` and `2 C + 1` of the input in byte `C`. -/
theorem cOf_apply (r : Fin 1024) (C : Fin 256) :
    cOf (F := Ideal) g x rb (ix2 r C) = codeE (nibB g x rb r ⟨2 * C.val, by omega⟩) (nibB g x rb r ⟨2 * C.val + 1, by omega⟩) := by
  have hr := r.isLt; have hC := C.isLt
  have el : locC (ix2 r C) = ix2 (⟨r.val % 32, by omega⟩ : Fin 32) (⟨C.val % 128, by omega⟩ : Fin 128) := by
    funext a; fin_cases a <;> rfl
  show codU (F := Ideal) g x rb (unitC (ix2 r C)) (pairC (ix2 r C)) (locC (ix2 r C)) = _
  rw [el, codU_apply g hg]
  have er : rowT (unitC (ix2 r C)) (t0 (pairC (ix2 r C))) (⟨r.val % 32, by omega⟩ : Fin 32) = r := Fin.ext (by
    show (r.val / 512 * 4 + r.val % 128 / 32) / 4 * 512 + 2 * (r.val % 512 / 128 * 2 + C.val / 128) / 4 * 128 + (r.val / 512 * 4 + r.val % 128 / 32) % 4 * 32 + r.val % 32 = r.val
    omega)
  rw [er]
  congr 2 <;> apply Fin.ext
  · show (r.val % 512 / 128 * 2 + C.val / 128) % 2 * 256 + 2 * (C.val % 128) = 2 * C.val; omega
  · show (r.val % 512 / 128 * 2 + C.val / 128) % 2 * 256 + 2 * (C.val % 128) + 1 = 2 * C.val + 1; omega

end Codes

section Scales

/-- A group of 32 rows of the scales of a chunk. -/
theorem sl4_apply (st : FVec Ideal S128x128 .f32) (G : Fin 4) (k : Fin 32) (r : Fin 128) :
    sl4 st G (ix2 k r) = st (ix2 (⟨G.val * 32 + k.val, by omega⟩ : Fin 128) r) := by
  fin_cases G <;>
  · refine congrArg st (funext fun b => Fin.ext ?_)
    fin_cases b
    · first | rfl | (show _ + k.val = _ * 32 + k.val; rfl)
    · exact Nat.zero_add _

/-- The scales of a chunk, lanes by rows. -/
theorem stU_apply (g : EReal) (x : Vec Ideal S1024x512 .bf16) (c : Fin 2) (L r : Fin 128) :
    stU (F := Ideal) g x c (ix2 L r)
      = sfU (F := Ideal) g x ⟨4 * c.val + r.val / 32, by omega⟩ (ix2 (⟨r.val % 32, by omega⟩ : Fin 32) (⟨L.val % 8 * 16 + L.val / 8, by omega⟩ : Fin 128)) := by
  have hT : stU (F := Ideal) g x c (ix2 L r) = concatenate S128x128 0 [⟨S32x128, gl (sfU (F := Ideal) g x ⟨4 * c.val, by omega⟩) sord⟩, ⟨S32x128, gl (sfU (F := Ideal) g x ⟨4 * c.val + 1, by omega⟩) sord⟩,
      ⟨S32x128, gl (sfU (F := Ideal) g x ⟨4 * c.val + 2, by omega⟩) sord⟩, ⟨S32x128, gl (sfU (F := Ideal) g x ⟨4 * c.val + 3, by omega⟩) sord⟩]
      concatenates_S32x128_S32x128_S32x128_S32x128_S128x128_d0 (ix2 r L) :=
    transpose_apply (α := EReal) [1, 0] _ _ (ix2 L r) (ix2 r L) (fun b => by fin_cases b <;> rfl)
  rw [hT]
  refine (cat32_apply (fun q : Fin 4 => gl (sfU (F := Ideal) g x ⟨4 * c.val + q.val, by omega⟩) sord) r L).trans ?_
  rw [gl_apply _ sord _ _ (L.val % 8 * 16 + L.val / 8) (by omega) (fun r' => sord_apply r' _)]

/-- The scales of a block, blocks by rows. -/
theorem sOf_apply (g : EReal) (x : Vec Ideal S1024x512 .bf16) (o : Fin 1) (k : Fin 32) (r : Fin 1024) :
    sOf (F := Ideal) g x (ix3 o k r) = scl g (bmax x r k) := by
  have hr := r.isLt; have hk := k.isLt
  have es : ∀ s : FVec Ideal S32x128 .f32, sc1V s (locS (ix3 o k r)) = s (ix2 k (⟨r.val % 128, by omega⟩ : Fin 128)) := fun s => by
    refine shapeCast_apply (α := EReal) _ _ _ _ ?_
    rw [Shape.rowMajor_val_three, Shape.rowMajor_val_two]
    show k.val * 128 + r.val % 128 = (0 * 32 + k.val) * 128 + r.val % 128
    omega
  show sc1V (sl4 (stU (F := Ideal) g x (chunkS (ix3 o k r))) (groupS (ix3 o k r))) (locS (ix3 o k r)) = _
  rw [es, sl4_apply, stU_apply, sfU_apply]
  have hG : (groupS (ix3 o k r)).val = r.val % 512 / 128 := rfl
  have hc : (chunkS (ix3 o k r)).val = r.val / 512 := rfl
  obtain ⟨q, hq⟩ : ∃ q, q = r.val % 512 / 128 := ⟨_, rfl⟩
  have hq4 : q < 4 := by omega
  have a1 : (q * 32 + k.val) % 8 = k.val % 8 := by omega
  have a2 : (q * 32 + k.val) / 8 = q * 4 + k.val / 8 := by omega
  have a3 : (k.val % 8 * 16 + (q * 4 + k.val / 8)) % 16 = q * 4 + k.val / 8 := by omega
  have a4 : (k.val % 8 * 16 + (q * 4 + k.val / 8)) / 16 = k.val % 8 := by omega
  have a5 : (q * 4 + k.val / 8) / 4 = q := by omega
  have a6 : (q * 4 + k.val / 8) % 4 = k.val / 8 := by omega
  congr 2 <;> apply Fin.ext
  · show (4 * (r.val / 512) + r.val % 128 / 32) / 4 * 512 + ((r.val % 512 / 128 * 32 + k.val) % 8 * 16 + (r.val % 512 / 128 * 32 + k.val) / 8) % 16 / 4 * 128
      + (4 * (r.val / 512) + r.val % 128 / 32) % 4 * 32 + r.val % 128 % 32 = r.val
    rw [← hq, a1, a2, a3, a5]; omega
  · show ((r.val % 512 / 128 * 32 + k.val) % 8 * 16 + (r.val % 512 / 128 * 32 + k.val) / 8) % 16 % 4 * 8 + ((r.val % 512 / 128 * 32 + k.val) % 8 * 16 + (r.val % 512 / 128 * 32 + k.val) / 8) / 16 = k.val
    rw [← hq, a1, a2, a3, a4, a6]; omega

end Scales

end Cert.KernelIdeal.Value

end
-- ==== Proof.Spec.lean ====
/- What the call computes, as functions of the arguments: the scale of every block of sixteen, the nibble of every element, the
   packed codes, and the product of the decoded operand with the decoded weights. -/
module

public import proofs.«01_k».proof.Proof.BlockValue

@[expose] public section

noncomputable section

namespace Cert.Nvfp4

open Idealize.ShloMosaic
open scoped BigOperators

/-- Half `h` of a word (0 the low one), read as a bfloat16, over the extended reals. -/
def half (x : BitVec 32) (h : ℕ) : EReal := FloatOps.ofBits (F := Ideal) .bf16 (x.extractLsb' (16 * h) 16)

section

variable (g : EReal) (X : Fin 12288 → Fin 18944 → EReal) (U : Fin 12288 → Fin 18944 → BitVec 32)

/-- The largest magnitude of block `b` of row `r`. -/
def gmax (r : Fin 12288) (b : Fin 1184) : EReal := Finset.univ.sup fun e : Fin 16 => absE (X r ⟨16 * b.val + e.val, by omega⟩)

/-- Its scale. -/
def sclG (r : Fin 12288) (b : Fin 1184) : EReal := scl g (gmax X r b)

/-- The nibble and the decoded value of an element. -/
def nibG (r : Fin 12288) (k : Fin 18944) : ℕ := nibE g (gmax X r ⟨k.val / 16, by omega⟩) (X r k) (U r k)
def decG (r : Fin 12288) (k : Fin 18944) : EReal := decE g (gmax X r ⟨k.val / 16, by omega⟩) (X r k) (U r k)

/-- The byte of two neighbours. -/
def codeG (r : Fin 12288) (C : Fin 9472) : BitVec 8 :=
  codeE (nibG g X U r ⟨2 * C.val, by omega⟩) (nibG g X U r ⟨2 * C.val + 1, by omega⟩)

/-- The decoded weights: row `k` is half `k % 2` of word row `k / 2`. -/
def rhsG (W : Fin 9472 → Fin 3584 → BitVec 32) (k : Fin 18944) (c : Fin 3584) : EReal := half (W ⟨k.val / 2, by omega⟩ c) (k.val % 2)

/-- The product, scaled. -/
def dxG (wg : EReal) (W : Fin 9472 → Fin 3584 → BitVec 32) (r : Fin 12288) (c : Fin 3584) : EReal :=
  (∑ k : Fin 18944, decG g X U r k * rhsG W k c) * (g * wg)

end

end Cert.Nvfp4

end
-- ==== Proof.QuantCases.lean ====
/- The kernel body at a point of the grid, one run for each way its branches can be taken. -/
module

public import proofs.«01_k».proof.Proof.QuantRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-- The one index of a [1,1] array. -/
abbrev one11 : S1x1.Idx := fun a => match a with | ⟨0, _⟩ => (0 : Fin 1) | ⟨1, _⟩ => (0 : Fin 1)

theorem eq_one11 (y : S1x1.Idx) : y = one11 := funext fun a => Fin.ext (by
  match a with
  | ⟨0, _⟩ => exact Nat.lt_one_iff.mp (y 0).isLt
  | ⟨1, _⟩ => exact Nat.lt_one_iff.mp (y 1).isLt)

/-- A [1,1] load reads the one element. -/
theorem ld11 (x : Vec F S1x1 .f32) (r : Rect S1x1) (j : r.shape.Idx) : View.ld (Val := Elt F) x r j = x one11 :=
  congrArg x (eq_one11 _)

/-- The output block a row block ends with: the accumulator times the product of the two scale factors, in the output's type. -/
def outVal (x1 x2 : Vec F S1x1 .f32) (acc : Vec F S1024x3584 .f32) : Vec F S1024x3584 .bf16 :=
  truncf .bf16 (mulf (show FVec F S1024x3584 .f32 from acc) (broadcast S1024x3584 (Scalar.mulf (x1 one11) (x2 one11)))) bitsLt_bf16_f32

theorem emb_full (z : S1024x3584.Idx) :
    (Rect.unit (s := S1024x3584) ![0, 0] S1024x3584.size inb_S1024x3584_S1024x3584_0_0).emb z = z := by
  funext a; apply Fin.ext
  match a with
  | ⟨0, _⟩ => show 0 + 1 * (z 0).val = (z 0).val; omega
  | ⟨1, _⟩ => show 0 + 1 * (z 1).val = (z 1).val; omega

theorem ld_full (x : Vec F S1024x3584 .f32) :
    View.ld (Val := Elt F) x (Rect.unit (s := S1024x3584) ![0, 0] S1024x3584.size inb_S1024x3584_S1024x3584_0_0) = x :=
  funext fun z => congrArg x (emb_full z)

/-- A store of the whole. -/
theorem wp_stf (c : Dev nD) (E : Set ℕ) {α : Type} {Q : α → sProp 𝕄} {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {T x : s.Idx → Elt F e}
    (hr : ∀ y, y ∈ r.set) (hw : ∀ j, w j = T (r.emb j)) :
    owns (c : Thread nD τ) m fullShare x
      ⊢ iprop((owns (c : Thread nD τ) m fullShare T -∗ wp frame (wpE (defs₀ (F := F)) Variants.none c none) E (k ⟨⟩) Q)
        -∗ wp frame (wpE (defs₀ (F := F)) Variants.none c none) E (.op (.store m r w Finset.univ hx hm) k) Q) := by
  have h := wp_str (F := F) c E (Q := Q) (m := m) (r := r) (w := w) (hx := hx) (hm := hm) (k := k) (P := fun _ => False) (P' := fun _ => True) (T := T) (x := x) hw
    (fun y => ⟨fun _ => Or.inl (hr y), fun _ => trivial⟩)
  rwa [mix_false (fun _ h => h), mix_true (fun _ => trivial)] at h

/-- The first point: the first operand buffer is filled. -/
theorem runA (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : k0_cond1 i = 1#1) (hc2 : ¬k0_cond2 i = 1#1) (hc3 : ¬k0_cond3 i = 1#1) (hc4 : ¬k0_cond4 i = 1#1)
    (x1 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg10 fullShare xo
        ∗ (∃ d, owns (c : Thread nD τ) arg9 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg3 fullShare x3
          ∗ owns (c : Thread nD τ) arg4 fullShare x4
          ∗ owns (c : Thread nD τ) arg5 fullShare x5
          ∗ owns (c : Thread nD τ) arg10 fullShare xo
          ∗ owns (c : Thread nD τ) arg9 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare xa) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_pos hc1, dif_neg hc2, dif_neg hc3, dif_neg hc4, Prog.bind_op, Prog.bind_ret, Prog.bind_lift]
  iintro ⟨H1, H3, H4, H5, HO, ⟨%dN, HN⟩, ⟨%d7, H7⟩, ⟨%d8, H8⟩, HA, Hk⟩
  iapply (wp_ldr c E) $$ H1; iintro H1
  rw [ld11, wp_bind]
  iapply (wp_fill c E arg3 arg4 arg5 arg7 harg7 arg8 harg8 arg9 harg9 arg10 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_end c E)
  iapply Hk
  isplitl [H1]; · iexact H1
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An odd point inside a row block: the second operand buffer is filled, the product steps from the first. -/
theorem runB (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : k0_cond2 i = 1#1) (hc3 : ¬k0_cond3 i = 1#1) (hc4 : ¬k0_cond4 i = 1#1)
    (x1 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg9 fullShare xo
        ∗ (∃ d, owns (c : Thread nD τ) arg10 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg3 fullShare x3
          ∗ owns (c : Thread nD τ) arg4 fullShare x4
          ∗ owns (c : Thread nD τ) arg5 fullShare x5
          ∗ owns (c : Thread nD τ) arg9 fullShare xo
          ∗ owns (c : Thread nD τ) arg10 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_pos hc2, dif_neg hc3, dif_neg hc4, Prog.bind_op, Prog.bind_ret, Prog.bind_lift]
  iintro ⟨H1, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg10 harg10 arg9 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_end c E)
  iapply Hk
  isplitl [H1]; · iexact H1
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An odd point that ends a row block: the output block is written too. -/
theorem runB_out (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : k0_cond2 i = 1#1) (hc3 : ¬k0_cond3 i = 1#1) (hc4 : k0_cond4 i = 1#1)
    (x1 x2 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg2 fullShare x2
        ∗ (∃ d, owns (c : Thread nD τ) arg6 fullShare d)
        ∗ owns (c : Thread nD τ) arg3 fullShare x3
        ∗ owns (c : Thread nD τ) arg4 fullShare x4
        ∗ owns (c : Thread nD τ) arg5 fullShare x5
        ∗ owns (c : Thread nD τ) arg9 fullShare xo
        ∗ (∃ d, owns (c : Thread nD τ) arg10 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg2 fullShare x2
          ∗ owns (c : Thread nD τ) arg6 fullShare (outVal x1 x2 (accStep (Scalar.cmpi .eq (Scalar.remsi (Scalar.subi (BitVec.ofNat 32 (i 0).val) 1#32) 37#32) 0#32) xo x5 xa))
          ∗ owns (c : Thread nD τ) arg3 fullShare x3
          ∗ owns (c : Thread nD τ) arg4 fullShare x4
          ∗ owns (c : Thread nD τ) arg5 fullShare x5
          ∗ owns (c : Thread nD τ) arg9 fullShare xo
          ∗ owns (c : Thread nD τ) arg10 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_pos hc2, dif_neg hc3, dif_pos hc4, Prog.bind_op, Prog.bind_ret, Prog.bind_lift]
  iintro ⟨H1, H2, ⟨%d6, H6⟩, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg10 harg10 arg9 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_ldr c E) $$ H2; iintro H2
  rw [ld11]
  iapply (wp_ldr c E) $$ HA; iintro HA
  rw [ld_full]
  iapply (wp_ldr c E) $$ H6; iintro H6
  iapply (wp_stf c E (T := outVal x1 x2 (accStep (Scalar.cmpi .eq (Scalar.remsi (Scalar.subi (BitVec.ofNat 32 (i 0).val) 1#32) 37#32) 0#32) xo x5 xa)) (fun y => by
    rw [← emb_full y, ← Rect.map_emb_univ, Finset.mem_map]; exact ⟨y, Finset.mem_univ _, rfl⟩) (fun j => by rw [emb_full]; rfl)) $$ H6
  iintro H6
  iapply (wp_end c E)
  iapply Hk
  isplitl [H1]; · iexact H1
  isplitl [H2]; · iexact H2
  isplitl [H6]; · iexact H6
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An even point inside a row block: the first operand buffer is filled, the product steps from the second. -/
theorem runC (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : ¬k0_cond2 i = 1#1) (hc3 : k0_cond3 i = 1#1) (hc4 : ¬k0_cond4 i = 1#1)
    (x1 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg10 fullShare xo
        ∗ (∃ d, owns (c : Thread nD τ) arg9 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg3 fullShare x3
          ∗ owns (c : Thread nD τ) arg4 fullShare x4
          ∗ owns (c : Thread nD τ) arg5 fullShare x5
          ∗ owns (c : Thread nD τ) arg10 fullShare xo
          ∗ owns (c : Thread nD τ) arg9 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_neg hc2, dif_pos hc3, dif_neg hc4, Prog.bind_op, Prog.bind_ret, Prog.bind_lift]
  iintro ⟨H1, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg9 harg9 arg10 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_end c E)
  iapply Hk
  isplitl [H1]; · iexact H1
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

/-- An even point that ends a row block: the output block is written too. -/
theorem runC_out (c : Dev nD) (i : grid0.Coords) (arg1 : Memref sig .tc .smem S1x1 .f32) (harg1 : arg1.IsWhole) (arg2 : Memref sig .tc .smem S1x1 .f32) (harg2 : arg2.IsWhole)
    (arg3 : Memref sig .tc .vmem S1024x512 .bf16) (harg3 : arg3.IsWhole) (arg4 : Memref sig .tc .vmem S1024x512 .i32) (harg4 : arg4.IsWhole)
    (arg5 : Memref sig .tc .vmem S256x3584 .i32) (harg5 : arg5.IsWhole) (arg6 : Memref sig .tc .vmem S1024x3584 .bf16) (harg6 : arg6.IsWhole)
    (arg7 : Memref sig .tc .vmem S1024x256 .i8) (harg7 : arg7.IsWhole) (arg8 : Memref sig .tc .vmem S1x32x1024 .fp8e4m3) (harg8 : arg8.IsWhole)
    (arg9 : Memref sig .tc .vmem S1024x512 .bf16) (harg9 : arg9.IsWhole) (arg10 : Memref sig .tc .vmem S1024x512 .bf16) (harg10 : arg10.IsWhole)
    (arg11 : Memref sig .tc .vmem S1024x3584 .f32) (harg11 : arg11.IsWhole)
    (hc1 : ¬k0_cond1 i = 1#1) (hc2 : ¬k0_cond2 i = 1#1) (hc3 : k0_cond3 i = 1#1) (hc4 : k0_cond4 i = 1#1)
    (x1 x2 : Vec F S1x1 .f32) (x3 : Vec F S1024x512 .bf16) (x4 : Vec F S1024x512 .i32) (x5 : Vec F S256x3584 .i32) (xo : Vec F S1024x512 .bf16) (xa : Vec F S1024x3584 .f32)
    (E : Set ℕ) (K : PUnit → sProp 𝕄) :
    iprop(owns (c : Thread nD τ) arg1 fullShare x1
        ∗ owns (c : Thread nD τ) arg2 fullShare x2
        ∗ (∃ d, owns (c : Thread nD τ) arg6 fullShare d)
        ∗ owns (c : Thread nD τ) arg3 fullShare x3
        ∗ owns (c : Thread nD τ) arg4 fullShare x4
        ∗ owns (c : Thread nD τ) arg5 fullShare x5
        ∗ owns (c : Thread nD τ) arg10 fullShare xo
        ∗ (∃ d, owns (c : Thread nD τ) arg9 fullShare d)
        ∗ (∃ d, owns (c : Thread nD τ) arg7 fullShare d)
        ∗ (∃ d, owns (c : Thread nD τ) arg8 fullShare d)
        ∗ owns (c : Thread nD τ) arg11 fullShare xa
        ∗ (iprop(owns (c : Thread nD τ) arg1 fullShare x1
          ∗ owns (c : Thread nD τ) arg2 fullShare x2
          ∗ owns (c : Thread nD τ) arg6 fullShare (outVal x1 x2 (accStep (Scalar.cmpi .eq (Scalar.remsi (Scalar.subi (BitVec.ofNat 32 (i 0).val) 1#32) 37#32) 0#32) xo x5 xa))
          ∗ owns (c : Thread nD τ) arg3 fullShare x3
          ∗ owns (c : Thread nD τ) arg4 fullShare x4
          ∗ owns (c : Thread nD τ) arg5 fullShare x5
          ∗ owns (c : Thread nD τ) arg10 fullShare xo
          ∗ owns (c : Thread nD τ) arg9 fullShare (aOf (x1 one11) x3 x4)
          ∗ owns (c : Thread nD τ) arg7 fullShare (cOf (x1 one11) x3 x4)
          ∗ owns (c : Thread nD τ) arg8 fullShare (sOf (x1 one11) x3)
          ∗ owns (c : Thread nD τ) arg11 fullShare (accStep (Scalar.cmpi .eq (Scalar.remsi (Scalar.subi (BitVec.ofNat 32 (i 0).val) 1#32) 37#32) 0#32) xo x5 xa)) -∗ K ⟨⟩))
      ⊢ wp frame (wpE (defs₀ (F := F)) Variants.none c none) E (cc0_quant_dgrad (F := F) i arg1 harg1 arg2 harg2 arg3 harg3 arg4 harg4 arg5 harg5 arg6 harg6 arg7 harg7 arg8 harg8 arg9 harg9 arg10 harg10 arg11 harg11) K := by
  rw [body_eq]; unfold bodyProg smemLoad smemLoadElt
  simp only [dif_neg hc1, dif_neg hc2, dif_pos hc3, dif_pos hc4, Prog.bind_op, Prog.bind_ret, Prog.bind_lift]
  iintro ⟨H1, H2, ⟨%d6, H6⟩, H3, H4, H5, HO, ⟨%dN, HN⟩, ⟨%d7, H7⟩, ⟨%d8, H8⟩, HA, Hk⟩
  iapply (wp_ldr c E) $$ H1; iintro H1
  rw [ld11, wp_bind]
  iapply (wp_step c E arg3 arg4 arg5 arg7 harg7 arg8 harg8 arg9 harg9 arg10 arg11 x3 x4 x5 d7 d8 dN xo xa (x1 one11))
  isplitl [H3]; · iexact H3
  isplitl [H4]; · iexact H4
  isplitl [H5]; · iexact H5
  isplitl [HO]; · iexact HO
  isplitl [HN]; · iexact HN
  isplitl [H7]; · iexact H7
  isplitl [H8]; · iexact H8
  isplitl [HA]; · iexact HA
  iintro ⟨H3, H4, H5, HO, HN, H7, H8, HA⟩
  iapply (wp_ldr c E) $$ H2; iintro H2
  rw [ld11]
  iapply (wp_ldr c E) $$ HA; iintro HA
  rw [ld_full]
  iapply (wp_ldr c E) $$ H6; iintro H6
  iapply (wp_stf c E (T := outVal x1 x2 (accStep (Scalar.cmpi .eq (Scalar.remsi (Scalar.subi (BitVec.ofNat 32 (i 0).val) 1#32) 37#32) 0#32) xo x5 xa)) (fun y => by
    rw [← emb_full y, ← Rect.map_emb_univ, Finset.mem_map]; exact ⟨y, Finset.mem_univ _, rfl⟩) (fun j => by rw [emb_full]; rfl)) $$ H6
  iintro H6
  iapply (wp_end c E)
  iapply Hk
  isplitl [H1]; · iexact H1
  isplitl [H2]; · iexact H2
  isplitl [H6]; · iexact H6
  isplitl [H3]; · iexact H3
  isplitl [H4]; · iexact H4
  isplitl [H5]; · iexact H5
  isplitl [HO]; · iexact HO
  isplitl [HN]; · iexact HN
  isplitl [H7]; · iexact H7
  isplitl [H8]; · iexact H8
  iexact HA

end Cert.KernelIdeal.Gen

end
-- ==== Proof.QuantFrame.lean ====
/- The frame run: the invariant that carries the two operand buffers and the accumulator from point to point, the body's
   obligation at every point, and the run of the whole program. -/
module

public import proofs.«01_k».proof.Proof.QuantCases
public import Idealize.ShloMosaic.Lib.Quiescent
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The body's branch conditions -/

/-- The first branch is the first point's; the second the odd points'; the third the even points' after the first; the fourth
    that of the points that end a row block. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
theorem hcond3 : ∀ t : Fin cfg0.N, k0_cond3 (grid0.coords t) = 1#1 ↔ t.val % 2 = 0 ∧ t.val ≠ 0 :=
  (by decide +kernel : ∀ t : Fin grid0.N, k0_cond3 (grid0.coords t) = 1#1 ↔ t.val % 2 = 0 ∧ t.val ≠ 0)
theorem hcond4 : ∀ t : Fin cfg0.N, k0_cond4 (grid0.coords t) = 1#1 ↔ t.val % 37 = 0 ∧ t.val ≠ 0 :=
  (by decide +kernel : ∀ t : Fin grid0.N, k0_cond4 (grid0.coords t) = 1#1 ↔ t.val % 37 = 0 ∧ t.val ≠ 0)

/-- The step number inside a row block that a point multiplies at, as the body computes it. -/
abbrev kprev (i : grid0.Coords) : BitVec 32 := Scalar.remsi (Scalar.subi (BitVec.ofNat 32 (i 0).val) 1#32) 37#32

/-- It is zero exactly at the first step of a row block. -/
theorem kprev_zero : ∀ t : Fin cfg0.N, t.val ≠ 0 →
    Scalar.cmpi .eq (kprev (grid0.coords t)) 0#32 = if (t.val - 1) % 37 = 0 then 1#1 else 0#1 :=
  (by decide +kernel : ∀ t : Fin grid0.N, t.val ≠ 0 →
    Scalar.cmpi .eq (kprev (grid0.coords t)) 0#32 = if (t.val - 1) % 37 = 0 then 1#1 else 0#1)

/-! ## Where the windows are idle -/

theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl
theorem live_in6 : ∀ t : Fin cfg0.N, cfg0.idle 6 (grid0.coords t) = false := by decide +kernel
theorem live_in7 : ∀ t : Fin cfg0.N, cfg0.idle 7 (grid0.coords t) = false := by decide +kernel
/-- The output window is idle where the fourth branch is not taken, live where it is. -/
theorem idle_out : ∀ t : Fin cfg0.N, ¬k0_cond4 (grid0.coords t) = 1#1 → cfg0.idle 5 (grid0.coords t) = true := by decide +kernel
theorem live_out : ∀ t : Fin cfg0.N, k0_cond4 (grid0.coords t) = 1#1 → cfg0.idle 5 (grid0.coords t) = false := by decide +kernel
/-- The pipeline writes the output block back exactly at the points of the fourth branch. -/
theorem flush_out : ∀ t : Fin cfg0.N, (cfg0.win 5).flush t = true ↔ t.val % 37 = 0 ∧ t.val ≠ 0 :=
  (by decide +kernel : ∀ t : Fin grid0.N, (cfg0.win 5).flush t = true ↔ t.val % 37 = 0 ∧ t.val ≠ 0)
theorem noFlush_out (t : Fin cfg0.N) (h : ¬(t.val % 37 = 0 ∧ t.val ≠ 0)) : (cfg0.win 5).flush t = false := by
  rcases hf : (cfg0.win 5).flush t with _ | _
  · rfl
  · exact absurd ((flush_out t).mp hf) h

/-! ## The memrefs of the body -/

abbrev ms0 (t : Fin cfg0.N) : Memref sig .tc .smem S1x1 .f32 := win0_0.stage (cfg0.slots t 0)
abbrev ms1 (t : Fin cfg0.N) : Memref sig .tc .smem S1x1 .f32 := win0_1.stage (cfg0.slots t 1)
abbrev ms2 (t : Fin cfg0.N) : Memref sig .tc .vmem S1024x512 .bf16 := win0_2.stage (cfg0.slots t 2)
abbrev ms3 (t : Fin cfg0.N) : Memref sig .tc .vmem S1024x512 .i32 := win0_3.stage (cfg0.slots t 3)
abbrev ms4 (t : Fin cfg0.N) : Memref sig .tc .vmem S256x3584 .i32 := win0_4.stage (cfg0.slots t 4)
abbrev ms5 (t : Fin cfg0.N) : Memref sig .tc .vmem S1024x3584 .bf16 := win0_5.stage (cfg0.slots t 5)
abbrev ms6 (t : Fin cfg0.N) : Memref sig .tc .vmem S1024x256 .i8 := win0_6.stage (cfg0.slots t 6)
abbrev ms7 (t : Fin cfg0.N) : Memref sig .tc .vmem S1x32x1024 .fp8e4m3 := win0_7.stage (cfg0.slots t 7)
/-- The scratch operands: the two operand buffers and the accumulator. -/
abbrev sc0 : Memref sig .tc .vmem S1024x512 .bf16 := Memref.whole cc0_scratch0
abbrev sc1 : Memref sig .tc .vmem S1024x512 .bf16 := Memref.whole cc0_scratch1
abbrev sc2 : Memref sig .tc .vmem S1024x3584 .f32 := Memref.whole cc0_scratch2

/-- The launch's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

variable (m : (ℓ : Loc nD τ sig) → Buf (Elt F) ℓ) (ρ : Dev nD → PrngReg)

/-- What a point quantises its block to: the operand block, the codes and the scales. -/
def gAt (c : Dev nD) (t : Fin cfg0.N) : F .f32 := (iblk m c 0 t : Vec F S1x1 .f32) one11
def aAt (c : Dev nD) (t : Fin cfg0.N) : Vec F S1024x512 .bf16 := aOf (gAt m c t) (iblk m c 2 t) (iblk m c 3 t)
def cAt (c : Dev nD) (t : Fin cfg0.N) : Vec F S1024x256 .i8 := cOf (gAt m c t) (iblk m c 2 t) (iblk m c 3 t)
def sAt (c : Dev nD) (t : Fin cfg0.N) : Vec F S1x32x1024 .fp8e4m3 := sOf (gAt m c t) (iblk m c 2 t)

/-- THE ACCUMULATOR after point `n`: from point 1 on, the step of that point over what the point before left, from the
    operand block of the point before and this point's weight words. (What point 0 leaves is never read.) -/
def accAt (c : Dev nD) : (n : ℕ) → n < cfg0.N → Vec F S1024x3584 .f32
  | 0, _ => constant S1024x3584 .f32 0x00000000#32
  | n + 1, h => accStep (Scalar.cmpi .eq (kprev (grid0.coords ⟨n + 1, h⟩)) 0#32) (aAt m c ⟨n, Nat.lt_of_succ_lt h⟩)
      (iblk m c 4 ⟨n + 1, h⟩) (accAt c n (Nat.lt_of_succ_lt h))

/-- A step that starts a row block does not look at what the accumulator held. -/
theorem accStep_first (a : Vec F S1024x512 .bf16) (w : Vec F S256x3584 .i32) (d d' : Vec F S1024x3584 .f32) :
    accStep 1#1 a w d = accStep 1#1 a w d' := by
  funext y; rfl

/-- So the step of a point is `accAt` there, over what the point before left — or, at the first step, over anything. -/
theorem step_eq (c : Dev nD) (t : Fin cfg0.N) (hz : t.val ≠ 0) (d : Vec F S1024x3584 .f32)
    (hd : t.val - 1 ≠ 0 → d = accAt m c (t.val - 1) (Nat.lt_of_le_of_lt (Nat.sub_le _ _) t.isLt)) :
    accStep (Scalar.cmpi .eq (kprev (grid0.coords t)) 0#32) (aAt m c ⟨t.val - 1, Nat.lt_of_le_of_lt (Nat.sub_le _ _) t.isLt⟩)
      (iblk m c 4 t) d = accAt m c t.val t.isLt := by
  obtain ⟨n, hn⟩ := t
  cases n with
  | zero => exact absurd rfl hz
  | succ n =>
    by_cases h : n = 0
    · subst h
      show _ = accStep _ _ _ _
      rw [kprev_zero ⟨0 + 1, hn⟩ hz]
      exact accStep_first _ _ _ _
    · rw [hd h]; rfl

/-- The invariant before position `n`: at the start, every scratch buffer at anything; after point `n`, the operand buffer
    that point filled at its operand block, the other at anything, and the accumulator (from point 1 on) at `accAt`. -/
def PhiS (c : Dev nD) : (n : ℕ) → n ≤ cfg0.N → sProp 𝕄
  | 0, _ => Pipeline.ΦA spec0 c
  | n + 1, hn => iprop(iprop(
      (if n % 2 = 0 then owns (c : Thread nD τ) sc0 fullShare (aAt m c ⟨n, hn⟩) else iprop(∃ d, owns (c : Thread nD τ) sc0 fullShare d))
      ∗ (if n % 2 = 0 then iprop(∃ d, owns (c : Thread nD τ) sc1 fullShare d) else owns (c : Thread nD τ) sc1 fullShare (aAt m c ⟨n, hn⟩))
      ∗ (∃ d, ⌜n ≠ 0 → d = accAt m c n hn⌝ ∗ owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ_even (c : Dev nD) (n : ℕ) (hn : n + 1 ≤ cfg0.N) (he : n % 2 = 0) :
    PhiS m c (n + 1) hn = iprop(iprop(owns (c : Thread nD τ) sc0 fullShare (aAt m c ⟨n, hn⟩)
      ∗ iprop(∃ d, owns (c : Thread nD τ) sc1 fullShare d)
      ∗ (∃ d, ⌜n ≠ 0 → d = accAt m c n hn⌝ ∗ owns (c : Thread nD τ) sc2 fullShare d)) ∗ (∃ r, prngReg c r)) := by
  dsimp only [PhiS]; rw [if_pos he, if_pos he]

theorem PhiS_succ_odd (c : Dev nD) (n : ℕ) (hn : n + 1 ≤ cfg0.N) (he : ¬n % 2 = 0) :
    PhiS m c (n + 1) hn = iprop(iprop(iprop(∃ d, owns (c : Thread nD τ) sc0 fullShare d)
      ∗ owns (c : Thread nD τ) sc1 fullShare (aAt m c ⟨n, hn⟩)
      ∗ (∃ d, ⌜n ≠ 0 → d = accAt m c n hn⌝ ∗ owns (c : Thread nD τ) sc2 fullShare d)) ∗ (∃ r, prngReg c r)) := by
  dsimp only [PhiS]; rw [if_neg he, if_neg he]

/-- The same before a point that is not the first. -/
theorem PhiS_pos_even (c : Dev nD) (n : ℕ) (h : n ≤ cfg0.N) (hz : n ≠ 0) (he : (n - 1) % 2 = 0) :
    PhiS m c n h = iprop(iprop(owns (c : Thread nD τ) sc0 fullShare (aAt m c ⟨n - 1, by omega⟩)
      ∗ iprop(∃ d, owns (c : Thread nD τ) sc1 fullShare d)
      ∗ (∃ d, ⌜n - 1 ≠ 0 → d = accAt m c (n - 1) (by omega)⌝ ∗ owns (c : Thread nD τ) sc2 fullShare d)) ∗ (∃ r, prngReg c r)) := by
  cases n with
  | zero => exact absurd rfl hz
  | succ n => exact PhiS_succ_even m c n h he
theorem PhiS_pos_odd (c : Dev nD) (n : ℕ) (h : n ≤ cfg0.N) (hz : n ≠ 0) (he : ¬(n - 1) % 2 = 0) :
    PhiS m c n h = iprop(iprop(iprop(∃ d, owns (c : Thread nD τ) sc0 fullShare d)
      ∗ owns (c : Thread nD τ) sc1 fullShare (aAt m c ⟨n - 1, by omega⟩)
      ∗ (∃ d, ⌜n - 1 ≠ 0 → d = accAt m c (n - 1) (by omega)⌝ ∗ owns (c : Thread nD τ) sc2 fullShare d)) ∗ (∃ r, prngReg c r)) := by
  cases n with
  | zero => exact absurd rfl hz
  | succ n => exact PhiS_succ_odd m c n h he

/-! ## The pipeline's proof data -/

/-- The arrays as launched; after the body each input's buffer at its block and the outputs' at the scaled accumulator, the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outVal (iblk m c 0 t) (iblk m c 1 t) (accAt m c t.val t.isLt)
    | ⟨6, _⟩ => cAt m c t
    | ⟨7, _⟩ => sAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after6 (c : Dev nD) (t : Fin cfg0.N) : (dats m 0 c).after 6 t = cAt m c t := by dsimp only [dats]
theorem after7 (c : Dev nD) (t : Fin cfg0.N) : (dats m 0 c).after 7 t = sAt m c t := by dsimp only [dats]
theorem after5 (c : Dev nD) (t : Fin cfg0.N) :
    (dats m 0 c).after 5 t = outVal (iblk m c 0 t) (iblk m c 1 t) (accAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t
    ∗ (dats m 0 c).leavesExact 7 t)

/-- Every input window's buffer is left at its block. -/
theorem leaves0 (c : Dev nD) (t : Fin cfg0.N) : (dats m 0 c).leavesExact 0 t = owns (c : Thread nD τ) (ms0 t) fullShare (iblk m c 0 t) := by
  unfold Dat.leavesExact; rw [live_in0 t, after0]
theorem leaves1 (c : Dev nD) (t : Fin cfg0.N) : (dats m 0 c).leavesExact 1 t = owns (c : Thread nD τ) (ms1 t) fullShare (iblk m c 1 t) := by
  unfold Dat.leavesExact; rw [live_in1 t, after1]
theorem leaves2 (c : Dev nD) (t : Fin cfg0.N) : (dats m 0 c).leavesExact 2 t = owns (c : Thread nD τ) (ms2 t) fullShare (iblk m c 2 t) := by
  unfold Dat.leavesExact; rw [live_in2 t, after2]
theorem leaves3 (c : Dev nD) (t : Fin cfg0.N) : (dats m 0 c).leavesExact 3 t = owns (c : Thread nD τ) (ms3 t) fullShare (iblk m c 3 t) := by
  unfold Dat.leavesExact; rw [live_in3 t, after3]
theorem leaves4 (c : Dev nD) (t : Fin cfg0.N) : (dats m 0 c).leavesExact 4 t = owns (c : Thread nD τ) (ms4 t) fullShare (iblk m c 4 t) := by
  unfold Dat.leavesExact; rw [live_in4 t, after4]
theorem leaves6 (c : Dev nD) (t : Fin cfg0.N) : (dats m 0 c).leavesExact 6 t = owns (c : Thread nD τ) (ms6 t) fullShare (cAt m c t) := by
  unfold Dat.leavesExact; rw [live_in6 t, after6]
theorem leaves7 (c : Dev nD) (t : Fin cfg0.N) : (dats m 0 c).leavesExact 7 t = owns (c : Thread nD τ) (ms7 t) fullShare (sAt m c t) := by
  unfold Dat.leavesExact; rw [live_in7 t, after7]
theorem leaves5 (c : Dev nD) (t : Fin cfg0.N) (h : k0_cond4 (grid0.coords t) = 1#1) :
    (dats m 0 c).leavesExact 5 t = owns (c : Thread nD τ) (ms5 t) fullShare (outVal (iblk m c 0 t) (iblk m c 1 t) (accAt m c t.val t.isLt)) := by
  unfold Dat.leavesExact; rw [live_out t h, after5]

set_option maxHeartbeats 4800000 in
/-- The body at any point: the closed forms of the branch conditions say which run applies; the invariant hands it the
    scratch buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = PhiS m c (t.val + 1) t.isLt from rfl, PhiS_castSucc m c t, leaves0, leaves1, leaves2, leaves3, leaves4, leaves6, leaves7]
  by_cases hz : t.val = 0
  · have h3 : ¬k0_cond4 (grid0.coords t) = 1#1 := fun h => ((hcond4 t).mp h).2 hz
    rw [PhiS_zero m c _ _ hz, PhiA_eq, PhiS_succ_even m c t.val _ (by omega),
      Dat.leavesExact_idle (dats m 0 c) 5 t (idle_out t h3) (noFlush_out t (fun h => h.2 hz))]
    iintro ⟨⟨⟨HA, ⟨%db, HB⟩, ⟨%da, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ _ _ _ _ ((hcond1 t).mpr hz) (fun h => by have := (hcond2 t).mp h; omega) (fun h => ((hcond3 t).mp h).2 hz) h3 (iblk m c 0 t) (iblk m c 2 t) (iblk m c 3 t) (iblk m c 4 t) db da Set.univ _)
    isplitl [H0]; · iexact H0
    isplitl [H2]; · iexact H2
    isplitl [H3]; · iexact H3
    isplitl [H4]; · iexact H4
    isplitl [HB]; · iexact HB
    isplitl [HA]; · iexact HA
    isplitl [H6]; · iexists _; iexact H6
    isplitl [H7]; · iexists _; iexact H7
    isplitl [HC]; · iexact HC
    iintro ⟨H0, H2, H3, H4, HB, HA, H6, H7, HC⟩
    isplitl [HA HB HC Hg]
    · isplitl [HA HB HC]
      · isplitl [HA]; · iexact HA
        isplitl [HB]; · iexists _; iexact HB
        iexists da; isplitr; · ipureintro; exact fun h => absurd hz h
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iexact H7
  · have n0 : ¬k0_cond1 (grid0.coords t) = 1#1 := fun h => hz ((hcond1 t).mp h)
    by_cases ho : t.val % 2 = 1
    · have c1 : k0_cond2 (grid0.coords t) = 1#1 := (hcond2 t).mpr ho
      have n2 : ¬k0_cond3 (grid0.coords t) = 1#1 := fun h => by have := ((hcond3 t).mp h).1; omega
      rw [PhiS_pos_even m c _ _ hz (by omega), PhiS_succ_odd m c t.val _ (by omega)]
      by_cases h3 : k0_cond4 (grid0.coords t) = 1#1
      · rw [leaves5 m c t h3]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runB_out c (grid0.coords t) _ _ _ _ _ _ _ _ _ _ _ _ _ _ _ _ _ _ _ _ _ _ n0 c1 n2 h3 (iblk m c 0 t) (iblk m c 1 t) (iblk m c 2 t) (iblk m c 3 t) (iblk m c 4 t) _ da Set.univ _)
        isplitl [H0]; · iexact H0
        isplitl [H1]; · iexact H1
        isplitl [H5]; · iexists _; iexact H5
        isplitl [H2]; · iexact H2
        isplitl [H3]; · iexact H3
        isplitl [H4]; · iexact H4
        isplitl [HA]; · iexact HA
        isplitl [HB]; · iexact HB
        isplitl [H6]; · iexists _; iexact H6
        isplitl [H7]; · iexists _; iexact H7
        isplitl [HC]; · iexact HC
        rw [step_eq m c t hz da hda]
        iintro ⟨H0, H1, H5, H2, H3, H4, HA, HB, H6, H7, HC⟩
        isplitl [HA HB HC Hg]
        · isplitl [HA HB HC]
          · isplitl [HA]; · iexists _; iexact HA
            isplitl [HB]; · iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [Dat.leavesExact_idle (dats m 0 c) 5 t (idle_out t h3) (noFlush_out t (fun h => h3 ((hcond4 t).mpr h)))]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runB c (grid0.coords t) _ _ _ _ _ _ _ _ _ _ _ _ _ _ _ _ _ _ _ _ _ _ n0 c1 n2 h3 (iblk m c 0 t) (iblk m c 2 t) (iblk m c 3 t) (iblk m c 4 t) _ da Set.univ _)
        isplitl [H0]; · iexact H0
        isplitl [H2]; · iexact H2
        isplitl [H3]; · iexact H3
        isplitl [H4]; · iexact H4
        isplitl [HA]; · iexact HA
        isplitl [HB]; · iexact HB
        isplitl [H6]; · iexists _; iexact H6
        isplitl [H7]; · iexists _; iexact H7
        isplitl [HC]; · iexact HC
        rw [step_eq m c t hz da hda]
        iintro ⟨H0, H2, H3, H4, HA, HB, H6, H7, HC⟩
        isplitl [HA HB HC Hg]
        · isplitl [HA HB HC]
          · isplitl [HA]; · iexists _; iexact HA
            isplitl [HB]; · iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iexact H7
    · have n1 : ¬k0_cond2 (grid0.coords t) = 1#1 := fun h => ho ((hcond2 t).mp h)
      have c2 : k0_cond3 (grid0.coords t) = 1#1 := (hcond3 t).mpr ⟨by omega, hz⟩
      rw [PhiS_pos_odd m c _ _ hz (by omega), PhiS_succ_even m c t.val _ (by omega)]
      by_cases h3 : k0_cond4 (grid0.coords t) = 1#1
      · rw [leaves5 m c t h3]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runC_out c (grid0.coords t) _ _ _ _ _ _ _ _ _ _ _ _ _ _ _ _ _ _ _ _ _ _ n0 n1 c2 h3 (iblk m c 0 t) (iblk m c 1 t) (iblk m c 2 t) (iblk m c 3 t) (iblk m c 4 t) _ da Set.univ _)
        isplitl [H0]; · iexact H0
        isplitl [H1]; · iexact H1
        isplitl [H5]; · iexists _; iexact H5
        isplitl [H2]; · iexact H2
        isplitl [H3]; · iexact H3
        isplitl [H4]; · iexact H4
        isplitl [HB]; · iexact HB
        isplitl [HA]; · iexact HA
        isplitl [H6]; · iexists _; iexact H6
        isplitl [H7]; · iexists _; iexact H7
        isplitl [HC]; · iexact HC
        rw [step_eq m c t hz da hda]
        iintro ⟨H0, H1, H5, H2, H3, H4, HB, HA, H6, H7, HC⟩
        isplitl [HA HB HC Hg]
        · isplitl [HA HB HC]
          · isplitl [HA]; · iexact HA
            isplitl [HB]; · iexists _; iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [Dat.leavesExact_idle (dats m 0 c) 5 t (idle_out t h3) (noFlush_out t (fun h => h3 ((hcond4 t).mpr h)))]
        iintro ⟨⟨⟨HA, HB, ⟨%da, %hda, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runC c (grid0.coords t) _ _ _ _ _ _ _ _ _ _ _ _ _ _ _ _ _ _ _ _ _ _ n0 n1 c2 h3 (iblk m c 0 t) (iblk m c 2 t) (iblk m c 3 t) (iblk m c 4 t) _ da Set.univ _)
        isplitl [H0]; · iexact H0
        isplitl [H2]; · iexact H2
        isplitl [H3]; · iexact H3
        isplitl [H4]; · iexact H4
        isplitl [HB]; · iexact HB
        isplitl [HA]; · iexact HA
        isplitl [H6]; · iexists _; iexact H6
        isplitl [H7]; · iexists _; iexact H7
        isplitl [HC]; · iexact HC
        rw [step_eq m c t hz da hda]
        iintro ⟨H0, H2, H3, H4, HB, HA, H6, H7, HC⟩
        isplitl [HA HB HC Hg]
        · isplitl [HA HB HC]
          · isplitl [HA]; · iexact HA
            isplitl [HB]; · iexists _; iexact HB
            iexists _; isplitr; · ipureintro; exact fun _ => rfl
            iexact HC
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the named contents are forgotten. -/
theorem hout (c : Dev nD) : (dats m 0 c).Φ (Fin.last cfg0.N) ⊢ Pipeline.ΦA spec0 c := by
  have hN : cfg0.N = 445 := N_0
  rw [show (dats m 0 c).Φ (Fin.last cfg0.N) = PhiS m c cfg0.N (Nat.le_refl _) from rfl,
    PhiS_pos_even m c _ _ (by omega) (by rw [hN]), PhiA_eq]
  iintro ⟨⟨HA, HB, ⟨%d, -, HC⟩⟩, Hg⟩
  isplitl [HA HB HC]
  · isplitl [HA]; · iexists _; iexact HA
    isplitl [HB]; · iexact HB
    iexists _; iexact HC
  iexact Hg

/-! ## The run and the frame -/

set_option backward.isDefEq.respectTransparency.types false in
/-- The launch: every execution ends, with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched. -/
theorem unchanged : θ_run defs (onTc (τ := τ) (main (F := F))) (s₀ m ρ) (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  frame_of m ρ (dats m) (A_eq m) (run_main m ρ)

/-- THE FRAME: every execution ends, the argument arrays unchanged and every semaphore counter at zero. -/
theorem frame_main : θ_run defs (onTc (τ := τ) (main (F := F))) (s₀ m ρ) (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Value.lean ====
/- What the program leaves in its three results, over the extended reals: the product of the decoded operand with the decoded
   weights, the packed codes and the scales, each as the same function of the arguments. -/
module

public import proofs.«01_k».proof.Proof.CodeValue
public import proofs.«01_k».proof.Proof.Spec
public import proofs.«01_k».proof.Proof.QuantFrame
public import Idealize.ShloMosaic.Lib.BitcastPair
public import Idealize.ShloMosaic.Lib.BitcastConvert
public import Idealize.ShloMosaic.Lib.MatmulPlain
public import Idealize.ShloMosaic.Lib.StackMember
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Nvfp4 Cert.KernelIdeal.Value
open scoped BigOperators

/-! ## One step of the accumulator -/

/-- A 256×512 block of words taken apart into 512 rows: row `r` is half `r % 2` of word row `r / 2`. -/
theorem unpack_apply (x : Vec Ideal S256x512 .i32) (r c : Fin 512) :
    bitcastToFloat (F := Ideal) .bf16 (bitcast S512x512 16 x bitcasts_S256x512_w32_S512x512_w16) (ix2 r c)
      = half (x (ix2 ⟨r.val / 2, by omega⟩ c)) (r.val % 2) := by
  show FloatOps.ofBits (F := Ideal) .bf16 (bitcast S512x512 16 x bitcasts_S256x512_w32_S512x512_w16 (ix2 r c)) = _
  rw [bitcast_32_16]
  show FloatOps.ofBits (F := Ideal) .bf16 ((x _).extractLsb' (16 * (r.val % 2)) 16) = _
  unfold half
  congr 3
  funext a; apply Fin.ext
  match a with
  | ⟨0, _⟩ => rfl
  | ⟨1, _⟩ => rfl

/-- A tile of a step at an index. -/
theorem tile_apply (first : BitVec 1) (a : Vec Ideal S512x512 .bf16) (w : Vec Ideal S256x512 .i32) (d : Vec Ideal S512x512 .f32) (r c : Fin 512) :
    tile first a w d (ix2 r c)
      = (if first = 1#1 then 0 else d (ix2 r c))
        + ∑ l : Fin 512, (a (ix2 r l) : EReal) * half (w (ix2 ⟨l.val / 2, by omega⟩ c)) (l.val % 2) := by
  have hM : ∀ j : S512x512.Idx, j = ix2 r c → FloatOps.matmul (F := Ideal) (φ₁ := .bf16) (φ₂ := .bf16) dot_S512x512_S512x512_S512x512_1_0_0_1_n_n none
      (show FVec Ideal S512x512 .bf16 from a)
      (bitcastToFloat (F := Ideal) .bf16 (bitcast S512x512 16 w bitcasts_S256x512_w32_S512x512_w16))
      (constant S512x512 .f32 0x00000000#32) j
      = ∑ l : Fin 512, (a (ix2 r l) : EReal) * half (w (ix2 ⟨l.val / 2, by omega⟩ c)) (l.val % 2) := by
    rintro j rfl
    rw [show dot_S512x512_S512x512_S512x512_1_0_0_1_n_n = DotDims.plain 512 512 512 from rfl, Ideal.matmul_plain_apply]
    rw [show (constant (F := Ideal) S512x512 .f32 0x00000000#32) (ix2 r c) = 0 from Ideal.ofBits_zero_f32, zero_add]
    refine Finset.sum_congr rfl fun l _ => ?_
    rw [unpack_apply]
  have hS := hM (ix2 r c) rfl
  unfold tile
  by_cases hf : first = 1#1
  · subst hf
    rw [if_pos rfl, zero_add]
    exact hS
  · obtain rfl : first = 0#1 := by
      rcases (by decide : ∀ b : BitVec 1, b = 0#1 ∨ b = 1#1) first with h | h
      · exact h
      · exact absurd h hf
    rw [if_neg hf]
    exact congrArg (d (ix2 r c) + ·) hS

/-- THE STEP at an index of the accumulator. -/
theorem accStep_apply (first : BitVec 1) (a : Vec Ideal S1024x512 .bf16) (w : Vec Ideal S256x3584 .i32) (d : Vec Ideal S1024x3584 .f32)
    (r : Fin 1024) (c : Fin 3584) :
    accStep first a w d (ix2 r c)
      = (if first = 1#1 then 0 else d (ix2 r c))
        + ∑ l : Fin 512, (a (ix2 r l) : EReal) * half (w (ix2 ⟨l.val / 2, by omega⟩ c)) (l.val % 2) := by
  have hr := r.isLt; have hcc := c.isLt
  unfold accStep tileU
  rw [show locD (ix2 r c) = ix2 (⟨r.val % 512, Nat.mod_lt _ (by decide)⟩ : Fin 512) (⟨c.val % 512, Nat.mod_lt _ (by decide)⟩ : Fin 512) from by
    funext b; match b with
    | ⟨0, _⟩ => rfl
    | ⟨1, _⟩ => rfl]
  rw [tile_apply]
  have hj : (tileD (ix2 r c)).val = c.val / 512 * 2 + r.val / 512 := rfl
  have ed : View.ld (Val := Elt Ideal) d (rD (tileD (ix2 r c)))
      (ix2 (⟨r.val % 512, Nat.mod_lt _ (by decide)⟩ : Fin 512) (⟨c.val % 512, Nat.mod_lt _ (by decide)⟩ : Fin 512)) = d (ix2 r c) := by
    show d _ = d _
    congr 1
    funext b; apply Fin.ext
    match b with
    | ⟨0, _⟩ => show (c.val / 512 * 2 + r.val / 512) % 2 * 512 + 1 * (r.val % 512) = r.val; omega
    | ⟨1, _⟩ => show (c.val / 512 * 2 + r.val / 512) / 2 * 512 + 1 * (c.val % 512) = c.val; omega
  rw [ed]
  congr 1
  refine Finset.sum_congr rfl fun l _ => ?_
  congr 1
  · show a _ = a _
    congr 1
    funext b; apply Fin.ext
    match b with
    | ⟨0, _⟩ => show (c.val / 512 * 2 + r.val / 512) % 2 * 512 + 1 * (r.val % 512) = r.val; omega
    | ⟨1, _⟩ => show 0 + 1 * l.val = l.val; omega
  · show half (w _) (l.val % 2) = half (w _) (l.val % 2)
    congr 2
    funext b; apply Fin.ext
    match b with
    | ⟨0, _⟩ => show 0 + 1 * (l.val / 2) = l.val / 2; omega
    | ⟨1, _⟩ => show (c.val / 512 * 2 + r.val / 512) / 2 * 512 + 1 * (c.val % 512) = c.val; omega

variable (m : (ℓ : Loc nD τ sig) → Buf (Elt Ideal) ℓ) (ρ : Dev nD → PrngReg)

/-! ## The arguments as launched -/

def dyA (c : Dev nD) (r : Fin 12288) (k : Fin 18944) : EReal := (m ((c : Thread nD τ).loc main_arg2) : Vec Ideal S12288x18944 .bf16) (ix2 r k)
def rbA (c : Dev nD) (r : Fin 12288) (k : Fin 18944) : BitVec 32 := (m ((c : Thread nD τ).loc main_arg3) : Vec Ideal S12288x18944 .i32) (ix2 r k)
def wA (c : Dev nD) (k : Fin 9472) (j : Fin 3584) : BitVec 32 := (m ((c : Thread nD τ).loc main_arg4) : Vec Ideal S9472x3584 .i32) (ix2 k j)
def gA (c : Dev nD) : EReal := (m ((c : Thread nD τ).loc main_arg0) : Vec Ideal S1x1 .f32) (ix2 0 0)
def wgA (c : Dev nD) : EReal := (m ((c : Thread nD τ).loc main_arg1) : Vec Ideal S1x1 .f32) (ix2 0 0)

/-! ## Which block a point is handed -/

/-- The block number a point quantises: its own, but the last point repeats the one before. -/
def blkN (t : Fin cfg0.N) : ℕ := min t.val 443
theorem blkN_lt (t : Fin cfg0.N) : blkN t < 444 := by unfold blkN; omega

theorem index2 : ∀ t : Fin cfg0.N, win0_2.index t 0 = min t.val 443 / 37 ∧ win0_2.index t 1 = min t.val 443 % 37 :=
  (by decide +kernel : ∀ t : Fin grid0.N, win0_2.index t 0 = min t.val 443 / 37 ∧ win0_2.index t 1 = min t.val 443 % 37)
theorem index3 : ∀ t : Fin cfg0.N, win0_3.index t 0 = min t.val 443 / 37 ∧ win0_3.index t 1 = min t.val 443 % 37 :=
  (by decide +kernel : ∀ t : Fin grid0.N, win0_3.index t 0 = min t.val 443 / 37 ∧ win0_3.index t 1 = min t.val 443 % 37)
theorem index4 : ∀ t : Fin cfg0.N, win0_4.index t 0 = (t.val - 1) % 37 ∧ win0_4.index t 1 = 0 :=
  (by decide +kernel : ∀ t : Fin grid0.N, win0_4.index t 0 = (t.val - 1) % 37 ∧ win0_4.index t 1 = 0)
theorem index5 : ∀ t : Fin cfg0.N, (cfg0.win 5).flush t = true → win0_5.index t 0 = t.val / 37 - 1 ∧ win0_5.index t 1 = 0 :=
  (by decide +kernel : ∀ t : Fin grid0.N, win0_5.flush t = true → win0_5.index t 0 = t.val / 37 - 1 ∧ win0_5.index t 1 = 0)
theorem index6 : ∀ t : Fin cfg0.N, win0_6.index t 0 = min t.val 443 / 37 ∧ win0_6.index t 1 = min t.val 443 % 37 :=
  (by decide +kernel : ∀ t : Fin grid0.N, win0_6.index t 0 = min t.val 443 / 37 ∧ win0_6.index t 1 = min t.val 443 % 37)
theorem index7 : ∀ t : Fin cfg0.N, win0_7.index t 0 = min t.val 443 / 37 / 2 ∧ win0_7.index t 1 = min t.val 443 % 37 ∧ win0_7.index t 2 = min t.val 443 / 37 % 2 :=
  (by decide +kernel : ∀ t : Fin grid0.N, win0_7.index t 0 = min t.val 443 / 37 / 2 ∧ win0_7.index t 1 = min t.val 443 % 37 ∧ win0_7.index t 2 = min t.val 443 / 37 % 2)

/-- The codes and the scales are written back at every point but the last but one. -/
theorem flush6 : ∀ t : Fin cfg0.N, (cfg0.win 6).flush t = true ↔ t.val ≠ 443 :=
  (by decide +kernel : ∀ t : Fin grid0.N, win0_6.flush t = true ↔ t.val ≠ 443)
theorem flush7 : ∀ t : Fin cfg0.N, (cfg0.win 7).flush t = true ↔ t.val ≠ 443 :=
  (by decide +kernel : ∀ t : Fin grid0.N, win0_7.flush t = true ↔ t.val ≠ 443)

/-- Some point that writes back handles a given block. -/
theorem point_of (n : ℕ) (hn : n < 444) : ∃ t : Fin cfg0.N, t.val ≠ 443 ∧ blkN t = n := by
  have hN : cfg0.N = 445 := N_0
  by_cases h : n = 443
  · exact ⟨⟨444, by omega⟩, by dsimp only; omega, by unfold blkN; dsimp only; omega⟩
  · exact ⟨⟨n, by omega⟩, h, by unfold blkN; dsimp only; omega⟩

/-- The row and column in the arrays of an element of the block of a point. -/
def rowB (t : Fin cfg0.N) (r : Fin 1024) : Fin 12288 := ⟨1024 * (blkN t / 37) + r.val, by have := blkN_lt t; omega⟩
def colB (t : Fin cfg0.N) (k : Fin 512) : Fin 18944 := ⟨512 * (blkN t % 37) + k.val, by omega⟩

def colC (t : Fin cfg0.N) (C : Fin 256) : Fin 9472 := ⟨256 * (blkN t % 37) + C.val, by omega⟩
def colS (t : Fin cfg0.N) (b : Fin 32) : Fin 1184 := ⟨32 * (blkN t % 37) + b.val, by omega⟩

theorem iblk2_apply (c : Dev nD) (t : Fin cfg0.N) (i : Fin 1024) (j : Fin 512) :
    (iblk m c 2 t : Vec Ideal S1024x512 .bf16) (ix2 i j) = dyA m c (rowB t i) (colB t j) := by
  obtain ⟨e0, e1⟩ := index2 t
  unfold iblk
  rw [View.read_apply]
  show V m c main_arg2 _ = m (c.tc.loc main_arg2) _
  rw [V_main_arg2]
  congr 1
  funext a; apply Fin.ext
  match a with
  | ⟨0, _⟩ => show win0_2.index t 0 * 1024 + 1 * i.val = 1024 * (min t.val 443 / 37) + i.val; rw [e0]; omega
  | ⟨1, _⟩ => show win0_2.index t 1 * 512 + 1 * j.val = 512 * (min t.val 443 % 37) + j.val; rw [e1]; omega
theorem iblk3_apply (c : Dev nD) (t : Fin cfg0.N) (i : Fin 1024) (j : Fin 512) :
    (iblk m c 3 t : Vec Ideal S1024x512 .i32) (ix2 i j) = rbA m c (rowB t i) (colB t j) := by
  obtain ⟨e0, e1⟩ := index3 t
  unfold iblk
  rw [View.read_apply]
  show V m c main_arg3 _ = m (c.tc.loc main_arg3) _
  rw [V_main_arg3]
  congr 1
  funext a; apply Fin.ext
  match a with
  | ⟨0, _⟩ => show win0_3.index t 0 * 1024 + 1 * i.val = 1024 * (min t.val 443 / 37) + i.val; rw [e0]; omega
  | ⟨1, _⟩ => show win0_3.index t 1 * 512 + 1 * j.val = 512 * (min t.val 443 % 37) + j.val; rw [e1]; omega
theorem iblk4_apply (c : Dev nD) (t : Fin cfg0.N) (i : Fin 256) (j : Fin 3584) :
    (iblk m c 4 t : Vec Ideal S256x3584 .i32) (ix2 i j) = wA m c ⟨256 * ((t.val - 1) % 37) + i.val, by omega⟩ j := by
  obtain ⟨e0, e1⟩ := index4 t
  unfold iblk
  rw [View.read_apply]
  show V m c main_arg4 _ = m (c.tc.loc main_arg4) _
  rw [V_main_arg4]
  congr 1
  funext a; apply Fin.ext
  match a with
  | ⟨0, _⟩ => show win0_4.index t 0 * 256 + 1 * i.val = 256 * ((t.val - 1) % 37) + i.val; rw [e0]; omega
  | ⟨1, _⟩ => show win0_4.index t 1 * 3584 + 1 * j.val = j.val; rw [e1]; omega

/-- The one element of a [1,1] input. -/
theorem iblk0_apply (c : Dev nD) (t : Fin cfg0.N) : (iblk m c 0 t : Vec Ideal S1x1 .f32) one11 = gA m c := by
  unfold iblk
  rw [View.read_apply]
  show V m c main_arg0 _ = m (c.tc.loc main_arg0) (ix2 0 0)
  rw [V_main_arg0]
  congr 1
  funext a; apply Fin.ext
  match a with
  | ⟨0, _⟩ => rfl
  | ⟨1, _⟩ => rfl
theorem iblk1_apply (c : Dev nD) (t : Fin cfg0.N) : (iblk m c 1 t : Vec Ideal S1x1 .f32) one11 = wgA m c := by
  unfold iblk
  rw [View.read_apply]
  show V m c main_arg1 _ = m (c.tc.loc main_arg1) (ix2 0 0)
  rw [V_main_arg1]
  congr 1
  funext a; apply Fin.ext
  match a with
  | ⟨0, _⟩ => rfl
  | ⟨1, _⟩ => rfl

/-! ## What a point quantises its block to -/

theorem bmax_eq (c : Dev nD) (t : Fin cfg0.N) (r : Fin 1024) (b : Fin 32) :
    bmax (iblk m c 2 t : Vec Ideal S1024x512 .bf16) r b = gmax (dyA m c) (rowB t r) (colS t b) := by
  unfold bmax gmax
  refine Finset.sup_congr rfl fun e _ => ?_
  rw [iblk2_apply]
  congr 2
  apply Fin.ext
  show 512 * (blkN t % 37) + (16 * b.val + e.val) = 16 * (32 * (blkN t % 37) + b.val) + e.val
  omega

theorem gmax_col (c : Dev nD) (t : Fin cfg0.N) (r : Fin 1024) (k : Fin 512) :
    bmax (iblk m c 2 t : Vec Ideal S1024x512 .bf16) r ⟨k.val / 16, by omega⟩ = gmax (dyA m c) (rowB t r) ⟨(colB t k).val / 16, by omega⟩ := by
  rw [bmax_eq]
  congr 1
  apply Fin.ext
  show 32 * (blkN t % 37) + k.val / 16 = (512 * (blkN t % 37) + k.val) / 16
  omega

theorem aAt_apply (c : Dev nD) (hg : gA m c ≠ 0) (t : Fin cfg0.N) (r : Fin 1024) (k : Fin 512) :
    aAt m c t (ix2 r k) = decG (gA m c) (dyA m c) (rbA m c) (rowB t r) (colB t k) := by
  unfold aAt
  rw [show gAt m c t = gA m c from iblk0_apply m c t, aOf_apply _ hg, gmax_col, iblk2_apply, iblk3_apply]
  rfl

theorem nibB_eq (c : Dev nD) (t : Fin cfg0.N) (r : Fin 1024) (k : Fin 512) :
    nibB (gA m c) (iblk m c 2 t) (iblk m c 3 t) r k = nibG (gA m c) (dyA m c) (rbA m c) (rowB t r) (colB t k) := by
  unfold nibB
  rw [gmax_col, iblk2_apply, iblk3_apply]
  rfl

theorem cAt_apply (c : Dev nD) (hg : gA m c ≠ 0) (t : Fin cfg0.N) (r : Fin 1024) (C : Fin 256) :
    cAt m c t (ix2 r C) = codeG (gA m c) (dyA m c) (rbA m c) (rowB t r) (colC t C) := by
  unfold cAt
  rw [show gAt m c t = gA m c from iblk0_apply m c t, cOf_apply _ hg, nibB_eq, nibB_eq]
  unfold codeG
  congr 2 <;> apply Fin.ext
  · show 512 * (blkN t % 37) + 2 * C.val = 2 * (256 * (blkN t % 37) + C.val); omega
  · show 512 * (blkN t % 37) + (2 * C.val + 1) = 2 * (256 * (blkN t % 37) + C.val) + 1; omega

theorem sAt_apply (c : Dev nD) (t : Fin cfg0.N) (o : Fin 1) (b : Fin 32) (r : Fin 1024) :
    sAt m c t (ix3 o b r) = sclG (gA m c) (dyA m c) (rowB t r) (colS t b) := by
  unfold sAt
  rw [show gAt m c t = gA m c from iblk0_apply m c t, sOf_apply, bmax_eq]
  rfl

/-! ## The accumulator: a running sum over the steps of a row block -/

/-- The product at position `k` (zero past the last one). -/
def termG (c : Dev nD) (r : Fin 12288) (j : Fin 3584) (k : ℕ) : EReal :=
  if h : k < 18944 then decG (gA m c) (dyA m c) (rbA m c) r ⟨k, h⟩ * rhsG (wA m c) ⟨k, h⟩ j else 0

/-- Row `r` of row block `q`. -/
abbrev rowOf (q : ℕ) (hq : q < 12) (r : Fin 1024) : Fin 12288 := ⟨1024 * q + r.val, by omega⟩

/-- The step at a point: what it adds is the sum over its 512 positions. -/
theorem step_apply (c : Dev nD) (hg : gA m c ≠ 0) (q s : ℕ) (hq : q < 12) (hs : s < 37) (h : 37 * q + s + 1 < cfg0.N) (r : Fin 1024) (j : Fin 3584) :
    accAt m c (37 * q + s + 1) h (ix2 r j)
      = (if s = 0 then 0 else accAt m c (37 * q + s) (Nat.lt_of_succ_lt h) (ix2 r j))
        + ∑ l ∈ Finset.range 512, termG m c (rowOf q hq r) j (512 * s + l) := by
  have hk := kprev_zero ⟨37 * q + s + 1, h⟩ (Nat.succ_ne_zero _)
  show accStep (Scalar.cmpi .eq (kprev (grid0.coords ⟨37 * q + s + 1, h⟩)) 0#32) (aAt m c ⟨37 * q + s, Nat.lt_of_succ_lt h⟩)
      (iblk m c 4 ⟨37 * q + s + 1, h⟩) (accAt m c (37 * q + s) (Nat.lt_of_succ_lt h)) (ix2 r j) = _
  rw [hk, accStep_apply]
  have hif : (if (if (37 * q + s + 1 - 1) % 37 = 0 then (1#1 : BitVec 1) else 0#1) = 1#1 then (0 : EReal) else accAt m c (37 * q + s) (Nat.lt_of_succ_lt h) (ix2 r j))
      = if s = 0 then 0 else accAt m c (37 * q + s) (Nat.lt_of_succ_lt h) (ix2 r j) := by
    by_cases h0 : s = 0
    · rw [if_pos (show (37 * q + s + 1 - 1) % 37 = 0 by omega), if_pos rfl, if_pos h0]
    · rw [if_neg (show ¬(37 * q + s + 1 - 1) % 37 = 0 by omega), if_neg (by decide), if_neg h0]
  refine congr (congrArg (· + ·) hif) ?_
  rw [Finset.sum_range]
  refine Finset.sum_congr rfl fun l _ => ?_
  have hl := l.isLt
  have hr := r.isLt
  have hb : blkN ⟨37 * q + s, Nat.lt_of_succ_lt h⟩ = 37 * q + s := by unfold blkN; dsimp only; omega
  unfold termG
  rw [dif_pos (by omega), aAt_apply m c hg, iblk4_apply]
  unfold rhsG
  refine congr (congrArg HMul.hMul (congr (congrArg (decG (gA m c) (dyA m c) (rbA m c)) (Fin.ext ?_)) (Fin.ext ?_))) ?_
  · show 1024 * (blkN _ / 37) + r.val = 1024 * q + r.val
    rw [hb]; omega
  · show 512 * (blkN _ % 37) + l.val = 512 * s + l.val
    rw [hb]; omega
  · show half (wA m c _ j) (l.val % 2) = half (wA m c _ j) ((512 * s + l.val) % 2)
    rw [show (512 * s + l.val) % 2 = l.val % 2 by omega]
    congr 2
    apply Fin.ext
    show 256 * ((37 * q + s + 1 - 1) % 37) + l.val / 2 = (512 * s + l.val) / 2
    omega

/-- A sum over `512·(s+1)` positions is the sum over the first `512·s` and the next 512; so, running over the steps. -/
theorem accAt_sum (c : Dev nD) (hg : gA m c ≠ 0) (q : ℕ) (hq : q < 12) (r : Fin 1024) (j : Fin 3584) : ∀ (s : ℕ) (hs : s < 37) (h : 37 * q + s + 1 < cfg0.N),
    accAt m c (37 * q + s + 1) h (ix2 r j)
      = ∑ k ∈ Finset.range (512 * (s + 1)), termG m c (rowOf q hq r) j k
  | 0, hs, h => by rw [step_apply m c hg q 0 hq hs h, if_pos rfl, zero_add]; simp only [Nat.mul_zero, Nat.zero_add, Nat.mul_one]
  | s + 1, hs, h => by
    rw [step_apply m c hg q (s + 1) hq hs h, if_neg (Nat.succ_ne_zero s)]
    rw [show accAt m c (37 * q + (s + 1)) (Nat.lt_of_succ_lt h) (ix2 r j) = _ from accAt_sum c hg q hq r j s (by omega) (Nat.lt_of_succ_lt h)]
    rw [show 512 * (s + 1 + 1) = 512 * (s + 1) + 512 by ring, Finset.sum_range_add]

/-- After the last step of a row block: the whole contraction. -/
theorem accAt_last (c : Dev nD) (hg : gA m c ≠ 0) (q : ℕ) (hq : q < 12) (h : 37 * (q + 1) < cfg0.N) (r : Fin 1024) (j : Fin 3584) :
    accAt m c (37 * (q + 1)) h (ix2 r j)
      = ∑ k : Fin 18944, decG (gA m c) (dyA m c) (rbA m c) (rowOf q hq r) k * rhsG (wA m c) k j := by
  have e := accAt_sum m c hg q hq r j 36 (by omega) h
  refine e.trans ?_
  rw [Finset.sum_range]
  refine Finset.sum_congr rfl fun k _ => ?_
  unfold termG
  rw [dif_pos k.isLt]

/-! ## The result arrays -/

/-- THE PRODUCT. -/
def G5 (c : Dev nD) : Buf (Elt Ideal) ((c : Thread nD τ).loc main_v0_0) := fun y =>
  dxG (gA m c) (dyA m c) (rbA m c) (wgA m c) (wA m c) (y 0) (y 1)
/-- THE CODES. -/
def G6 (c : Dev nD) : Buf (Elt Ideal) ((c : Thread nD τ).loc main_v0_1) := fun y =>
  codeG (gA m c) (dyA m c) (rbA m c) (y 0) (y 1)
/-- THE SCALES: row `i` of matrix `e` is row `2048 e + i`. -/
def rowS (e : Fin 6) (i : Fin 2048) : Fin 12288 := ⟨2048 * e.val + i.val, by omega⟩
def G7 (c : Dev nD) : Buf (Elt Ideal) ((c : Thread nD τ).loc main_v0_2) := fun y =>
  sclG (gA m c) (dyA m c) (rowS (y 0) (y 2)) (y 1)

/-- What the last step of a row block stores, at an index. -/
theorem outVal_apply (x1 x2 : Vec Ideal S1x1 .f32) (acc : Vec Ideal S1024x3584 .f32) (y : S1024x3584.Idx) (e1 e2 : EReal)
    (h1 : x1 one11 = e1) (h2 : x2 one11 = e2) : outVal x1 x2 acc y = (acc y : EReal) * (e1 * e2) := by
  subst h1 h2; rfl

theorem flushed5_eq (c : Dev nD) (hg : gA m c ≠ 0) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after5]
  obtain ⟨e0, e1⟩ := index5 t hf
  obtain ⟨hm, hz⟩ := (flush_out t).mp hf
  have hN : t.val < 445 := lt_of_lt_of_eq t.isLt N_0
  obtain ⟨q, hq, ht⟩ : ∃ q, q < 12 ∧ t.val = 37 * (q + 1) := ⟨t.val / 37 - 1, by omega, by omega⟩
  funext y
  have hy0 : (y 0).val < 1024 := (y 0).isLt
  have hy1 : (y 1).val < 3584 := (y 1).isLt
  have hb0 : (((cfg0.win 5).blk t).view.emb y 0).val = win0_5.index t 0 * 1024 + 1 * (y 0).val := rfl
  have hb1 : (((cfg0.win 5).blk t).view.emb y 1).val = win0_5.index t 1 * 3584 + 1 * (y 1).val := rfl
  show outVal (iblk m c 0 t) (iblk m c 1 t) (accAt m c t.val t.isLt) ((cfg0.win 5).xinj (grid0.coords t) y) = G5 m c (((cfg0.win 5).blk t).view.emb y)
  have hx : (cfg0.win 5).xinj (grid0.coords t) y = ix2 (⟨(y 0).val, hy0⟩ : Fin 1024) (⟨(y 1).val, hy1⟩ : Fin 3584) := by
    funext a; match a with
    | ⟨0, _⟩ => rfl
    | ⟨1, _⟩ => rfl
  rw [hx]
  rw [outVal_apply _ _ _ _ _ _ (iblk0_apply m c t) (iblk1_apply m c t)]
  have hacc : ∀ (n : ℕ) (hn : n < cfg0.N), n = 37 * (q + 1) → accAt m c n hn (ix2 (⟨(y 0).val, hy0⟩ : Fin 1024) (⟨(y 1).val, hy1⟩ : Fin 3584))
      = ∑ k : Fin 18944, decG (gA m c) (dyA m c) (rbA m c) (rowOf q hq ⟨(y 0).val, hy0⟩) k * rhsG (wA m c) k ⟨(y 1).val, hy1⟩ := by
    rintro n hn rfl
    exact accAt_last m c hg q hq hn _ _
  rw [hacc _ _ ht]
  unfold G5
  have r0 : (((cfg0.win 5).blk t).view.emb y 0 : Fin 12288) = rowOf q hq ⟨(y 0).val, hy0⟩ := by
    apply Fin.ext
    show (((cfg0.win 5).blk t).view.emb y 0).val = 1024 * q + (y 0).val
    rw [hb0, e0]; omega
  have r1 : (((cfg0.win 5).blk t).view.emb y 1 : Fin 3584) = ⟨(y 1).val, hy1⟩ := by
    apply Fin.ext
    show (((cfg0.win 5).blk t).view.emb y 1).val = (y 1).val
    rw [hb1, e1]; omega
  rw [r0, r1]
  rfl

theorem flushed6_eq (c : Dev nD) (hg : gA m c ≠ 0) (t : Fin cfg0.N) :
    (dats m 0 c).flushed 6 t = ((cfg0.win 6).blk t).view.read (Elt Ideal) (G6 m c) := by
  show (cfg0.win 6).cut (grid0.coords t) ((dats m 0 c).after 6 t) = _
  rw [after6]
  obtain ⟨e0, e1⟩ := index6 t
  funext y
  have hy0 : (y 0).val < 1024 := (y 0).isLt
  have hy1 : (y 1).val < 256 := (y 1).isLt
  have hb0 : (((cfg0.win 6).blk t).view.emb y 0).val = win0_6.index t 0 * 1024 + 1 * (y 0).val := rfl
  have hb1 : (((cfg0.win 6).blk t).view.emb y 1).val = win0_6.index t 1 * 256 + 1 * (y 1).val := rfl
  show cAt m c t ((cfg0.win 6).xinj (grid0.coords t) y) = G6 m c (((cfg0.win 6).blk t).view.emb y)
  have hx : (cfg0.win 6).xinj (grid0.coords t) y = ix2 (⟨(y 0).val, hy0⟩ : Fin 1024) (⟨(y 1).val, hy1⟩ : Fin 256) := by
    funext a; match a with
    | ⟨0, _⟩ => rfl
    | ⟨1, _⟩ => rfl
  rw [hx, cAt_apply m c hg]
  unfold G6
  have r0 : (((cfg0.win 6).blk t).view.emb y 0 : Fin 12288) = rowB t ⟨(y 0).val, hy0⟩ := by
    apply Fin.ext
    show (((cfg0.win 6).blk t).view.emb y 0).val = 1024 * (min t.val 443 / 37) + (y 0).val
    rw [hb0, e0]; omega
  have r1 : (((cfg0.win 6).blk t).view.emb y 1 : Fin 9472) = colC t ⟨(y 1).val, hy1⟩ := by
    apply Fin.ext
    show (((cfg0.win 6).blk t).view.emb y 1).val = 256 * (min t.val 443 % 37) + (y 1).val
    rw [hb1, e1]; omega
  rw [r0, r1]

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after7]
  obtain ⟨e0, e1, e2⟩ := index7 t
  funext y
  have hy0 : (y 0).val < 1 := (y 0).isLt
  have hy1 : (y 1).val < 32 := (y 1).isLt
  have hy2 : (y 2).val < 1024 := (y 2).isLt
  have hb0 : (((cfg0.win 7).blk t).view.emb y 0).val = win0_7.index t 0 * 1 + 1 * (y 0).val := rfl
  have hb1 : (((cfg0.win 7).blk t).view.emb y 1).val = win0_7.index t 1 * 32 + 1 * (y 1).val := rfl
  have hb2 : (((cfg0.win 7).blk t).view.emb y 2).val = win0_7.index t 2 * 1024 + 1 * (y 2).val := rfl
  show sAt m c t ((cfg0.win 7).xinj (grid0.coords t) y) = G7 m c (((cfg0.win 7).blk t).view.emb y)
  have hx : (cfg0.win 7).xinj (grid0.coords t) y = ix3 (⟨(y 0).val, hy0⟩ : Fin 1) (⟨(y 1).val, hy1⟩ : Fin 32) (⟨(y 2).val, hy2⟩ : Fin 1024) := by
    funext a; match a with
    | ⟨0, _⟩ => rfl
    | ⟨1, _⟩ => rfl
    | ⟨2, _⟩ => rfl
  rw [hx, sAt_apply]
  unfold G7
  have r0 : rowS (((cfg0.win 7).blk t).view.emb y 0) (((cfg0.win 7).blk t).view.emb y 2) = rowB t ⟨(y 2).val, hy2⟩ := by
    apply Fin.ext
    show 2048 * (((cfg0.win 7).blk t).view.emb y 0).val + (((cfg0.win 7).blk t).view.emb y 2).val = 1024 * (min t.val 443 / 37) + (y 2).val
    rw [hb0, e0, hb2, e2]; omega
  have r1 : (((cfg0.win 7).blk t).view.emb y 1 : Fin 1184) = colS t ⟨(y 1).val, hy1⟩ := by
    apply Fin.ext
    show (((cfg0.win 7).blk t).view.emb y 1).val = 32 * (min t.val 443 % 37) + (y 1).val
    rw [hb1, e1]; omega
  rw [r0, r1]

/-! ## Every index is written back -/

theorem mem_blk5 (t : Fin cfg0.N) (i : S12288x3584.Idx) :
    i ∈ ((cfg0.win 5).blk t).view.set ↔ ∀ a : Fin 2, win0_5.index t a * S1024x3584.size a ≤ (i a).val ∧ (i a).val < win0_5.index t a * S1024x3584.size a + S1024x3584.size a := by
  show i ∈ ((View.whole main_v0_0).slice (win0_5.rect t)).set ↔ _
  rw [View.set_slice_whole, Rect.mem_set_unit]
  exact Iff.rfl
theorem mem_blk6 (t : Fin cfg0.N) (i : S12288x9472.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_1).slice (win0_6.rect t)).set ↔ _
  rw [View.set_slice_whole, Rect.mem_set_unit]
  exact Iff.rfl
theorem mem_blk7 (t : Fin cfg0.N) (i : S6x1184x2048.Idx) :
    i ∈ ((cfg0.win 7).blk t).view.set ↔ ∀ a : Fin 3, win0_7.index t a * S1x32x1024.size a ≤ (i a).val ∧ (i a).val < win0_7.index t a * S1x32x1024.size a + S1x32x1024.size a := by
  show i ∈ ((View.whole main_v0_2).slice (win0_7.rect t)).set ↔ _
  rw [View.set_slice_whole, Rect.mem_set_unit]
  exact Iff.rfl

theorem covered5 (i : S12288x3584.Idx) : ∃ t : Fin cfg0.N, (cfg0.win 5).flush t = true ∧ i ∈ ((cfg0.win 5).blk t).view.set := by
  have hi0 : (i 0).val < 12288 := (i 0).isLt
  have hi1 : (i 1).val < 3584 := (i 1).isLt
  have ht : 37 * ((i 0).val / 1024 + 1) < cfg0.N := by rw [show cfg0.N = 445 from N_0]; omega
  have hf : (cfg0.win 5).flush ⟨37 * ((i 0).val / 1024 + 1), ht⟩ = true := (flush_out _).mpr ⟨by dsimp only; omega, by dsimp only; omega⟩
  obtain ⟨e0, e1⟩ := index5 _ hf
  refine ⟨_, hf, ?_⟩
  rw [mem_blk5]
  intro a
  match a with
  | ⟨0, _⟩ =>
    show win0_5.index ⟨37 * ((i 0).val / 1024 + 1), ht⟩ 0 * 1024 ≤ (i 0).val ∧ (i 0).val < win0_5.index ⟨37 * ((i 0).val / 1024 + 1), ht⟩ 0 * 1024 + 1024
    rw [e0]; dsimp only; omega
  | ⟨1, _⟩ =>
    show win0_5.index ⟨37 * ((i 0).val / 1024 + 1), ht⟩ 1 * 3584 ≤ (i 1).val ∧ (i 1).val < win0_5.index ⟨37 * ((i 0).val / 1024 + 1), ht⟩ 1 * 3584 + 3584
    rw [e1]; omega
theorem covered6 (i : S12288x9472.Idx) : ∃ t : Fin cfg0.N, (cfg0.win 6).flush t = true ∧ i ∈ ((cfg0.win 6).blk t).view.set := by
  have hi0 : (i 0).val < 12288 := (i 0).isLt
  have hi1 : (i 1).val < 9472 := (i 1).isLt
  obtain ⟨t, h, hb⟩ := point_of ((i 0).val / 1024 * 37 + (i 1).val / 256) (by omega)
  obtain ⟨e0, e1⟩ := index6 t
  rw [show min t.val 443 = _ from hb] at e0 e1
  refine ⟨t, (flush6 t).mpr h, ?_⟩
  rw [mem_blk6]
  intro a
  match a with
  | ⟨0, _⟩ =>
    show win0_6.index t 0 * 1024 ≤ (i 0).val ∧ (i 0).val < win0_6.index t 0 * 1024 + 1024
    rw [e0]; omega
  | ⟨1, _⟩ =>
    show win0_6.index t 1 * 256 ≤ (i 1).val ∧ (i 1).val < win0_6.index t 1 * 256 + 256
    rw [e1]; omega
theorem covered7 (i : S6x1184x2048.Idx) : ∃ t : Fin cfg0.N, (cfg0.win 7).flush t = true ∧ i ∈ ((cfg0.win 7).blk t).view.set := by
  have hi0 : (i 0).val < 6 := (i 0).isLt
  have hi1 : (i 1).val < 1184 := (i 1).isLt
  have hi2 : (i 2).val < 2048 := (i 2).isLt
  obtain ⟨t, h, hb⟩ := point_of (((i 0).val * 2 + (i 2).val / 1024) * 37 + (i 1).val / 32) (by omega)
  obtain ⟨e0, e1, e2⟩ := index7 t
  rw [show min t.val 443 = _ from hb] at e0 e1 e2
  refine ⟨t, (flush7 t).mpr h, ?_⟩
  rw [mem_blk7]
  intro a
  match a with
  | ⟨0, _⟩ =>
    show win0_7.index t 0 * 1 ≤ (i 0).val ∧ (i 0).val < win0_7.index t 0 * 1 + 1
    rw [e0]; omega
  | ⟨1, _⟩ =>
    show win0_7.index t 1 * 32 ≤ (i 1).val ∧ (i 1).val < win0_7.index t 1 * 32 + 32
    rw [e1]; omega
  | ⟨2, _⟩ =>
    show win0_7.index t 2 * 1024 ≤ (i 2).val ∧ (i 2).val < win0_7.index t 2 * 1024 + 1024
    rw [e2]; omega

/-- The arrays after the run. -/
theorem final5 (c : Dev nD) (hg : gA m c ≠ 0) : (dats m 0 c).arrAt 5 cfg0.N = G5 m c :=
  (dats m 0 c).arrAt_eq_of_cover 5 _ (fun t hf => flushed5_eq m c hg t hf) covered5
theorem final6 (c : Dev nD) (hg : gA m c ≠ 0) : (dats m 0 c).arrAt 6 cfg0.N = G6 m c :=
  (dats m 0 c).arrAt_eq_of_cover 6 _ (fun t _ => flushed6_eq m c hg t) covered6
theorem final7 (c : Dev nD) : (dats m 0 c).arrAt 7 cfg0.N = G7 m c :=
  (dats m 0 c).arrAt_eq_of_cover 7 _ (fun t _ => flushed7_eq m c t) covered7

/-- The run: the three results, the arguments unchanged. -/
theorem run_value (hg : ∀ c : Dev nD, gA m c ≠ 0) : θ_run defs (onTc (τ := τ) (main (F := Ideal))) (s₀ m ρ) fun r => ∀ c : Dev nD,
      r.2.mem ((c : Thread nD τ).loc main_v0_0) = G5 m c ∧ r.2.mem ((c : Thread nD τ).loc main_v0_1) = G6 m c ∧ r.2.mem ((c : Thread nD τ).loc main_v0_2) = G7 m c
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun r h c => ⟨((h.1 c).1 5).trans (final5 m c (hg c)), ((h.1 c).1 6).trans (final6 m c (hg c)), ((h.1 c).1 7).trans (final7 m c), h.2 c⟩)
    (θ_run_and (run_main m ρ) (unchanged m ρ))

end Cert.KernelIdeal.Gen

end
-- ==== Proof.RefRun.lean ====
/- The reference's run: its operations as a list, each intermediate result that is used more than once under a name, and every
   run ending with each result at the composed term of the arguments, the arguments unchanged. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 214 (window `main_part0`). -/
abbrev ops_part0_0 : List (HloOp τ sig (Elt F)) :=
  [ unary main_arg2 main_v0 ((extf .f32 · bitsLt_bf16_f32) : (⟨S12288x18944, .bf16⟩ : BufTy).Contents (Elt F) → (⟨S12288x18944, .f32⟩ : BufTy).Contents (Elt F)),
    reshape main_v0 main_v1 (rfl : (.f32 : EltTy) = .f32) shapeCasts_S12288x18944_S12288x1184x16,
    unary main_v1 main_v2 (Host.absf : (⟨S12288x1184x16, .f32⟩ : BufTy).Contents (Elt F) → (⟨S12288x1184x16, .f32⟩ : BufTy).Contents (Elt F)),
    nullary main_cst (constant S_ .f32 0xFF800000#32),
    binary main_v2 main_cst main_v3 ((fun x v => Host.reduce FloatOps.maximumf x v reducesTo_S12288x1184x16_S12288x1184_d2 h_S_) : (⟨S12288x1184x16, .f32⟩ : BufTy).Contents (Elt F) → (⟨S_, .f32⟩ : BufTy).Contents (Elt F) → (⟨S12288x1184, .f32⟩ : BufTy).Contents (Elt F)),
    reshape main_arg0 main_v4 (rfl : (.f32 : EltTy) = .f32) shapeCasts_S1x1_S_,
    nullary main_cst_0 (constant S_ .f32 0x40C00000#32),
    binary main_cst_0 main_v4 main_v5 (mulf : (⟨S_, .f32⟩ : BufTy).Contents (Elt F) → (⟨S_, .f32⟩ : BufTy).Contents (Elt F) → (⟨S_, .f32⟩ : BufTy).Contents (Elt F)),
    unary main_v5 main_v6 (broadcastInDim S12288x1184 ![] bcast_S_S12288x1184 : (⟨S_, .f32⟩ : BufTy).Contents (Elt F) → (⟨S12288x1184, .f32⟩ : BufTy).Contents (Elt F)),
    binary main_v3 main_v6 main_v7 (Host.divf : (⟨S12288x1184, .f32⟩ : BufTy).Contents (Elt F) → (⟨S12288x1184, .f32⟩ : BufTy).Contents (Elt F) → (⟨S12288x1184, .f32⟩ : BufTy).Contents (Elt F)),
    nullary main_cst_1 (constant S_ .f32 0x00000000#32),
    nullary main_cst_2 (constant S_ .f32 0x43E00000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S12288x1184, .f32⟩) main_call0_v1) (broadcastInDim S12288x1184 ![] bcast_S_S12288x1184),
    TRef.binary (TRef.of (T := ⟨S12288x1184, .f32⟩) main_call0_v1) (TRef.of (T := ⟨S12288x1184, .f32⟩) main_v7) (TRef.of (T := ⟨S12288x1184, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S12288x1184, .f32⟩) main_call0_v4) (broadcastInDim S12288x1184 ![] bcast_S_S12288x1184),
    TRef.binary (TRef.of (T := ⟨S12288x1184, .f32⟩) main_call0_v4) (TRef.of (T := ⟨S12288x1184, .f32⟩) main_call0_v2) (TRef.of (T := ⟨S12288x1184, .f32⟩) main_v8) minimumf,
    unary main_v8 main_v9 (broadcastInDim S12288x1184x1 ![0, 1] bcast_S12288x1184_S12288x1184x1_0_1 : (⟨S12288x1184, .f32⟩ : BufTy).Contents (Elt F) → (⟨S12288x1184x1, .f32⟩ : BufTy).Contents (Elt F)),
    nullary main_cst_3 (constant S_ .f32 0x00000000#32),
    unary main_cst_3 main_v10 (broadcastInDim S12288x1184x1 ![] bcast_S_S12288x1184x1 : (⟨S_, .f32⟩ : BufTy).Contents (Elt F) → (⟨S12288x1184x1, .f32⟩ : BufTy).Contents (Elt F)),
    binary main_v9 main_v10 main_v11 (cmpf .oeq : (⟨S12288x1184x1, .f32⟩ : BufTy).Contents (Elt F) → (⟨S12288x1184x1, .f32⟩ : BufTy).Contents (Elt F) → (⟨S12288x1184x1, .i1⟩ : BufTy).Contents (Elt F)),
    reshape main_arg0 main_v12 (rfl : (.f32 : EltTy) = .f32) shapeCasts_S1x1_S_,
    unary main_v12 main_v13 (broadcastInDim S12288x1184x1 ![] bcast_S_S12288x1184x1 : (⟨S_, .f32⟩ : BufTy).Contents (Elt F) → (⟨S12288x1184x1, .f32⟩ : BufTy).Contents (Elt F)),
    binary main_v9 main_v13 main_v14 (mulf : (⟨S12288x1184x1, .f32⟩ : BufTy).Contents (Elt F) → (⟨S12288x1184x1, .f32⟩ : BufTy).Contents (Elt F) → (⟨S12288x1184x1, .f32⟩ : BufTy).Contents (Elt F)),
    nullary main_cst_4 (constant S_ .f32 0x3F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S12288x1184x1, .f32⟩) main_call1_v1) (broadcastInDim S12288x1184x1 ![] bcast_S_S12288x1184x1),
    TRef.ternary (TRef.of (T := ⟨S12288x1184x1, .i1⟩) main_v11) (TRef.of (T := ⟨S12288x1184x1, .f32⟩) main_call1_v1) (TRef.of (T := ⟨S12288x1184x1, .f32⟩) main_v14) (TRef.of (T := ⟨S12288x1184x1, .f32⟩) main_v15) select,
    unary main_v15 main_v16 (broadcastInDim S12288x1184x16 ![0, 1, 2] bcast_S12288x1184x1_S12288x1184x16_0_1_2 : (⟨S12288x1184x1, .f32⟩ : BufTy).Contents (Elt F) → (⟨S12288x1184x16, .f32⟩ : BufTy).Contents (Elt F)) ]

/-- @main's operations 31 … 60 of 214 (window `main_part0`). -/
abbrev ops_part0_1 : List (HloOp τ sig (Elt F)) :=
  [ binary main_v1 main_v16 main_v17 (Host.divf : (⟨S12288x1184x16, .f32⟩ : BufTy).Contents (Elt F) → (⟨S12288x1184x16, .f32⟩ : BufTy).Contents (Elt F) → (⟨S12288x1184x16, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S12288x1184x1, .i1⟩) main_v11) (TRef.of (T := ⟨S12288x1184x16, .i1⟩) main_call2_v1) (broadcastInDim S12288x1184x16 ![0, 1, 2] bcast_S12288x1184x1_S12288x1184x16_0_1_2),
    TRef.unary (TRef.of (T := ⟨S_, .f32⟩) main_call2_v0) (TRef.of (T := ⟨S12288x1184x16, .f32⟩) main_call2_v2) (broadcastInDim S12288x1184x16 ![] bcast_S_S12288x1184x16),
    TRef.ternary (TRef.of (T := ⟨S12288x1184x16, .i1⟩) main_call2_v1) (TRef.of (T := ⟨S12288x1184x16, .f32⟩) main_call2_v2) (TRef.of (T := ⟨S12288x1184x16, .f32⟩) main_v17) (TRef.of (T := ⟨S12288x1184x16, .f32⟩) main_v18) select,
    unary main_v18 main_v19 (Host.absf : (⟨S12288x1184x16, .f32⟩ : BufTy).Contents (Elt F) → (⟨S12288x1184x16, .f32⟩ : BufTy).Contents (Elt F)),
    nullary main_cst_6 (constant S_ .f32 0x40C00000#32),
    unary main_cst_6 main_v20 (broadcastInDim S12288x1184x16 ![] bcast_S_S12288x1184x16 : (⟨S_, .f32⟩ : BufTy).Contents (Elt F) → (⟨S12288x1184x16, .f32⟩ : BufTy).Contents (Elt F)),
    binary main_v19 main_v20 main_v21 (minimumf : (⟨S12288x1184x16, .f32⟩ : BufTy).Contents (Elt F) → (⟨S12288x1184x16, .f32⟩ : BufTy).Contents (Elt F) → (⟨S12288x1184x16, .f32⟩ : BufTy).Contents (Elt F)),
    nullary main_cst_7 (constant S_ .f32 0x40000000#32),
    unary main_cst_7 main_v22 (broadcastInDim S12288x1184x16 ![] bcast_S_S12288x1184x16 : (⟨S_, .f32⟩ : BufTy).Contents (Elt F) → (⟨S12288x1184x16, .f32⟩ : BufTy).Contents (Elt F)),
    binary main_v21 main_v22 main_v23 (cmpf .olt : (⟨S12288x1184x16, .f32⟩ : BufTy).Contents (Elt F) → (⟨S12288x1184x16, .f32⟩ : BufTy).Contents (Elt F) → (⟨S12288x1184x16, .i1⟩ : BufTy).Contents (Elt F)),
    nullary main_cst_8 (constant S_ .f32 0x40800000#32),
    unary main_cst_8 main_v24 (broadcastInDim S12288x1184x16 ![] bcast_S_S12288x1184x16 : (⟨S_, .f32⟩ : BufTy).Contents (Elt F) → (⟨S12288x1184x16, .f32⟩ : BufTy).Contents (Elt F)),
    binary main_v21 main_v24 main_v25 (cmpf .olt : (⟨S12288x1184x16, .f32⟩ : BufTy).Contents (Elt F) → (⟨S12288x1184x16, .f32⟩ : BufTy).Contents (Elt F) → (⟨S12288x1184x16, .i1⟩ : BufTy).Contents (Elt F)),
    nullary main_cst_9 (constant S_ .f32 0x3F800000#32),
    nullary main_cst_10 (constant S_ .f32 0x40000000#32),
    TRef.unary (TRef.of (T := ⟨S_, .f32⟩) main_cst_9) (TRef.of (T := ⟨S12288x1184x16, .f32⟩) main_call3_v0) (broadcastInDim S12288x1184x16 ![] bcast_S_S12288x1184x16),
    TRef.unary (TRef.of (T := ⟨S_, .f32⟩) main_cst_10) (TRef.of (T := ⟨S12288x1184x16, .f32⟩) main_call3_v1) (broadcastInDim S12288x1184x16 ![] bcast_S_S12288x1184x16),
    TRef.ternary (TRef.of (T := ⟨S12288x1184x16, .i1⟩) main_v25) (TRef.of (T := ⟨S12288x1184x16, .f32⟩) main_call3_v0) (TRef.of (T := ⟨S12288x1184x16, .f32⟩) main_call3_v1) (TRef.of (T := ⟨S12288x1184x16, .f32⟩) main_v26) select,
    nullary main_cst_11 (constant S_ .f32 0x3F000000#32),
    TRef.unary (TRef.of (T := ⟨S_, .f32⟩) main_cst_11) (TRef.of (T := ⟨S12288x1184x16, .f32⟩) main_call4_v0) (broadcastInDim S12288x1184x16 ![] bcast_S_S12288x1184x16),
    TRef.ternary (TRef.of (T := ⟨S12288x1184x16, .i1⟩) main_v23) (TRef.of (T := ⟨S12288x1184x16, .f32⟩) main_call4_v0) (TRef.of (T := ⟨S12288x1184x16, .f32⟩) main_v26) (TRef.of (T := ⟨S12288x1184x16, .f32⟩) main_v27) select,
    nullary main_cst_12 (constant S_ .f32 0x40000000#32),
    unary main_cst_12 main_v28 (broadcastInDim S12288x1184x16 ![] bcast_S_S12288x1184x16 : (⟨S_, .f32⟩ : BufTy).Contents (Elt F) → (⟨S12288x1184x16, .f32⟩ : BufTy).Contents (Elt F)),
    binary main_v21 main_v28 main_v29 (cmpf .olt : (⟨S12288x1184x16, .f32⟩ : BufTy).Contents (Elt F) → (⟨S12288x1184x16, .f32⟩ : BufTy).Contents (Elt F) → (⟨S12288x1184x16, .i1⟩ : BufTy).Contents (Elt F)),
    nullary main_cst_13 (constant S_ .f32 0x40000000#32),
    unary main_cst_13 main_v30 (broadcastInDim S12288x1184x16 ![] bcast_S_S12288x1184x16 : (⟨S_, .f32⟩ : BufTy).Contents (Elt F) → (⟨S12288x1184x16, .f32⟩ : BufTy).Contents (Elt F)),
    binary main_v21 main_v30 main_v31 (mulf : (⟨S12288x1184x16, .f32⟩ : BufTy).Contents (Elt F) → (⟨S12288x1184x16, .f32⟩ : BufTy).Contents (Elt F) → (⟨S12288x1184x16, .f32⟩ : BufTy).Contents (Elt F)) ]

/-- @main's operations 61 … 73 of 214 (window `main_part0`). -/
abbrev ops_part0_2 : List (HloOp τ sig (Elt F)) :=
  [ unary main_v31 main_v32 (Host.floor : (⟨S12288x1184x16, .f32⟩ : BufTy).Contents (Elt F) → (⟨S12288x1184x16, .f32⟩ : BufTy).Contents (Elt F)),
    nullary main_cst_14 (constant S_ .f32 0x3F000000#32),
    unary main_cst_14 main_v33 (broadcastInDim S12288x1184x16 ![] bcast_S_S12288x1184x16 : (⟨S_, .f32⟩ : BufTy).Contents (Elt F) → (⟨S12288x1184x16, .f32⟩ : BufTy).Contents (Elt F)),
    binary main_v32 main_v33 main_v34 (mulf : (⟨S12288x1184x16, .f32⟩ : BufTy).Contents (Elt F) → (⟨S12288x1184x16, .f32⟩ : BufTy).Contents (Elt F) → (⟨S12288x1184x16, .f32⟩ : BufTy).Contents (Elt F)),
    nullary main_cst_15 (constant S_ .f32 0x40800000#32),
    unary main_cst_15 main_v35 (broadcastInDim S12288x1184x16 ![] bcast_S_S12288x1184x16 : (⟨S_, .f32⟩ : BufTy).Contents (Elt F) → (⟨S12288x1184x16, .f32⟩ : BufTy).Contents (Elt F)),
    binary main_v21 main_v35 main_v36 (cmpf .olt : (⟨S12288x1184x16, .f32⟩ : BufTy).Contents (Elt F) → (⟨S12288x1184x16, .f32⟩ : BufTy).Contents (Elt F) → (⟨S12288x1184x16, .i1⟩ : BufTy).Contents (Elt F)),
    unary main_v21 main_v37 (Host.floor : (⟨S12288x1184x16, .f32⟩ : BufTy).Contents (Elt F) → (⟨S12288x1184x16, .f32⟩ : BufTy).Contents (Elt F)),
    nullary main_cst_16 (constant S_ .f32 0x40800000#32),
    unary main_cst_16 main_v38 (broadcastInDim S12288x1184x16 ![] bcast_S_S12288x1184x16 : (⟨S_, .f32⟩ : BufTy).Contents (Elt F) → (⟨S12288x1184x16, .f32⟩ : BufTy).Contents (Elt F)),
    binary main_v21 main_v38 main_v39 (subf : (⟨S12288x1184x16, .f32⟩ : BufTy).Contents (Elt F) → (⟨S12288x1184x16, .f32⟩ : BufTy).Contents (Elt F) → (⟨S12288x1184x16, .f32⟩ : BufTy).Contents (Elt F)),
    nullary main_cst_17 (constant S_ .f32 0x3F000000#32),
    unary main_cst_17 main_v40 (broadcastInDim S12288x1184x16 ![] bcast_S_S12288x1184x16 : (⟨S_, .f32⟩ : BufTy).Contents (Elt F) → (⟨S12288x1184x16, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 74 … 103 of 214 (window `main_part1`). -/
abbrev ops_part1_0 : List (HloOp τ sig (Elt F)) :=
  [ binary main_v39 main_v40 main_v41 (mulf : (⟨S12288x1184x16, .f32⟩ : BufTy).Contents (Elt F) → (⟨S12288x1184x16, .f32⟩ : BufTy).Contents (Elt F) → (⟨S12288x1184x16, .f32⟩ : BufTy).Contents (Elt F)),
    unary main_v41 main_v42 (Host.floor : (⟨S12288x1184x16, .f32⟩ : BufTy).Contents (Elt F) → (⟨S12288x1184x16, .f32⟩ : BufTy).Contents (Elt F)),
    nullary main_cst_18 (constant S_ .f32 0x40000000#32),
    unary main_cst_18 main_v43 (broadcastInDim S12288x1184x16 ![] bcast_S_S12288x1184x16 : (⟨S_, .f32⟩ : BufTy).Contents (Elt F) → (⟨S12288x1184x16, .f32⟩ : BufTy).Contents (Elt F)),
    binary main_v43 main_v42 main_v44 (mulf : (⟨S12288x1184x16, .f32⟩ : BufTy).Contents (Elt F) → (⟨S12288x1184x16, .f32⟩ : BufTy).Contents (Elt F) → (⟨S12288x1184x16, .f32⟩ : BufTy).Contents (Elt F)),
    nullary main_cst_19 (constant S_ .f32 0x40800000#32),
    unary main_cst_19 main_v45 (broadcastInDim S12288x1184x16 ![] bcast_S_S12288x1184x16 : (⟨S_, .f32⟩ : BufTy).Contents (Elt F) → (⟨S12288x1184x16, .f32⟩ : BufTy).Contents (Elt F)),
    binary main_v45 main_v44 main_v46 (addf : (⟨S12288x1184x16, .f32⟩ : BufTy).Contents (Elt F) → (⟨S12288x1184x16, .f32⟩ : BufTy).Contents (Elt F) → (⟨S12288x1184x16, .f32⟩ : BufTy).Contents (Elt F)),
    TRef.ternary (TRef.of (T := ⟨S12288x1184x16, .i1⟩) main_v36) (TRef.of (T := ⟨S12288x1184x16, .f32⟩) main_v37) (TRef.of (T := ⟨S12288x1184x16, .f32⟩) main_v46) (TRef.of (T := ⟨S12288x1184x16, .f32⟩) main_v47) select,
    TRef.ternary (TRef.of (T := ⟨S12288x1184x16, .i1⟩) main_v29) (TRef.of (T := ⟨S12288x1184x16, .f32⟩) main_v34) (TRef.of (T := ⟨S12288x1184x16, .f32⟩) main_v47) (TRef.of (T := ⟨S12288x1184x16, .f32⟩) main_v48) select,
    binary main_v21 main_v48 main_v49 (subf : (⟨S12288x1184x16, .f32⟩ : BufTy).Contents (Elt F) → (⟨S12288x1184x16, .f32⟩ : BufTy).Contents (Elt F) → (⟨S12288x1184x16, .f32⟩ : BufTy).Contents (Elt F)),
    nullary main_cst_20 (constant S_ .f32 0x3F800000#32),
    unary main_cst_20 main_v50 (broadcastInDim S12288x1184x16 ![] bcast_S_S12288x1184x16 : (⟨S_, .f32⟩ : BufTy).Contents (Elt F) → (⟨S12288x1184x16, .f32⟩ : BufTy).Contents (Elt F)),
    binary main_v50 main_v27 main_v51 (Host.divf : (⟨S12288x1184x16, .f32⟩ : BufTy).Contents (Elt F) → (⟨S12288x1184x16, .f32⟩ : BufTy).Contents (Elt F) → (⟨S12288x1184x16, .f32⟩ : BufTy).Contents (Elt F)),
    unary main_v51 main_v52 (id : (⟨S12288x1184x16, .f32⟩ : BufTy).Contents (Elt F) → (⟨S12288x1184x16, .f32⟩ : BufTy).Contents (Elt F)),
    binary main_v49 main_v52 main_v53 (mulf : (⟨S12288x1184x16, .f32⟩ : BufTy).Contents (Elt F) → (⟨S12288x1184x16, .f32⟩ : BufTy).Contents (Elt F) → (⟨S12288x1184x16, .f32⟩ : BufTy).Contents (Elt F)),
    nullary main_c (constantI S_ 32 8#32),
    unary main_c main_v54 (broadcastInDim S12288x18944 ![] bcast_S_S12288x18944 : (⟨S_, .i32⟩ : BufTy).Contents (Elt F) → (⟨S12288x18944, .i32⟩ : BufTy).Contents (Elt F)),
    binary main_arg3 main_v54 main_v55 (Host.shrui : (⟨S12288x18944, .i32⟩ : BufTy).Contents (Elt F) → (⟨S12288x18944, .i32⟩ : BufTy).Contents (Elt F) → (⟨S12288x18944, .i32⟩ : BufTy).Contents (Elt F)),
    unary main_v55 main_v56 (uitofp .f32 : (⟨S12288x18944, .i32⟩ : BufTy).Contents (Elt F) → (⟨S12288x18944, .f32⟩ : BufTy).Contents (Elt F)),
    reshape main_v56 main_v57 (rfl : (.f32 : EltTy) = .f32) shapeCasts_S12288x18944_S12288x1184x16,
    nullary main_cst_21 (constant S_ .f32 0x33800000#32),
    unary main_cst_21 main_v58 (broadcastInDim S12288x1184x16 ![] bcast_S_S12288x1184x16 : (⟨S_, .f32⟩ : BufTy).Contents (Elt F) → (⟨S12288x1184x16, .f32⟩ : BufTy).Contents (Elt F)),
    binary main_v57 main_v58 main_v59 (mulf : (⟨S12288x1184x16, .f32⟩ : BufTy).Contents (Elt F) → (⟨S12288x1184x16, .f32⟩ : BufTy).Contents (Elt F) → (⟨S12288x1184x16, .f32⟩ : BufTy).Contents (Elt F)),
    binary main_v59 main_v53 main_v60 (cmpf .olt : (⟨S12288x1184x16, .f32⟩ : BufTy).Contents (Elt F) → (⟨S12288x1184x16, .f32⟩ : BufTy).Contents (Elt F) → (⟨S12288x1184x16, .i1⟩ : BufTy).Contents (Elt F)),
    unary main_v27 main_v61 (id : (⟨S12288x1184x16, .f32⟩ : BufTy).Contents (Elt F) → (⟨S12288x1184x16, .f32⟩ : BufTy).Contents (Elt F)),
    binary main_v48 main_v61 main_v62 (addf : (⟨S12288x1184x16, .f32⟩ : BufTy).Contents (Elt F) → (⟨S12288x1184x16, .f32⟩ : BufTy).Contents (Elt F) → (⟨S12288x1184x16, .f32⟩ : BufTy).Contents (Elt F)),
    TRef.ternary (TRef.of (T := ⟨S12288x1184x16, .i1⟩) main_v60) (TRef.of (T := ⟨S12288x1184x16, .f32⟩) main_v62) (TRef.of (T := ⟨S12288x1184x16, .f32⟩) main_v48) (TRef.of (T := ⟨S12288x1184x16, .f32⟩) main_v63) select,
    nullary main_cst_22 (constant S_ .f32 0x40000000#32),
    unary main_cst_22 main_v64 (broadcastInDim S12288x1184x16 ![] bcast_S_S12288x1184x16 : (⟨S_, .f32⟩ : BufTy).Contents (Elt F) → (⟨S12288x1184x16, .f32⟩ : BufTy).Contents (Elt F)) ]

/-- @main's operations 104 … 133 of 214 (window `main_part1`). -/
abbrev ops_part1_1 : List (HloOp τ sig (Elt F)) :=
  [ binary main_v63 main_v64 main_v65 (cmpf .olt : (⟨S12288x1184x16, .f32⟩ : BufTy).Contents (Elt F) → (⟨S12288x1184x16, .f32⟩ : BufTy).Contents (Elt F) → (⟨S12288x1184x16, .i1⟩ : BufTy).Contents (Elt F)),
    nullary main_cst_23 (constant S_ .f32 0x40000000#32),
    unary main_cst_23 main_v66 (broadcastInDim S12288x1184x16 ![] bcast_S_S12288x1184x16 : (⟨S_, .f32⟩ : BufTy).Contents (Elt F) → (⟨S12288x1184x16, .f32⟩ : BufTy).Contents (Elt F)),
    binary main_v63 main_v66 main_v67 (mulf : (⟨S12288x1184x16, .f32⟩ : BufTy).Contents (Elt F) → (⟨S12288x1184x16, .f32⟩ : BufTy).Contents (Elt F) → (⟨S12288x1184x16, .f32⟩ : BufTy).Contents (Elt F)),
    nullary main_cst_24 (constant S_ .f32 0x40800000#32),
    unary main_cst_24 main_v68 (broadcastInDim S12288x1184x16 ![] bcast_S_S12288x1184x16 : (⟨S_, .f32⟩ : BufTy).Contents (Elt F) → (⟨S12288x1184x16, .f32⟩ : BufTy).Contents (Elt F)),
    binary main_v63 main_v68 main_v69 (cmpf .olt : (⟨S12288x1184x16, .f32⟩ : BufTy).Contents (Elt F) → (⟨S12288x1184x16, .f32⟩ : BufTy).Contents (Elt F) → (⟨S12288x1184x16, .i1⟩ : BufTy).Contents (Elt F)),
    nullary main_cst_25 (constant S_ .f32 0x40000000#32),
    unary main_cst_25 main_v70 (broadcastInDim S12288x1184x16 ![] bcast_S_S12288x1184x16 : (⟨S_, .f32⟩ : BufTy).Contents (Elt F) → (⟨S12288x1184x16, .f32⟩ : BufTy).Contents (Elt F)),
    binary main_v63 main_v70 main_v71 (addf : (⟨S12288x1184x16, .f32⟩ : BufTy).Contents (Elt F) → (⟨S12288x1184x16, .f32⟩ : BufTy).Contents (Elt F) → (⟨S12288x1184x16, .f32⟩ : BufTy).Contents (Elt F)),
    nullary main_cst_26 (constant S_ .f32 0x40800000#32),
    unary main_cst_26 main_v72 (broadcastInDim S12288x1184x16 ![] bcast_S_S12288x1184x16 : (⟨S_, .f32⟩ : BufTy).Contents (Elt F) → (⟨S12288x1184x16, .f32⟩ : BufTy).Contents (Elt F)),
    binary main_v63 main_v72 main_v73 (cmpf .oeq : (⟨S12288x1184x16, .f32⟩ : BufTy).Contents (Elt F) → (⟨S12288x1184x16, .f32⟩ : BufTy).Contents (Elt F) → (⟨S12288x1184x16, .i1⟩ : BufTy).Contents (Elt F)),
    nullary main_cst_27 (constant S_ .f32 0x40C00000#32),
    nullary main_cst_28 (constant S_ .f32 0x40E00000#32),
    TRef.unary (TRef.of (T := ⟨S_, .f32⟩) main_cst_27) (TRef.of (T := ⟨S12288x1184x16, .f32⟩) main_call8_v0) (broadcastInDim S12288x1184x16 ![] bcast_S_S12288x1184x16),
    TRef.unary (TRef.of (T := ⟨S_, .f32⟩) main_cst_28) (TRef.of (T := ⟨S12288x1184x16, .f32⟩) main_call8_v1) (broadcastInDim S12288x1184x16 ![] bcast_S_S12288x1184x16),
    TRef.ternary (TRef.of (T := ⟨S12288x1184x16, .i1⟩) main_v73) (TRef.of (T := ⟨S12288x1184x16, .f32⟩) main_call8_v0) (TRef.of (T := ⟨S12288x1184x16, .f32⟩) main_call8_v1) (TRef.of (T := ⟨S12288x1184x16, .f32⟩) main_v74) select,
    TRef.unary (TRef.of (T := ⟨S12288x1184x16, .f32⟩) main_v74) (TRef.of (T := ⟨S12288x1184x16, .f32⟩) main_call9_v0) id,
    TRef.ternary (TRef.of (T := ⟨S12288x1184x16, .i1⟩) main_v69) (TRef.of (T := ⟨S12288x1184x16, .f32⟩) main_v71) (TRef.of (T := ⟨S12288x1184x16, .f32⟩) main_call9_v0) (TRef.of (T := ⟨S12288x1184x16, .f32⟩) main_v75) select,
    TRef.ternary (TRef.of (T := ⟨S12288x1184x16, .i1⟩) main_v65) (TRef.of (T := ⟨S12288x1184x16, .f32⟩) main_v67) (TRef.of (T := ⟨S12288x1184x16, .f32⟩) main_v75) (TRef.of (T := ⟨S12288x1184x16, .f32⟩) main_v76) select,
    unary main_v76 main_v77 (fptosi 32 : (⟨S12288x1184x16, .f32⟩ : BufTy).Contents (Elt F) → (⟨S12288x1184x16, .i32⟩ : BufTy).Contents (Elt F)),
    nullary main_cst_29 (constant S_ .f32 0x00000000#32),
    unary main_cst_29 main_v78 (broadcastInDim S12288x1184x16 ![] bcast_S_S12288x1184x16 : (⟨S_, .f32⟩ : BufTy).Contents (Elt F) → (⟨S12288x1184x16, .f32⟩ : BufTy).Contents (Elt F)),
    binary main_v18 main_v78 main_v79 (cmpf .olt : (⟨S12288x1184x16, .f32⟩ : BufTy).Contents (Elt F) → (⟨S12288x1184x16, .f32⟩ : BufTy).Contents (Elt F) → (⟨S12288x1184x16, .i1⟩ : BufTy).Contents (Elt F)),
    nullary main_cst_30 (constant S_ .f32 0x00000000#32),
    unary main_cst_30 main_v80 (broadcastInDim S12288x1184x16 ![] bcast_S_S12288x1184x16 : (⟨S_, .f32⟩ : BufTy).Contents (Elt F) → (⟨S12288x1184x16, .f32⟩ : BufTy).Contents (Elt F)),
    binary main_v63 main_v80 main_v81 (cmpf .ogt : (⟨S12288x1184x16, .f32⟩ : BufTy).Contents (Elt F) → (⟨S12288x1184x16, .f32⟩ : BufTy).Contents (Elt F) → (⟨S12288x1184x16, .i1⟩ : BufTy).Contents (Elt F)),
    binary main_v79 main_v81 main_v82 (andi : (⟨S12288x1184x16, .i1⟩ : BufTy).Contents (Elt F) → (⟨S12288x1184x16, .i1⟩ : BufTy).Contents (Elt F) → (⟨S12288x1184x16, .i1⟩ : BufTy).Contents (Elt F)),
    unary main_v82 main_v83 ((extui 32 · natLt_1_32) : (⟨S12288x1184x16, .i1⟩ : BufTy).Contents (Elt F) → (⟨S12288x1184x16, .i32⟩ : BufTy).Contents (Elt F)) ]

/-- @main's operations 134 … 136 of 214 (window `main_part1`). -/
abbrev ops_part1_2 : List (HloOp τ sig (Elt F)) :=
  [ nullary main_c_31 (constantI S_ 32 3#32),
    unary main_c_31 main_v84 (broadcastInDim S12288x1184x16 ![] bcast_S_S12288x1184x16 : (⟨S_, .i32⟩ : BufTy).Contents (Elt F) → (⟨S12288x1184x16, .i32⟩ : BufTy).Contents (Elt F)),
    binary main_v83 main_v84 main_v85 (Host.shli : (⟨S12288x1184x16, .i32⟩ : BufTy).Contents (Elt F) → (⟨S12288x1184x16, .i32⟩ : BufTy).Contents (Elt F) → (⟨S12288x1184x16, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 137 … 196 of 214 (window `main_part2`). -/
abbrev ops_part2 : List (HloOp τ sig (Elt F)) :=
  [ binary main_v77 main_v85 main_v86 (ori : (⟨S12288x1184x16, .i32⟩ : BufTy).Contents (Elt F) → (⟨S12288x1184x16, .i32⟩ : BufTy).Contents (Elt F) → (⟨S12288x1184x16, .i32⟩ : BufTy).Contents (Elt F)),
    reshape main_v86 main_v87 (rfl : (.i32 : EltTy) = .i32) shapeCasts_S12288x1184x16_S12288x9472x2,
    unary main_v87 main_v88 ((extractStridedSlice S12288x9472x1 ![0, 0, 0] · slices_S12288x9472x2_S12288x9472x1_0_0_0) : (⟨S12288x9472x2, .i32⟩ : BufTy).Contents (Elt F) → (⟨S12288x9472x1, .i32⟩ : BufTy).Contents (Elt F)),
    reshape main_v88 main_v89 (rfl : (.i32 : EltTy) = .i32) shapeCasts_S12288x9472x1_S12288x9472,
    unary main_v87 main_v90 ((extractStridedSlice S12288x9472x1 ![0, 0, 1] · slices_S12288x9472x2_S12288x9472x1_0_0_1) : (⟨S12288x9472x2, .i32⟩ : BufTy).Contents (Elt F) → (⟨S12288x9472x1, .i32⟩ : BufTy).Contents (Elt F)),
    reshape main_v90 main_v91 (rfl : (.i32 : EltTy) = .i32) shapeCasts_S12288x9472x1_S12288x9472,
    nullary main_c_32 (constantI S_ 32 4#32),
    unary main_c_32 main_v92 (broadcastInDim S12288x9472 ![] bcast_S_S12288x9472 : (⟨S_, .i32⟩ : BufTy).Contents (Elt F) → (⟨S12288x9472, .i32⟩ : BufTy).Contents (Elt F)),
    binary main_v91 main_v92 main_v93 (Host.shli : (⟨S12288x9472, .i32⟩ : BufTy).Contents (Elt F) → (⟨S12288x9472, .i32⟩ : BufTy).Contents (Elt F) → (⟨S12288x9472, .i32⟩ : BufTy).Contents (Elt F)),
    binary main_v89 main_v93 main_v94 (ori : (⟨S12288x9472, .i32⟩ : BufTy).Contents (Elt F) → (⟨S12288x9472, .i32⟩ : BufTy).Contents (Elt F) → (⟨S12288x9472, .i32⟩ : BufTy).Contents (Elt F)),
    unary main_v94 main_v95 ((trunci 8 · natLt_8_32) : (⟨S12288x9472, .i32⟩ : BufTy).Contents (Elt F) → (⟨S12288x9472, .i8⟩ : BufTy).Contents (Elt F)),
    nullary main_c_33 (constantI S_ 32 1#32),
    unary main_c_33 main_v96 (broadcastInDim S12288x9472x2 ![] bcast_S_S12288x9472x2 : (⟨S_, .i32⟩ : BufTy).Contents (Elt F) → (⟨S12288x9472x2, .i32⟩ : BufTy).Contents (Elt F)),
    binary main_v87 main_v96 main_v97 (andi : (⟨S12288x9472x2, .i32⟩ : BufTy).Contents (Elt F) → (⟨S12288x9472x2, .i32⟩ : BufTy).Contents (Elt F) → (⟨S12288x9472x2, .i32⟩ : BufTy).Contents (Elt F)),
    unary main_v97 main_v98 (sitofp .bf16 : (⟨S12288x9472x2, .i32⟩ : BufTy).Contents (Elt F) → (⟨S12288x9472x2, .bf16⟩ : BufTy).Contents (Elt F)),
    nullary main_c_34 (constantI S_ 32 1#32),
    unary main_c_34 main_v99 (broadcastInDim S12288x9472x2 ![] bcast_S_S12288x9472x2 : (⟨S_, .i32⟩ : BufTy).Contents (Elt F) → (⟨S12288x9472x2, .i32⟩ : BufTy).Contents (Elt F)),
    binary main_v87 main_v99 main_v100 (Host.shrsi : (⟨S12288x9472x2, .i32⟩ : BufTy).Contents (Elt F) → (⟨S12288x9472x2, .i32⟩ : BufTy).Contents (Elt F) → (⟨S12288x9472x2, .i32⟩ : BufTy).Contents (Elt F)),
    nullary main_c_35 (constantI S_ 32 3#32),
    unary main_c_35 main_v101 (broadcastInDim S12288x9472x2 ![] bcast_S_S12288x9472x2 : (⟨S_, .i32⟩ : BufTy).Contents (Elt F) → (⟨S12288x9472x2, .i32⟩ : BufTy).Contents (Elt F)),
    binary main_v100 main_v101 main_v102 (andi : (⟨S12288x9472x2, .i32⟩ : BufTy).Contents (Elt F) → (⟨S12288x9472x2, .i32⟩ : BufTy).Contents (Elt F) → (⟨S12288x9472x2, .i32⟩ : BufTy).Contents (Elt F)),
    nullary main_c_36 (constantI S_ 32 0#32),
    unary main_c_36 main_v103 (broadcastInDim S12288x9472x2 ![] bcast_S_S12288x9472x2 : (⟨S_, .i32⟩ : BufTy).Contents (Elt F) → (⟨S12288x9472x2, .i32⟩ : BufTy).Contents (Elt F)),
    binary main_v102 main_v103 main_v104 (cmpi .eq : (⟨S12288x9472x2, .i32⟩ : BufTy).Contents (Elt F) → (⟨S12288x9472x2, .i32⟩ : BufTy).Contents (Elt F) → (⟨S12288x9472x2, .i1⟩ : BufTy).Contents (Elt F)),
    nullary main_cst_37 (constant S_ .bf16 0x3F00#16),
    unary main_cst_37 main_v105 (broadcastInDim S12288x9472x2 ![] bcast_S_S12288x9472x2 : (⟨S_, .bf16⟩ : BufTy).Contents (Elt F) → (⟨S12288x9472x2, .bf16⟩ : BufTy).Contents (Elt F)),
    binary main_v105 main_v98 main_v106 (mulf : (⟨S12288x9472x2, .bf16⟩ : BufTy).Contents (Elt F) → (⟨S12288x9472x2, .bf16⟩ : BufTy).Contents (Elt F) → (⟨S12288x9472x2, .bf16⟩ : BufTy).Contents (Elt F)),
    nullary main_c_38 (constantI S_ 32 1#32),
    unary main_c_38 main_v107 (broadcastInDim S12288x9472x2 ![] bcast_S_S12288x9472x2 : (⟨S_, .i32⟩ : BufTy).Contents (Elt F) → (⟨S12288x9472x2, .i32⟩ : BufTy).Contents (Elt F)),
    binary main_v102 main_v107 main_v108 (cmpi .eq : (⟨S12288x9472x2, .i32⟩ : BufTy).Contents (Elt F) → (⟨S12288x9472x2, .i32⟩ : BufTy).Contents (Elt F) → (⟨S12288x9472x2, .i1⟩ : BufTy).Contents (Elt F)),
    nullary main_cst_39 (constant S_ .bf16 0x3F00#16),
    unary main_cst_39 main_v109 (broadcastInDim S12288x9472x2 ![] bcast_S_S12288x9472x2 : (⟨S_, .bf16⟩ : BufTy).Contents (Elt F) → (⟨S12288x9472x2, .bf16⟩ : BufTy).Contents (Elt F)),
    binary main_v109 main_v98 main_v110 (mulf : (⟨S12288x9472x2, .bf16⟩ : BufTy).Contents (Elt F) → (⟨S12288x9472x2, .bf16⟩ : BufTy).Contents (Elt F) → (⟨S12288x9472x2, .bf16⟩ : BufTy).Contents (Elt F)),
    nullary main_cst_40 (constant S_ .bf16 0x3F80#16),
    unary main_cst_40 main_v111 (broadcastInDim S12288x9472x2 ![] bcast_S_S12288x9472x2 : (⟨S_, .bf16⟩ : BufTy).Contents (Elt F) → (⟨S12288x9472x2, .bf16⟩ : BufTy).Contents (Elt F)),
    binary main_v111 main_v110 main_v112 (addf : (⟨S12288x9472x2, .bf16⟩ : BufTy).Contents (Elt F) → (⟨S12288x9472x2, .bf16⟩ : BufTy).Contents (Elt F) → (⟨S12288x9472x2, .bf16⟩ : BufTy).Contents (Elt F)),
    nullary main_c_41 (constantI S_ 32 2#32),
    unary main_c_41 main_v113 (broadcastInDim S12288x9472x2 ![] bcast_S_S12288x9472x2 : (⟨S_, .i32⟩ : BufTy).Contents (Elt F) → (⟨S12288x9472x2, .i32⟩ : BufTy).Contents (Elt F)),
    binary main_v102 main_v113 main_v114 (cmpi .eq : (⟨S12288x9472x2, .i32⟩ : BufTy).Contents (Elt F) → (⟨S12288x9472x2, .i32⟩ : BufTy).Contents (Elt F) → (⟨S12288x9472x2, .i1⟩ : BufTy).Contents (Elt F)),
    nullary main_cst_42 (constant S_ .bf16 0x4000#16),
    unary main_cst_42 main_v115 (broadcastInDim S12288x9472x2 ![] bcast_S_S12288x9472x2 : (⟨S_, .bf16⟩ : BufTy).Contents (Elt F) → (⟨S12288x9472x2, .bf16⟩ : BufTy).Contents (Elt F)),
    binary main_v115 main_v98 main_v116 (addf : (⟨S12288x9472x2, .bf16⟩ : BufTy).Contents (Elt F) → (⟨S12288x9472x2, .bf16⟩ : BufTy).Contents (Elt F) → (⟨S12288x9472x2, .bf16⟩ : BufTy).Contents (Elt F)),
    nullary main_cst_43 (constant S_ .bf16 0x4000#16),
    unary main_cst_43 main_v117 (broadcastInDim S12288x9472x2 ![] bcast_S_S12288x9472x2 : (⟨S_, .bf16⟩ : BufTy).Contents (Elt F) → (⟨S12288x9472x2, .bf16⟩ : BufTy).Contents (Elt F)),
    binary main_v117 main_v98 main_v118 (mulf : (⟨S12288x9472x2, .bf16⟩ : BufTy).Contents (Elt F) → (⟨S12288x9472x2, .bf16⟩ : BufTy).Contents (Elt F) → (⟨S12288x9472x2, .bf16⟩ : BufTy).Contents (Elt F)),
    nullary main_cst_44 (constant S_ .bf16 0x4080#16),
    unary main_cst_44 main_v119 (broadcastInDim S12288x9472x2 ![] bcast_S_S12288x9472x2 : (⟨S_, .bf16⟩ : BufTy).Contents (Elt F) → (⟨S12288x9472x2, .bf16⟩ : BufTy).Contents (Elt F)),
    binary main_v119 main_v118 main_v120 (addf : (⟨S12288x9472x2, .bf16⟩ : BufTy).Contents (Elt F) → (⟨S12288x9472x2, .bf16⟩ : BufTy).Contents (Elt F) → (⟨S12288x9472x2, .bf16⟩ : BufTy).Contents (Elt F)),
    TRef.ternary (TRef.of (T := ⟨S12288x9472x2, .i1⟩) main_v114) (TRef.of (T := ⟨S12288x9472x2, .bf16⟩) main_v116) (TRef.of (T := ⟨S12288x9472x2, .bf16⟩) main_v120) (TRef.of (T := ⟨S12288x9472x2, .bf16⟩) main_v121) select,
    TRef.ternary (TRef.of (T := ⟨S12288x9472x2, .i1⟩) main_v108) (TRef.of (T := ⟨S12288x9472x2, .bf16⟩) main_v112) (TRef.of (T := ⟨S12288x9472x2, .bf16⟩) main_v121) (TRef.of (T := ⟨S12288x9472x2, .bf16⟩) main_v122) select,
    TRef.ternary (TRef.of (T := ⟨S12288x9472x2, .i1⟩) main_v104) (TRef.of (T := ⟨S12288x9472x2, .bf16⟩) main_v106) (TRef.of (T := ⟨S12288x9472x2, .bf16⟩) main_v122) (TRef.of (T := ⟨S12288x9472x2, .bf16⟩) main_v123) select,
    nullary main_c_45 (constantI S_ 32 8#32),
    unary main_c_45 main_v124 (broadcastInDim S12288x9472x2 ![] bcast_S_S12288x9472x2 : (⟨S_, .i32⟩ : BufTy).Contents (Elt F) → (⟨S12288x9472x2, .i32⟩ : BufTy).Contents (Elt F)),
    binary main_v87 main_v124 main_v125 (andi : (⟨S12288x9472x2, .i32⟩ : BufTy).Contents (Elt F) → (⟨S12288x9472x2, .i32⟩ : BufTy).Contents (Elt F) → (⟨S12288x9472x2, .i32⟩ : BufTy).Contents (Elt F)),
    nullary main_c_46 (constantI S_ 32 0#32),
    unary main_c_46 main_v126 (broadcastInDim S12288x9472x2 ![] bcast_S_S12288x9472x2 : (⟨S_, .i32⟩ : BufTy).Contents (Elt F) → (⟨S12288x9472x2, .i32⟩ : BufTy).Contents (Elt F)),
    binary main_v125 main_v126 main_v127 (cmpi .ne : (⟨S12288x9472x2, .i32⟩ : BufTy).Contents (Elt F) → (⟨S12288x9472x2, .i32⟩ : BufTy).Contents (Elt F) → (⟨S12288x9472x2, .i1⟩ : BufTy).Contents (Elt F)),
    unary main_v123 main_v128 (Host.negf : (⟨S12288x9472x2, .bf16⟩ : BufTy).Contents (Elt F) → (⟨S12288x9472x2, .bf16⟩ : BufTy).Contents (Elt F)),
    TRef.ternary (TRef.of (T := ⟨S12288x9472x2, .i1⟩) main_v127) (TRef.of (T := ⟨S12288x9472x2, .bf16⟩) main_v128) (TRef.of (T := ⟨S12288x9472x2, .bf16⟩) main_v123) (TRef.of (T := ⟨S12288x9472x2, .bf16⟩) main_v129) select,
    reshape main_v129 main_v130 (rfl : (.bf16 : EltTy) = .bf16) shapeCasts_S12288x9472x2_S12288x1184x16 ]

/-- @main's operations 197 … 214 of 214 (window `main_part3`). -/
abbrev ops_part3 : List (HloOp τ sig (Elt F)) :=
  [ unary main_v8 main_v131 ((truncf .bf16 · bitsLt_bf16_f32) : (⟨S12288x1184, .f32⟩ : BufTy).Contents (Elt F) → (⟨S12288x1184, .bf16⟩ : BufTy).Contents (Elt F)),
    unary main_v131 main_v132 (broadcastInDim S12288x1184x1 ![0, 1] bcast_S12288x1184_S12288x1184x1_0_1 : (⟨S12288x1184, .bf16⟩ : BufTy).Contents (Elt F) → (⟨S12288x1184x1, .bf16⟩ : BufTy).Contents (Elt F)),
    unary main_v132 main_v133 (broadcastInDim S12288x1184x16 ![0, 1, 2] bcast_S12288x1184x1_S12288x1184x16_0_1_2 : (⟨S12288x1184x1, .bf16⟩ : BufTy).Contents (Elt F) → (⟨S12288x1184x16, .bf16⟩ : BufTy).Contents (Elt F)),
    binary main_v130 main_v133 main_v134 (mulf : (⟨S12288x1184x16, .bf16⟩ : BufTy).Contents (Elt F) → (⟨S12288x1184x16, .bf16⟩ : BufTy).Contents (Elt F) → (⟨S12288x1184x16, .bf16⟩ : BufTy).Contents (Elt F)),
    reshape main_v134 main_v135 (rfl : (.bf16 : EltTy) = .bf16) shapeCasts_S12288x1184x16_S12288x18944,
    unary main_arg4 main_v136 ((fun x => bitcastToFloat (F := F) .bf16 (Host.bitcastConvertNarrow S9472x3584x2 16 x splits_S9472x3584_w32_S9472x3584x2_w16)) : (⟨S9472x3584, .i32⟩ : BufTy).Contents (Elt F) → (⟨S9472x3584x2, .bf16⟩ : BufTy).Contents (Elt F)),
    unary main_v136 main_v137 ((transpose S9472x2x3584 [0, 2, 1] · transposes_S9472x3584x2_S9472x2x3584_0_2_1) : (⟨S9472x3584x2, .bf16⟩ : BufTy).Contents (Elt F) → (⟨S9472x2x3584, .bf16⟩ : BufTy).Contents (Elt F)),
    reshape main_v137 main_v138 (rfl : (.bf16 : EltTy) = .bf16) shapeCasts_S9472x2x3584_S18944x3584,
    binary main_v135 main_v138 main_v139 ((fun l r => Host.dotGeneral dot_S12288x18944_S18944x3584_S12288x3584_1_0_0_1_n_n none l r) : (⟨S12288x18944, .bf16⟩ : BufTy).Contents (Elt F) → (⟨S18944x3584, .bf16⟩ : BufTy).Contents (Elt F) → (⟨S12288x3584, .f32⟩ : BufTy).Contents (Elt F)),
    reshape main_arg0 main_v140 (rfl : (.f32 : EltTy) = .f32) shapeCasts_S1x1_S_,
    reshape main_arg1 main_v141 (rfl : (.f32 : EltTy) = .f32) shapeCasts_S1x1_S_,
    binary main_v140 main_v141 main_v142 (mulf : (⟨S_, .f32⟩ : BufTy).Contents (Elt F) → (⟨S_, .f32⟩ : BufTy).Contents (Elt F) → (⟨S_, .f32⟩ : BufTy).Contents (Elt F)),
    unary main_v142 main_v143 (broadcastInDim S12288x3584 ![] bcast_S_S12288x3584 : (⟨S_, .f32⟩ : BufTy).Contents (Elt F) → (⟨S12288x3584, .f32⟩ : BufTy).Contents (Elt F)),
    binary main_v139 main_v143 main_v144 (mulf : (⟨S12288x3584, .f32⟩ : BufTy).Contents (Elt F) → (⟨S12288x3584, .f32⟩ : BufTy).Contents (Elt F) → (⟨S12288x3584, .f32⟩ : BufTy).Contents (Elt F)),
    unary main_v144 main_v145 ((truncf .bf16 · bitsLt_bf16_f32) : (⟨S12288x3584, .f32⟩ : BufTy).Contents (Elt F) → (⟨S12288x3584, .bf16⟩ : BufTy).Contents (Elt F)),
    unary main_v8 main_v146 (Host.convertf .fp8e4m3 : (⟨S12288x1184, .f32⟩ : BufTy).Contents (Elt F) → (⟨S12288x1184, .fp8e4m3⟩ : BufTy).Contents (Elt F)),
    reshape main_v146 main_v147 (rfl : (.fp8e4m3 : EltTy) = .fp8e4m3) shapeCasts_S12288x1184_S6x2048x1184,
    unary main_v147 main_v148 ((transpose S6x1184x2048 [0, 2, 1] · transposes_S6x2048x1184_S6x1184x2048_0_2_1) : (⟨S6x2048x1184, .fp8e4m3⟩ : BufTy).Contents (Elt F) → (⟨S6x1184x2048, .fp8e4m3⟩ : BufTy).Contents (Elt F)) ]

/-- @main's 214 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., reshape_bufs_sub .., unary_bufs_sub .., nullary_bufs_sub .., binary_bufs_sub .., reshape_bufs_sub .., nullary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., reshape_bufs_sub .., unary_bufs_sub .., binary_bufs_sub .., nullary_bufs_sub .., unary_bufs_sub .., unary_bufs_sub .., ternary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., nullary_bufs_sub .., unary_bufs_sub .., unary_bufs_sub .., unary_bufs_sub .., ternary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub .., nullary_bufs_sub .., unary_bufs_sub .., binary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., ternary_bufs_sub .., binary_bufs_sub .., nullary_bufs_sub .., unary_bufs_sub .., binary_bufs_sub .., unary_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., binary_bufs_sub .., ternary_bufs_sub .., nullary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., ternary_bufs_sub .., ternary_bufs_sub .., unary_bufs_sub .., nullary_bufs_sub .., unary_bufs_sub .., binary_bufs_sub .., nullary_bufs_sub .., unary_bufs_sub .., binary_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl⟩
set_option maxRecDepth 8192 in
theorem ops_part2_sub : (ops_part2 : List (HloOp τ sig (Elt F))).Forall fun op => op.bufs ⊆ tcRefs τ sig :=
  ⟨binary_bufs_sub .., reshape_bufs_sub .., unary_bufs_sub .., reshape_bufs_sub .., unary_bufs_sub .., reshape_bufs_sub .., nullary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., ternary_bufs_sub .., ternary_bufs_sub .., nullary_bufs_sub .., unary_bufs_sub .., binary_bufs_sub .., nullary_bufs_sub .., unary_bufs_sub .., binary_bufs_sub .., unary_bufs_sub .., ternary_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., unary_bufs_sub .., unary_bufs_sub .., binary_bufs_sub .., reshape_bufs_sub .., unary_bufs_sub .., unary_bufs_sub .., reshape_bufs_sub .., binary_bufs_sub .., reshape_bufs_sub .., reshape_bufs_sub .., binary_bufs_sub .., unary_bufs_sub .., binary_bufs_sub .., unary_bufs_sub .., unary_bufs_sub .., reshape_bufs_sub .., unary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_fresh op h]

set_option maxRecDepth 8192 in
/-- `main_v1`'s composed term of the arguments (named: it is used 2 times). -/
def res_main_v1 (V0 : Valuation τ sig (Elt F)) : (Proc.devRef .tc main_v1 : DevRef τ sig).ty.Contents (Elt F) :=
  shapeCast _ (extf .f32 (V0 (Proc.devRef .tc main_arg2)) bitsLt_bf16_f32) shapeCasts_S12288x18944_S12288x1184x16

set_option maxRecDepth 8192 in
/-- `main_v8`'s composed term of the arguments (named: it is used 3 times). -/
def res_main_v8 (V0 : Valuation τ sig (Elt F)) : (Proc.devRef .tc main_v8 : DevRef τ sig).ty.Contents (Elt F) :=
  minimumf (broadcastInDim S12288x1184 ![] bcast_S_S12288x1184 (id (constant S_ .f32 0x43E00000#32))) (maximumf (broadcastInDim S12288x1184 ![] bcast_S_S12288x1184 (id (constant S_ .f32 0x00000000#32))) (Host.divf (Host.reduce FloatOps.maximumf (Host.absf (res_main_v1 V0)) (constant S_ .f32 0xFF800000#32) reducesTo_S12288x1184x16_S12288x1184_d2 h_S_) (broadcastInDim S12288x1184 ![] bcast_S_S12288x1184 (mulf (constant S_ .f32 0x40C00000#32) (shapeCast _ (V0 (Proc.devRef .tc main_arg0)) shapeCasts_S1x1_S_)))))

set_option maxRecDepth 8192 in
/-- `main_v9`'s composed term of the arguments (named: it is used 2 times). -/
def res_main_v9 (V0 : Valuation τ sig (Elt F)) : (Proc.devRef .tc main_v9 : DevRef τ sig).ty.Contents (Elt F) :=
  broadcastInDim S12288x1184x1 ![0, 1] bcast_S12288x1184_S12288x1184x1_0_1 (res_main_v8 V0)

set_option maxRecDepth 8192 in
/-- `main_v11`'s composed term of the arguments (named: it is used 2 times). -/
def res_main_v11 (V0 : Valuation τ sig (Elt F)) : (Proc.devRef .tc main_v11 : DevRef τ sig).ty.Contents (Elt F) :=
  cmpf .oeq (res_main_v9 V0) (broadcastInDim S12288x1184x1 ![] bcast_S_S12288x1184x1 (constant S_ .f32 0x00000000#32))

set_option maxRecDepth 8192 in
/-- `main_v18`'s composed term of the arguments (named: it is used 2 times). -/
def res_main_v18 (V0 : Valuation τ sig (Elt F)) : (Proc.devRef .tc main_v18 : DevRef τ sig).ty.Contents (Elt F) :=
  select (broadcastInDim S12288x1184x16 ![0, 1, 2] bcast_S12288x1184x1_S12288x1184x16_0_1_2 (res_main_v11 V0)) (broadcastInDim S12288x1184x16 ![] bcast_S_S12288x1184x16 (id (constant S_ .f32 0x00000000#32))) (Host.divf (res_main_v1 V0) (broadcastInDim S12288x1184x16 ![0, 1, 2] bcast_S12288x1184x1_S12288x1184x16_0_1_2 (select (res_main_v11 V0) (broadcastInDim S12288x1184x1 ![] bcast_S_S12288x1184x1 (id (constant S_ .f32 0x3F800000#32))) (mulf (res_main_v9 V0) (broadcastInDim S12288x1184x1 ![] bcast_S_S12288x1184x1 (shapeCast _ (V0 (Proc.devRef .tc main_arg0)) shapeCasts_S1x1_S_))))))

set_option maxRecDepth 8192 in
/-- `main_v21`'s composed term of the arguments (named: it is used 8 times). -/
def res_main_v21 (V0 : Valuation τ sig (Elt F)) : (Proc.devRef .tc main_v21 : DevRef τ sig).ty.Contents (Elt F) :=
  minimumf (Host.absf (res_main_v18 V0)) (broadcastInDim S12288x1184x16 ![] bcast_S_S12288x1184x16 (constant S_ .f32 0x40C00000#32))

set_option maxRecDepth 8192 in
/-- `main_v27`'s composed term of the arguments (named: it is used 2 times). -/
def res_main_v27 (V0 : Valuation τ sig (Elt F)) : (Proc.devRef .tc main_v27 : DevRef τ sig).ty.Contents (Elt F) :=
  select (cmpf .olt (res_main_v21 V0) (broadcastInDim S12288x1184x16 ![] bcast_S_S12288x1184x16 (constant S_ .f32 0x40000000#32))) (broadcastInDim S12288x1184x16 ![] bcast_S_S12288x1184x16 (constant S_ .f32 0x3F000000#32)) (select (cmpf .olt (res_main_v21 V0) (broadcastInDim S12288x1184x16 ![] bcast_S_S12288x1184x16 (constant S_ .f32 0x40800000#32))) (broadcastInDim S12288x1184x16 ![] bcast_S_S12288x1184x16 (constant S_ .f32 0x3F800000#32)) (broadcastInDim S12288x1184x16 ![] bcast_S_S12288x1184x16 (constant S_ .f32 0x40000000#32)))

set_option maxRecDepth 8192 in
/-- `main_v48`'s composed term of the arguments (named: it is used 3 times). -/
def res_main_v48 (V0 : Valuation τ sig (Elt F)) : (Proc.devRef .tc main_v48 : DevRef τ sig).ty.Contents (Elt F) :=
  select (cmpf .olt (res_main_v21 V0) (broadcastInDim S12288x1184x16 ![] bcast_S_S12288x1184x16 (constant S_ .f32 0x40000000#32))) (mulf (Host.floor (mulf (res_main_v21 V0) (broadcastInDim S12288x1184x16 ![] bcast_S_S12288x1184x16 (constant S_ .f32 0x40000000#32)))) (broadcastInDim S12288x1184x16 ![] bcast_S_S12288x1184x16 (constant S_ .f32 0x3F000000#32))) (select (cmpf .olt (res_main_v21 V0) (broadcastInDim S12288x1184x16 ![] bcast_S_S12288x1184x16 (constant S_ .f32 0x40800000#32))) (Host.floor (res_main_v21 V0)) (addf (broadcastInDim S12288x1184x16 ![] bcast_S_S12288x1184x16 (constant S_ .f32 0x40800000#32)) (mulf (broadcastInDim S12288x1184x16 ![] bcast_S_S12288x1184x16 (constant S_ .f32 0x40000000#32)) (Host.floor (mulf (subf (res_main_v21 V0) (broadcastInDim S12288x1184x16 ![] bcast_S_S12288x1184x16 (constant S_ .f32 0x40800000#32))) (broadcastInDim S12288x1184x16 ![] bcast_S_S12288x1184x16 (constant S_ .f32 0x3F000000#32)))))))

set_option maxRecDepth 8192 in
/-- `main_v63`'s composed term of the arguments (named: it is used 6 times). -/
def res_main_v63 (V0 : Valuation τ sig (Elt F)) : (Proc.devRef .tc main_v63 : DevRef τ sig).ty.Contents (Elt F) :=
  select (cmpf .olt (mulf (shapeCast _ (uitofp .f32 (Host.shrui (V0 (Proc.devRef .tc main_arg3)) (broadcastInDim S12288x18944 ![] bcast_S_S12288x18944 (constantI S_ 32 8#32)))) shapeCasts_S12288x18944_S12288x1184x16) (broadcastInDim S12288x1184x16 ![] bcast_S_S12288x1184x16 (constant S_ .f32 0x33800000#32))) (mulf (subf (res_main_v21 V0) (res_main_v48 V0)) (id (Host.divf (broadcastInDim S12288x1184x16 ![] bcast_S_S12288x1184x16 (constant S_ .f32 0x3F800000#32)) (res_main_v27 V0))))) (addf (res_main_v48 V0) (id (res_main_v27 V0))) (res_main_v48 V0)

set_option maxRecDepth 8192 in
/-- `main_v87`'s composed term of the arguments (named: it is used 5 times). -/
def res_main_v87 (V0 : Valuation τ sig (Elt F)) : (Proc.devRef .tc main_v87 : DevRef τ sig).ty.Contents (Elt F) :=
  shapeCast _ (ori (fptosi 32 (select (cmpf .olt (res_main_v63 V0) (broadcastInDim S12288x1184x16 ![] bcast_S_S12288x1184x16 (constant S_ .f32 0x40000000#32))) (mulf (res_main_v63 V0) (broadcastInDim S12288x1184x16 ![] bcast_S_S12288x1184x16 (constant S_ .f32 0x40000000#32))) (select (cmpf .olt (res_main_v63 V0) (broadcastInDim S12288x1184x16 ![] bcast_S_S12288x1184x16 (constant S_ .f32 0x40800000#32))) (addf (res_main_v63 V0) (broadcastInDim S12288x1184x16 ![] bcast_S_S12288x1184x16 (constant S_ .f32 0x40000000#32))) (id (select (cmpf .oeq (res_main_v63 V0) (broadcastInDim S12288x1184x16 ![] bcast_S_S12288x1184x16 (constant S_ .f32 0x40800000#32))) (broadcastInDim S12288x1184x16 ![] bcast_S_S12288x1184x16 (constant S_ .f32 0x40C00000#32)) (broadcastInDim S12288x1184x16 ![] bcast_S_S12288x1184x16 (constant S_ .f32 0x40E00000#32))))))) (Host.shli (extui 32 (andi (cmpf .olt (res_main_v18 V0) (broadcastInDim S12288x1184x16 ![] bcast_S_S12288x1184x16 (constant S_ .f32 0x00000000#32))) (cmpf .ogt (res_main_v63 V0) (broadcastInDim S12288x1184x16 ![] bcast_S_S12288x1184x16 (constant S_ .f32 0x00000000#32)))) natLt_1_32) (broadcastInDim S12288x1184x16 ![] bcast_S_S12288x1184x16 (constantI S_ 32 3#32)))) shapeCasts_S12288x1184x16_S12288x9472x2

set_option maxRecDepth 8192 in
/-- `main_v98`'s composed term of the arguments (named: it is used 4 times). -/
def res_main_v98 (V0 : Valuation τ sig (Elt F)) : (Proc.devRef .tc main_v98 : DevRef τ sig).ty.Contents (Elt F) :=
  sitofp .bf16 (andi (res_main_v87 V0) (broadcastInDim S12288x9472x2 ![] bcast_S_S12288x9472x2 (constantI S_ 32 1#32)))

set_option maxRecDepth 8192 in
/-- `main_v102`'s composed term of the arguments (named: it is used 3 times). -/
def res_main_v102 (V0 : Valuation τ sig (Elt F)) : (Proc.devRef .tc main_v102 : DevRef τ sig).ty.Contents (Elt F) :=
  andi (Host.shrsi (res_main_v87 V0) (broadcastInDim S12288x9472x2 ![] bcast_S_S12288x9472x2 (constantI S_ 32 1#32))) (broadcastInDim S12288x9472x2 ![] bcast_S_S12288x9472x2 (constantI S_ 32 3#32))

set_option maxRecDepth 8192 in
/-- `main_v123`'s composed term of the arguments (named: it is used 2 times). -/
def res_main_v123 (V0 : Valuation τ sig (Elt F)) : (Proc.devRef .tc main_v123 : DevRef τ sig).ty.Contents (Elt F) :=
  select (cmpi .eq (res_main_v102 V0) (broadcastInDim S12288x9472x2 ![] bcast_S_S12288x9472x2 (constantI S_ 32 0#32))) (mulf (broadcastInDim S12288x9472x2 ![] bcast_S_S12288x9472x2 (constant S_ .bf16 0x3F00#16)) (res_main_v98 V0)) (select (cmpi .eq (res_main_v102 V0) (broadcastInDim S12288x9472x2 ![] bcast_S_S12288x9472x2 (constantI S_ 32 1#32))) (addf (broadcastInDim S12288x9472x2 ![] bcast_S_S12288x9472x2 (constant S_ .bf16 0x3F80#16)) (mulf (broadcastInDim S12288x9472x2 ![] bcast_S_S12288x9472x2 (constant S_ .bf16 0x3F00#16)) (res_main_v98 V0))) (select (cmpi .eq (res_main_v102 V0) (broadcastInDim S12288x9472x2 ![] bcast_S_S12288x9472x2 (constantI S_ 32 2#32))) (addf (broadcastInDim S12288x9472x2 ![] bcast_S_S12288x9472x2 (constant S_ .bf16 0x4000#16)) (res_main_v98 V0)) (addf (broadcastInDim S12288x9472x2 ![] bcast_S_S12288x9472x2 (constant S_ .bf16 0x4080#16)) (mulf (broadcastInDim S12288x9472x2 ![] bcast_S_S12288x9472x2 (constant S_ .bf16 0x4000#16)) (res_main_v98 V0)))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_cst, main_v3, main_v4, main_cst_0, main_v5, main_v6, main_v7, main_cst_1, main_cst_2, main_call0_v0, main_call0_v1, main_call0_v2, main_call0_v3, main_call0_v4, main_v8, main_v9, main_cst_3, main_v10, main_v11, main_v12, main_v13, main_v14, main_cst_4, main_call1_v0, main_call1_v1, main_v15, main_v16]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
set_option maxRecDepth 8192 in
set_option maxHeartbeats 2000000 in
theorem val0_1_main_v1 (V0 : Valuation τ sig (Elt F)) : val0_1 V0 (no_index (Proc.devRef .tc main_v1)) = res_main_v1 V0 := by
  unfold val0_1
  simp only [ops_part0_0, TRef.binary, TRef.ternary, TRef.unary, TRef.toBuf, TRef.ofBuf, cast_eq]
  after_results_simp
  simp only [val0_main_arg2] <;> rfl
set_option maxRecDepth 8192 in
set_option maxHeartbeats 2000000 in
theorem val0_1_main_v8 (V0 : Valuation τ sig (Elt F)) : val0_1 V0 (no_index (Proc.devRef .tc main_v8)) = res_main_v8 V0 := by
  unfold val0_1
  simp only [ops_part0_0, TRef.binary, TRef.ternary, TRef.unary, TRef.toBuf, TRef.ofBuf, cast_eq]
  after_results_simp
  simp only [val0_main_arg0, val0_main_arg2] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.binary, TRef.ternary, TRef.unary, TRef.toBuf, TRef.ofBuf, cast_eq]
  after_results_simp
  simp only [val0_main_arg0, val0_main_arg2] <;> rfl
set_option maxRecDepth 8192 in
set_option maxHeartbeats 2000000 in
theorem val0_1_main_v16 (V0 : Valuation τ sig (Elt F)) : val0_1 V0 (no_index (Proc.devRef .tc main_v16)) = broadcastInDim S12288x1184x16 ![0, 1, 2] bcast_S12288x1184x1_S12288x1184x16_0_1_2 (select (res_main_v11 V0) (broadcastInDim S12288x1184x1 ![] bcast_S_S12288x1184x1 (id (constant S_ .f32 0x3F800000#32))) (mulf (res_main_v9 V0) (broadcastInDim S12288x1184x1 ![] bcast_S_S12288x1184x1 (shapeCast _ (V0 (Proc.devRef .tc main_arg0)) shapeCasts_S1x1_S_)))) := by
  unfold val0_1
  simp only [ops_part0_0, TRef.binary, TRef.ternary, TRef.unary, TRef.toBuf, TRef.ofBuf, cast_eq]
  after_results_simp
  simp only [val0_main_arg0, val0_main_arg2] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v17, main_cst_5, main_call2_v0, main_call2_v1, main_call2_v2, main_v18, main_v19, main_cst_6, main_v20, main_v21, main_cst_7, main_v22, main_v23, main_cst_8, main_v24, main_v25, main_cst_9, main_cst_10, main_call3_v0, main_call3_v1, main_v26, main_cst_11, main_call4_v0, main_v27, main_cst_12, main_v28, main_v29, main_cst_13, main_v30, main_v31]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_v8 (V0 : Valuation τ sig (Elt F)) : val0_2 V0 (no_index (Proc.devRef .tc main_v8)) = res_main_v8 V0 :=
  (val0_2_keep V0 main_v8 (by decide)).trans (val0_1_main_v8 V0)
set_option maxRecDepth 8192 in
set_option maxHeartbeats 2000000 in
theorem val0_2_main_v18 (V0 : Valuation τ sig (Elt F)) : val0_2 V0 (no_index (Proc.devRef .tc main_v18)) = res_main_v18 V0 := by
  unfold val0_2
  simp only [ops_part0_1, TRef.ternary, TRef.unary, TRef.toBuf, TRef.ofBuf, cast_eq]
  after_results_simp
  simp only [val0_1_main_v16, val0_1_main_v1, val0_1_main_v11] <;> rfl
set_option maxRecDepth 8192 in
set_option maxHeartbeats 2000000 in
theorem val0_2_main_v21 (V0 : Valuation τ sig (Elt F)) : val0_2 V0 (no_index (Proc.devRef .tc main_v21)) = res_main_v21 V0 := by
  unfold val0_2
  simp only [ops_part0_1, TRef.ternary, TRef.unary, TRef.toBuf, TRef.ofBuf, cast_eq]
  after_results_simp
  simp only [val0_1_main_v16, val0_1_main_v1, val0_1_main_v11] <;> rfl
set_option maxRecDepth 8192 in
set_option maxHeartbeats 2000000 in
theorem val0_2_main_v27 (V0 : Valuation τ sig (Elt F)) : val0_2 V0 (no_index (Proc.devRef .tc main_v27)) = res_main_v27 V0 := by
  unfold val0_2
  simp only [ops_part0_1, TRef.ternary, TRef.unary, TRef.toBuf, TRef.ofBuf, cast_eq]
  after_results_simp
  simp only [val0_1_main_v16, val0_1_main_v1, val0_1_main_v11] <;> rfl
set_option maxRecDepth 8192 in
set_option maxHeartbeats 2000000 in
theorem val0_2_main_v29 (V0 : Valuation τ sig (Elt F)) : val0_2 V0 (no_index (Proc.devRef .tc main_v29)) = cmpf .olt (res_main_v21 V0) (broadcastInDim S12288x1184x16 ![] bcast_S_S12288x1184x16 (constant S_ .f32 0x40000000#32)) := by
  unfold val0_2
  simp only [ops_part0_1, TRef.ternary, TRef.unary, TRef.toBuf, TRef.ofBuf, cast_eq]
  after_results_simp
  simp only [val0_1_main_v16, val0_1_main_v1, val0_1_main_v11] <;> rfl
set_option maxRecDepth 8192 in
set_option maxHeartbeats 2000000 in
theorem val0_2_main_v31 (V0 : Valuation τ sig (Elt F)) : val0_2 V0 (no_index (Proc.devRef .tc main_v31)) = mulf (res_main_v21 V0) (broadcastInDim S12288x1184x16 ![] bcast_S_S12288x1184x16 (constant S_ .f32 0x40000000#32)) := by
  unfold val0_2
  simp only [ops_part0_1, TRef.ternary, TRef.unary, TRef.toBuf, TRef.ofBuf, cast_eq]
  after_results_simp
  simp only [val0_1_main_v16, val0_1_main_v1, val0_1_main_v11] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v32, main_cst_14, main_v33, main_v34, main_cst_15, main_v35, main_v36, main_v37, main_cst_16, main_v38, main_v39, main_cst_17, main_v40]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_v8 (V0 : Valuation τ sig (Elt F)) : val1 V0 (no_index (Proc.devRef .tc main_v8)) = res_main_v8 V0 :=
  (val1_keep V0 main_v8 (by decide)).trans (val0_2_main_v8 V0)
theorem val1_main_v18 (V0 : Valuation τ sig (Elt F)) : val1 V0 (no_index (Proc.devRef .tc main_v18)) = res_main_v18 V0 :=
  (val1_keep V0 main_v18 (by decide)).trans (val0_2_main_v18 V0)
theorem val1_main_v21 (V0 : Valuation τ sig (Elt F)) : val1 V0 (no_index (Proc.devRef .tc main_v21)) = res_main_v21 V0 :=
  (val1_keep V0 main_v21 (by decide)).trans (val0_2_main_v21 V0)
theorem val1_main_v27 (V0 : Valuation τ sig (Elt F)) : val1 V0 (no_index (Proc.devRef .tc main_v27)) = res_main_v27 V0 :=
  (val1_keep V0 main_v27 (by decide)).trans (val0_2_main_v27 V0)
theorem val1_main_v29 (V0 : Valuation τ sig (Elt F)) : val1 V0 (no_index (Proc.devRef .tc main_v29)) = cmpf .olt (res_main_v21 V0) (broadcastInDim S12288x1184x16 ![] bcast_S_S12288x1184x16 (constant S_ .f32 0x40000000#32)) :=
  (val1_keep V0 main_v29 (by decide)).trans (val0_2_main_v29 V0)
set_option maxRecDepth 8192 in
set_option maxHeartbeats 1300000 in
theorem val1_main_v34 (V0 : Valuation τ sig (Elt F)) : val1 V0 (no_index (Proc.devRef .tc main_v34)) = mulf (Host.floor (mulf (res_main_v21 V0) (broadcastInDim S12288x1184x16 ![] bcast_S_S12288x1184x16 (constant S_ .f32 0x40000000#32)))) (broadcastInDim S12288x1184x16 ![] bcast_S_S12288x1184x16 (constant S_ .f32 0x3F000000#32)) := by
  unfold val1
  simp only [ops_part0_2]
  after_results_simp
  simp only [val0_2_main_v31] <;> rfl
set_option maxRecDepth 8192 in
set_option maxHeartbeats 1300000 in
theorem val1_main_v36 (V0 : Valuation τ sig (Elt F)) : val1 V0 (no_index (Proc.devRef .tc main_v36)) = cmpf .olt (res_main_v21 V0) (broadcastInDim S12288x1184x16 ![] bcast_S_S12288x1184x16 (constant S_ .f32 0x40800000#32)) := by
  unfold val1
  simp only [ops_part0_2]
  after_results_simp
  simp only [val0_2_main_v21] <;> rfl
set_option maxRecDepth 8192 in
set_option maxHeartbeats 1300000 in
theorem val1_main_v37 (V0 : Valuation τ sig (Elt F)) : val1 V0 (no_index (Proc.devRef .tc main_v37)) = Host.floor (res_main_v21 V0) := by
  unfold val1
  simp only [ops_part0_2]
  after_results_simp
  simp only [val0_2_main_v21] <;> rfl
set_option maxRecDepth 8192 in
set_option maxHeartbeats 1300000 in
theorem val1_main_v39 (V0 : Valuation τ sig (Elt F)) : val1 V0 (no_index (Proc.devRef .tc main_v39)) = subf (res_main_v21 V0) (broadcastInDim S12288x1184x16 ![] bcast_S_S12288x1184x16 (constant S_ .f32 0x40800000#32)) := by
  unfold val1
  simp only [ops_part0_2]
  after_results_simp
  simp only [val0_2_main_v21] <;> rfl
set_option maxRecDepth 8192 in
set_option maxHeartbeats 1300000 in
theorem val1_main_v40 (V0 : Valuation τ sig (Elt F)) : val1 V0 (no_index (Proc.devRef .tc main_v40)) = broadcastInDim S12288x1184x16 ![] bcast_S_S12288x1184x16 (constant S_ .f32 0x3F000000#32) := by
  unfold val1
  simp only [ops_part0_2]
  after_results_simp
  all_goals rfl

/-- The device's buffer contents after @main's first 103 operations. -/
def val1_1 (V0 : Valuation τ sig (Elt F)) : Valuation τ sig (Elt F) := after ops_part1_0 (val1 V0)
/-- The buffers that window `ops_part1_0`'s operations write. -/
abbrev ops_part1_0_W : List (Ref sig .tc) := [main_v41, main_v42, main_cst_18, main_v43, main_v44, main_cst_19, main_v45, main_v46, main_v47, main_v48, main_v49, main_cst_20, main_v50, main_v51, main_v52, main_v53, main_c, main_v54, main_v55, main_v56, main_v57, main_cst_21, main_v58, main_v59, main_v60, main_v61, main_v62, main_v63, main_cst_22, main_v64]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_v8 (V0 : Valuation τ sig (Elt F)) : val1_1 V0 (no_index (Proc.devRef .tc main_v8)) = res_main_v8 V0 :=
  (val1_1_keep V0 main_v8 (by decide)).trans (val1_main_v8 V0)
theorem val1_1_main_v18 (V0 : Valuation τ sig (Elt F)) : val1_1 V0 (no_index (Proc.devRef .tc main_v18)) = res_main_v18 V0 :=
  (val1_1_keep V0 main_v18 (by decide)).trans (val1_main_v18 V0)
set_option maxRecDepth 8192 in
set_option maxHeartbeats 2000000 in
theorem val1_1_main_v63 (V0 : Valuation τ sig (Elt F)) : val1_1 V0 (no_index (Proc.devRef .tc main_v63)) = res_main_v63 V0 := by
  unfold val1_1
  simp only [ops_part1_0, TRef.ternary, TRef.toBuf, TRef.ofBuf, cast_eq]
  after_results_simp
  simp only [val1_main_v40, val1_main_v39, val1_main_v37, val1_main_v36, val1_main_v34, val1_main_v29, val1_main_v27, val1_main_v21, val1_main_arg3] <;> rfl
set_option maxRecDepth 8192 in
set_option maxHeartbeats 2000000 in
theorem val1_1_main_v64 (V0 : Valuation τ sig (Elt F)) : val1_1 V0 (no_index (Proc.devRef .tc main_v64)) = broadcastInDim S12288x1184x16 ![] bcast_S_S12288x1184x16 (constant S_ .f32 0x40000000#32) := by
  unfold val1_1
  simp only [ops_part1_0, TRef.ternary, TRef.toBuf, TRef.ofBuf, cast_eq]
  after_results_simp
  all_goals rfl

/-- The device's buffer contents after @main's first 133 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v65, main_cst_23, main_v66, main_v67, main_cst_24, main_v68, main_v69, main_cst_25, main_v70, main_v71, main_cst_26, main_v72, main_v73, main_cst_27, main_cst_28, main_call8_v0, main_call8_v1, main_v74, main_call9_v0, main_v75, main_v76, main_v77, main_cst_29, main_v78, main_v79, main_cst_30, main_v80, main_v81, main_v82, main_v83]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v8 (V0 : Valuation τ sig (Elt F)) : val1_2 V0 (no_index (Proc.devRef .tc main_v8)) = res_main_v8 V0 :=
  (val1_2_keep V0 main_v8 (by decide)).trans (val1_1_main_v8 V0)
set_option maxRecDepth 8192 in
set_option maxHeartbeats 2000000 in
theorem val1_2_main_v77 (V0 : Valuation τ sig (Elt F)) : val1_2 V0 (no_index (Proc.devRef .tc main_v77)) = fptosi 32 (select (cmpf .olt (res_main_v63 V0) (broadcastInDim S12288x1184x16 ![] bcast_S_S12288x1184x16 (constant S_ .f32 0x40000000#32))) (mulf (res_main_v63 V0) (broadcastInDim S12288x1184x16 ![] bcast_S_S12288x1184x16 (constant S_ .f32 0x40000000#32))) (select (cmpf .olt (res_main_v63 V0) (broadcastInDim S12288x1184x16 ![] bcast_S_S12288x1184x16 (constant S_ .f32 0x40800000#32))) (addf (res_main_v63 V0) (broadcastInDim S12288x1184x16 ![] bcast_S_S12288x1184x16 (constant S_ .f32 0x40000000#32))) (id (select (cmpf .oeq (res_main_v63 V0) (broadcastInDim S12288x1184x16 ![] bcast_S_S12288x1184x16 (constant S_ .f32 0x40800000#32))) (broadcastInDim S12288x1184x16 ![] bcast_S_S12288x1184x16 (constant S_ .f32 0x40C00000#32)) (broadcastInDim S12288x1184x16 ![] bcast_S_S12288x1184x16 (constant S_ .f32 0x40E00000#32)))))) := by
  unfold val1_2
  simp only [ops_part1_1, TRef.ternary, TRef.unary, TRef.toBuf, TRef.ofBuf, cast_eq]
  after_results_simp
  simp only [val1_1_main_v63, val1_1_main_v64] <;> rfl
set_option maxRecDepth 8192 in
set_option maxHeartbeats 2000000 in
theorem val1_2_main_v83 (V0 : Valuation τ sig (Elt F)) : val1_2 V0 (no_index (Proc.devRef .tc main_v83)) = extui 32 (andi (cmpf .olt (res_main_v18 V0) (broadcastInDim S12288x1184x16 ![] bcast_S_S12288x1184x16 (constant S_ .f32 0x00000000#32))) (cmpf .ogt (res_main_v63 V0) (broadcastInDim S12288x1184x16 ![] bcast_S_S12288x1184x16 (constant S_ .f32 0x00000000#32)))) natLt_1_32 := by
  unfold val1_2
  simp only [ops_part1_1, TRef.ternary, TRef.unary, TRef.toBuf, TRef.ofBuf, cast_eq]
  after_results_simp
  simp only [val1_1_main_v63, val1_1_main_v18] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_c_31, main_v84, main_v85]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v8 (V0 : Valuation τ sig (Elt F)) : val2 V0 (no_index (Proc.devRef .tc main_v8)) = res_main_v8 V0 :=
  (val2_keep V0 main_v8 (by decide)).trans (val1_2_main_v8 V0)
theorem val2_main_v77 (V0 : Valuation τ sig (Elt F)) : val2 V0 (no_index (Proc.devRef .tc main_v77)) = fptosi 32 (select (cmpf .olt (res_main_v63 V0) (broadcastInDim S12288x1184x16 ![] bcast_S_S12288x1184x16 (constant S_ .f32 0x40000000#32))) (mulf (res_main_v63 V0) (broadcastInDim S12288x1184x16 ![] bcast_S_S12288x1184x16 (constant S_ .f32 0x40000000#32))) (select (cmpf .olt (res_main_v63 V0) (broadcastInDim S12288x1184x16 ![] bcast_S_S12288x1184x16 (constant S_ .f32 0x40800000#32))) (addf (res_main_v63 V0) (broadcastInDim S12288x1184x16 ![] bcast_S_S12288x1184x16 (constant S_ .f32 0x40000000#32))) (id (select (cmpf .oeq (res_main_v63 V0) (broadcastInDim S12288x1184x16 ![] bcast_S_S12288x1184x16 (constant S_ .f32 0x40800000#32))) (broadcastInDim S12288x1184x16 ![] bcast_S_S12288x1184x16 (constant S_ .f32 0x40C00000#32)) (broadcastInDim S12288x1184x16 ![] bcast_S_S12288x1184x16 (constant S_ .f32 0x40E00000#32)))))) :=
  (val2_keep V0 main_v77 (by decide)).trans (val1_2_main_v77 V0)
set_option maxRecDepth 8192 in
theorem val2_main_v85 (V0 : Valuation τ sig (Elt F)) : val2 V0 (no_index (Proc.devRef .tc main_v85)) = Host.shli (extui 32 (andi (cmpf .olt (res_main_v18 V0) (broadcastInDim S12288x1184x16 ![] bcast_S_S12288x1184x16 (constant S_ .f32 0x00000000#32))) (cmpf .ogt (res_main_v63 V0) (broadcastInDim S12288x1184x16 ![] bcast_S_S12288x1184x16 (constant S_ .f32 0x00000000#32)))) natLt_1_32) (broadcastInDim S12288x1184x16 ![] bcast_S_S12288x1184x16 (constantI S_ 32 3#32)) := by
  unfold val2
  simp only [ops_part1_2]
  after_results_simp
  simp only [val1_2_main_v83] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v86, main_v87, main_v88, main_v89, main_v90, main_v91, main_c_32, main_v92, main_v93, main_v94, main_v95, main_c_33, main_v96, main_v97, main_v98, main_c_34, main_v99, main_v100, main_c_35, main_v101, main_v102, main_c_36, main_v103, main_v104, main_cst_37, main_v105, main_v106, main_c_38, main_v107, main_v108, main_cst_39, main_v109, main_v110, main_cst_40, main_v111, main_v112, main_c_41, main_v113, main_v114, main_cst_42, main_v115, main_v116, main_cst_43, main_v117, main_v118, main_cst_44, main_v119, main_v120, main_v121, main_v122, main_v123, main_c_45, main_v124, main_v125, main_c_46, main_v126, main_v127, main_v128, main_v129, main_v130]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v8 (V0 : Valuation τ sig (Elt F)) : val3 V0 (no_index (Proc.devRef .tc main_v8)) = res_main_v8 V0 :=
  (val3_keep V0 main_v8 (by decide)).trans (val2_main_v8 V0)
set_option maxRecDepth 8192 in
set_option maxHeartbeats 2000000 in
theorem val3_main_v95 (V0 : Valuation τ sig (Elt F)) : val3 V0 (no_index (Proc.devRef .tc main_v95)) = trunci 8 (ori (shapeCast _ (extractStridedSlice S12288x9472x1 ![0, 0, 0] (res_main_v87 V0) slices_S12288x9472x2_S12288x9472x1_0_0_0) shapeCasts_S12288x9472x1_S12288x9472) (Host.shli (shapeCast _ (extractStridedSlice S12288x9472x1 ![0, 0, 1] (res_main_v87 V0) slices_S12288x9472x2_S12288x9472x1_0_0_1) shapeCasts_S12288x9472x1_S12288x9472) (broadcastInDim S12288x9472 ![] bcast_S_S12288x9472 (constantI S_ 32 4#32)))) natLt_8_32 := by
  unfold val3
  simp only [ops_part2, TRef.ternary, TRef.toBuf, TRef.ofBuf, cast_eq]
  after_results_simp
  simp only [val2_main_v85, val2_main_v77] <;> rfl
set_option maxRecDepth 8192 in
set_option maxHeartbeats 2000000 in
theorem val3_main_v130 (V0 : Valuation τ sig (Elt F)) : val3 V0 (no_index (Proc.devRef .tc main_v130)) = shapeCast _ (select (cmpi .ne (andi (res_main_v87 V0) (broadcastInDim S12288x9472x2 ![] bcast_S_S12288x9472x2 (constantI S_ 32 8#32))) (broadcastInDim S12288x9472x2 ![] bcast_S_S12288x9472x2 (constantI S_ 32 0#32))) (Host.negf (res_main_v123 V0)) (res_main_v123 V0)) shapeCasts_S12288x9472x2_S12288x1184x16 := by
  unfold val3
  simp only [ops_part2, TRef.ternary, TRef.toBuf, TRef.ofBuf, cast_eq]
  after_results_simp
  simp only [val2_main_v85, val2_main_v77] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v131, main_v132, main_v133, main_v134, main_v135, main_v136, main_v137, main_v138, main_v139, main_v140, main_v141, main_v142, main_v143, main_v144, main_v145, main_v146, main_v147, main_v148]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v95 (V0 : Valuation τ sig (Elt F)) : val4 V0 (no_index (Proc.devRef .tc main_v95)) = trunci 8 (ori (shapeCast _ (extractStridedSlice S12288x9472x1 ![0, 0, 0] (res_main_v87 V0) slices_S12288x9472x2_S12288x9472x1_0_0_0) shapeCasts_S12288x9472x1_S12288x9472) (Host.shli (shapeCast _ (extractStridedSlice S12288x9472x1 ![0, 0, 1] (res_main_v87 V0) slices_S12288x9472x2_S12288x9472x1_0_0_1) shapeCasts_S12288x9472x1_S12288x9472) (broadcastInDim S12288x9472 ![] bcast_S_S12288x9472 (constantI S_ 32 4#32)))) natLt_8_32 :=
  (val4_keep V0 main_v95 (by decide)).trans (val3_main_v95 V0)
set_option maxRecDepth 8192 in
set_option maxHeartbeats 1800000 in
theorem val4_main_v145 (V0 : Valuation τ sig (Elt F)) : val4 V0 (no_index (Proc.devRef .tc main_v145)) = truncf .bf16 (mulf (Host.dotGeneral dot_S12288x18944_S18944x3584_S12288x3584_1_0_0_1_n_n none (shapeCast _ (mulf (shapeCast _ (select (cmpi .ne (andi (res_main_v87 V0) (broadcastInDim S12288x9472x2 ![] bcast_S_S12288x9472x2 (constantI S_ 32 8#32))) (broadcastInDim S12288x9472x2 ![] bcast_S_S12288x9472x2 (constantI S_ 32 0#32))) (Host.negf (res_main_v123 V0)) (res_main_v123 V0)) shapeCasts_S12288x9472x2_S12288x1184x16) (broadcastInDim S12288x1184x16 ![0, 1, 2] bcast_S12288x1184x1_S12288x1184x16_0_1_2 (broadcastInDim S12288x1184x1 ![0, 1] bcast_S12288x1184_S12288x1184x1_0_1 (truncf .bf16 (res_main_v8 V0) bitsLt_bf16_f32)))) shapeCasts_S12288x1184x16_S12288x18944) (shapeCast _ (transpose S9472x2x3584 [0, 2, 1] (bitcastToFloat (F := F) .bf16 (Host.bitcastConvertNarrow S9472x3584x2 16 (V0 (Proc.devRef .tc main_arg4)) splits_S9472x3584_w32_S9472x3584x2_w16)) transposes_S9472x3584x2_S9472x2x3584_0_2_1) shapeCasts_S9472x2x3584_S18944x3584)) (broadcastInDim S12288x3584 ![] bcast_S_S12288x3584 (mulf (shapeCast _ (V0 (Proc.devRef .tc main_arg0)) shapeCasts_S1x1_S_) (shapeCast _ (V0 (Proc.devRef .tc main_arg1)) shapeCasts_S1x1_S_)))) bitsLt_bf16_f32 := by
  unfold val4
  simp only [ops_part3]
  after_results_simp
  simp only [val3_main_arg1, val3_main_arg0, val3_main_arg4, val3_main_v8, val3_main_v130] <;> rfl
set_option maxRecDepth 8192 in
set_option maxHeartbeats 1800000 in
theorem val4_main_v148 (V0 : Valuation τ sig (Elt F)) : val4 V0 (no_index (Proc.devRef .tc main_v148)) = transpose S6x1184x2048 [0, 2, 1] (shapeCast _ (Host.convertf .fp8e4m3 (res_main_v8 V0)) shapeCasts_S12288x1184_S6x2048x1184) transposes_S6x2048x1184_S6x1184x2048_0_2_1 := by
  unfold val4
  simp only [ops_part3]
  after_results_simp
  simp only [val3_main_v8] <;> rfl

theorem after_ops (V0 : Valuation τ sig (Elt F)) : after ops V0 = val4 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145) = truncf .bf16 (mulf (Host.dotGeneral dot_S12288x18944_S18944x3584_S12288x3584_1_0_0_1_n_n none (shapeCast _ (mulf (shapeCast _ (select (cmpi .ne (andi (res_main_v87 (launchContents m c)) (broadcastInDim S12288x9472x2 ![] bcast_S_S12288x9472x2 (constantI S_ 32 8#32))) (broadcastInDim S12288x9472x2 ![] bcast_S_S12288x9472x2 (constantI S_ 32 0#32))) (Host.negf (res_main_v123 (launchContents m c))) (res_main_v123 (launchContents m c))) shapeCasts_S12288x9472x2_S12288x1184x16) (broadcastInDim S12288x1184x16 ![0, 1, 2] bcast_S12288x1184x1_S12288x1184x16_0_1_2 (broadcastInDim S12288x1184x1 ![0, 1] bcast_S12288x1184_S12288x1184x1_0_1 (truncf .bf16 (res_main_v8 (launchContents m c)) bitsLt_bf16_f32)))) shapeCasts_S12288x1184x16_S12288x18944) (shapeCast _ (transpose S9472x2x3584 [0, 2, 1] (bitcastToFloat (F := F) .bf16 (Host.bitcastConvertNarrow S9472x3584x2 16 ((launchContents m c) (Proc.devRef .tc main_arg4)) splits_S9472x3584_w32_S9472x3584x2_w16)) transposes_S9472x3584x2_S9472x2x3584_0_2_1) shapeCasts_S9472x2x3584_S18944x3584)) (broadcastInDim S12288x3584 ![] bcast_S_S12288x3584 (mulf (shapeCast _ ((launchContents m c) (Proc.devRef .tc main_arg0)) shapeCasts_S1x1_S_) (shapeCast _ ((launchContents m c) (Proc.devRef .tc main_arg1)) shapeCasts_S1x1_S_)))) bitsLt_bf16_f32
      ∧ r.2.mem ((c.tc : Thread nD τ).loc main_v95) = trunci 8 (ori (shapeCast _ (extractStridedSlice S12288x9472x1 ![0, 0, 0] (res_main_v87 (launchContents m c)) slices_S12288x9472x2_S12288x9472x1_0_0_0) shapeCasts_S12288x9472x1_S12288x9472) (Host.shli (shapeCast _ (extractStridedSlice S12288x9472x1 ![0, 0, 1] (res_main_v87 (launchContents m c)) slices_S12288x9472x2_S12288x9472x1_0_0_1) shapeCasts_S12288x9472x1_S12288x9472) (broadcastInDim S12288x9472 ![] bcast_S_S12288x9472 (constantI S_ 32 4#32)))) natLt_8_32
      ∧ r.2.mem ((c.tc : Thread nD τ).loc main_v148) = transpose S6x1184x2048 [0, 2, 1] (shapeCast _ (Host.convertf .fp8e4m3 (res_main_v8 (launchContents m c))) shapeCasts_S12288x1184_S6x2048x1184) transposes_S6x2048x1184_S6x1184x2048_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v145).trans ((congrFun (after_ops (launchContents m c)) (Proc.devRef .tc main_v145)).trans (val4_main_v145 (launchContents m c))),
      (h c main_v95).trans ((congrFun (after_ops (launchContents m c)) (Proc.devRef .tc main_v95)).trans (val4_main_v95 (launchContents m c))),
      (h c main_v148).trans ((congrFun (after_ops (launchContents m c)) (Proc.devRef .tc main_v148)).trans (val4_main_v148 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c)))⟩)
    (run_seq scopedRefs_eq scopedSems_eq defs main (fun _ => ops) main_eq (fun _ => ops_sub) m ρ fun _ => ops_fresh)

end Cert.ReferenceIdeal.Value

end
-- ==== Proof.RefValue.lean ====
/- The reference over the extended reals, read at an index: its scales, its codes and its product are the functions of the
   arguments that the kernel computes. -/
module

public import proofs.«01_k».proof.Proof.RefRun
public import proofs.«01_k».proof.Proof.Spec
public import Idealize.ShloMosaic.Lib.ValueIdx
public import Idealize.ShloMosaic.Lib.StackMember

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx Idealize.ShloMosaic.StableHlo
open Cert.Nvfp4
open scoped BigOperators

/-! ## Words of four bits -/

/-- A magnitude with its sign bit above it. -/
theorem nib_word (m : ℕ) (hm : m ≤ 7) (p q : BitVec 1) :
    IntOp.ori (BitVec.ofNat 32 m) (IntOp.shli .host ((IntOp.andi p q).setWidth 32) 3#32) = BitVec.ofNat 32 (m + if p = 1#1 ∧ q = 1#1 then 8 else 0) := by
  have hp : p = 0#1 ∨ p = 1#1 := by revert p; decide
  have hq : q = 0#1 ∨ q = 1#1 := by revert q; decide
  rcases hp with rfl | rfl <;> rcases hq with rfl | rfl <;> interval_cases m <;> rfl

/-- Two nibbles in a byte. -/
theorem byte_word (a b : ℕ) (ha : a ≤ 15) (hb : b ≤ 15) :
    (IntOp.ori (BitVec.ofNat 32 a) (IntOp.shli .host (BitVec.ofNat 32 b) 4#32)).setWidth 8 = codeE a b := by
  unfold codeE
  interval_cases a <;> interval_cases b <;> rfl

theorem sel_ieq {α : Type} (a b : BitVec 32) (x y : α) : Scalar.select (IntOp.cmpi .eq a b) x y = if a = b then x else y := by
  unfold Scalar.select IntOp.cmpi
  by_cases h : a = b
  · simp [h]
  · rw [if_neg h, show (a == b) = false from by simpa using h]; rfl
theorem sel_ine {α : Type} (a b : BitVec 32) (x y : α) : Scalar.select (IntOp.cmpi .ne a b) x y = if a = b then y else x := by
  unfold Scalar.select IntOp.cmpi
  by_cases h : a = b
  · simp [h]
  · rw [if_neg h, show (a != b) = true from by simpa using h]; rfl

/-- A signed nibble, decoded by its bits. -/
def dWord (n : BitVec 32) : EReal :=
  let v : EReal := (((IntOp.andi n 1#32).toInt : ℝ) : EReal)
  let e := IntOp.andi (IntOp.shrsi .host n 1#32) 3#32
  let u : EReal := Scalar.select (IntOp.cmpi .eq e 0#32) (Ideal.ofBits .bf16 0x3F00#16 * v)
    (Scalar.select (IntOp.cmpi .eq e 1#32) (Ideal.ofBits .bf16 0x3F80#16 + Ideal.ofBits .bf16 0x3F00#16 * v)
      (Scalar.select (IntOp.cmpi .eq e 2#32) (Ideal.ofBits .bf16 0x4000#16 + v)
        (Ideal.ofBits .bf16 0x4080#16 + Ideal.ofBits .bf16 0x4000#16 * v)))
  Scalar.select (IntOp.cmpi .ne (IntOp.andi n 8#32) 0#32) (-u) u

theorem dWord_eq (m : ℕ) (hm : m ≤ 7) (s : Prop) [Decidable s] :
    dWord (BitVec.ofNat 32 (m + if s then 8 else 0)) = ((if s then -e2m1 m else e2m1 m : ℝ) : EReal) := by
  have key : ∀ (n : BitVec 32) (v : ℤ) (e : BitVec 32) (t : BitVec 32), (IntOp.andi n 1#32).toInt = v → IntOp.andi (IntOp.shrsi .host n 1#32) 3#32 = e →
      IntOp.andi n 8#32 = t →
      dWord n = ((if t = 0#32 then (if e = 0#32 then 1 / 2 * (v : ℝ) else if e = 1#32 then 1 + 1 / 2 * (v : ℝ) else if e = 2#32 then 2 + (v : ℝ) else 4 + 2 * (v : ℝ))
        else -(if e = 0#32 then 1 / 2 * (v : ℝ) else if e = 1#32 then 1 + 1 / 2 * (v : ℝ) else if e = 2#32 then 2 + (v : ℝ) else 4 + 2 * (v : ℝ)) : ℝ) : EReal) := by
    intro n v e t hv he ht
    unfold dWord
    simp only [hv, he, ht, b0h, b1, b2, b4, sel_ieq, sel_ine]
    split_ifs <;> simp only [EReal.coe_neg, EReal.coe_mul, EReal.coe_add]
  have h10 : (1#32 : BitVec 32) ≠ 0#32 := by decide
  have h20 : (2#32 : BitVec 32) ≠ 0#32 := by decide
  have h21 : (2#32 : BitVec 32) ≠ 1#32 := by decide
  have h30 : (3#32 : BitVec 32) ≠ 0#32 := by decide
  have h31 : (3#32 : BitVec 32) ≠ 1#32 := by decide
  have h32 : (3#32 : BitVec 32) ≠ 2#32 := by decide
  have h80 : (8#32 : BitVec 32) ≠ 0#32 := by decide
  by_cases hs : s
  · rw [if_pos hs, if_pos hs, key _ ((m % 2 : ℕ) : ℤ) (BitVec.ofNat 32 (m / 2)) 8#32 (by interval_cases m <;> rfl) (by interval_cases m <;> rfl) (by interval_cases m <;> rfl)]
    congr 1
    interval_cases m <;> norm_num [e2m1, h10, h20, h21, h30, h31, h32, h80]
  · rw [if_neg hs, if_neg hs, key _ ((m % 2 : ℕ) : ℤ) (BitVec.ofNat 32 (m / 2)) 0#32 (by interval_cases m <;> rfl) (by interval_cases m <;> rfl) (by interval_cases m <;> rfl)]
    congr 1
    interval_cases m <;> norm_num [e2m1, h10, h20, h21, h30, h31, h32, h80]

/-! ## The arguments -/

section

variable (V0 : Valuation τ sig (Elt Ideal))

/-- The arguments at an index. -/
def aX (r : Fin 12288) (k : Fin 18944) : EReal := (V0 (Proc.devRef .tc main_arg2) : Vec Ideal S12288x18944 .bf16) (ix2 r k)
def aU (r : Fin 12288) (k : Fin 18944) : BitVec 32 := (V0 (Proc.devRef .tc main_arg3) : Vec Ideal S12288x18944 .i32) (ix2 r k)
def aW (k : Fin 9472) (c : Fin 3584) : BitVec 32 := (V0 (Proc.devRef .tc main_arg4) : Vec Ideal S9472x3584 .i32) (ix2 k c)
def aG : EReal := (V0 (Proc.devRef .tc main_arg0) : Vec Ideal S1x1 .f32) (ix2 0 0)
def aWG : EReal := (V0 (Proc.devRef .tc main_arg1) : Vec Ideal S1x1 .f32) (ix2 0 0)

/-- Column `16 b + e`. -/
def colB (b : Fin 1184) (e : Fin 16) : Fin 18944 := ⟨16 * b.val + e.val, by omega⟩

/-- The one element of a [1,1] array, reshaped to a scalar. -/
theorem scalar_apply (x : Vec Ideal S1x1 .f32) (j : S_.Idx) : shapeCast S_ x shapeCasts_S1x1_S_ j = x (ix2 0 0) := by
  rw [shapeCast_apply _ _ _ (ix2 (0 : Fin 1) (0 : Fin 1)) (by
    rw [Shape.rowMajor_val_two]; have h := (S_.rowMajor j).isLt; have hn : S_.numel = 1 := by decide
    show 0 * 1 + 0 = _; omega)]

/-- The blocks of a row, in order. -/
theorem blocks_apply {α : Type} (x : S12288x18944.Idx → α) (r : Fin 12288) (b : Fin 1184) (e : Fin 16) :
    shapeCast S12288x1184x16 x shapeCasts_S12288x18944_S12288x1184x16 (ix3 r b e) = x (ix2 r (colB b e)) := by
  rw [shapeCast_apply _ _ _ (ix2 r (colB b e)) (by
    rw [Shape.rowMajor_val_three, Shape.rowMajor_val_two]
    show r.val * 18944 + (16 * b.val + e.val) = (r.val * 1184 + b.val) * 16 + e.val
    omega)]

theorem v1_apply (r : Fin 12288) (b : Fin 1184) (e : Fin 16) :
    (res_main_v1 V0 : Vec Ideal S12288x1184x16 .f32) (ix3 r b e) = aX V0 r (colB b e) := by
  exact blocks_apply _ r b e

/-- The largest magnitude of a block. -/
theorem amax_apply (r : Fin 12288) (b : Fin 1184) :
    Host.reduce (s := S12288x1184x16) (FloatOps.maximumf (F := Ideal) (φ := .f32)) (Host.absf (F := Ideal) (s := S12288x1184x16) (φ := .f32) (res_main_v1 V0)) (constant (F := Ideal) S_ .f32 0xFF800000#32) reducesTo_S12288x1184x16_S12288x1184_d2 h_S_ (ix2 r b)
      = gmax (aX V0) r b := by
  have h' := reducesTo_S12288x1184x16_S12288x1184_d2
  have h : S12288x1184x16.Reduces [2] S12288x1184 := by decide
  rw [Host.reduce_eq_fold_single (FloatOps.maximumf (F := Ideal) (φ := .f32)) _ _ h' h h_S_]
  show Finset.univ.fold max (Ideal.ofBits .f32 0xFF800000#32) _ = _
  rw [cbot]
  unfold gmax Finset.sup
  refine Finset.fold_congr fun e _ => ?_
  exact congrArg absE ((congrArg (res_main_v1 V0) (show h.lift (ix2 r b) e = ix3 r b (e : Fin 16) from by
    funext c; apply Fin.ext; fin_cases c <;> rfl)).trans (v1_apply V0 r b e))

/-- A block's value, at every element of the block. -/
def up {α : Type} (x : S12288x1184x1.Idx → α) : S12288x1184x16.Idx → α :=
  broadcastInDim S12288x1184x16 (![0, 1, 2] : Fin S12288x1184x1.rank → Fin S12288x1184x16.rank) bcast_S12288x1184x1_S12288x1184x16_0_1_2 x
theorem up_apply {α : Type} (x : S12288x1184x1.Idx → α) (r : Fin 12288) (b : Fin 1184) (e : Fin 16) : up x (ix3 r b e) = x (ix3 r b (0 : Fin 1)) :=
  congrArg x (funext fun a => Fin.ext (match a with
    | ⟨0, _⟩ => rfl
    | ⟨1, _⟩ => rfl
    | ⟨2, _⟩ => rfl))

theorem v8_apply (r : Fin 12288) (b : Fin 1184) :
    (res_main_v8 V0 : Vec Ideal S12288x1184 .f32) (ix2 r b) = sclG (aG V0) (aX V0) r b := by
  unfold res_main_v8 sclG scl
  rw [← amax_apply V0 r b]
  show min (Ideal.ofBits .f32 0x43E00000#32) (max (Ideal.ofBits .f32 0x00000000#32) (Ideal.div _ (Ideal.ofBits .f32 0x40C00000#32 * shapeCast S_ _ shapeCasts_S1x1_S_ _))) = _
  rw [scalar_apply]
  rfl

theorem v18_apply (r : Fin 12288) (b : Fin 1184) (e : Fin 16) :
    (res_main_v18 V0 : Vec Ideal S12288x1184x16 .f32) (ix3 r b e) = rV (aG V0) (sclG (aG V0) (aX V0) r b) (aX V0 r (colB b e)) := by
  have h9 : ∀ z : Fin 1, (res_main_v9 V0 : Vec Ideal S12288x1184x1 .f32) (ix3 r b z) = sclG (aG V0) (aX V0) r b := by
    intro z
    unfold res_main_v9
    rw [← v8_apply V0 r b]
    show (res_main_v8 V0 : Vec Ideal S12288x1184 .f32) _ = _
    congr 1
    funext a; apply Fin.ext
    match a with
    | ⟨0, _⟩ => rfl
    | ⟨1, _⟩ => rfl
  have h11 : ∀ z : Fin 1, (res_main_v11 V0 : Vec Ideal S12288x1184x1 .i1) (ix3 r b z) = Ideal.cmp .oeq (sclG (aG V0) (aX V0) r b) (Ideal.ofBits .f32 0x00000000#32) := by
    intro z
    unfold res_main_v11
    rw [← h9 z]
    rfl
  unfold res_main_v18 rV
  rw [← h11 0, ← h9 0, ← v1_apply V0 r b e]
  show Scalar.select (up (α := BitVec 1) (res_main_v11 V0) (ix3 r b e)) (Ideal.ofBits .f32 0x00000000#32)
    (Ideal.div ((res_main_v1 V0 : Vec Ideal S12288x1184x16 .f32) (ix3 r b e)) (up (α := EReal) _ (ix3 r b e))) = _
  rw [up_apply, up_apply]
  show Scalar.select _ _ (Ideal.div _ (Scalar.select _ _ (_ * shapeCast S_ _ shapeCasts_S1x1_S_ _))) = _
  rw [scalar_apply]
  rfl

/-- The magnitude, clipped. -/
theorem v21_apply (r : Fin 12288) (b : Fin 1184) (e : Fin 16) :
    (res_main_v21 V0 : Vec Ideal S12288x1184x16 .f32) (ix3 r b e)
      = min (absE (rV (aG V0) (sclG (aG V0) (aX V0) r b) (aX V0 r (colB b e)))) (Ideal.ofBits .f32 0x40C00000#32) := by
  rw [← v18_apply V0 r b e]
  rfl

/-- The value drawn. -/
theorem v63_apply (r : Fin 12288) (b : Fin 1184) (e : Fin 16) :
    (res_main_v63 V0 : Vec Ideal S12288x1184x16 .f32) (ix3 r b e)
      = rQ (min (absE (rV (aG V0) (sclG (aG V0) (aX V0) r b) (aX V0 r (colB b e)))) (Ideal.ofBits .f32 0x40C00000#32)) (aU V0 r (colB b e)) := by
  rw [← v21_apply V0 r b e]
  have h27 : (res_main_v27 V0 : Vec Ideal S12288x1184x16 .f32) (ix3 r b e) = rStep ((res_main_v21 V0 : Vec Ideal S12288x1184x16 .f32) (ix3 r b e)) := rfl
  have h48 : (res_main_v48 V0 : Vec Ideal S12288x1184x16 .f32) (ix3 r b e) = rLo ((res_main_v21 V0 : Vec Ideal S12288x1184x16 .f32) (ix3 r b e)) := rfl
  unfold res_main_v63 rQ
  rw [← h27, ← h48]
  show Scalar.select (Ideal.cmp .olt (shapeCast S12288x1184x16 (α := EReal) _ shapeCasts_S12288x18944_S12288x1184x16 (ix3 r b e) * Ideal.ofBits .f32 0x33800000#32) _) _ _ = _
  rw [blocks_apply]
  rfl

/-- The nibble of an element, before the elements are paired. -/
def nibV : S12288x1184x16.Idx → BitVec 32 := fun j =>
  IntOp.ori (rMag ((res_main_v63 V0 : Vec Ideal S12288x1184x16 .f32) j))
    (IntOp.shli .host ((IntOp.andi (Ideal.cmp .olt ((res_main_v18 V0 : Vec Ideal S12288x1184x16 .f32) j) (Ideal.ofBits .f32 0x00000000#32))
      (Ideal.cmp .ogt ((res_main_v63 V0 : Vec Ideal S12288x1184x16 .f32) j) (Ideal.ofBits .f32 0x00000000#32))).setWidth 32) 3#32)

theorem nibV_apply (hg : aG V0 ≠ 0) (r : Fin 12288) (b : Fin 1184) (e : Fin 16) :
    nibV V0 (ix3 r b e) = BitVec.ofNat 32 (nibE (aG V0) (gmax (aX V0) r b) (aX V0 r (colB b e)) (aU V0 r (colB b e))) := by
  have hA : 0 ≤ gmax (aX V0) r b := le_trans (absE_nonneg _) (Finset.le_sup (f := fun e : Fin 16 => absE (aX V0 r ⟨16 * b.val + e.val, by omega⟩)) (Finset.mem_univ (0 : Fin 16)))
  obtain ⟨h7, -, hm, hq, hs⟩ := element hg hA (aX V0 r (colB b e)) (aU V0 r (colB b e))
  unfold nibV
  rw [v63_apply, v18_apply]
  unfold sclG
  rw [hm, nib_word _ h7]
  unfold nibE
  congr 2
  have e1 : ∀ a : EReal, Ideal.cmp .olt a (Ideal.ofBits .f32 0x00000000#32) = 1#1 ↔ a < 0 := by
    intro a; rw [c0]; unfold Ideal.cmp; by_cases h : a < 0 <;> simp [h]
  have e2 : ∀ a : EReal, Ideal.cmp .ogt a (Ideal.ofBits .f32 0x00000000#32) = 1#1 ↔ 0 < a := by
    intro a; rw [c0]; unfold Ideal.cmp; by_cases h : 0 < a <;> simp [h]
  refine if_congr ?_ rfl rfl
  rw [e1, e2, hq]
  exact ⟨fun ⟨h1, h2⟩ => ⟨(hs h2).1 h1, h2⟩, fun ⟨h1, h2⟩ => ⟨(hs h2).2 h1, h2⟩⟩

/-- The block and the place of a column, and the pair and the half. -/
def kB (k : Fin 18944) : Fin 1184 := ⟨k.val / 16, by omega⟩
def kE (k : Fin 18944) : Fin 16 := ⟨k.val % 16, by omega⟩
def kC (k : Fin 18944) : Fin 9472 := ⟨k.val / 2, by omega⟩
def kH (k : Fin 18944) : Fin 2 := ⟨k.val % 2, by omega⟩
theorem colB_k (k : Fin 18944) : colB (kB k) (kE k) = k := Fin.ext (by show 16 * (k.val / 16) + k.val % 16 = k.val; omega)

/-- Pairs of elements are blocks of sixteen, read in the same order. -/
theorem pairs_apply {α : Type} (x : S12288x1184x16.Idx → α) (r : Fin 12288) (k : Fin 18944) :
    shapeCast S12288x9472x2 x shapeCasts_S12288x1184x16_S12288x9472x2 (ix3 r (kC k) (kH k)) = x (ix3 r (kB k) (kE k)) := by
  rw [shapeCast_apply _ _ _ (ix3 r (kB k) (kE k)) (by
    rw [Shape.rowMajor_val_three, Shape.rowMajor_val_three]
    show (r.val * 1184 + k.val / 16) * 16 + k.val % 16 = (r.val * 9472 + k.val / 2) * 2 + k.val % 2
    omega)]
theorem blocks_of_pairs_apply {α : Type} (x : S12288x9472x2.Idx → α) (r : Fin 12288) (k : Fin 18944) :
    shapeCast S12288x1184x16 x shapeCasts_S12288x9472x2_S12288x1184x16 (ix3 r (kB k) (kE k)) = x (ix3 r (kC k) (kH k)) := by
  rw [shapeCast_apply _ _ _ (ix3 r (kC k) (kH k)) (by
    rw [Shape.rowMajor_val_three, Shape.rowMajor_val_three]
    show (r.val * 9472 + k.val / 2) * 2 + k.val % 2 = (r.val * 1184 + k.val / 16) * 16 + k.val % 16
    omega)]
theorem flat_apply {α : Type} (x : S12288x1184x16.Idx → α) (r : Fin 12288) (k : Fin 18944) :
    shapeCast S12288x18944 x shapeCasts_S12288x1184x16_S12288x18944 (ix2 r k) = x (ix3 r (kB k) (kE k)) := by
  rw [shapeCast_apply _ _ _ (ix3 r (kB k) (kE k)) (by
    rw [Shape.rowMajor_val_three, Shape.rowMajor_val_two]
    show (r.val * 1184 + k.val / 16) * 16 + k.val % 16 = r.val * 18944 + k.val
    omega)]

/-- THE NIBBLES. -/
theorem v87_apply (hg : aG V0 ≠ 0) (r : Fin 12288) (k : Fin 18944) :
    (res_main_v87 V0 : Vec Ideal S12288x9472x2 .i32) (ix3 r (kC k) (kH k)) = BitVec.ofNat 32 (nibG (aG V0) (aX V0) (aU V0) r k) := by
  refine Eq.trans (?_ : _ = nibV V0 (ix3 r (kB k) (kE k))) ?_
  · exact pairs_apply (nibV V0) r k
  · rw [nibV_apply V0 hg, colB_k]
    rfl

/-- THE DECODED OPERAND. -/
theorem operand_apply (hg : aG V0 ≠ 0) (r : Fin 12288) (k : Fin 18944) :
    (shapeCast S12288x18944 (mulf (F := Ideal) (φ := .bf16) (s := S12288x1184x16) (shapeCast S12288x1184x16 (select (s := S12288x9472x2) (α := EReal) (cmpi .ne (andi (res_main_v87 V0 : IVec S12288x9472x2 32) (broadcastInDim S12288x9472x2 ![] bcast_S_S12288x9472x2 (constantI S_ 32 8#32))) (broadcastInDim S12288x9472x2 ![] bcast_S_S12288x9472x2 (constantI S_ 32 0#32))) (Host.negf (F := Ideal) (φ := .bf16) (s := S12288x9472x2) (res_main_v123 V0)) (res_main_v123 V0)) shapeCasts_S12288x9472x2_S12288x1184x16)
        (broadcastInDim S12288x1184x16 ![0, 1, 2] bcast_S12288x1184x1_S12288x1184x16_0_1_2 (broadcastInDim S12288x1184x1 ![0, 1] bcast_S12288x1184_S12288x1184x1_0_1 (truncf (F := Ideal) (φ := .f32) (s := S12288x1184) .bf16 (res_main_v8 V0) bitsLt_bf16_f32)))) shapeCasts_S12288x1184x16_S12288x18944 : Vec Ideal S12288x18944 .bf16) (ix2 r k)
      = decG (aG V0) (aX V0) (aU V0) r k := by
  rw [flat_apply]
  have hA : 0 ≤ gmax (aX V0) r (kB k) := le_trans (absE_nonneg _) (Finset.le_sup (f := fun e : Fin 16 => absE (aX V0 r ⟨16 * (kB k).val + e.val, by omega⟩)) (Finset.mem_univ (0 : Fin 16)))
  have h7 := (element hg hA (aX V0 r k) (aU V0 r k)).1
  show (shapeCast S12288x1184x16 (α := EReal) _ shapeCasts_S12288x9472x2_S12288x1184x16 (ix3 r (kB k) (kE k)) * (up (α := EReal) _ (ix3 r (kB k) (kE k))) : EReal) = _
  rw [blocks_of_pairs_apply, up_apply]
  show dWord ((res_main_v87 V0 : Vec Ideal S12288x9472x2 .i32) (ix3 r (kC k) (kH k))) * (res_main_v8 V0 : Vec Ideal S12288x1184 .f32) _ = _
  rw [v87_apply V0 hg]
  unfold nibG nibE decG decE
  refine congr (congrArg HMul.hMul (dWord_eq _ h7 _)) (Eq.trans ?_ (v8_apply V0 r (kB k)))
  exact congrArg (res_main_v8 V0) (funext fun a => Fin.ext (match a with
    | ⟨0, _⟩ => rfl
    | ⟨1, _⟩ => rfl))

/-- The weights' words taken apart. -/
theorem rhs_apply (r : Fin 18944) (c : Fin 3584) :
    shapeCast S18944x3584 (transpose S9472x2x3584 [0, 2, 1] (bitcastToFloat (F := Ideal) .bf16 (Host.bitcastConvertNarrow S9472x3584x2 16 (V0 (Proc.devRef .tc main_arg4) : Vec Ideal S9472x3584 .i32) splits_S9472x3584_w32_S9472x3584x2_w16)) transposes_S9472x3584x2_S9472x2x3584_0_2_1) shapeCasts_S9472x2x3584_S18944x3584 (ix2 r c)
      = rhsG (aW V0) r c := by
  rw [shapeCast_apply _ _ _ (ix3 (kC r) (kH r) c) (by
      rw [Shape.rowMajor_val_three, Shape.rowMajor_val_two]
      show (r.val / 2 * 2 + r.val % 2) * 3584 + c.val = r.val * 3584 + c.val
      omega),
    transpose_apply _ _ _ _ (ix3 (kC r) c (kH r)) (by
      intro b; match b with
      | ⟨0, _⟩ => rfl
      | ⟨1, _⟩ => rfl
      | ⟨2, _⟩ => rfl)]
  show FloatOps.ofBits (F := Ideal) .bf16 (((V0 (Proc.devRef .tc main_arg4) : Vec Ideal S9472x3584 .i32) _).extractLsb' (r.val % 2 * 16) 16) = FloatOps.ofBits (F := Ideal) .bf16 ((aW V0 (kC r) c).extractLsb' (16 * (r.val % 2)) 16)
  rw [Nat.mul_comm (r.val % 2) 16]
  unfold aW
  congr 3
  funext a; apply Fin.ext
  match a with
  | ⟨0, _⟩ => rfl
  | ⟨1, _⟩ => rfl

/-- The product of any operand with the words' weights, scaled. -/
theorem product_apply (A : Vec Ideal S12288x18944 .bf16) (B : Vec Ideal S18944x3584 .bf16) (s0 s1 : Vec Ideal S1x1 .f32) (r : Fin 12288) (c : Fin 3584) :
    truncf (F := Ideal) .bf16 (mulf (Host.dotGeneral (F := Ideal) (φ₁ := .bf16) (φ₂ := .bf16) dot_S12288x18944_S18944x3584_S12288x3584_1_0_0_1_n_n none A B) (broadcastInDim S12288x3584 ![] bcast_S_S12288x3584 (mulf (shapeCast S_ s0 shapeCasts_S1x1_S_) (shapeCast S_ s1 shapeCasts_S1x1_S_)))) bitsLt_bf16_f32 (ix2 r c)
      = ((∑ k : Fin 18944, A (ix2 r k) * B (ix2 k c)) * ((s0 (ix2 0 0) : EReal) * s1 (ix2 0 0)) : EReal) := by
  rw [show dot_S12288x18944_S18944x3584_S12288x3584_1_0_0_1_n_n = DotDims.plain 12288 18944 3584 from rfl, truncf_apply, mulf_apply,
    StackMember.dotGeneral_plain_apply]
  refine congrArg _ ?_
  show (shapeCast S_ s0 shapeCasts_S1x1_S_ _ : EReal) * shapeCast S_ s1 shapeCasts_S1x1_S_ _ = _
  rw [scalar_apply, scalar_apply]

/-- Column `2 C + h`. -/
def colH (C : Fin 9472) (h : Fin 2) : Fin 18944 := ⟨2 * C.val + h.val, by omega⟩
theorem kC_colH (C : Fin 9472) (h : Fin 2) : kC (colH C h) = C := Fin.ext (by show (2 * C.val + h.val) / 2 = C.val; omega)
theorem kH_colH (C : Fin 9472) (h : Fin 2) : kH (colH C h) = h := Fin.ext (by show (2 * C.val + h.val) % 2 = h.val; omega)
theorem drop_one_apply {α : Type} (x : S12288x9472x1.Idx → α) (r : Fin 12288) (C : Fin 9472) :
    shapeCast S12288x9472 x shapeCasts_S12288x9472x1_S12288x9472 (ix2 r C) = x (ix3 r C (0 : Fin 1)) := by
  rw [shapeCast_apply _ _ _ (ix3 r C (0 : Fin 1)) (by
    rw [Shape.rowMajor_val_three, Shape.rowMajor_val_two]
    show (r.val * 9472 + C.val) * 1 + 0 = r.val * 9472 + C.val
    omega)]

theorem first_apply (x : S12288x9472x2.Idx → BitVec 32) (r : Fin 12288) (C : Fin 9472) :
    extractStridedSlice S12288x9472x1 ![0, 0, 0] x slices_S12288x9472x2_S12288x9472x1_0_0_0 (ix3 r C (0 : Fin 1)) = x (ix3 r C (0 : Fin 2)) :=
  extractStridedSlice_apply _ _ _ _ _ (fun a => match a with
    | ⟨0, _⟩ => (Nat.zero_add r.val).symm
    | ⟨1, _⟩ => (Nat.zero_add C.val).symm
    | ⟨2, _⟩ => rfl)
theorem second_apply (x : S12288x9472x2.Idx → BitVec 32) (r : Fin 12288) (C : Fin 9472) :
    extractStridedSlice S12288x9472x1 ![0, 0, 1] x slices_S12288x9472x2_S12288x9472x1_0_0_1 (ix3 r C (0 : Fin 1)) = x (ix3 r C (1 : Fin 2)) :=
  extractStridedSlice_apply _ _ _ _ _ (fun a => match a with
    | ⟨0, _⟩ => (Nat.zero_add r.val).symm
    | ⟨1, _⟩ => (Nat.zero_add C.val).symm
    | ⟨2, _⟩ => rfl)

theorem pair_apply (hg : aG V0 ≠ 0) (r : Fin 12288) (C : Fin 9472) (h : Fin 2) :
    (res_main_v87 V0 : Vec Ideal S12288x9472x2 .i32) (ix3 r C h) = BitVec.ofNat 32 (nibG (aG V0) (aX V0) (aU V0) r (colH C h)) := by
  have e := v87_apply V0 hg r (colH C h)
  rwa [kC_colH, kH_colH] at e

theorem nibG_le (hg : aG V0 ≠ 0) (r : Fin 12288) (k : Fin 18944) : nibG (aG V0) (aX V0) (aU V0) r k ≤ 15 := by
  have hA : 0 ≤ gmax (aX V0) r (kB k) := le_trans (absE_nonneg _) (Finset.le_sup (f := fun e : Fin 16 => absE (aX V0 r ⟨16 * (kB k).val + e.val, by omega⟩)) (Finset.mem_univ (0 : Fin 16)))
  have h7 := (element hg hA (aX V0 r k) (aU V0 r k)).1
  unfold nibG nibE
  have h8 : ∀ (p : Prop) [Decidable p], (if p then 8 else 0 : ℕ) ≤ 8 := by intro p _; split_ifs <;> omega
  exact Nat.add_le_add h7 (h8 _)

/-- THE CODES. -/
theorem codes_apply (hg : aG V0 ≠ 0) (r : Fin 12288) (C : Fin 9472) :
    trunci 8 (ori (shapeCast S12288x9472 (extractStridedSlice S12288x9472x1 ![0, 0, 0] (res_main_v87 V0 : IVec S12288x9472x2 32) slices_S12288x9472x2_S12288x9472x1_0_0_0) shapeCasts_S12288x9472x1_S12288x9472)
      (Host.shli (shapeCast S12288x9472 (extractStridedSlice S12288x9472x1 ![0, 0, 1] (res_main_v87 V0 : IVec S12288x9472x2 32) slices_S12288x9472x2_S12288x9472x1_0_0_1) shapeCasts_S12288x9472x1_S12288x9472)
        (broadcastInDim S12288x9472 ![] bcast_S_S12288x9472 (constantI S_ 32 4#32)))) natLt_8_32 (ix2 r C)
      = codeG (aG V0) (aX V0) (aU V0) r C := by
  show (IntOp.ori (shapeCast S12288x9472 (α := BitVec 32) _ shapeCasts_S12288x9472x1_S12288x9472 (ix2 r C))
    (IntOp.shli .host (shapeCast S12288x9472 (α := BitVec 32) _ shapeCasts_S12288x9472x1_S12288x9472 (ix2 r C)) 4#32)).setWidth 8 = _
  rw [drop_one_apply, drop_one_apply]
  rw [first_apply, second_apply]
  refine Eq.trans (congrArg (fun w : BitVec 32 => w.setWidth 8) (congr (congrArg IntOp.ori (pair_apply V0 hg r C 0))
    (congrArg (fun w : BitVec 32 => IntOp.shli .host w 4#32) (pair_apply V0 hg r C 1)))) ?_
  exact byte_word _ _ (nibG_le V0 hg r _) (nibG_le V0 hg r _)

/-- Row `i` of matrix `e`. -/
def rowR (e : Fin 6) (i : Fin 2048) : Fin 12288 := ⟨2048 * e.val + i.val, by omega⟩

/-- THE SCALES. -/
theorem scales_apply (e : Fin 6) (b : Fin 1184) (i : Fin 2048) :
    transpose S6x1184x2048 [0, 2, 1] (shapeCast S6x2048x1184 (Host.convertf (F := Ideal) (φ := .f32) (s := S12288x1184) .fp8e4m3 (res_main_v8 V0)) shapeCasts_S12288x1184_S6x2048x1184) transposes_S6x2048x1184_S6x1184x2048_0_2_1 (ix3 e b i)
      = sclG (aG V0) (aX V0) (rowR e i) b := by
  rw [transpose_apply _ _ _ _ (ix3 e i b) (by
      intro b; match b with
      | ⟨0, _⟩ => rfl
      | ⟨1, _⟩ => rfl
      | ⟨2, _⟩ => rfl),
    shapeCast_apply _ _ _ (ix2 (rowR e i) b) (by
      rw [Shape.rowMajor_val_three, Shape.rowMajor_val_two]
      show (2048 * e.val + i.val) * 1184 + b.val = (e.val * 2048 + i.val) * 1184 + b.val
      omega)]
  exact v8_apply V0 _ b

end

/-! ## The run -/

/-- The three results as functions of the arguments. -/
def dxR (V0 : Valuation τ sig (Elt Ideal)) : Vec Ideal S12288x3584 .bf16 := fun y => dxG (aG V0) (aX V0) (aU V0) (aWG V0) (aW V0) (y 0) (y 1)
def codesR (V0 : Valuation τ sig (Elt Ideal)) : Vec Ideal S12288x9472 .i8 := fun y => codeG (aG V0) (aX V0) (aU V0) (y 0) (y 1)
def scalesR (V0 : Valuation τ sig (Elt Ideal)) : Vec Ideal S6x1184x2048 .fp8e4m3 := fun y => sclG (aG V0) (aX V0) (rowR (y 0) (y 2)) (y 1)

/-- EVERY RUN OF THE REFERENCE ends with them. -/
theorem run_value (m : (ℓ : Loc nD τ sig) → Buf (Elt Ideal) ℓ) (ρ : Dev nD → PrngReg) (hg : ∀ c : Dev nD, aG (launchContents m c) ≠ 0) :
    θ_run defs (onTc (τ := τ) (main (F := Ideal))) ⟨m, fun _ => 0, ρ⟩ fun r => ∀ c : Dev nD,
      r.2.mem ((c.tc : Thread nD τ).loc main_v145) = dxR (launchContents m c)
      ∧ r.2.mem ((c.tc : Thread nD τ).loc main_v95) = codesR (launchContents m c)
      ∧ r.2.mem ((c.tc : Thread nD τ).loc main_v148) = scalesR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (run m ρ)
  obtain ⟨h0, h1, h2, hargs⟩ := h c
  have hg := hg c
  generalize launchContents m c = V0 at h0 h1 h2 hg ⊢
  refine ⟨h0.trans ?_, h1.trans ?_, h2.trans ?_, hargs⟩
  · funext y
    obtain ⟨r, j, rfl⟩ : ∃ (r : Fin 12288) (j : Fin 3584), y = ix2 r j := ⟨y 0, y 1, eq_ix2 y⟩
    refine (product_apply _ _ _ _ r j).trans ?_
    refine congrArg (fun s : EReal => s * (aG V0 * aWG V0)) (Finset.sum_congr rfl fun k _ => ?_)
    exact congr (congrArg HMul.hMul (operand_apply V0 hg r k)) (rhs_apply V0 k j)
  · funext y
    obtain ⟨r, j, rfl⟩ : ∃ (r : Fin 12288) (j : Fin 9472), y = ix2 r j := ⟨y 0, y 1, eq_ix2 y⟩
    exact codes_apply V0 hg r j
  · funext y
    obtain ⟨e, b, i, rfl⟩ : ∃ (e : Fin 6) (b : Fin 1184) (i : Fin 2048), y = ix3 e b i := ⟨y 0, y 1, y 2, eq_ix3 y⟩
    exact scales_apply V0 e b i

end Cert.ReferenceIdeal.Value

end
-- ==== Proof.PrepValue.lean ====
/- The running maximum of the prep kernel over the extended reals: a bound of the accumulator after a block is a bound of the
   accumulator before it and of every magnitude in the block, whichever order the block is folded in. -/
module

public import proofs.«01_k».proof.Proof.Gen.PrepIdeal.Skeleton
public import Idealize.ShloMosaic.PureOps.Ideal
public import Idealize.ShloMosaic.Lib.KernelVsHost
public import Idealize.ShloMosaic.Lib.Pipeline.Value

@[expose] public section

noncomputable section

namespace Cert.PrepIdeal.Value

open Cert.PrepIdeal Cert.PrepIdeal.Gen Idealize.ShloMosaic Idealize.ShloMosaic.TcCoe

/-- Every element is at most `b`. -/
abbrev AllLe {s : Shape} (v : s.Idx → EReal) (b : EReal) : Prop := ∀ i, v i ≤ b

/-- Every element's magnitude is at most `b`. -/
abbrev AbsLe {s : Shape} (v : s.Idx → EReal) (b : EReal) : Prop := ∀ i, max (v i) (-(v i)) ≤ b

theorem pay2_le (b : EReal) : AllLe (k0_pay1 (F := Ideal)) b ↔ (0 : EReal) ≤ b := by
  have h : ∀ i, (k0_pay1 (F := Ideal) i : EReal) = 0 := fun i => by
    show Ideal.ofBits .bf16 0x0000#16 = 0
    simp [Ideal.ofBits, Ideal.ieee]
  exact ⟨fun H => by have := H (fun _ => ⟨0, by rename_i a; revert a; decide⟩); rwa [h] at this, fun H i => by rw [h]; exact H⟩

theorem fold_le {s : Shape} (b z : EReal) (hz : z = ⊥) (S : Finset s.Idx) (v : s.Idx → EReal) :
    S.fold max z v ≤ b ↔ ∀ e ∈ S, v e ≤ b := by
  rw [hz, Finset.fold_max_le]; exact ⟨fun h => h.2, fun h => ⟨bot_le, h⟩⟩

theorem pay3_le (x : Vec Ideal S256x512 .bf16) (a : Vec Ideal S16x512 .bf16) (b : EReal) :
    AllLe (k0_pay2 (F := Ideal) x a) b ↔ AllLe a b ∧ AbsLe x b := by
  have key : ∀ i : S16x512.Idx, (k0_pay2 (F := Ideal) x a i : EReal)
      = max (a i : EReal) ((Finset.univ.filter fun e => reduces_S16x16x512_S16x512.drop e = i).fold max (Ideal.ofBits .bf16 0xFF80#16)
          (fun e => max (x (Shape.reshapeEquiv shapeCasts_S256x512_S16x16x512 e) : EReal) (-(x (Shape.reshapeEquiv shapeCasts_S256x512_S16x16x512 e) : EReal)))) := fun i => by
    unfold k0_pay2
    dsimp only
    rw [shapeCast_self]
    show max (a i : EReal) (multiReduction (F := Ideal) .maximumf [0] S16x512 _ 0xFF80#16 reduces_S16x16x512_S16x512 (.inr rfl) rfl i) = _
    exact congrArg (max (a i : EReal)) (multiReduction_maximumf_eq_fold (F := Ideal) (φ := .bf16) (axes := [0]) _ 0xFF80#16 reduces_S16x16x512_S16x512 (.inr rfl) rfl i)
  have hz : Ideal.ofBits .bf16 0xFF80#16 = ⊥ := by simp [Ideal.ofBits, Ideal.ieee]
  constructor
  · intro H
    refine ⟨fun i => le_trans (le_max_left _ _) ((key i).ge.trans (H i)), fun j => ?_⟩
    have h1 := (le_max_right _ _).trans ((key (reduces_S16x16x512_S16x512.drop ((Shape.reshapeEquiv shapeCasts_S256x512_S16x16x512).symm j))).ge.trans (H _))
    have h2 := (fold_le b _ hz _ _).mp h1 ((Shape.reshapeEquiv shapeCasts_S256x512_S16x16x512).symm j) (Finset.mem_filter.mpr ⟨Finset.mem_univ _, rfl⟩)
    rwa [Equiv.apply_symm_apply] at h2
  · rintro ⟨H1, H2⟩ i
    rw [key]
    exact max_le (H1 i) ((fold_le b _ hz _ _).mpr fun e _ => H2 _)

theorem pay4_le (a : Vec Ideal S16x512 .bf16) (b : EReal) : (k0_pay3 (F := Ideal) a : EReal) ≤ b ↔ AllLe a b := by
  have key : (k0_pay3 (F := Ideal) a : EReal)
      = (Finset.univ.filter fun e => reduces_S1x16x512_S1.drop e = Shape.reshapeEquiv shapeCasts_S1_S1x1x1 (fun a => ⟨![0, 0, 0] a, inpos_S1x1x1_p0_0_0 a⟩)).fold max (Ideal.ofBits .f32 0xFF800000#32)
          (fun e => (a (Shape.reshapeEquiv shapeCasts_S16x512_S1x16x512 e) : EReal)) := by
    unfold k0_pay3
    dsimp only
    unfold extractAt
    exact multiReduction_maximumf_eq_fold (F := Ideal) (φ := .f32) (axes := [1, 2]) _ 0xFF800000#32 reduces_S1x16x512_S1 (.inl rfl) rfl _
  have hz : Ideal.ofBits .f32 0xFF800000#32 = ⊥ := by simp [Ideal.ofBits, Ideal.ieee]
  have h1 : ∀ p q : S1.Idx, p = q := fun p q => funext fun k => by
    have hk : k = 0 := Fin.ext (by have := k.isLt; change k.val < 1 at this; change k.val = 0; omega)
    subst hk
    exact Fin.ext (by have h1 := (p 0).isLt; have h2 := (q 0).isLt; change (p 0).val < 1 at h1; change (q 0).val < 1 at h2; omega)
  rw [key, fold_le b _ hz]
  constructor
  · intro H j
    have := H ((Shape.reshapeEquiv shapeCasts_S16x512_S1x16x512).symm j) (Finset.mem_filter.mpr ⟨Finset.mem_univ _, h1 _ _⟩)
    rwa [Equiv.apply_symm_apply] at this
  · exact fun H e _ => H _

end Cert.PrepIdeal.Value

end
-- ==== Proof.PrepLoop.lean ====
/- What a point of the prep kernel leaves in its accumulator, over the extended reals: a bound of it is a bound of what the
   point found there and of every magnitude in the point's block of the gradient. -/
module

public import proofs.«01_k».proof.Proof.PrepValue
public import proofs.«01_k».proof.Proof.Gen.PrepIdeal.Frame.RunC
public import Idealize.ShloMosaic.Lib.VecWindow
public import Idealize.ShloMosaic.Lib.WholeRead
public import Idealize.ShloMosaic.Lib.ValueIdx

@[expose] public section

set_option maxRecDepth 16384

noncomputable section

namespace Cert.PrepIdeal.Value

open Cert.PrepIdeal Cert.PrepIdeal.Gen Idealize.ShloMosaic Idealize.ShloMosaic.TcCoe Idealize.ShloMosaic.ValueIdx

variable (c : Dev nD) (i : grid0.Coords)
  (arg1 : Memref sig .tc .vmem S12288x512 .bf16) (harg1 : arg1.IsWhole) (arg2 : Memref sig .tc .vmem S512x1792 .i8) (harg2 : arg2.IsWhole)
  (arg3 : Memref sig .tc .vmem S224x512 .fp8e4m3) (harg3 : arg3.IsWhole) (arg4 : Memref sig .tc .smem S1x1 .f32) (harg4 : arg4.IsWhole)
  (arg5 : Memref sig .tc .vmem S512x3584 .bf16) (harg5 : arg5.IsWhole) (arg6 : Memref sig .tc .vmem S16x512 .bf16) (harg6 : arg6.IsWhole)

/-- The whole accumulator, as the kernel's stores name it. -/
abbrev rAll : Rect S16x512 := Rect.unit ![0, 0] ![16, 512] inb_S16x512_S16x512_0_0

/-- The rows of a block that trip `k` reads. -/
abbrev rowsOf (X : BufTy.Contents (Elt Ideal) arg1.view.ty) (k : Fin k0_t1_loop.trips) : Vec Ideal S256x512 .bf16 :=
  View.readAt (Elt Ideal) arg1.view (Rect.unit (s := S12288x512) (k0_off1 k) S256x512.size (k0_off1_inb k)).toLoadRect X

/-- The pieces of the trips before `n`, from the contents `G`. -/
abbrev pbK (X : BufTy.Contents (Elt Ideal) arg1.view.ty) (G : BufTy.Contents (Elt Ideal) arg6.view.ty) (n : ℕ) : List (View.Piece (Elt Ideal) S16x512 .bf16) :=
  pb_k0_t1 (F := Ideal) Variants.none c none i arg1 harg1 arg2 harg2 arg3 harg3 arg4 harg4 arg5 harg5 arg6 harg6 X G n

theorem trips_eq : k0_t1_loop.trips = 48 := by decide

theorem pbK_succ (X : BufTy.Contents (Elt Ideal) arg1.view.ty) (G : BufTy.Contents (Elt Ideal) arg6.view.ty) (k : Fin k0_t1_loop.trips) :
    pbK c i arg1 harg1 arg2 harg2 arg3 harg3 arg4 harg4 arg5 harg5 arg6 harg6 X G (k.val + 1)
      = ⟨rAll, k0_pay2 (rowsOf arg1 X k) (arg6.view.read (Elt Ideal) (arg6.view.writes (Elt Ideal) G (pbK c i arg1 harg1 arg2 harg2 arg3 harg3 arg4 harg4 arg5 harg5 arg6 harg6 X G k.val)))⟩
        :: pbK c i arg1 harg1 arg2 harg2 arg3 harg3 arg4 harg4 arg5 harg5 arg6 harg6 X G k.val := by
  unfold pbK
  rw [pb_k0_t1_succ]
  unfold tripL_k0_t1 trip_k0_t1
  dsimp only
  rw [View.readAt_full (s := S16x512) arg6.view]
  rfl

theorem read_pbK_le (X : BufTy.Contents (Elt Ideal) arg1.view.ty) (G : BufTy.Contents (Elt Ideal) arg6.view.ty) (b : EReal) :
    ∀ n, n ≤ k0_t1_loop.trips →
      (AllLe (arg6.view.read (Elt Ideal) (arg6.view.writes (Elt Ideal) G (pbK c i arg1 harg1 arg2 harg2 arg3 harg3 arg4 harg4 arg5 harg5 arg6 harg6 X G n))) b
        ↔ AllLe (arg6.view.read (Elt Ideal) G) b ∧ ∀ k : Fin k0_t1_loop.trips, k.val < n → AbsLe (rowsOf arg1 X k) b)
  | 0, _ => ⟨fun h => ⟨h, fun k hk => absurd hk (Nat.not_lt_zero _)⟩, fun h => h.1⟩
  | n + 1, hn => by
    have ih := read_pbK_le X G b n (Nat.le_of_succ_le hn)
    rw [pbK_succ c i arg1 harg1 arg2 harg2 arg3 harg3 arg4 harg4 arg5 harg5 arg6 harg6 X G ⟨n, hn⟩, View.read_writes_full (s := S16x512), pay3_le, ih]
    constructor
    · rintro ⟨⟨h0, h1⟩, h2⟩
      refine ⟨h0, fun k hk => ?_⟩
      rcases Nat.lt_succ_iff_lt_or_eq.mp hk with h | h
      · exact h1 k h
      · obtain rfl : k = ⟨n, hn⟩ := Fin.ext h
        exact h2
    · rintro ⟨h0, h1⟩
      exact ⟨⟨h0, fun k hk => h1 k (Nat.lt_succ_of_lt hk)⟩, h1 ⟨n, hn⟩ (Nat.lt_succ_self _)⟩

/-- The rows the trips read are the whole block. -/
theorem rows_le (x0 : Vec Ideal S12288x512 .bf16) (b : EReal) :
    (∀ k : Fin k0_t1_loop.trips, k.val < k0_t1_loop.trips → AbsLe (rowsOf arg1 (harg1.unread x0) k) b) ↔ AbsLe x0 b := by
  constructor
  · intro H y
    have hy0 : (y 0).val < 12288 := (y 0).isLt
    have hy1 : (y 1).val < 512 := (y 1).isLt
    have ht : (y 0).val / 256 < k0_t1_loop.trips := by rw [trips_eq]; omega
    have h := H ⟨(y 0).val / 256, ht⟩ ht (ix2 (⟨(y 0).val % 256, Nat.mod_lt _ (by decide)⟩ : Fin 256) (⟨(y 1).val, hy1⟩ : Fin 512))
    unfold rowsOf at h
    rw [harg1.readAt_unread] at h
    have e : ((Rect.unit (s := S12288x512) (k0_off1 ⟨(y 0).val / 256, ht⟩) S256x512.size (k0_off1_inb ⟨(y 0).val / 256, ht⟩)).toLoadRect.idx
        (ix2 (⟨(y 0).val % 256, Nat.mod_lt _ (by decide)⟩ : Fin 256) (⟨(y 1).val, hy1⟩ : Fin 512)) : S12288x512.Idx) = y := by
      funext a; apply Fin.ext
      match a with
      | ⟨0, _⟩ => show k0_off1 ⟨(y 0).val / 256, ht⟩ 0 + 1 * ((y 0).val % 256) = (y 0).val; rw [k0_off1_eq]; show 256 * ((y 0).val / 256) + 1 * ((y 0).val % 256) = (y 0).val; omega
      | ⟨1, _⟩ => show k0_off1 ⟨(y 0).val / 256, ht⟩ 1 + 1 * (y 1).val = (y 1).val; rw [k0_off1_eq]; show 0 + 1 * (y 1).val = (y 1).val; omega
    rwa [e] at h
  · intro H k _ j
    unfold rowsOf
    rw [harg1.readAt_unread]
    exact H _

/-- After a point's loop, read through any view: the accumulator it leaves. -/
theorem loop_le {κ : Kind} {sp : Space} (v : View sig κ sp S16x512 .bf16) (f : v.ty.Contents (Elt Ideal)) (x0 : Vec Ideal S12288x512 .bf16) (G : BufTy.Contents (Elt Ideal) arg6.view.ty)
    (L : List (View.Piece (Elt Ideal) S16x512 .bf16)) (b : EReal) :
    AllLe (v.read (Elt Ideal) (v.writes (Elt Ideal) f (pbK c i arg1 harg1 arg2 harg2 arg3 harg3 arg4 harg4 arg5 harg5 arg6 harg6 (harg1.unread x0) G 48 ++ L))) b
      ↔ AllLe (arg6.view.read (Elt Ideal) G) b ∧ AbsLe x0 b := by
  rw [← rows_le arg1 harg1, ← read_pbK_le c i arg1 harg1 arg2 harg2 arg3 harg3 arg4 harg4 arg5 harg5 arg6 harg6 (harg1.unread x0) G b k0_t1_loop.trips le_rfl, trips_eq,
    pbK_succ c i arg1 harg1 arg2 harg2 arg3 harg3 arg4 harg4 arg5 harg5 arg6 harg6 (harg1.unread x0) G ⟨47, by rw [trips_eq]; decide⟩,
    List.cons_append, View.read_writes_full (s := S16x512), View.read_writes_full (s := S16x512)]

theorem piecesA (hc0 : cond0_0 i) (hc1 : ¬cond0_1 i) (x0 : Vec Ideal S12288x512 .bf16) (x1 : Vec Ideal S512x1792 .i8) (x2 : Vec Ideal S224x512 .fp8e4m3) :
    (kernelRun0_A c i arg1 harg1 arg2 harg2 arg3 harg3 arg4 harg4 arg5 harg5 arg6 harg6 hc0 hc1 x0 x1 x2).2.2.1
      = pbK c i arg1 harg1 arg2 harg2 arg3 harg3 arg4 harg4 arg5 harg5 arg6 harg6 (harg1.unread x0) (arg6.view.writes (Elt Ideal) arg6.view.junk [⟨rAll, k0_pay1 (F := Ideal)⟩]) 48
        ++ [⟨rAll, k0_pay1 (F := Ideal)⟩] := by
  rw [← trips_eq]
  delta kernelRun0_A
  dsimp only
  rfl

theorem piecesB (hc0 : ¬cond0_0 i) (hc1 : ¬cond0_1 i) (x0 : Vec Ideal S12288x512 .bf16) (x1 : Vec Ideal S512x1792 .i8) (x2 : Vec Ideal S224x512 .fp8e4m3)
    (xs0 : Vec Ideal S16x512 .bf16) :
    (kernelRun0_B c i arg1 harg1 arg2 harg2 arg3 harg3 arg4 harg4 arg5 harg5 arg6 harg6 hc0 hc1 x0 x1 x2 xs0).2.2.1
      = pbK c i arg1 harg1 arg2 harg2 arg3 harg3 arg4 harg4 arg5 harg5 arg6 harg6 (harg1.unread x0) (harg6.unread xs0) 48 ++ [] := by
  rw [← trips_eq, List.append_nil]
  delta kernelRun0_B
  dsimp only

/-- The first point: the accumulator starts at zero. -/
theorem leftA_le {κ : Kind} {sp : Space} (v : View sig κ sp S16x512 .bf16) (f : v.ty.Contents (Elt Ideal)) (hc0 : cond0_0 i) (hc1 : ¬cond0_1 i)
    (x0 : Vec Ideal S12288x512 .bf16) (x1 : Vec Ideal S512x1792 .i8) (x2 : Vec Ideal S224x512 .fp8e4m3) (b : EReal) :
    AllLe (v.read (Elt Ideal) (v.writes (Elt Ideal) f (kernelRun0_A c i arg1 harg1 arg2 harg2 arg3 harg3 arg4 harg4 arg5 harg5 arg6 harg6 hc0 hc1 x0 x1 x2).2.2.1)) b
      ↔ (0 : EReal) ≤ b ∧ AbsLe x0 b := by
  rw [piecesA, loop_le, View.read_writes_full (s := S16x512), pay2_le]

/-- A later point: it starts at what the point before left. -/
theorem leftB_le {κ : Kind} {sp : Space} (v : View sig κ sp S16x512 .bf16) (f : v.ty.Contents (Elt Ideal)) (hc0 : ¬cond0_0 i) (hc1 : ¬cond0_1 i)
    (x0 : Vec Ideal S12288x512 .bf16) (x1 : Vec Ideal S512x1792 .i8) (x2 : Vec Ideal S224x512 .fp8e4m3) (xs0 : Vec Ideal S16x512 .bf16) (b : EReal) :
    AllLe (v.read (Elt Ideal) (v.writes (Elt Ideal) f (kernelRun0_B c i arg1 harg1 arg2 harg2 arg3 harg3 arg4 harg4 arg5 harg5 arg6 harg6 hc0 hc1 x0 x1 x2 xs0).2.2.1)) b
      ↔ AllLe xs0 b ∧ AbsLe x0 b := by
  rw [piecesB, loop_le, harg6.read_unread]

end Cert.PrepIdeal.Value

end
-- ==== Proof.PrepRef.lean ====
/- The run of the global scale's reference: its operations as a list, and every run ending with the scale at the composed term
   of the gradient, the arguments unchanged; over the extended reals the magnitude it starts from is the supremum of all of them. -/
module

public import proofs.«01_k».proof.Proof.Gen.PrepReferenceIdeal
public import Idealize.ShloMosaic.Lib.StableHlo.Run
public import Idealize.ShloMosaic.Lib.Pipeline.Frame
public import Idealize.ShloMosaic.PureOps.Ideal
public import Idealize.ShloMosaic.Lib.KernelVsHost

@[expose] public section

noncomputable section

namespace Cert.PrepReferenceIdeal.Value

open Cert.PrepReferenceIdeal Cert.PrepReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ unary main_arg0 main_v0 ((extf .f32 · bitsLt_bf16_f32) : (⟨S12288x18944, .bf16⟩ : BufTy).Contents (Elt F) → (⟨S12288x18944, .f32⟩ : BufTy).Contents (Elt F)),
    unary main_v0 main_v1 (Host.absf : (⟨S12288x18944, .f32⟩ : BufTy).Contents (Elt F) → (⟨S12288x18944, .f32⟩ : BufTy).Contents (Elt F)),
    nullary main_cst (constant S_ .f32 0xFF800000#32),
    binary main_v1 main_cst main_v2 ((fun x v => Host.reduce FloatOps.maximumf x v reducesTo_S12288x18944_S_d0_1 h_S_) : (⟨S12288x18944, .f32⟩ : BufTy).Contents (Elt F) → (⟨S_, .f32⟩ : BufTy).Contents (Elt F) → (⟨S_, .f32⟩ : BufTy).Contents (Elt F)),
    nullary main_cst_0 (constant S_ .f32 0x00000000#32),
    binary main_v2 main_cst_0 main_v3 (cmpf .oeq : (⟨S_, .f32⟩ : BufTy).Contents (Elt F) → (⟨S_, .f32⟩ : BufTy).Contents (Elt F) → (⟨S_, .i1⟩ : BufTy).Contents (Elt F)),
    nullary main_cst_1 (constant S_ .f32 0x45280000#32),
    binary main_v2 main_cst_1 main_v4 (Host.divf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.ternary (TRef.of (T := ⟨S_, .i1⟩) main_v3) (TRef.of (T := ⟨S_, .f32⟩) main_call0_v0) (TRef.of (T := ⟨S_, .f32⟩) main_v4) (TRef.of (T := ⟨S_, .f32⟩) main_v5) select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., binary_bufs_sub .., nullary_bufs_sub .., binary_bufs_sub .., nullary_bufs_sub .., binary_bufs_sub .., nullary_bufs_sub .., unary_bufs_sub .., ternary_bufs_sub ..⟩

/-- The scale of a largest magnitude. -/
def scaleOf (a : FVec F S_ .f32) : FVec F S_ .f32 :=
  select (cmpf .oeq a (constant S_ .f32 0x00000000#32)) (id (constant S_ .f32 0x3F800000#32)) (Host.divf a (constant S_ .f32 0x45280000#32))

/-- The largest magnitude, as the reference takes it. -/
def amaxR (x : FVec F S12288x18944 .bf16) : FVec F S_ .f32 :=
  Host.reduce FloatOps.maximumf (Host.absf (extf .f32 x bitsLt_bf16_f32)) (constant S_ .f32 0xFF800000#32) reducesTo_S12288x18944_S_d0_1 h_S_

theorem after_v5 (V0 : Valuation τ sig (Elt F)) : after ops V0 (Proc.devRef .tc main_v5) = scaleOf (amaxR (V0 (Proc.devRef .tc main_arg0))) := by
  simp only [ops]
  after_results_simp
  try rfl

/-- Every run ends with the scale at the composed term of the gradient, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = scaleOf (amaxR (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (after_v5 (launchContents m c)),
      (h c main_arg0).trans (by simp only [ops]; after_results_simp; try rfl),
      (h c main_arg1).trans (by simp only [ops]; after_results_simp; try rfl),
      (h c main_arg2).trans (by simp only [ops]; after_results_simp; try rfl)⟩)
    (run_seq scopedRefs_eq scopedSems_eq defs main (fun _ => ops) main_eq (fun _ => ops_sub) m ρ)

/-- Over the extended reals: the supremum of the magnitudes. -/
theorem amaxR_le (x : FVec Ideal S12288x18944 .bf16) (b : EReal) (j : S_.Idx) :
    (amaxR x j : EReal) ≤ b ↔ ∀ i : S12288x18944.Idx, max (x i : EReal) (-(x i : EReal)) ≤ b := by
  unfold amaxR
  rw [Host.reduce_eq_fold (FloatOps.maximumf (F := Ideal) (φ := .f32))]
  show Finset.fold max (Ideal.ofBits .f32 0xFF800000#32) (fun i => max (x i : EReal) (-(x i : EReal))) _ ≤ b ↔ _
  rw [show Ideal.ofBits .f32 0xFF800000#32 = ⊥ by simp [Ideal.ofBits, Ideal.ieee], Finset.fold_max_le]
  constructor
  · intro h i
    exact h.2 i (Finset.mem_filter.mpr ⟨Finset.mem_univ _, funext fun a => a.elim0⟩)
  · exact fun h => ⟨bot_le, fun i _ => h i⟩

end Cert.PrepReferenceIdeal.Value

end
-- ==== Proof.PrepFinal.lean ====
/- The global scale the prep kernel returns, over the extended reals: the largest magnitude of the whole gradient, brought to a
   scale by the operations after the kernel. -/
module

public import proofs.«01_k».proof.Proof.PrepLoop
public import proofs.«01_k».proof.Proof.PrepRef
public import proofs.«01_k».proof.Proof.Gen.PrepIdeal.Frame

@[expose] public section

set_option maxRecDepth 16384

noncomputable section

namespace Cert.PrepIdeal.Value

open Cert.PrepIdeal Cert.PrepIdeal.Gen Idealize.ShloMosaic Idealize.ShloMosaic.TcCoe Idealize.ShloMosaic.ValueIdx Idealize.SL.Sem Idealize.ShloMosaic.StableHlo
open Idealize.ShloMosaic.Pipeline

section lastPoint

variable (c : Dev nD) (i : grid0.Coords)
  (arg1 : Memref sig .tc .vmem S12288x512 .bf16) (harg1 : arg1.IsWhole) (arg2 : Memref sig .tc .vmem S512x1792 .i8) (harg2 : arg2.IsWhole)
  (arg3 : Memref sig .tc .vmem S224x512 .fp8e4m3) (harg3 : arg3.IsWhole) (arg4 : Memref sig .tc .smem S1x1 .f32) (harg4 : arg4.IsWhole)
  (arg5 : Memref sig .tc .vmem S512x3584 .bf16) (harg5 : arg5.IsWhole) (arg6 : Memref sig .tc .vmem S16x512 .bf16) (harg6 : arg6.IsWhole)

theorem piecesC (hc0 : ¬cond0_0 i) (hc1 : cond0_1 i) (x0 : Vec Ideal S12288x512 .bf16) (x1 : Vec Ideal S512x1792 .i8) (x2 : Vec Ideal S224x512 .fp8e4m3)
    (xs0 : Vec Ideal S16x512 .bf16) :
    (kernelRun0_C c i arg1 harg1 arg2 harg2 arg3 harg3 arg4 harg4 arg5 harg5 arg6 harg6 hc0 hc1 x0 x1 x2 xs0).1
      = [⟨Rect.unit ![0, 0] ![1, 1] inb_S1x1_S1x1_0_0, fun _ => k0_pay3 (View.readAt (Elt Ideal) arg6.view (rAll).toLoadRect (arg6.view.writes (Elt Ideal) (harg6.unread xs0)
          (pbK c i arg1 harg1 arg2 harg2 arg3 harg3 arg4 harg4 arg5 harg5 arg6 harg6 (harg1.unread x0) (harg6.unread xs0) 48)))⟩] := by
  rw [← trips_eq]
  delta kernelRun0_C
  dsimp only
  rfl

/-- What the last point writes to the result. -/
theorem outC_le {κ : Kind} {sp : Space} (v : View sig κ sp S1x1 .f32) (f : v.ty.Contents (Elt Ideal)) (hc0 : ¬cond0_0 i) (hc1 : cond0_1 i)
    (x0 : Vec Ideal S12288x512 .bf16) (x1 : Vec Ideal S512x1792 .i8) (x2 : Vec Ideal S224x512 .fp8e4m3) (xs0 : Vec Ideal S16x512 .bf16) (b : EReal) (j : S1x1.Idx) :
    (v.read (Elt Ideal) (v.writes (Elt Ideal) f (kernelRun0_C c i arg1 harg1 arg2 harg2 arg3 harg3 arg4 harg4 arg5 harg5 arg6 harg6 hc0 hc1 x0 x1 x2 xs0).1) j : EReal) ≤ b
      ↔ AllLe xs0 b ∧ AbsLe x0 b := by
  rw [piecesC, View.read_writes_full (s := S1x1)]
  show (k0_pay3 (F := Ideal) _ : EReal) ≤ b ↔ _
  rw [pay4_le, View.readAt_full (s := S16x512) arg6.view,
    ← List.append_nil (pbK c i arg1 harg1 arg2 harg2 arg3 harg3 arg4 harg4 arg5 harg5 arg6 harg6 (harg1.unread x0) (harg6.unread xs0) 48), loop_le, harg6.read_unread]

end lastPoint

variable (m : (ℓ : Loc nD τ sig) → Buf (Elt Ideal) ℓ) (ρ : Dev nD → PrngReg)

/-- The gradient. -/
abbrev dyA (c : Dev nD) : Vec Ideal S12288x18944 .bf16 := m ((c.tc : Thread nD τ).loc main_arg0)

/-- The accumulator after point `n`: a bound of it is a bound of every magnitude in the blocks so far. -/
theorem acc_le (c : Dev nD) (b : EReal) : ∀ (n : ℕ) (hn : n < cfg0.N), n < 36 →
    (AllLe (outsAt0 m c n hn).2.2 b ↔ (0 : EReal) ≤ b ∧ ∀ t : Fin cfg0.N, t.val ≤ n → AbsLe (iblk m c 0 t : Vec Ideal S12288x512 .bf16) b)
  | 0, hn, _ => by
    rw [outsAt0_A m c ⟨0, hn⟩ (Nat.zero_mod _) (by dsimp only; omega)]
    unfold sout0_A_0
    dsimp only
    rw [leftA_le]
    refine and_congr_right fun _ => ⟨fun h t ht => ?_, fun h => h _ le_rfl⟩
    obtain rfl : t = ⟨0, hn⟩ := Fin.ext (Nat.le_zero.mp ht)
    exact h
  | n + 1, hn, h36 => by
    have ih := acc_le c b n (Nat.lt_of_succ_lt hn) (by omega)
    rw [outsAt0_B m c ⟨n + 1, hn⟩ (by dsimp only; omega) (by dsimp only; omega)]
    unfold sout0_B_0
    dsimp only
    rw [leftB_le]
    refine (and_congr_left fun _ => ih).trans ?_
    constructor
    · rintro ⟨⟨h0, h1⟩, h2⟩
      refine ⟨h0, fun t ht => ?_⟩
      rcases Nat.lt_or_ge t.val (n + 1) with h | h
      · exact h1 t (by omega)
      · obtain rfl : t = ⟨n + 1, hn⟩ := Fin.ext (by dsimp only; omega)
        exact h2
    · rintro ⟨h0, h1⟩
      exact ⟨⟨h0, fun t ht => h1 t (by omega)⟩, h1 _ le_rfl⟩

/-- The result at the last point. -/
theorem last_le (c : Dev nD) (b : EReal) (t : Fin cfg0.N) (ht : t.val = 36) (j : S1x1.Idx) :
    ((outsAt0 m c t.val t.isLt).1 j : EReal) ≤ b ↔ (0 : EReal) ≤ b ∧ ∀ t : Fin cfg0.N, AbsLe (iblk m c 0 t : Vec Ideal S12288x512 .bf16) b := by
  rw [outsAt0_C m c t (by omega) (by omega)]
  unfold out0_C_3
  dsimp only
  rw [outC_le, acc_le m c b _ _ (by omega)]
  constructor
  · rintro ⟨⟨h0, h1⟩, h2⟩
    refine ⟨h0, fun u => ?_⟩
    have hu : u.val < 37 := lt_of_lt_of_eq u.isLt N_0
    rcases Nat.lt_or_ge u.val 36 with h | h
    · exact h1 u (by omega)
    · obtain rfl : u = t := Fin.ext (by omega)
      exact h2
  · rintro ⟨h0, h1⟩
    exact ⟨⟨h0, fun u _ => h1 u⟩, h1 t⟩

theorem index0 : ∀ t : Fin cfg0.N, win0_0.index t 0 = 0 ∧ win0_0.index t 1 = t.val :=
  (by decide +kernel : ∀ t : Fin grid0.N, win0_0.index t 0 = 0 ∧ win0_0.index t 1 = t.val)

/-- Point `t`'s block is columns `512 t …` of the gradient. -/
theorem iblk0_apply (c : Dev nD) (t : Fin cfg0.N) (r : Fin 12288) (k : Fin 512) (hk : 512 * t.val + k.val < 18944) :
    (iblk m c 0 t : Vec Ideal S12288x512 .bf16) (ix2 r k) = dyA m c (ix2 r (⟨512 * t.val + k.val, hk⟩ : Fin 18944)) := by
  obtain ⟨e0, e1⟩ := index0 t
  unfold iblk
  rw [View.read_apply]
  show V m c main_arg0 _ = m (c.tc.loc main_arg0) _
  rw [V_main_arg0]
  congr 1
  funext a; apply Fin.ext
  match a with
  | ⟨0, _⟩ => show win0_0.index t 0 * 12288 + 1 * r.val = r.val; rw [e0]; omega
  | ⟨1, _⟩ => show win0_0.index t 1 * 512 + 1 * k.val = 512 * t.val + k.val; rw [e1]; omega

theorem blocks_le (c : Dev nD) (b : EReal) :
    ((0 : EReal) ≤ b ∧ ∀ t : Fin cfg0.N, AbsLe (iblk m c 0 t : Vec Ideal S12288x512 .bf16) b) ↔ ∀ y : S12288x18944.Idx, max (dyA m c y : EReal) (-(dyA m c y : EReal)) ≤ b := by
  constructor
  · rintro ⟨_, h⟩ y
    have hy1 : (y 1).val < 18944 := (y 1).isLt
    have ht : (y 1).val / 512 < cfg0.N := by rw [show cfg0.N = 37 from N_0]; omega
    have e := iblk0_apply m c ⟨(y 1).val / 512, ht⟩ (y 0) (⟨(y 1).val % 512, Nat.mod_lt _ (by decide)⟩ : Fin 512) (by dsimp only; omega)
    have h1 := h ⟨(y 1).val / 512, ht⟩ (ix2 (y 0) (⟨(y 1).val % 512, Nat.mod_lt _ (by decide)⟩ : Fin 512))
    rw [e] at h1
    have ey : (ix2 (y 0) (⟨512 * ((y 1).val / 512) + (y 1).val % 512, by omega⟩ : Fin 18944) : S12288x18944.Idx) = y := by
      funext a
      match a with
      | ⟨0, _⟩ => rfl
      | ⟨1, _⟩ => apply Fin.ext; show 512 * ((y 1).val / 512) + (y 1).val % 512 = (y 1).val; omega
    rwa [ey] at h1
  · intro h
    refine ⟨?_, fun t (j : S12288x512.Idx) => ?_⟩
    · refine le_trans ?_ (h (ix2 (⟨0, by decide⟩ : Fin 12288) (⟨0, by decide⟩ : Fin 18944)))
      rcases le_total (0 : EReal) (dyA m c (ix2 (⟨0, by decide⟩ : Fin 12288) (⟨0, by decide⟩ : Fin 18944)) : EReal) with h0 | h0
      · exact le_trans h0 (le_max_left _ _)
      · exact le_trans (EReal.neg_nonneg.mpr h0) (le_max_right _ _)
    · have ht : t.val < 37 := lt_of_lt_of_eq t.isLt N_0
      have hj : (j 1).val < 512 := (j 1).isLt
      have ej : (j : S12288x512.Idx) = ix2 (j 0) (j 1) := by
        funext a
        match a with
        | ⟨0, _⟩ => rfl
        | ⟨1, _⟩ => rfl
      have e := (congrArg (iblk m c 0 t : Vec Ideal S12288x512 .bf16) ej).trans (iblk0_apply m c t (j 0) (j 1) (by omega))
      have hh := h (ix2 (j 0) (⟨512 * t.val + (j 1).val, by omega⟩ : Fin 18944))
      rw [← e] at hh
      exact hh

/-- The largest magnitude, as the reference takes it. -/
abbrev amaxG (c : Dev nD) : Vec Ideal S_ .f32 := Cert.PrepReferenceIdeal.Value.amaxR (F := Ideal) (dyA m c)

theorem last_eq (c : Dev nD) (t : Fin cfg0.N) (ht : t.val = 36) (j : S1x1.Idx) (k : S_.Idx) : ((outsAt0 m c t.val t.isLt).1 j : EReal) = amaxG m c k :=
  eq_of_forall_ge_iff fun b => (last_le m c b t ht j).trans ((blocks_le m c b).trans (Cert.PrepReferenceIdeal.Value.amaxR_le _ b k).symm)

/-- The one index of a scalar. -/
def at0 : S_.Idx := fun a => a.elim0

/-- The array the kernel's first result ends with. -/
abbrev G3 (c : Dev nD) : Vec Ideal S1x1 .f32 := fun _ => amaxG m c at0

theorem cut3_const (t : Fin cfg0.N) (v : Vec Ideal S1x1 .f32) (a : Ideal .f32) (h : ∀ j, v j = a) :
    (cfg0.win 3).cut (grid0.coords t) v = ((cfg0.win 3).blk t).view.read (Elt Ideal) (fun _ => a : Vec Ideal S1x1 .f32) := by
  funext y
  rw [View.read_apply]
  exact h ((cfg0.win 3).xinj (grid0.coords t) y)

theorem flushed3_of (c : Dev nD) (t : Fin cfg0.N) (a : Ideal .f32) (hv : ∀ j, (outsAt0 m c t.val t.isLt).1 j = a) :
    (dats m 0 c).flushed 3 t = ((cfg0.win 3).blk t).view.read (Elt Ideal) (fun _ => a : Vec Ideal S1x1 .f32) :=
  (congrArg ((cfg0.win 3).cut (grid0.coords t)) (after0_3 m c t)).trans (cut3_const t (outsAt0 m c t.val t.isLt).1 a hv)

theorem flushed3_eq (c : Dev nD) (t : Fin cfg0.N) (hf : (cfg0.win 3).flush t = true) :
    (dats m 0 c).flushed 3 t = ((cfg0.win 3).blk t).view.read (Elt Ideal) (G3 m c) := by
  have ht : t.val < 37 := lt_of_lt_of_eq t.isLt N_0
  have h36 := (flush0_3 t).mp hf
  exact flushed3_of m c t (amaxG m c at0) fun j => last_eq m c t (by omega) j at0

theorem index3 : ∀ t : Fin cfg0.N, win0_3.index t 0 = 0 ∧ win0_3.index t 1 = 0 :=
  (by decide +kernel : ∀ t : Fin grid0.N, win0_3.index t 0 = 0 ∧ win0_3.index t 1 = 0)

theorem mem_blk3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v0_0).slice (win0_3.rect t)).set ↔ _
  rw [View.set_slice_whole, Rect.mem_set_unit]
  exact Iff.rfl

theorem covered3 (i : S1x1.Idx) : ∃ t : Fin cfg0.N, (cfg0.win 3).flush t = true ∧ i ∈ ((cfg0.win 3).blk t).view.set := by
  have hi0 : (i 0).val < 1 := (i 0).isLt
  have hi1 : (i 1).val < 1 := (i 1).isLt
  have ht : 36 < cfg0.N := by rw [show cfg0.N = 37 from N_0]; decide
  obtain ⟨e0, e1⟩ := index3 ⟨36, ht⟩
  refine ⟨⟨36, ht⟩, (flush0_3 _).mpr rfl, ?_⟩
  rw [mem_blk3]
  intro a
  match a with
  | ⟨0, _⟩ => show win0_3.index ⟨36, ht⟩ 0 * 1 ≤ (i 0).val ∧ (i 0).val < win0_3.index ⟨36, ht⟩ 0 * 1 + 1; rw [e0]; omega
  | ⟨1, _⟩ => show win0_3.index ⟨36, ht⟩ 1 * 1 ≤ (i 1).val ∧ (i 1).val < win0_3.index ⟨36, ht⟩ 1 * 1 + 1; rw [e1]; omega

theorem final3 (c : Dev nD) : (dats m 0 c).arrAt 3 cfg0.N = G3 m c :=
  (dats m 0 c).arrAt_eq_of_cover 3 _ (fun t hf => flushed3_eq m c t hf) covered3

/-- The scale the program returns. -/
abbrev gOut (c : Dev nD) : Vec Ideal S_ .f32 := Cert.PrepReferenceIdeal.Value.scaleOf (F := Ideal) (amaxG m c)

theorem arrRef_inj : Function.Injective (arrRef spec0) := by decide

/-- The operations after the kernel, from any contents. -/
theorem tail_of {F : FTy → Type} [FloatOps F] (V0 : Valuation τ sig (Elt F)) (x : Vec F S1x1 .f32) (A : FVec F S_ .f32) (hx : V0 (Proc.devRef .tc main_v0_0) = x)
    (hA : (fun i => shapeCast S_ x shapeCasts_S1x1_S_ i) = A) :
    StableHlo.after [hostOps1, hostOps1_1].flatten V0 (Proc.devRef .tc main_v4) = Cert.PrepReferenceIdeal.Value.scaleOf A := by
  subst hA
  subst hx
  simp only [hostOps1, hostOps1_1, List.flatten_cons, List.flatten_nil, List.append_nil, List.cons_append, List.nil_append]
  after_results_simp
  rfl

theorem cast_const (a : Ideal .f32) (A : FVec Ideal S_ .f32) (h : ∀ i, A i = a) : (fun i => shapeCast S_ (fun _ => a : Vec Ideal S1x1 .f32) shapeCasts_S1x1_S_ i) = A :=
  funext fun i => (h i).symm

theorem tail_v4 (c : Dev nD) : afterTail₀ cfgs (dats m) 0 (V0 m) [hostOps1, hostOps1_1] c main_v4 = gOut m c :=
  tail_of (withArrays (cfgs 0).spec c (V0 m c) fun w => (dats m 0 c).arrAt w (cfgs 0).N) (G3 m c) (amaxG m c)
    ((withArrays_arr spec0 arrRef_inj c (V0 m c) (fun w => (dats m 0 c).arrAt w (cfgs 0).N) 3).trans (final3 m c))
    (cast_const (amaxG m c at0) (amaxG m c) fun i => congrArg (amaxG m c) (funext fun a => a.elim0))

/-- The run: the scale, the arguments unchanged. -/
theorem run_value : θ_run defs (onTc (τ := τ) (main (F := Ideal))) (s₀ m ρ) fun r => ∀ c : Dev nD,
      r.2.mem ((c.tc : Thread nD τ).loc main_v4) = gOut m c
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun r h c => ⟨((h.1 c).2 main_v4 (mem_restRefs_of _ rfl (by decide))).trans (tail_v4 m c), h.2 c⟩)
    (θ_run_and (run_main m ρ) (unchanged m ρ))

end Cert.PrepIdeal.Value

end
-- ==== Proof.lean ====
/- The claims, of each of the two calls: both readings of the kernel run and leave their arguments and counters as they were, the
   reference runs, the idealization rewrote nothing, and over the extended reals the kernel and the reference end with equal
   results: the main call's three, where the global scale it is given is not zero, and the prep call's global scale. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Bits.QuantFrame
public import proofs.«01_k».proof.Proof.Value
public import proofs.«01_k».proof.Proof.RefValue
public import proofs.«01_k».proof.Proof.PrepFinal
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel
open Idealize.ShloMosaic.ValueIdx Idealize.ShloMosaic.StableHlo
open Cert.ReferenceIdeal.Value (aG aWG aX aU aW)
open Cert.KernelIdeal.Gen (gA wgA dyA rbA wA)

/-- The one shape relation of the precondition. -/
theorem pre_facts : Cert.Pre_g_nonzero.Facts := ⟨by decide⟩

/-- The precondition, read: the global scale is not zero. -/
theorem scale_ne (x0 x1 : FVec Ideal Cert.Pre_g_nonzero.S1x1 .f32) (x2 : FVec Ideal Cert.Pre_g_nonzero.S12288x18944 .bf16)
    (x3 : IVec Cert.Pre_g_nonzero.S12288x18944 32) (x4 : IVec Cert.Pre_g_nonzero.S9472x3584 32)
    (h : letI := pre_facts; Cert.Pre_g_nonzero.fn (F := Ideal) x0 x1 x2 x3 x4 = fun _ => 1#1) : (x0 (ix2 0 0) : EReal) ≠ 0 := by
  have e : Ideal.cmp .une (x0 (ix2 0 0)) (Ideal.ofBits .f32 0x00000000#32) = 1#1 := congrFun h (ix2 0 0)
  intro h0
  rw [h0, Cert.Nvfp4.c0] at e
  simp [Ideal.cmp] at e

/-- The reference runs from any memory, its arguments unchanged and every counter at zero. -/
theorem quiescent_reference : Cert.quiescent_ReferenceIdeal := fun m g _ =>
  (θ_run _ _ _).mono (fun r h => ⟨fun c => (h c).2.2.2, sem_eq_zero_of_no_sems (by decide) r.2⟩) (Cert.ReferenceIdeal.Value.run m g)

theorem quiescent_reference_pre : letI := pre_facts; Cert.quiescent_ReferenceIdeal_pre_g_nonzero := fun m g _ =>
  quiescent_reference m g trivial

/-- Over the extended reals the two programs end with equal results. -/
theorem algebraic : letI := pre_facts; Cert.algebraic_KernelIdeal_ReferenceIdeal_pre_g_nonzero := fun m ρ m' ρ' hpre hag => by
  have hg : ∀ c, gA m c ≠ 0 := fun c => scale_ne _ _ _ _ _ (hpre c)
  have a0 : ∀ c, aG (launchContents m' c) = gA m c := fun c => congrFun (hag c).1 (ix2 0 0)
  have a1 : ∀ c, aWG (launchContents m' c) = wgA m c := fun c => congrFun (hag c).2.1 (ix2 0 0)
  have a2 : ∀ c, aX (launchContents m' c) = dyA m c := fun c => funext fun r => funext fun k => congrFun (hag c).2.2.1 (ix2 r k)
  have a3 : ∀ c, aU (launchContents m' c) = rbA m c := fun c => funext fun r => funext fun k => congrFun (hag c).2.2.2.1 (ix2 r k)
  have a4 : ∀ c, aW (launchContents m' c) = wA m c := fun c => funext fun r => funext fun k => congrFun (hag c).2.2.2.2 (ix2 r k)
  have e5 : ∀ c, Cert.ReferenceIdeal.Value.dxR (launchContents m' c) = Cert.KernelIdeal.Gen.G5 m c := fun c => by
    unfold Cert.ReferenceIdeal.Value.dxR Cert.KernelIdeal.Gen.G5
    rw [a0, a1, a2, a3, a4]
    rfl
  have e6 : ∀ c, Cert.ReferenceIdeal.Value.codesR (launchContents m' c) = Cert.KernelIdeal.Gen.G6 m c := fun c => by
    unfold Cert.ReferenceIdeal.Value.codesR Cert.KernelIdeal.Gen.G6
    rw [a0, a2, a3]
    rfl
  have e7 : ∀ c, Cert.ReferenceIdeal.Value.scalesR (launchContents m' c) = Cert.KernelIdeal.Gen.G7 m c := fun c => by
    unfold Cert.ReferenceIdeal.Value.scalesR Cert.KernelIdeal.Gen.G7
    rw [a0, a2]
    rfl
  exact ⟨fun c => Cert.KernelIdeal.Gen.G5 m c, fun c => Cert.KernelIdeal.Gen.G6 m c, fun c => Cert.KernelIdeal.Gen.G7 m c,
    Cert.KernelIdeal.Gen.run_value m ρ hg, (θ_run _ _ _).mono (fun _ h c => ⟨(h c).1.trans (e5 c), (h c).2.1.trans (e6 c), (h c).2.2.1.trans (e7 c), (h c).2.2.2⟩)
      (Cert.ReferenceIdeal.Value.run_value m' ρ' fun c => (a0 c).symm ▸ hg c)⟩

/-- The prep call's reference runs from any memory, its arguments unchanged and every counter at zero. -/
theorem quiescent_prep_reference : Cert.quiescent_PrepReferenceIdeal := fun m g _ =>
  (θ_run _ _ _).mono (fun r h => ⟨fun c => (h c).2, sem_eq_zero_of_no_sems (by decide) r.2⟩) (Cert.PrepReferenceIdeal.Value.run m g)

/-- Over the extended reals the prep call and its reference end with the same global scale. -/
theorem algebraic_prep : Cert.algebraic_PrepIdeal_PrepReferenceIdeal := fun m ρ m' ρ' _ hag =>
  ⟨fun c => Cert.PrepIdeal.Value.gOut m c, Cert.PrepIdeal.Value.run_value m ρ,
    (θ_run _ _ _).mono (fun _ h c => ⟨(h c).1.trans (congrArg (fun x => Cert.PrepReferenceIdeal.Value.scaleOf (F := Ideal) (Cert.PrepReferenceIdeal.Value.amaxR (F := Ideal) x)) (hag c).1), (h c).2⟩)
      (Cert.PrepReferenceIdeal.Value.run m' ρ')⟩

theorem claim : Cert.Claim := ⟨Cert.Kernel.Gen.facts, Cert.KernelIdeal.Gen.facts, Cert.ReferenceIdeal.Gen.facts,
  Cert.Prep.Gen.facts, Cert.PrepIdeal.Gen.facts, Cert.PrepReferenceIdeal.Gen.facts, pre_facts,
  fun m g _ => Cert.Kernel.Gen.frame_main m g, fun m g _ => Cert.KernelIdeal.Gen.frame_main m g,
  fun m g _ => Cert.KernelIdeal.Gen.frame_main m g, quiescent_reference, quiescent_reference_pre,
  fun m g _ => Cert.Prep.Gen.frame m g, fun m g _ => Cert.PrepIdeal.Gen.frame m g, quiescent_prep_reference,
  trivial, algebraic, trivial, algebraic_prep⟩

end Cert.Proof

end
